-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v87_0)) (v1 : (c : Dev Cert.KernelIdeal.nD) → Buf (Elt Ideal) ((c.tc : Thread Cert.KernelIdeal.nD Cert.KernelIdeal.τ).loc Cert.KernelIdeal.main_v87_1)) (v2 : (c : Dev Cert.KernelIdeal.nD) → Buf (Elt Ideal) ((c.tc : Thread Cert.KernelIdeal.nD Cert.KernelIdeal.τ).loc Cert.KernelIdeal.main_v87_2)) (v3 : (c : Dev Cert.KernelIdeal.nD) → Buf (Elt Ideal) ((c.tc : Thread Cert.KernelIdeal.nD Cert.KernelIdeal.τ).loc Cert.KernelIdeal.main_v87_3)) (v4 : (c : Dev Cert.KernelIdeal.nD) → Buf (Elt Ideal) ((c.tc : Thread Cert.KernelIdeal.nD Cert.KernelIdeal.τ).loc Cert.KernelIdeal.main_v87_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87_0) = v0 c
          ∧ r.2.mem ((c.tc : Thread Cert.KernelIdeal.nD Cert.KernelIdeal.τ).loc Cert.KernelIdeal.main_v87_1) = v1 c
          ∧ r.2.mem ((c.tc : Thread Cert.KernelIdeal.nD Cert.KernelIdeal.τ).loc Cert.KernelIdeal.main_v87_2) = v2 c
          ∧ r.2.mem ((c.tc : Thread Cert.KernelIdeal.nD Cert.KernelIdeal.τ).loc Cert.KernelIdeal.main_v87_3) = v3 c
          ∧ r.2.mem ((c.tc : Thread Cert.KernelIdeal.nD Cert.KernelIdeal.τ).loc Cert.KernelIdeal.main_v87_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_v80) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_v57) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x4096x64 : Shape := ⟨3, ![8, 4096, 64]⟩
abbrev S8x4096 : Shape := ⟨2, ![8, 4096]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S8x4096x64 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S8x4096x64 .f32 := Host.absf main_arg4
  let main_cst_6 : FVec F S_ .f32 := constant S_ .f32 0x7F800000#32
  let main_v20 : FVec F S8x4096x64 .f32 := broadcastInDim S8x4096x64 ![] bcast_S_S8x4096x64 main_cst_6
  let main_v21 : IVec S8x4096x64 1 := cmpf .olt main_v19 main_v20
  let main_c_7 : IVec S_ 1 := constantI S_ 1 1#1
  let main_v22 : IVec S_ 1 := (fun x v => Host.reduce IntOp.andi x v reducesTo_S8x4096x64_S_d0_1_2 h_S_) main_v21 main_c_7
  let main_v23 : IVec S_ 1 := andi main_v18 main_v22
  main_v23

def fn {F : FTy → Type} [FloatOps F] (main_arg0 : FVec F S8x4096x64 .f32) (main_arg1 : FVec F S8x4096x64 .f32) (main_arg2 : FVec F S8x4096x64 .f32) (main_arg3 : FVec F S8x4096 .f32) (main_arg4 : FVec F S8x4096x64 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_v13 main_v16
-- ==== Kernel.lean ====
abbrev S8x4096x64 : Shape := ⟨3, ![8, 4096, 64]⟩
abbrev S8x4096 : Shape := ⟨2, ![8, 4096]⟩
abbrev S_ : Shape := ⟨0, ![]⟩
abbrev S8x1x4096 : Shape := ⟨3, ![8, 1, 4096]⟩
abbrev S8x8x4096 : Shape := ⟨3, ![8, 8, 4096]⟩
abbrev S4x16x4096 : Shape := ⟨3, ![4, 16, 4096]⟩
abbrev S4x128x4096 : Shape := ⟨3, ![4, 128, 4096]⟩
abbrev S512x4096 : Shape := ⟨2, ![512, 4096]⟩
abbrev S4096x512 : Shape := ⟨2, ![4096, 512]⟩
abbrev S8x4096x4096 : Shape := ⟨3, ![8, 4096, 4096]⟩
abbrev S8x4096x1 : Shape := ⟨3, ![8, 4096, 1]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x2x4096 : Shape := ⟨3, ![4, 2, 4096]⟩
abbrev S4096x8x64 : Shape := ⟨3, ![4096, 8, 64]⟩
abbrev S4096x128 : Shape := ⟨2, ![4096, 128]⟩
abbrev S1x2x4096 : Shape := ⟨3, ![1, 2, 4096]⟩
abbrev S1024x128 : Shape := ⟨2, ![1024, 128]⟩
abbrev S2x4096 : Shape := ⟨2, ![2, 4096]⟩
abbrev S1024x1024 : Shape := ⟨2, ![1024, 1024]⟩
abbrev S1024x256 : Shape := ⟨2, ![1024, 256]⟩
abbrev S1024x1 : Shape := ⟨2, ![1024, 1]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 111
  | .vmem => 26
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096, .f32⟩
  | .hbm, ⟨4, _⟩ => ⟨S8x4096x64, .f32⟩
  | .hbm, ⟨5, _⟩ => ⟨S_, .f32⟩
  | .hbm, ⟨6, _⟩ => ⟨S8x4096x64, .f32⟩
  | .hbm, ⟨7, _⟩ => ⟨S8x4096x64, .f32⟩
  | .hbm, ⟨8, _⟩ => ⟨S8x4096, .bf16⟩
  | .hbm, ⟨9, _⟩ => ⟨S8x4096, .f32⟩
  | .hbm, ⟨10, _⟩ => ⟨S8x4096, .f32⟩
  | .hbm, ⟨11, _⟩ => ⟨S8x4096, .bf16⟩
  | .hbm, ⟨12, _⟩ => ⟨S8x4096, .f32⟩
  | .hbm, ⟨13, _⟩ => ⟨S8x4096, .f32⟩
  | .hbm, ⟨14, _⟩ => ⟨S8x4096, .bf16⟩
  | .hbm, ⟨15, _⟩ => ⟨S8x4096, .f32⟩
  | .hbm, ⟨16, _⟩ => ⟨S8x4096, .f32⟩
  | .hbm, ⟨17, _⟩ => ⟨S8x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S8x1x4096, .f32⟩
  | .hbm, ⟨23, _⟩ => ⟨S8x1x4096, .f32⟩
  | .hbm, ⟨24, _⟩ => ⟨S8x1x4096, .f32⟩
  | .hbm, ⟨25, _⟩ => ⟨S8x1x4096, .f32⟩
  | .hbm, ⟨26, _⟩ => ⟨S8x1x4096, .f32⟩
  | .hbm, ⟨27, _⟩ => ⟨S8x1x4096, .f32⟩
  | .hbm, ⟨28, _⟩ => ⟨S8x1x4096, .f32⟩
  | .hbm, ⟨29, _⟩ => ⟨S8x1x4096, .f32⟩
  | .hbm, ⟨30, _⟩ => ⟨S8x8x4096, .f32⟩
  | .hbm, ⟨31, _⟩ => ⟨S4x16x4096, .f32⟩
  | .hbm, ⟨32, _⟩ => ⟨S_, .i32⟩
  | .hbm, ⟨33, _⟩ => ⟨S_, .f32⟩
  | .hbm, ⟨34, _⟩ => ⟨S4x128x4096, .f32⟩
  | .hbm, ⟨35, _⟩ => ⟨S512x4096, .f32⟩
  | .hbm, ⟨36, _⟩ => ⟨S4096x512, .f32⟩
  | .hbm, ⟨37, _⟩ => ⟨S4096x512, .bf16⟩
  | .hbm, ⟨38, _⟩ => ⟨S8x4096, .f32⟩
  | .hbm, ⟨39, _⟩ => ⟨S8x4096, .f32⟩
  | .hbm, ⟨40, _⟩ => ⟨S8x4096, .f32⟩
  | .hbm, ⟨41, _⟩ => ⟨S8x1x4096, .f32⟩
  | .hbm, ⟨42, _⟩ => ⟨S8x1x4096, .f32⟩
  | .hbm, ⟨43, _⟩ => ⟨S8x1x4096, .f32⟩
  | .hbm, ⟨44, _⟩ => ⟨S8x1x4096, .f32⟩
  | .hbm, ⟨45, _⟩ => ⟨S8x1x4096, .f32⟩
  | .hbm, ⟨46, _⟩ => ⟨S8x1x4096, .f32⟩
  | .hbm, ⟨47, _⟩ => ⟨S8x1x4096, .f32⟩
  | .hbm, ⟨48, _⟩ => ⟨S8x1x4096, .f32⟩
  | .hbm, ⟨49, _⟩ => ⟨S8x8x4096, .f32⟩
  | .hbm, ⟨50, _⟩ => ⟨S4x16x4096, .f32⟩
  | .hbm, ⟨51, _⟩ => ⟨S_, .i32⟩
  | .hbm, ⟨52, _⟩ => ⟨S_, .f32⟩
  | .hbm, ⟨53, _⟩ => ⟨S4x128x4096, .f32⟩
  | .hbm, ⟨54, _⟩ => ⟨S512x4096, .f32⟩
  | .hbm, ⟨55, _⟩ => ⟨S4096x512, .f32⟩
  | .hbm, ⟨56, _⟩ => ⟨S4096x512, .bf16⟩
  | .hbm, ⟨57, _⟩ => ⟨S8x4096x4096, .f32⟩
  | .hbm, ⟨58, _⟩ => ⟨S8x4096x1, .f32⟩
  | .hbm, ⟨59, _⟩ => ⟨S8x1x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S4096, .i32⟩
  | .hbm, ⟨65, _⟩ => ⟨S4096x1, .i32⟩
  | .hbm, ⟨66, _⟩ => ⟨S1x4096, .i32⟩
  | .hbm, ⟨67, _⟩ => ⟨S4096x4096, .i32⟩
  | .hbm, ⟨68, _⟩ => ⟨S4096x4096, .i32⟩
  | .hbm, ⟨69, _⟩ => ⟨S4096x4096, .i1⟩
  | .hbm, ⟨70, _⟩ => ⟨S_, .f32⟩
  | .hbm, ⟨71, _⟩ => ⟨S_, .f32⟩
  | .hbm, ⟨72, _⟩ => ⟨S8x4096x4096, .i1⟩
  | .hbm, ⟨73, _⟩ => ⟨S8x4096x4096, .f32⟩
  | .hbm, ⟨74, _⟩ => ⟨S8x4096x4096, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S8x4096x4096, .f32⟩
  | .hbm, ⟨79, _⟩ => ⟨S8x4096x4096, .f32⟩
  | .hbm, ⟨80, _⟩ => ⟨S8x4096x4096, .f32⟩
  | .hbm, ⟨81, _⟩ => ⟨S_, .f32⟩
  | .hbm, ⟨82, _⟩ => ⟨S8x4096, .f32⟩
  | .hbm, ⟨83, _⟩ => ⟨S8x4096x1, .f32⟩
  | .hbm, ⟨84, _⟩ => ⟨S8x4096x4096, .f32⟩
  | .hbm, ⟨85, _⟩ => ⟨S8x4096x4096, .f32⟩
  | .hbm, ⟨86, _⟩ => ⟨S8x4096x64, .f32⟩
  | .hbm, ⟨87, _⟩ => ⟨S8x4096x1, .f32⟩
  | .hbm, ⟨88, _⟩ => ⟨S8x4096x1, .f32⟩
  | .hbm, ⟨89, _⟩ => ⟨S4x2x4096, .f32⟩
  | .hbm, ⟨90, _⟩ => ⟨S8x4096x64, .f32⟩
  | .hbm, ⟨91, _⟩ => ⟨S_, .f32⟩
  | .hbm, ⟨92, _⟩ => ⟨S8x4096, .f32⟩
  | .hbm, ⟨93, _⟩ => ⟨S4x2x4096, .f32⟩
  | .hbm, ⟨94, _⟩ => ⟨S4096x8x64, .f32⟩
  | .hbm, ⟨95, _⟩ => ⟨S4096x512, .f32⟩
  | .hbm, ⟨96, _⟩ => ⟨S4096x512, .bf16⟩
  | .hbm, ⟨97, _⟩ => ⟨S4096x8x64, .f32⟩
  | .hbm, ⟨98, _⟩ => ⟨S4096x512, .f32⟩
  | .hbm, ⟨99, _⟩ => ⟨S4096x512, .bf16⟩
  | .hbm, ⟨100, _⟩ => ⟨S4096x8x64, .f32⟩
  | .hbm, ⟨101, _⟩ => ⟨S4096x512, .f32⟩
  | .hbm, ⟨102, _⟩ => ⟨S4096x512, .bf16⟩
  | .hbm, ⟨103, _⟩ => ⟨S4096x8x64, .f32⟩
  | .hbm, ⟨104, _⟩ => ⟨S4096x512, .f32⟩
  | .hbm, ⟨105, _⟩ => ⟨S4096x512, .bf16⟩
  | .hbm, ⟨106, _⟩ => ⟨S4096x512, .f32⟩
  | .hbm, ⟨107, _⟩ => ⟨S4096x512, .f32⟩
  | .hbm, ⟨108, _⟩ => ⟨S4096x512, .f32⟩
  | .hbm, ⟨109, _⟩ => ⟨S4x2x4096, .f32⟩
  | .hbm, ⟨110, _⟩ => ⟨S4096x512, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x2x4096, .f32⟩
  | .local _ .vmem, ⟨7, _⟩ => ⟨S1x2x4096, .f32⟩
  | .local _ .vmem, ⟨8, _⟩ => ⟨S1x2x4096, .f32⟩
  | .local _ .vmem, ⟨9, _⟩ => ⟨S1x2x4096, .f32⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S4096x128, .f32⟩
  | .local _ .vmem, ⟨17, _⟩ => ⟨S4096x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1x2x4096, .f32⟩
  | .local _ .vmem, ⟨23, _⟩ => ⟨S1x2x4096, .f32⟩
  | .local _ .vmem, ⟨24, _⟩ => ⟨S1024x128, .f32⟩
  | .local _ .vmem, ⟨25, _⟩ => ⟨S1024x128, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_2 : Ref sig .tc := ⟨.hbm, 51, rfl⟩
abbrev main_call1_v0 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_3 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_5 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_6 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87_0 : Ref sig .tc := ⟨.hbm, 106, rfl⟩
abbrev main_v87_1 : Ref sig .tc := ⟨.hbm, 107, rfl⟩
abbrev main_v87_2 : Ref sig .tc := ⟨.hbm, 108, rfl⟩
abbrev main_v87_3 : Ref sig .tc := ⟨.hbm, 109, rfl⟩
abbrev main_v87_4 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v21 : BitVec 32 := Scalar.muli arg1 c1024_i32
  v21
def k0_off1 (i : grid0.Coords) : Fin 2 → Nat :=
  let arg1 : BitVec 32 := BitVec.ofNat 32 (i 1).val
  let c1024_i32 : BitVec 32 := 1024#32
  let v21 : BitVec 32 := Scalar.muli arg1 c1024_i32
  let v22 : BitVec 32 := v21
  let v23 : Index := Scalar.indexCast v22
  let c0_8 : Index := 0#32
  ![v23.toNat, 0]
def k0_off2 (i : grid0.Coords) : Fin 3 → Nat :=
  let c0_15 : Index := 0#32
  let c0_16 : Index := 0#32
  let arg1 : BitVec 32 := BitVec.ofNat 32 (i 1).val
  let c1024_i32 : BitVec 32 := 1024#32
  let v21 : BitVec 32 := Scalar.muli arg1 c1024_i32
  let v22 : BitVec 32 := v21
  let v44 : Index := Scalar.indexCast v22
  ![0, 0, v44.toNat]
def k0_off3 (i : grid0.Coords) : Fin 3 → Nat :=
  let c0_31 : Index := 0#32
  let c1 : Index := 1#32
  let arg1 : BitVec 32 := BitVec.ofNat 32 (i 1).val
  let c1024_i32 : BitVec 32 := 1024#32
  let v21 : BitVec 32 := Scalar.muli arg1 c1024_i32
  let v22 : BitVec 32 := v21
  let v81 : Index := Scalar.indexCast v22
  ![0, 1, v81.toNat]
@[reducible] def k0_t1_loop (i : grid0.Coords) : Scf.Loop 32 :=
  let arg1 : BitVec 32 := BitVec.ofNat 32 (i 1).val
  let c1_i32 : BitVec 32 := 1#32
  let v121 : BitVec 32 := Scalar.addi arg1 c1_i32
  let c4_i32 : BitVec 32 := 4#32
  let v122 : BitVec 32 := Scalar.subi c4_i32 v121
  let c1_i32_46 : BitVec 32 := 1#32
  let v124 : BitVec 32 := Scalar.divsi v122 c1_i32_46
  let v125 : BitVec 32 := Scalar.muli v124 c1_i32_46
  let v126 : BitVec 32 := Scalar.addi v121 v125
  let c1_i32_47 : BitVec 32 := 1#32
  ⟨v121, v126, c1_i32_47⟩
def k0_mult2 (i : grid0.Coords) (k0_t1 : Fin (k0_t1_loop i).trips) : BitVec 32 :=
  let arg1 : BitVec 32 := BitVec.ofNat 32 (i 1).val
  let c1_i32 : BitVec 32 := 1#32
  let v121 : BitVec 32 := Scalar.addi arg1 c1_i32
  let c1_i32_47 : BitVec 32 := 1#32
  let arg15 : BitVec 32 := Scf.iv v121 c1_i32_47 k0_t1
  let c1024_i32_56 : BitVec 32 := 1024#32
  let v141 : BitVec 32 := Scalar.muli arg15 c1024_i32_56
  v141
def k0_off4 (i : grid0.Coords) (k0_t1 : Fin (k0_t1_loop i).trips) : Fin 2 → Nat :=
  let arg1 : BitVec 32 := BitVec.ofNat 32 (i 1).val
  let c1_i32 : BitVec 32 := 1#32
  let v121 : BitVec 32 := Scalar.addi arg1 c1_i32
  let c1_i32_47 : BitVec 32 := 1#32
  let arg15 : BitVec 32 := Scf.iv v121 c1_i32_47 k0_t1
  let c1024_i32_56 : BitVec 32 := 1024#32
  let v141 : BitVec 32 := Scalar.muli arg15 c1024_i32_56
  let v142 : BitVec 32 := v141
  let v143 : Index := Scalar.indexCast v142
  let c0_57 : Index := 0#32
  ![v143.toNat, 0]
def k0_off5 (i : grid0.Coords) (k0_t1 : Fin (k0_t1_loop i).trips) : Fin 3 → Nat :=
  let c0_63 : Index := 0#32
  let c0_64 : Index := 0#32
  let arg1 : BitVec 32 := BitVec.ofNat 32 (i 1).val
  let c1_i32 : BitVec 32 := 1#32
  let v121 : BitVec 32 := Scalar.addi arg1 c1_i32
  let c1_i32_47 : BitVec 32 := 1#32
  let arg15 : BitVec 32 := Scf.iv v121 c1_i32_47 k0_t1
  let c1024_i32_56 : BitVec 32 := 1024#32
  let v141 : BitVec 32 := Scalar.muli arg15 c1024_i32_56
  let v142 : BitVec 32 := v141
  let v162 : Index := Scalar.indexCast v142
  ![0, 0, v162.toNat]
def k0_off6 (i : grid0.Coords) (k0_t1 : Fin (k0_t1_loop i).trips) : Fin 3 → Nat :=
  let c0_78 : Index := 0#32
  let c1_79 : Index := 1#32
  let arg1 : BitVec 32 := BitVec.ofNat 32 (i 1).val
  let c1_i32 : BitVec 32 := 1#32
  let v121 : BitVec 32 := Scalar.addi arg1 c1_i32
  let c1_i32_47 : BitVec 32 := 1#32
  let arg15 : BitVec 32 := Scf.iv v121 c1_i32_47 k0_t1
  let c1024_i32_56 : BitVec 32 := 1024#32
  let v141 : BitVec 32 := Scalar.muli arg15 c1024_i32_56
  let v142 : BitVec 32 := v141
  let v197 : Index := Scalar.indexCast v142
  ![0, 1, v197.toNat]
@[reducible] def k0_t2_loop (i : grid0.Coords) : Scf.Loop 32 :=
  let arg1 : BitVec 32 := BitVec.ofNat 32 (i 1).val
  let c1_i32 : BitVec 32 := 1#32
  let v121 : BitVec 32 := Scalar.addi arg1 c1_i32
  let c4_i32 : BitVec 32 := 4#32
  let v122 : BitVec 32 := Scalar.subi c4_i32 v121
  let c1_i32_46 : BitVec 32 := 1#32
  let v124 : BitVec 32 := Scalar.divsi v122 c1_i32_46
  let v125 : BitVec 32 := Scalar.muli v124 c1_i32_46
  let v126 : BitVec 32 := Scalar.addi v121 v125
  let v123 : BitVec 32 := Scalar.addi v121 v122
  let c1_i32_48 : BitVec 32 := 1#32
  ⟨v126, v123, c1_i32_48⟩
def k0_mult3 (i : grid0.Coords) (k0_t2 : Fin (k0_t2_loop i).trips) : BitVec 32 :=
  let arg1 : BitVec 32 := BitVec.ofNat 32 (i 1).val
  let c1_i32 : BitVec 32 := 1#32
  let v121 : BitVec 32 := Scalar.addi arg1 c1_i32
  let c4_i32 : BitVec 32 := 4#32
  let v122 : BitVec 32 := Scalar.subi c4_i32 v121
  let c1_i32_46 : BitVec 32 := 1#32
  let v124 : BitVec 32 := Scalar.divsi v122 c1_i32_46
  let v125 : BitVec 32 := Scalar.muli v124 c1_i32_46
  let v126 : BitVec 32 := Scalar.addi v121 v125
  let c1_i32_48 : BitVec 32 := 1#32
  let arg15 : BitVec 32 := Scf.iv v126 c1_i32_48 k0_t2
  let c1024_i32_56 : BitVec 32 := 1024#32
  let v141 : BitVec 32 := Scalar.muli arg15 c1024_i32_56
  v141
def k0_off7 (i : grid0.Coords) (k0_t2 : Fin (k0_t2_loop i).trips) : Fin 2 → Nat :=
  let arg1 : BitVec 32 := BitVec.ofNat 32 (i 1).val
  let c1_i32 : BitVec 32 := 1#32
  let v121 : BitVec 32 := Scalar.addi arg1 c1_i32
  let c4_i32 : BitVec 32 := 4#32
  let v122 : BitVec 32 := Scalar.subi c4_i32 v121
  let c1_i32_46 : BitVec 32 := 1#32
  let v124 : BitVec 32 := Scalar.divsi v122 c1_i32_46
  let v125 : BitVec 32 := Scalar.muli v124 c1_i32_46
  let v126 : BitVec 32 := Scalar.addi v121 v125
  let c1_i32_48 : BitVec 32 := 1#32
  let arg15 : BitVec 32 := Scf.iv v126 c1_i32_48 k0_t2
  let c1024_i32_56 : BitVec 32 := 1024#32
  let v141 : BitVec 32 := Scalar.muli arg15 c1024_i32_56
  let v142 : BitVec 32 := v141
  let v143 : Index := Scalar.indexCast v142
  let c0_57 : Index := 0#32
  ![v143.toNat, 0]
def k0_off8 (i : grid0.Coords) (k0_t2 : Fin (k0_t2_loop i).trips) : Fin 3 → Nat :=
  let c0_63 : Index := 0#32
  let c0_64 : Index := 0#32
  let arg1 : BitVec 32 := BitVec.ofNat 32 (i 1).val
  let c1_i32 : BitVec 32 := 1#32
  let v121 : BitVec 32 := Scalar.addi arg1 c1_i32
  let c4_i32 : BitVec 32 := 4#32
  let v122 : BitVec 32 := Scalar.subi c4_i32 v121
  let c1_i32_46 : BitVec 32 := 1#32
  let v124 : BitVec 32 := Scalar.divsi v122 c1_i32_46
  let v125 : BitVec 32 := Scalar.muli v124 c1_i32_46
  let v126 : BitVec 32 := Scalar.addi v121 v125
  let c1_i32_48 : BitVec 32 := 1#32
  let arg15 : BitVec 32 := Scf.iv v126 c1_i32_48 k0_t2
  let c1024_i32_56 : BitVec 32 := 1024#32
  let v141 : BitVec 32 := Scalar.muli arg15 c1024_i32_56
  let v142 : BitVec 32 := v141
  let v162 : Index := Scalar.indexCast v142
  ![0, 0, v162.toNat]
def k0_off9 (i : grid0.Coords) (k0_t2 : Fin (k0_t2_loop i).trips) : Fin 3 → Nat :=
  let c0_78 : Index := 0#32
  let c1_79 : Index := 1#32
  let arg1 : BitVec 32 := BitVec.ofNat 32 (i 1).val
  let c1_i32 : BitVec 32 := 1#32
  let v121 : BitVec 32 := Scalar.addi arg1 c1_i32
  let c4_i32 : BitVec 32 := 4#32
  let v122 : BitVec 32 := Scalar.subi c4_i32 v121
  let c1_i32_46 : BitVec 32 := 1#32
  let v124 : BitVec 32 := Scalar.divsi v122 c1_i32_46
  let v125 : BitVec 32 := Scalar.muli v124 c1_i32_46
  let v126 : BitVec 32 := Scalar.addi v121 v125
  let c1_i32_48 : BitVec 32 := 1#32
  let arg15 : BitVec 32 := Scf.iv v126 c1_i32_48 k0_t2
  let c1024_i32_56 : BitVec 32 := 1024#32
  let v141 : BitVec 32 := Scalar.muli arg15 c1024_i32_56
  let v142 : BitVec 32 := v141
  let v197 : Index := Scalar.indexCast v142
  ![0, 1, v197.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x64 : Shape := ⟨3, ![8, 4096, 64]⟩
abbrev S8x4096 : Shape := ⟨2, ![8, 4096]⟩
abbrev S_ : Shape := ⟨0, ![]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x64x4096 : Shape := ⟨3, ![8, 64, 4096]⟩
abbrev S4096x8x64 : Shape := ⟨3, ![4096, 8, 64]⟩
abbrev S4096x512 : Shape := ⟨2, ![4096, 512]⟩
abbrev S4x2x4096 : Shape := ⟨3, ![4, 2, 4096]⟩

abbrev nBuf : Space → Nat
  | .hbm => 111
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096, .f32⟩
  | .hbm, ⟨4, _⟩ => ⟨S8x4096x64, .f32⟩
  | .hbm, ⟨5, _⟩ => ⟨S_, .f32⟩
  | .hbm, ⟨6, _⟩ => ⟨S8x4096x64, .f32⟩
  | .hbm, ⟨7, _⟩ => ⟨S8x4096x64, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S4096x1, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S8x4096x4096, .i1⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .i1⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S_, .f32⟩
  | .hbm, ⟨37, _⟩ => ⟨S8x4096, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .i1⟩
  | .hbm, ⟨42, _⟩ => ⟨S_, .f32⟩
  | .hbm, ⟨43, _⟩ => ⟨S8x4096, .f32⟩
  | .hbm, ⟨44, _⟩ => ⟨S8x4096, .i1⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S8x4096, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S8x4096x4096, .f32⟩
  | .hbm, ⟨61, _⟩ => ⟨S8x4096x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x4096x64, .f32⟩
  | .hbm, ⟨67, _⟩ => ⟨S8x64x4096, .f32⟩
  | .hbm, ⟨68, _⟩ => ⟨S8x4096x64, .f32⟩
  | .hbm, ⟨69, _⟩ => ⟨S8x4096x4096, .f32⟩
  | .hbm, ⟨70, _⟩ => ⟨S8x4096x4096, .f32⟩
  | .hbm, ⟨71, _⟩ => ⟨S8x4096x4096, .f32⟩
  | .hbm, ⟨72, _⟩ => ⟨S8x4096x4096, .f32⟩
  | .hbm, ⟨73, _⟩ => ⟨S_, .f32⟩
  | .hbm, ⟨74, _⟩ => ⟨S8x4096, .f32⟩
  | .hbm, ⟨75, _⟩ => ⟨S8x4096x1, .f32⟩
  | .hbm, ⟨76, _⟩ => ⟨S8x4096x1, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096, .f32⟩
  | .hbm, ⟨81, _⟩ => ⟨S8x4096x4096, .f32⟩
  | .hbm, ⟨82, _⟩ => ⟨S8x4096x4096, .f32⟩
  | .hbm, ⟨83, _⟩ => ⟨S8x4096x4096, .f32⟩
  | .hbm, ⟨84, _⟩ => ⟨S_, .f32⟩
  | .hbm, ⟨85, _⟩ => ⟨S8x4096x4096, .f32⟩
  | .hbm, ⟨86, _⟩ => ⟨S8x4096x4096, .f32⟩
  | .hbm, ⟨87, _⟩ => ⟨S_, .f32⟩
  | .hbm, ⟨88, _⟩ => ⟨S8x4096, .f32⟩
  | .hbm, ⟨89, _⟩ => ⟨S8x4096x1, .f32⟩
  | .hbm, ⟨90, _⟩ => ⟨S8x4096x4096, .f32⟩
  | .hbm, ⟨91, _⟩ => ⟨S_, .f32⟩
  | .hbm, ⟨92, _⟩ => ⟨S8x4096, .f32⟩
  | .hbm, ⟨93, _⟩ => ⟨S8x1x4096, .f32⟩
  | .hbm, ⟨94, _⟩ => ⟨S_, .f32⟩
  | .hbm, ⟨95, _⟩ => ⟨S8x4096, .f32⟩
  | .hbm, ⟨96, _⟩ => ⟨S_, .f32⟩
  | .hbm, ⟨97, _⟩ => ⟨S8x4096, .f32⟩
  | .hbm, ⟨98, _⟩ => ⟨S8x4096x64, .f32⟩
  | .hbm, ⟨99, _⟩ => ⟨S8x4096x64, .f32⟩
  | .hbm, ⟨100, _⟩ => ⟨S4096x8x64, .f32⟩
  | .hbm, ⟨101, _⟩ => ⟨S4096x512, .f32⟩
  | .hbm, ⟨102, _⟩ => ⟨S4096x8x64, .f32⟩
  | .hbm, ⟨103, _⟩ => ⟨S4096x512, .f32⟩
  | .hbm, ⟨104, _⟩ => ⟨S4096x8x64, .f32⟩
  | .hbm, ⟨105, _⟩ => ⟨S4096x512, .f32⟩
  | .hbm, ⟨106, _⟩ => ⟨S4x2x4096, .f32⟩
  | .hbm, ⟨107, _⟩ => ⟨S8x4096x1, .f32⟩
  | .hbm, ⟨108, _⟩ => ⟨S8x4096x64, .f32⟩
  | .hbm, ⟨109, _⟩ => ⟨S4096x8x64, .f32⟩
  | .hbm, ⟨110, _⟩ => ⟨S4096x512, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_cst_16 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S8x1024 : Shape := ⟨2, ![8, 1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 33
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S4x1024x1024, .f32⟩
  | .hbm, ⟨9, _⟩ => ⟨S4x1024x1024, .bf16⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S1024x4096, .bf16⟩
  | .hbm, ⟨28, _⟩ => ⟨S4096x4096, .f32⟩
  | .hbm, ⟨29, _⟩ => ⟨S1x1024, .f32⟩
  | .hbm, ⟨30, _⟩ => ⟨S4096x4096, .bf16⟩
  | .hbm, ⟨31, _⟩ => ⟨S4096x1024, .f32⟩
  | .hbm, ⟨32, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S8x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_22 : BitVec 32 := 0#32
  let v32 : BitVec 1 := Scalar.cmpi .ne v31 c0_i32_22
  v32

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference2Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x4096, .bf16⟩
  | .hbm, ⟨77, _⟩ => ⟨S1x1024, .f32⟩
  | .hbm, ⟨78, _⟩ => ⟨S_, .i32⟩
  | .hbm, ⟨79, _⟩ => ⟨S_, .f32⟩
  | .hbm, ⟨80, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c : Ref sig .tc := ⟨.hbm, 78, rfl⟩
abbrev main_call1_v0 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 21
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x4096, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S1024 : Shape := ⟨1, ![1024]⟩
abbrev S4096x4096 : Shape := ⟨2, ![4096, 4096]⟩
abbrev S_ : Shape := ⟨0, ![]⟩
abbrev S1024x4096 : Shape := ⟨2, ![1024, 4096]⟩
abbrev S4096 : Shape := ⟨1, ![4096]⟩
abbrev S4096x1 : Shape := ⟨2, ![4096, 1]⟩
abbrev S1x1024 : Shape := ⟨2, ![1, 1024]⟩
abbrev S1024x4x1024 : Shape := ⟨3, ![1024, 4, 1024]⟩
abbrev S4x1024x1024 : Shape := ⟨3, ![4, 1024, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x4096, .bf16⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S4096x4096, .f32⟩
  | .hbm, ⟨23, _⟩ => ⟨S4096x1024, .f32⟩
  | .hbm, ⟨24, _⟩ => ⟨S1024x4096, .f32⟩
  | .hbm, ⟨25, _⟩ => ⟨S1024x4x1024, .f32⟩
  | .hbm, ⟨26, _⟩ => ⟨S4x1024x1024, .f32⟩
  | .hbm, ⟨27, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S_ : Shape := ⟨0, ![]⟩
abbrev S1x4096x1024 : Shape := ⟨3, ![1, 4096, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S1x4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S1x4096x1024 : Shape := ⟨3, ![1, 4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | .hbm, ⟨12, _⟩ => ⟨S1x4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S4096x2688 : Shape := ⟨2, ![4096, 2688]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x2688 : Shape := ⟨3, ![1, 1024, 2688]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 21
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x2688, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1x1024x2688, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1024x896, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S1024 : Shape := ⟨1, ![1024]⟩
abbrev S4096x2688 : Shape := ⟨2, ![4096, 2688]⟩
abbrev S_ : Shape := ⟨0, ![]⟩
abbrev S1024x2688 : Shape := ⟨2, ![1024, 2688]⟩
abbrev S4096 : Shape := ⟨1, ![4096]⟩
abbrev S4096x1 : Shape := ⟨2, ![4096, 1]⟩
abbrev S1x1024 : Shape := ⟨2, ![1, 1024]⟩
abbrev S2688x1024 : Shape := ⟨2, ![2688, 1024]⟩
abbrev S1x1024x2688 : Shape := ⟨3, ![1, 1024, 2688]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x2688, .bf16⟩
  | .hbm, ⟨3, _⟩ => ⟨S_, .f32⟩
  | .hbm, ⟨4, _⟩ => ⟨S1024x2688, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2688, .f32⟩
  | .hbm, ⟨22, _⟩ => ⟨S4096x2688, .f32⟩
  | .hbm, ⟨23, _⟩ => ⟨S2688x1024, .f32⟩
  | .hbm, ⟨24, _⟩ => ⟨S1024x2688, .f32⟩
  | .hbm, ⟨25, _⟩ => ⟨S1024x2688, .bf16⟩
  | .hbm, ⟨26, _⟩ => ⟨S1x1024x2688, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.Value.Model.lean ====
/- The attention and its gradient over the real numbers: the mathematics that the reference and the kernel share, and the
   few facts that carry it to the extended reals both programs are read in. -/
module

public import Idealize.ShloMosaic.Lib.ValueIdx
public import Idealize.ShloMosaic.Lib.IdealHost
public import Mathlib.Analysis.SpecialFunctions.Log.Basic

@[expose] public section

noncomputable section

namespace Cert.Attn

open Idealize.ShloMosaic
open scoped BigOperators

/-! ## Real numbers inside the extended reals -/

theorem coe_sum {ι : Type} (s : Finset ι) (f : ι → ℝ) : ((∑ i ∈ s, f i : ℝ) : EReal) = ∑ i ∈ s, ((f i : ℝ) : EReal) :=
  map_sum (⟨⟨fun x : ℝ => (x : EReal), EReal.coe_zero⟩, EReal.coe_add⟩ : ℝ →+ EReal) f s

theorem div_coe (x y : ℝ) (hy : y ≠ 0) : Ideal.div (x : EReal) (y : EReal) = ((x / y : ℝ) : EReal) := by
  have h : (y : EReal) ≠ 0 := by rw [Ne, EReal.coe_eq_zero]; exact hy
  unfold Ideal.div
  rw [if_neg h, div_eq_mul_inv, EReal.coe_mul, EReal.coe_inv]

theorem exp_coe (x : ℝ) : Ideal.exp (x : EReal) = ((Real.exp x : ℝ) : EReal) := rfl
theorem exp_bot : Ideal.exp ⊥ = 0 := rfl

theorem log_coe (x : ℝ) (hx : 0 < x) : Ideal.log (x : EReal) = ((Real.log x : ℝ) : EReal) := by
  show (if x ≤ 0 then (⊥ : EReal) else _) = _
  rw [if_neg (not_le.mpr hx)]

/-- The least upper bound of finitely many extended reals, none of them `⊤` and one of them above `⊥`, is a real. -/
theorem fold_max_real {ι : Type} (s : Finset ι) (f : ι → EReal) (htop : ∀ i ∈ s, f i < ⊤) (i : ι) (hi : i ∈ s) (hbot : ⊥ < f i) :
    ∃ r : ℝ, s.fold max ⊥ f = (r : EReal) := by
  have h1 : s.fold max ⊥ f < ⊤ := (Finset.fold_max_lt ⊤).mpr ⟨bot_lt_top, htop⟩
  have h2 : ⊥ < s.fold max ⊥ f := (Finset.lt_fold_max ⊥).mpr (Or.inr ⟨i, hi, hbot⟩)
  exact ⟨_, (EReal.coe_toReal h1.ne h2.ne').symm⟩

/-! ## The attention of eight heads over 4096 positions, and its gradient -/

/-- Queries, keys, values, the cotangent of the output, and the running sums of the decay. -/
structure Data where
  q : Fin 8 → Fin 4096 → Fin 64 → ℝ
  k : Fin 8 → Fin 4096 → Fin 64 → ℝ
  v : Fin 8 → Fin 4096 → Fin 64 → ℝ
  w : Fin 8 → Fin 4096 → Fin 64 → ℝ
  c : Fin 8 → Fin 4096 → ℝ

namespace Data

variable (D : Data)

/-- The scaled query. -/
def qs (h : Fin 8) (t : Fin 4096) (d : Fin 64) : ℝ := D.q h t d * (1 / 8)
/-- The score of key `s` for query `t`, the decay between them added. -/
def Z (h : Fin 8) (t s : Fin 4096) : ℝ := ∑ d, D.qs h t d * D.k h s d + (D.c h t - D.c h s)
/-- Its exponential, zero for a key past its query. -/
def E (h : Fin 8) (t s : Fin 4096) : ℝ := if s.val ≤ t.val then Real.exp (D.Z h t s) else 0
def L (h : Fin 8) (t : Fin 4096) : ℝ := ∑ s, D.E h t s
/-- The probabilities. -/
def P (h : Fin 8) (t s : Fin 4096) : ℝ := D.E h t s / D.L h t
/-- The probabilities' gradient. -/
def dP (h : Fin 8) (t s : Fin 4096) : ℝ := ∑ d, D.w h t d * D.v h s d
def Dl (h : Fin 8) (t : Fin 4096) : ℝ := ∑ s, D.P h t s * D.dP h t s
/-- The scores' gradient. -/
def DS (h : Fin 8) (t s : Fin 4096) : ℝ := D.P h t s * (D.dP h t s - D.Dl h t)
/-- The gradients of the scaled queries, the keys and the values, and the sums of the scores' gradient over keys and,
    negated, over queries: the two parts of the decay's gradient. -/
def dQ (h : Fin 8) (t : Fin 4096) (d : Fin 64) : ℝ := ∑ s, D.DS h t s * D.k h s d
def dK (h : Fin 8) (s : Fin 4096) (d : Fin 64) : ℝ := ∑ t, D.DS h t s * D.qs h t d
def dV (h : Fin 8) (s : Fin 4096) (d : Fin 64) : ℝ := ∑ t, D.P h t s * D.w h t d
def row (h : Fin 8) (t : Fin 4096) : ℝ := ∑ s, D.DS h t s
def col (h : Fin 8) (s : Fin 4096) : ℝ := -∑ t, D.DS h t s

theorem E_nonneg (h : Fin 8) (t s : Fin 4096) : 0 ≤ D.E h t s := by
  unfold E; split
  · exact (Real.exp_pos _).le
  · exact le_rfl

theorem L_pos (h : Fin 8) (t : Fin 4096) : 0 < D.L h t :=
  Finset.sum_pos' (fun s _ => D.E_nonneg h t s) ⟨t, Finset.mem_univ _, by unfold E; rw [if_pos le_rfl]; exact Real.exp_pos _⟩

theorem P_of_lt (h : Fin 8) (t s : Fin 4096) (hs : t.val < s.val) : D.P h t s = 0 := by
  unfold P E; rw [if_neg (by omega), zero_div]

theorem DS_of_lt (h : Fin 8) (t s : Fin 4096) (hs : t.val < s.val) : D.DS h t s = 0 := by
  unfold DS; rw [D.P_of_lt h t s hs, zero_mul]

/-- A probability from the saved logarithm of the sum. -/
theorem P_of_le (h : Fin 8) (t s : Fin 4096) (hs : s.val ≤ t.val) : D.P h t s = Real.exp (D.Z h t s - Real.log (D.L h t)) := by
  unfold P E; rw [if_pos hs, Real.exp_sub, Real.exp_log (D.L_pos h t)]

/-- The inner product of the output and its cotangent. -/
theorem Dl_eq (h : Fin 8) (t : Fin 4096) : ∑ d, (∑ s, D.P h t s * D.v h s d) * D.w h t d = D.Dl h t := by
  unfold Dl dP
  simp only [Finset.sum_mul, Finset.mul_sum]
  rw [Finset.sum_comm]
  exact Finset.sum_congr rfl fun s _ => Finset.sum_congr rfl fun d _ => by ring

end Data

end Cert.Attn

end
-- ==== Proof.Value.Ref.lean ====
/- What the reference computes, element by element: its host lines read as the real attention's gradient. -/
module

public import proofs.«01_k».proof.Proof.Value.Model
public import proofs.«01_k».proof.Proof.Gen.ReferenceIdeal.Read
public import Idealize.ShloMosaic.Lib.WordCmp
public import Idealize.ShloMosaic.PureOps.Ideal.Laws

@[expose] public section

noncomputable section

namespace Cert.Attn

open Idealize.ShloMosaic Idealize.ShloMosaic.ValueIdx
open scoped BigOperators

/-- The five arguments hold the reals of `D`. -/
structure Holds (D : Data) (x0 x1 x2 : (⟨3, ![8, 4096, 64]⟩ : Shape).Idx → EReal) (x3 : (⟨2, ![8, 4096]⟩ : Shape).Idx → EReal)
    (x4 : (⟨3, ![8, 4096, 64]⟩ : Shape).Idx → EReal) : Prop where
  q : ∀ i, x0 i = ((D.q (i 0) (i 1) (i 2) : ℝ) : EReal)
  k : ∀ i, x1 i = ((D.k (i 0) (i 1) (i 2) : ℝ) : EReal)
  v : ∀ i, x2 i = ((D.v (i 0) (i 1) (i 2) : ℝ) : EReal)
  c : ∀ i, x3 i = ((D.c (i 0) (i 1) : ℝ) : EReal)
  w : ∀ i, x4 i = ((D.w (i 0) (i 1) (i 2) : ℝ) : EReal)

/-! ## The constants -/

theorem ofBits_eighth : Ideal.ofBits .f32 0x3E000000#32 = ((1 / 8 : ℝ) : EReal) := by
  simp [Ideal.ofBits, Ideal.ieee]; rw [← EReal.coe_mul]; norm_num
theorem ofBits_ninf : Ideal.ofBits .f32 0xFF800000#32 = ⊥ := by
  simp [Ideal.ofBits, Ideal.ieee]
theorem ofBits_zero : Ideal.ofBits .f32 0x00000000#32 = ((0 : ℝ) : EReal) := by
  rw [Ideal.ofBits_zero_f32]; rfl
theorem ofBits_one : Ideal.ofBits .f32 0x3F800000#32 = ((1 : ℝ) : EReal) := by
  rw [Ideal.ofBits_one_f32]; rfl

/-- The signed comparison of two positions. -/
theorem sge_pos (a b : ℕ) (ha : a < 4096) (hb : b < 4096) :
    IntOp.cmpi .sge (BitVec.ofNat 32 a) (BitVec.ofNat 32 b) = if b ≤ a then 1#1 else 0#1 := by
  rw [WordCmp.cmpi_sge_ofNat (by omega) (by omega)]
  by_cases h : b ≤ a <;> simp [h]

theorem select_ite {α : Type} (p : Prop) [Decidable p] (a b : α) : Scalar.select (if p then 1#1 else 0#1) a b = if p then a else b := by
  by_cases h : p <;> simp [h, Scalar.select]

theorem weigh_div (P dP L e E : ℝ) (hP : P = E / L) (hL : 0 < L) (he : 0 < e) :
    (dP : EReal) * Ideal.div ((1 : ℝ) : EReal) ((L * e * (L * e) : ℝ) : EReal) * ((E * e : ℝ) : EReal) = ((P * dP / (L * e) : ℝ) : EReal) := by
  rw [div_coe _ _ (by positivity), ← EReal.coe_mul, ← EReal.coe_mul, hP]
  refine congrArg _ ?_
  field_simp

theorem div_mul_coe (E L e : ℝ) (hL : 0 < L) (he : 0 < e) : Ideal.div ((E * e : ℝ) : EReal) ((L * e : ℝ) : EReal) = ((E / L : ℝ) : EReal) := by
  rw [div_coe _ _ (mul_pos hL he).ne', mul_div_mul_right _ _ he.ne']

theorem sub_div_coe (x y z : ℝ) (hz : 0 < z) :
    Ideal.div (x : EReal) (z : EReal) + -((y / z : ℝ) : EReal) = (((x - y) / z : ℝ) : EReal) := by
  rw [div_coe _ _ hz.ne', ← EReal.coe_neg, ← EReal.coe_add, sub_div, sub_eq_add_neg]

theorem weigh_sub (x y L e E : ℝ) (hL : 0 < L) (he : 0 < e) : (x - y) / (L * e) * (E * e) = E / L * (x - y) := by
  field_simp

namespace Ref

open Cert.ReferenceIdeal Cert.ReferenceIdeal.Gen Cert.ReferenceIdeal.Read

variable {D : Data} {x0 x1 x2 : (⟨S8x4096x64, .f32⟩ : BufTy).Contents (Elt Ideal)} {x3 : (⟨S8x4096, .f32⟩ : BufTy).Contents (Elt Ideal)}
  {x4 : (⟨S8x4096x64, .f32⟩ : BufTy).Contents (Elt Ideal)} (H : Holds D x0 x1 x2 x3 x4)

include H

theorem r1 (i : S8x4096x64.Idx) : val_main_v1 (F := Ideal) x0 i = ((D.qs (i 0) (i 1) (i 2) : ℝ) : EReal) := by
  rw [val_main_v1_apply, val_main_v0_apply, val_main_cst_apply, H.q, Ideal.mulf_def, Ideal.ofBits_def, ofBits_eighth, ← EReal.coe_mul]; rfl

theorem r8 (i : S8x4096x4096.Idx) : val_main_v8 (F := Ideal) x0 x1 x3 i = ((D.Z (i 0) (i 1) (i 2) : ℝ) : EReal) := by
  rw [val_main_v8_apply, val_main_v2_apply, val_main_v7_apply, val_main_v5_apply, val_main_v6_apply, val_main_v3_apply, val_main_v4_apply,
    H.c, H.c, Ideal.addf_def, Ideal.subf_def, ← EReal.coe_sub]
  simp only [r1 H, H.k, ← EReal.coe_mul]
  rw [← coe_sum, ← EReal.coe_add]; rfl

omit H in
theorem r15m (i : S8x4096x4096.Idx) : val_main_v15_1 (F := Ideal) i = if (i 2).val ≤ (i 1).val then 1#1 else 0#1 := by
  rw [val_main_v15_1_apply, val_main_v14_apply, val_main_v12_apply, val_main_v13_apply, val_main_v10_apply, val_main_v11_apply,
    val_main_v9_apply, val_main_v9_apply]
  exact sge_pos _ _ (i 1).isLt (i 2).isLt

theorem r15 (i : S8x4096x4096.Idx) :
    val_main_v15_0 (F := Ideal) x0 x1 x3 i = if (i 2).val ≤ (i 1).val then ((D.Z (i 0) (i 1) (i 2) : ℝ) : EReal) else ⊥ := by
  rw [val_main_v15_0_apply, r15m, select_ite, r8 H, val_main_call0_v2_apply, val_main_call0_v0_apply, val_main_cst_0_apply,
    Ideal.ofBits_def, ofBits_ninf]

/-- The row's maximum is a real number; which one does not matter. -/
theorem r23 (i : S8x4096.Idx) : ∃ M : ℝ, val_main_v23 (F := Ideal) x0 x1 x3 i = (M : EReal) := by
  rw [val_main_v23_apply, val_main_v22_apply, val_main_cst_3_apply, Ideal.ofBits_def, ofBits_ninf, Ideal.maximumf_def, max_eq_right bot_le]
  unfold val_main_v16
  rw [Host.reduce_eq_fold, val_main_cst_1_apply, Ideal.ofBits_def, ofBits_ninf]
  refine fold_max_real _ _ (fun j _ => ?_) (ix3 (i 0) (i 1) (0 : Fin 4096)) ?_ ?_
  · rw [r15 H]; split
    · exact EReal.coe_lt_top _
    · exact bot_lt_top
  · rw [Finset.mem_filter]
    refine ⟨Finset.mem_univ _, funext fun a => Fin.ext ?_⟩
    match a with
    | ⟨0, _⟩ => exact Shape.ReducesTo.drop_apply_val_of_eq reducesTo_S8x4096x4096_S8x4096_d2 _ 0 0
    | ⟨1, _⟩ => exact Shape.ReducesTo.drop_apply_val_of_eq reducesTo_S8x4096x4096_S8x4096_d2 _ 1 1
  · rw [r15 H]
    exact lt_of_lt_of_eq (EReal.bot_lt_coe _) (if_pos (Nat.zero_le _)).symm

section

variable {M : S8x4096.Idx → ℝ} (hM : ∀ i, val_main_v23 (F := Ideal) x0 x1 x3 i = (M i : EReal))
include hM

theorem r36 (i : S8x4096x4096.Idx) :
    val_main_v36 (F := Ideal) x0 x1 x3 i = ((D.E (i 0) (i 1) (i 2) * Real.exp (-(M (ix2 (i 0) (i 1)))) : ℝ) : EReal) := by
  rw [val_main_v36_apply, val_main_v35_apply, r15 H, val_main_v34_apply, val_main_v33_apply, hM, Ideal.hostUnary_exp_def, Ideal.subf_def]
  have e : idx_main_v33 (idx_main_v34 i) = ix2 (i 0) (i 1) := by
    funext a
    match a with
    | ⟨0, _⟩ => rfl
    | ⟨1, _⟩ => rfl
  rw [e]
  unfold Data.E
  by_cases h : (i 2).val ≤ (i 1).val
  · have h' : (show Fin 4096 from i 2).val ≤ (show Fin 4096 from i 1).val := h
    rw [if_pos h, if_pos h', ← EReal.coe_sub, exp_coe, sub_eq_add_neg, Real.exp_add]; rfl
  · have h' : ¬ (show Fin 4096 from i 2).val ≤ (show Fin 4096 from i 1).val := h
    rw [if_neg h, if_neg h', EReal.bot_sub, exp_bot, zero_mul]; rfl

theorem r37 (i : S8x4096.Idx) :
    val_main_v37 (F := Ideal) x0 x1 x3 i = ((D.L (i 0) (i 1) * Real.exp (-(M (ix2 (i 0) (i 1)))) : ℝ) : EReal) := by
  rw [val_main_v37_apply, val_main_cst_9_apply, Ideal.ofBits_def, Ideal.ofBits_zero_f32, zero_add]
  simp only [r36 H hM]
  rw [← coe_sum]
  exact congrArg _ (Finset.sum_mul Finset.univ (fun s => D.E (i 0) (i 1) s) (Real.exp (-(M (ix2 (i 0) (i 1)))))).symm

theorem r38 (i : S8x4096x1.Idx) :
    val_main_v38 (F := Ideal) x0 x1 x3 i = ((D.L (i 0) (i 1) * Real.exp (-(M (ix2 (i 0) (i 1)))) : ℝ) : EReal) := by
  rw [val_main_v38_apply, r37 H hM]; rfl

theorem r40 (i : S8x4096x4096.Idx) : val_main_v40 (F := Ideal) x0 x1 x3 i = ((D.P (i 0) (i 1) (i 2) : ℝ) : EReal) := by
  rw [val_main_v40_apply, val_main_v39_apply, r36 H hM, r38 H hM, Ideal.hostDivf_def]
  exact div_mul_coe _ _ _ (D.L_pos _ _) (Real.exp_pos _)

omit hM in
theorem r47 (i : S8x4096x4096.Idx) : val_main_v47 (F := Ideal) x2 x4 i = ((D.dP (i 0) (i 1) (i 2) : ℝ) : EReal) := by
  rw [val_main_v47_apply]
  simp only [H.v, H.w, ← EReal.coe_mul]
  rw [← coe_sum]; rfl

theorem r51 (i : S8x4096.Idx) : val_main_v51 (F := Ideal) x0 x1 x2 x3 x4 i
    = ((D.Dl (i 0) (i 1) / (D.L (i 0) (i 1) * Real.exp (-(M (ix2 (i 0) (i 1))))) : ℝ) : EReal) := by
  rw [val_main_v51_apply, val_main_cst_11_apply, Ideal.ofBits_def, Ideal.ofBits_zero_f32, zero_add]
  simp only [val_main_v50_apply, val_main_v49_apply, val_main_v48_apply, val_main_v43_apply, val_main_v42_apply, val_main_cst_10_apply,
    val_main_v41_apply, r47 H, r36 H hM, r38 H hM, Ideal.mulf_def, Ideal.hostDivf_def, Ideal.ofBits_def, ofBits_one, ← EReal.coe_mul]
  rw [Finset.sum_congr rfl (g := fun k => ((D.P (i 0) (i 1) k * D.dP (i 0) (i 1) k / (D.L (i 0) (i 1) * Real.exp (-(M (ix2 (i 0) (i 1))))) : ℝ) : EReal))
    (fun k _ => ?_)]
  · rw [← coe_sum, ← Finset.sum_div]; rfl
  · exact weigh_div _ _ _ _ _ rfl (D.L_pos _ _) (Real.exp_pos _)

theorem r58 (i : S8x4096x4096.Idx) : val_main_v58 (F := Ideal) x0 x1 x2 x3 x4 i
    = (((D.dP (i 0) (i 1) (i 2) - D.Dl (i 0) (i 1)) / (D.L (i 0) (i 1) * Real.exp (-(M (ix2 (i 0) (i 1))))) : ℝ) : EReal) := by
  rw [val_main_v58_apply, val_main_v55_apply, r47 H, val_main_v54_apply, r38 H hM, val_main_v57_apply, val_main_v56_apply,
    val_main_cst_12_apply, Ideal.ofBits_def, Ideal.ofBits_zero_f32, zero_add, Fin.sum_univ_one, val_main_v53_apply, val_main_v52_apply, r51 H hM,
    Ideal.hostNegf_def, Ideal.negf_def, Ideal.addf_def, Ideal.hostDivf_def]
  have e : idx_main_v52 (idx_main_v56 (idx_main_v57 i) 0) = ix2 (i 0) (i 1) := by
    have h0 : (i 0).val < 8 := (i 0).isLt
    have h1 : (i 1).val < 4096 := (i 1).isLt
    funext a
    match a with
    | ⟨0, _⟩ => exact Fin.ext (show (((i 0).val * 4096 + (i 1).val) * 1 + 0) / 4096 = (i 0).val by omega)
    | ⟨1, _⟩ => exact Fin.ext (show (((i 0).val * 4096 + (i 1).val) * 1 + 0) % 4096 = (i 1).val by omega)
  rw [e]
  exact sub_div_coe _ _ _ (mul_pos (D.L_pos _ _) (Real.exp_pos _))

theorem r60 (i : S8x4096x4096.Idx) : val_main_v60 (F := Ideal) x0 x1 x2 x3 x4 i = ((D.DS (i 0) (i 1) (i 2) : ℝ) : EReal) := by
  rw [val_main_v60_apply, r15m, select_ite, val_main_call1_v0_apply, val_main_call1_cst_apply, Ideal.ofBits_def, ofBits_zero,
    val_main_v59_apply, r58 H hM, r36 H hM, Ideal.mulf_def, ← EReal.coe_mul]
  by_cases h : (i 2).val ≤ (i 1).val
  · rw [if_pos h]
    refine congrArg _ ?_
    exact weigh_sub _ _ _ _ _ (D.L_pos _ _) (Real.exp_pos _)
  · rw [if_neg h]
    exact congrArg _ (D.DS_of_lt _ _ _ (Nat.lt_of_not_le h)).symm

end

theorem exists_M : ∃ M : S8x4096.Idx → ℝ, ∀ i, val_main_v23 (F := Ideal) x0 x1 x3 i = (M i : EReal) :=
  ⟨fun i => (r23 H i).choose, fun i => (r23 H i).choose_spec⟩

theorem p (i : S8x4096x4096.Idx) : val_main_v40 (F := Ideal) x0 x1 x3 i = ((D.P (i 0) (i 1) (i 2) : ℝ) : EReal) := by
  obtain ⟨M, hM⟩ := exists_M H
  exact r40 H hM i

theorem ds (i : S8x4096x4096.Idx) : val_main_v60 (F := Ideal) x0 x1 x2 x3 x4 i = ((D.DS (i 0) (i 1) (i 2) : ℝ) : EReal) := by
  obtain ⟨M, hM⟩ := exists_M H
  exact r60 H hM i

/-! ## The five results -/

/-- The queries' gradient. -/
theorem out0 (t : Fin 4096) (x : Fin 512) : val_main_v71 (F := Ideal) x0 x1 x2 x3 x4 (ix2 t x)
    = ((D.dQ ⟨x.val / 64, by omega⟩ t ⟨x.val % 64, by omega⟩ : ℝ) : EReal) := by
  rw [val_main_v71_apply, val_main_v70_apply, val_main_v69_apply]
  simp only [ds H, H.k, ← EReal.coe_mul]
  rw [← coe_sum]
  have e : idx_main_v70 (idx_main_v71 (ix2 t x)) = ix3 (⟨x.val / 64, by omega⟩ : Fin 8) t (⟨x.val % 64, by omega⟩ : Fin 64) := by
    have h0 := t.isLt
    have h1 := x.isLt
    funext a
    match a with
    | ⟨0, _⟩ => exact Fin.ext (show (t.val * 512 + x.val) / 64 % 8 = x.val / 64 by omega)
    | ⟨1, _⟩ => exact Fin.ext (show (t.val * 512 + x.val) / 512 = t.val by omega)
    | ⟨2, _⟩ => exact Fin.ext (show (t.val * 512 + x.val) % 64 = x.val % 64 by omega)
  rw [e]; rfl

/-- The keys' gradient. -/
theorem out1 (s : Fin 4096) (x : Fin 512) : val_main_v73 (F := Ideal) x0 x1 x2 x3 x4 (ix2 s x)
    = ((D.dK ⟨x.val / 64, by omega⟩ s ⟨x.val % 64, by omega⟩ : ℝ) : EReal) := by
  rw [val_main_v73_apply, val_main_v72_apply, val_main_v68_apply]
  simp only [ds H, r1 H, ← EReal.coe_mul]
  rw [← coe_sum]
  have e : idx_main_v72 (idx_main_v73 (ix2 s x)) = ix3 (⟨x.val / 64, by omega⟩ : Fin 8) s (⟨x.val % 64, by omega⟩ : Fin 64) := by
    have h0 := s.isLt
    have h1 := x.isLt
    funext a
    match a with
    | ⟨0, _⟩ => exact Fin.ext (show (s.val * 512 + x.val) / 64 % 8 = x.val / 64 by omega)
    | ⟨1, _⟩ => exact Fin.ext (show (s.val * 512 + x.val) / 512 = s.val by omega)
    | ⟨2, _⟩ => exact Fin.ext (show (s.val * 512 + x.val) % 64 = x.val % 64 by omega)
  rw [e]; rfl

/-- The values' gradient. -/
theorem out2 (s : Fin 4096) (x : Fin 512) : val_main_v75 (F := Ideal) x0 x1 x3 x4 (ix2 s x)
    = ((D.dV ⟨x.val / 64, by omega⟩ s ⟨x.val % 64, by omega⟩ : ℝ) : EReal) := by
  rw [val_main_v75_apply, val_main_v74_apply, val_main_v46_apply, val_main_v45_apply]
  simp only [p H, H.w, ← EReal.coe_mul]
  rw [← coe_sum]
  have e : idx_main_v74 (idx_main_v75 (ix2 s x)) = ix3 (⟨x.val / 64, by omega⟩ : Fin 8) s (⟨x.val % 64, by omega⟩ : Fin 64) := by
    have h0 := s.isLt
    have h1 := x.isLt
    funext a
    match a with
    | ⟨0, _⟩ => exact Fin.ext (show (s.val * 512 + x.val) / 64 % 8 = x.val / 64 by omega)
    | ⟨1, _⟩ => exact Fin.ext (show (s.val * 512 + x.val) / 512 = s.val by omega)
    | ⟨2, _⟩ => exact Fin.ext (show (s.val * 512 + x.val) % 64 = x.val % 64 by omega)
  rw [e]
  refine congrArg _ (Finset.sum_congr rfl fun t _ => mul_comm _ _)

/-- The sums of the scores' gradient over keys, -/
theorem out3 (a : Fin 4) (b : Fin 2) (t : Fin 4096) : val_main_v76 (F := Ideal) x0 x1 x2 x3 x4 (ix3 a b t)
    = ((D.row ⟨2 * a.val + b.val, by omega⟩ t : ℝ) : EReal) := by
  rw [val_main_v76_apply, val_main_v67_apply, val_main_cst_16_apply, Ideal.ofBits_def, Ideal.ofBits_zero_f32, zero_add, Fin.sum_univ_one,
    val_main_v62_apply, val_main_v61_apply, val_main_cst_13_apply, Ideal.ofBits_def, Ideal.ofBits_zero_f32, zero_add]
  simp only [ds H]
  rw [← coe_sum]
  have e : idx_main_v62 (idx_main_v67 (idx_main_v76 (ix3 a b t)) 0) = ix2 (⟨2 * a.val + b.val, by omega⟩ : Fin 8) t := by
    have h0 := a.isLt
    have h1 := b.isLt
    have h2 := t.isLt
    funext z
    match z with
    | ⟨0, _⟩ => exact Fin.ext (show (((((a.val * 2 + b.val) * 4096 + t.val) / 4096) * 4096 + ((a.val * 2 + b.val) * 4096 + t.val) % 4096) * 1 + 0) / 4096 = 2 * a.val + b.val by omega)
    | ⟨1, _⟩ => exact Fin.ext (show (((((a.val * 2 + b.val) * 4096 + t.val) / 4096) * 4096 + ((a.val * 2 + b.val) * 4096 + t.val) % 4096) * 1 + 0) % 4096 = t.val by omega)
  rw [e]; rfl

/-- and over queries, negated. -/
theorem out4 (s : Fin 4096) (x : Fin 512) : val_main_v80 (F := Ideal) x0 x1 x2 x3 x4 (ix2 s x)
    = ((D.col ⟨x.val / 64, by omega⟩ s : ℝ) : EReal) := by
  rw [val_main_v80_apply, val_main_v79_apply, val_main_v78_apply, val_main_v77_apply, val_main_v66_apply, val_main_cst_15_apply, Ideal.ofBits_def,
    Ideal.ofBits_zero_f32, zero_add, Fin.sum_univ_one, val_main_v65_apply, val_main_v64_apply, val_main_cst_14_apply, Ideal.ofBits_def, Ideal.ofBits_zero_f32, zero_add]
  simp only [val_main_v63_apply, ds H, Ideal.hostNegf_def, Ideal.negf_def, ← EReal.coe_neg]
  rw [← coe_sum]
  have e : idx_main_v65 (idx_main_v66 (idx_main_v77 (idx_main_v78 (idx_main_v79 (idx_main_v80 (ix2 s x))))) 0) = ix2 (⟨x.val / 64, by omega⟩ : Fin 8) s := by
    have h0 := s.isLt
    have h1 := x.isLt
    funext z
    match z with
    | ⟨0, _⟩ => exact Fin.ext (show ((((s.val * 512 + x.val) / 64 % 8) * 1 + 0) * 4096 + (s.val * 512 + x.val) / 512) / 4096 = x.val / 64 by omega)
    | ⟨1, _⟩ => exact Fin.ext (show ((((s.val * 512 + x.val) / 64 % 8) * 1 + 0) * 4096 + (s.val * 512 + x.val) / 512) % 4096 = s.val by omega)
  rw [e]
  refine congrArg _ ?_
  unfold Data.col
  rw [← Finset.sum_neg_distrib]; rfl

end Ref

end Cert.Attn

end
-- ==== Proof.Value.Finite.lean ====
/- The precondition read: arguments that are finite are the images of real arrays. -/
module

public import proofs.«01_k».proof.Pre_finite
public import proofs.«01_k».proof.Proof.Value.Ref
public import Idealize.ShloMosaic.Lib.ReduceAll
public import Idealize.ShloMosaic.Lib.KernelVsHost

@[expose] public section

noncomputable section

namespace Cert.Attn

open Idealize.ShloMosaic Idealize.ShloMosaic.ValueIdx
open Cert.Pre_finite

/-- The side conditions that the precondition's function states. -/
theorem finiteFacts : Cert.Pre_finite.Facts where
  bcast_S_S8x4096x64 := by decide
  reducesTo_S8x4096x64_S_d0_1_2 := by decide
  h_S_ := by decide
  bcast_S_S8x4096 := by decide
  reducesTo_S8x4096_S_d0_1 := by decide

/-- An element whose absolute value compares below infinity is a real. -/
theorem real_of_lt (x : EReal)
    (h : FloatOps.cmpf .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  have hlt : max x (-x) < ⊤ := by
    by_contra hn
    simp [hn] at h'
  rw [max_lt_iff] at hlt
  refine (EReal.coe_toReal hlt.1.ne fun hb => ?_).symm
  rw [hb] at hlt
  simp at hlt

theorem and_one (a b : BitVec 1) (h : IntOp.andi a b = 1#1) : a = 1#1 ∧ b = 1#1 := by
  revert h; revert a b; decide

instance : Subsingleton (S_ : Shape).Idx := ⟨fun a b => funext fun i => i.elim0⟩

/-- Every element of an array is a real when the conjunction of the comparisons is 1. -/
theorem all_real {s : Shape} {axes : List (Fin s.rank)} (x : s.Idx → EReal) (hb : S_.BroadcastsInDim s (![] : Fin 0 → Fin s.rank))
    (hr : s.ReducesTo axes S_) (hu : 0 < S_.numel)
    (h : Host.reduce IntOp.andi (cmpf .olt (Host.absf (F := Ideal) (φ := .f32) x)
      (broadcastInDim s ![] hb (constant (F := Ideal) S_ .f32 0x7F800000#32))) (constantI S_ 1 1#1) hr hu (fun i => i.elim0) = 1#1) (i : s.Idx) :
    x i = (((x i).toReal : ℝ) : EReal) :=
  real_of_lt (x i) (Host.reduce_andi_all _ _ hr hu _ h i)

/-- Finite arguments hold reals. -/
theorem holds_of_finite (x0 x1 x2 : FVec Ideal S8x4096x64 .f32) (x3 : FVec Ideal S8x4096 .f32) (x4 : FVec Ideal S8x4096x64 .f32)
    (h : letI := finiteFacts; Cert.Pre_finite.fn (F := Ideal) x0 x1 x2 x3 x4 = fun _ => 1#1) : ∃ D, Holds D x0 x1 x2 x3 x4 := by
  letI := finiteFacts
  have h := congrFun h (fun i => i.elim0)
  unfold Cert.Pre_finite.fn Cert.Pre_finite.fn_part1 at h
  obtain ⟨h, h4⟩ := and_one _ _ h
  obtain ⟨h, h3⟩ := and_one _ _ h
  obtain ⟨h, h2⟩ := and_one _ _ h
  obtain ⟨h0, h1⟩ := and_one _ _ h
  have e0 := all_real x0 _ _ _ h0
  have e1 := all_real x1 _ _ _ h1
  have e2 := all_real x2 _ _ _ h2
  have e3 := all_real x3 _ _ _ h3
  have e4 := all_real x4 _ _ _ h4
  refine ⟨{ q := fun a b d => (x0 (ix3 a b d)).toReal, k := fun a b d => (x1 (ix3 a b d)).toReal, v := fun a b d => (x2 (ix3 a b d)).toReal,
            w := fun a b d => (x4 (ix3 a b d)).toReal, c := fun a b => (x3 (ix2 a b)).toReal }, ?_, ?_, ?_, ?_, ?_⟩
  · intro i; obtain ⟨a, b, d, rfl⟩ : ∃ a b d, i = ix3 a b d := ⟨i 0, i 1, i 2, eq_ix3 i⟩; exact e0 _
  · intro i; obtain ⟨a, b, d, rfl⟩ : ∃ a b d, i = ix3 a b d := ⟨i 0, i 1, i 2, eq_ix3 i⟩; exact e1 _
  · intro i; obtain ⟨a, b, d, rfl⟩ : ∃ a b d, i = ix3 a b d := ⟨i 0, i 1, i 2, eq_ix3 i⟩; exact e2 _
  · intro i; obtain ⟨a, b, rfl⟩ : ∃ a b, i = ix2 a b := ⟨i 0, i 1, eq_ix2 i⟩; exact e3 _
  · intro i; obtain ⟨a, b, d, rfl⟩ : ∃ a b d, i = ix3 a b d := ⟨i 0, i 1, i 2, eq_ix3 i⟩; exact e4 _

end Cert.Attn

end
-- ==== Proof.Body.Skeleton.lean ====
/- The kernel body as a sequence of memory operations over named payloads (each pure value the body computes, as a
   definition over the values read before it), and per printed function the theorem that it is that sequence, by
   definitional unfolding. The second counted loop of the body makes no trip; its region stays as printed. -/
module

public import proofs.«01_k».proof.Proof.Gen.KernelIdeal

@[expose] public section

set_option synthInstance.maxSize 4096

noncomputable section

namespace Cert.KernelIdeal.Gen

open Idealize.ShloMosaic Idealize.SL.Sem

variable {F : FTy → Type} [FloatOps F] [Named F]

/-- `%229 = vector.shape_cast` of `cc0_attn_bwd`. -/
noncomputable def k0_pay1 (v222 : FVec F S1x1024 .f32) (v224 : FVec F S1x1024 .f32) : FVec F S1x1x1024 .f32 :=
  have v225 : FVec F S1x1024 .f32 := addf v222 v224
  have v229 : FVec F S1x1x1024 .f32 := shapeCast S1x1x1024 v225 shapeCasts_S1x1024_S1x1x1024
  v229

/-- `%234 = arith.addf` of `cc0_attn_bwd`. -/
noncomputable def k0_pay2 (v5 : IVec S1024x128 1) (v184 : FVec F S1024x128 .f32) (v219 : FVec F S1024x128 .f32) (v231 : Vec F S1024x128 .f32) : FVec F S1024x128 .f32 :=
  have v232 : FVec F S1024x128 .f32 := shapeCast S1024x128 v231 shapeCasts_S1024x128_S1024x128
  have v233 : FVec F S1024x128 .f32 := select v5 v184 v219
  have v234 : FVec F S1024x128 .f32 := addf v232 v233
  v234

/-- `%229 = vector.shape_cast` of `cc0_attn_bwd`. -/
noncomputable def k0_pay3 (v222 : FVec F S1x1024 .f32) (v224 : FVec F S1x1024 .f32) : FVec F S1x1x1024 .f32 :=
  have v225 : FVec F S1x1024 .f32 := addf v222 v224
  have v229 : FVec F S1x1x1024 .f32 := shapeCast S1x1x1024 v225 shapeCasts_S1x1024_S1x1x1024
  v229

/-- `%234 = arith.addf` of `cc0_attn_bwd`. -/
noncomputable def k0_pay4 (v5 : IVec S1024x128 1) (v184 : FVec F S1024x128 .f32) (v219 : FVec F S1024x128 .f32) (v231 : Vec F S1024x128 .f32) : FVec F S1024x128 .f32 :=
  have v232 : FVec F S1024x128 .f32 := shapeCast S1024x128 v231 shapeCasts_S1024x128_S1024x128
  have v233 : FVec F S1024x128 .f32 := select v5 v184 v219
  have v234 : FVec F S1024x128 .f32 := addf v232 v233
  v234

/-- `%129 = arith.select` of `cc0_attn_bwd`. -/
noncomputable def k0_pay5 (v5 : IVec S1024x128 1) (v128_0 : FVec F S1024x128 .f32) (v128_3 : FVec F S1024x128 .f32) : FVec F S1024x128 .f32 :=
  have v129 : FVec F S1024x128 .f32 := select v5 v128_0 v128_3
  v129

/-- `%131 = arith.select` of `cc0_attn_bwd`. -/
noncomputable def k0_pay6 (v5 : IVec S1024x128 1) (v128_1 : FVec F S1024x128 .f32) (v128_4 : FVec F S1024x128 .f32) : FVec F S1024x128 .f32 :=
  have v131 : FVec F S1024x128 .f32 := select v5 v128_1 v128_4
  v131

/-- `%139 = arith.subf` of `cc0_attn_bwd`. -/
noncomputable def k0_pay7 (v5 : IVec S1024x128 1) (v128_2 : FVec F S1024x1 .f32) (v128_5 : FVec F S1024x1 .f32) : FVec F S1024x128 .f32 :=
  have v133 : FVec F S1024x1 .f32 := shapeCast S1024x1 v128_2 shapeCasts_S1024x1_S1024x1
  have v134 : FVec F S1024x128 .f32 := broadcastTo S1024x128 v133 broadcasts_S1024x1_S1024x128
  have v135 : FVec F S1024x1 .f32 := shapeCast S1024x1 v128_5 shapeCasts_S1024x1_S1024x1
  have v136 : FVec F S1024x128 .f32 := broadcastTo S1024x128 v135 broadcasts_S1024x1_S1024x128
  have v137 : FVec F S1024x128 .f32 := select v5 v134 v136
  have cst_53 : F .f32 := Scalar.ofBits .f32 0x00000000#32
  have v138 : FVec F S1024x128 .f32 := broadcast S1024x128 cst_53
  have v139 : FVec F S1024x128 .f32 := subf v138 v137
  v139

/-- `%145 = vector.shape_cast` of `k0_part1`. -/
noncomputable def k0_pay8 (v144 : Vec F S1024x128 .bf16) : FVec F S1024x128 .bf16 :=
  have v145 : FVec F S1024x128 .bf16 := shapeCast S1024x128 v144 shapeCasts_S1024x128_S1024x128
  v145

/-- `%148 = vector.shape_cast` of `k0_part1`. -/
noncomputable def k0_pay9 (v147 : Vec F S1024x128 .bf16) : FVec F S1024x128 .bf16 :=
  have v148 : FVec F S1024x128 .bf16 := shapeCast S1024x128 v147 shapeCasts_S1024x128_S1024x128
  v148

/-- `%151 = vector.shape_cast` of `k0_part1`. -/
noncomputable def k0_pay10 (v150 : Vec F S1024x128 .bf16) : FVec F S1024x128 .bf16 :=
  have v151 : FVec F S1024x128 .bf16 := shapeCast S1024x128 v150 shapeCasts_S1024x128_S1024x128
  v151

/-- `%152 = vector.broadcast` of `k0_part1`. -/
noncomputable def k0_pay11 : FVec F S1024x128 .bf16 :=
  have cst_60 : F .bf16 := Scalar.ofBits .bf16 0x0000#16
  have v152 : FVec F S1024x128 .bf16 := broadcast S1024x128 cst_60
  v152

/-- `%158 = tpu.concatenate` of `k0_part1`. -/
noncomputable def k0_pay12 (v5 : IVec S1024x128 1) (v7 : IVec S1024x128 1) (v144 : Vec F S1024x128 .bf16) (v150 : Vec F S1024x128 .bf16) : FVec F S1024x256 .bf16 :=
  have v156 : FVec F S1024x128 .bf16 := select v5 (k0_pay11 (F := F)) (k0_pay8 v144)
  have v157 : FVec F S1024x128 .bf16 := select v7 (k0_pay11 (F := F)) (k0_pay10 v150)
  have v158 : FVec F S1024x256 .bf16 := concatenate S1024x256 1 [⟨S1024x128, v156⟩, ⟨S1024x128, v157⟩] concatenates_S1024x128_S1024x128_S1024x256_d1
  v158

/-- `%159 = vector.broadcast` of `k0_part1`. -/
noncomputable def k0_pay13 : FVec F S1024x128 .bf16 :=
  have cst_61 : F .bf16 := Scalar.ofBits .bf16 0x0000#16
  have v159 : FVec F S1024x128 .bf16 := broadcast S1024x128 cst_61
  v159

/-- `%167 = math.exp` of `k0_part1`. -/
noncomputable def k0_pay14 (v5 : IVec S1024x128 1) (v7 : IVec S1024x128 1) (v15 : FVec F S1024x256 .bf16) (v144 : Vec F S1024x128 .bf16) (v150 : Vec F S1024x128 .bf16) (v163 : Vec F S1x1x1024 .f32) : FVec F S1024x1024 .f32 :=
  have v153 : FVec F S1024x128 .bf16 := select v5 (k0_pay8 v144) (k0_pay11 (F := F))
  have v154 : FVec F S1024x128 .bf16 := select v7 (k0_pay10 v150) (k0_pay11 (F := F))
  have v155 : FVec F S1024x256 .bf16 := concatenate S1024x256 1 [⟨S1024x128, v153⟩, ⟨S1024x128, v154⟩] concatenates_S1024x128_S1024x128_S1024x256_d1
  have cst_62 : FVec F S1024x1024 .f32 := constant S1024x1024 .f32 0x00000000#32
  have v161 : FVec F S1024x1024 .f32 := matmul dot_S1024x256_S1024x256_S1024x1024_1_1_0_0_n_n none v15 v155 cst_62
  have v164 : FVec F S1x1024 .f32 := shapeCast S1x1024 v163 shapeCasts_S1x1x1024_S1x1024
  have v165 : FVec F S1024x1024 .f32 := broadcastTo S1024x1024 v164 broadcasts_S1x1024_S1024x1024
  have v166 : FVec F S1024x1024 .f32 := subf v161 v165
  have v167 : FVec F S1024x1024 .f32 := exp v166
  v167

/-- `%174 = arith.mulf` of `k0_part1`. -/
noncomputable def k0_pay15 (v5 : IVec S1024x128 1) (v7 : IVec S1024x128 1) (v15 : FVec F S1024x256 .bf16) (v17 : FVec F S1024x128 .bf16) (v144 : Vec F S1024x128 .bf16) (v147 : Vec F S1024x128 .bf16) (v150 : Vec F S1024x128 .bf16) (v163 : Vec F S1x1x1024 .f32) (v170 : Vec F S1x1x1024 .f32) : FVec F S1024x1024 .f32 :=
  have v160 : FVec F S1024x128 .bf16 := select v5 (k0_pay9 v147) (k0_pay13 (F := F))
  have cst_65 : FVec F S1024x1024 .f32 := constant S1024x1024 .f32 0x00000000#32
  have v168 : FVec F S1024x1024 .f32 := matmul dot_S1024x128_S1024x128_S1024x1024_1_1_0_0_n_n none v17 v160 cst_65
  have v171 : FVec F S1x1024 .f32 := shapeCast S1x1024 v170 shapeCasts_S1x1x1024_S1x1024
  have v172 : FVec F S1024x1024 .f32 := broadcastTo S1024x1024 v171 broadcasts_S1x1024_S1024x1024
  have v173 : FVec F S1024x1024 .f32 := subf v168 v172
  have v174 : FVec F S1024x1024 .f32 := mulf (k0_pay14 v5 v7 v15 v144 v150 v163) v173
  v174

/-- `%176 = arith.truncf` of `k0_part1`. -/
noncomputable def k0_pay16 (v5 : IVec S1024x128 1) (v7 : IVec S1024x128 1) (v15 : FVec F S1024x256 .bf16) (v17 : FVec F S1024x128 .bf16) (v144 : Vec F S1024x128 .bf16) (v147 : Vec F S1024x128 .bf16) (v150 : Vec F S1024x128 .bf16) (v163 : Vec F S1x1x1024 .f32) (v170 : Vec F S1x1x1024 .f32) : FVec F S1024x1024 .bf16 :=
  have v176 : FVec F S1024x1024 .bf16 := truncf .bf16 (k0_pay15 v5 v7 v15 v17 v144 v147 v150 v163 v170) bitsLt_bf16_f32
  v176

/-- `%178 = arith.addf` of `k0_part1`. -/
noncomputable def k0_pay17 (v5 : IVec S1024x128 1) (v7 : IVec S1024x128 1) (v15 : FVec F S1024x256 .bf16) (arg17 : FVec F S1024x128 .f32) (v144 : Vec F S1024x128 .bf16) (v147 : Vec F S1024x128 .bf16) (v150 : Vec F S1024x128 .bf16) (v163 : Vec F S1x1x1024 .f32) : FVec F S1024x128 .f32 :=
  have v175 : FVec F S1024x1024 .bf16 := truncf .bf16 (k0_pay14 v5 v7 v15 v144 v150 v163) bitsLt_bf16_f32
  have cst_68 : FVec F S1024x128 .f32 := constant S1024x128 .f32 0x00000000#32
  have v177 : FVec F S1024x128 .f32 := matmul dot_S1024x1024_S1024x128_S1024x128_1_0_0_1_n_n none v175 (k0_pay9 v147) cst_68
  have v178 : FVec F S1024x128 .f32 := addf arg17 v177
  v178

/-- `%180 = arith.addf` of `k0_part1`. -/
noncomputable def k0_pay18 (v5 : IVec S1024x128 1) (v7 : IVec S1024x128 1) (v15 : FVec F S1024x256 .bf16) (v17 : FVec F S1024x128 .bf16) (arg16 : FVec F S1024x128 .f32) (v144 : Vec F S1024x128 .bf16) (v147 : Vec F S1024x128 .bf16) (v150 : Vec F S1024x128 .bf16) (v163 : Vec F S1x1x1024 .f32) (v170 : Vec F S1x1x1024 .f32) : FVec F S1024x128 .f32 :=
  have cst_69 : FVec F S1024x128 .f32 := constant S1024x128 .f32 0x00000000#32
  have v179 : FVec F S1024x128 .f32 := matmul dot_S1024x1024_S1024x128_S1024x128_1_0_0_1_n_n none (k0_pay16 v5 v7 v15 v17 v144 v147 v150 v163 v170) (k0_pay8 v144) cst_69
  have v180 : FVec F S1024x128 .f32 := addf arg16 v179
  v180

/-- `%183 = arith.addf` of `k0_part1`. -/
noncomputable def k0_pay19 (v5 : IVec S1024x128 1) (v7 : IVec S1024x128 1) (v15 : FVec F S1024x256 .bf16) (v17 : FVec F S1024x128 .bf16) (arg18 : FVec F S1024x1 .f32) (v144 : Vec F S1024x128 .bf16) (v147 : Vec F S1024x128 .bf16) (v150 : Vec F S1024x128 .bf16) (v163 : Vec F S1x1x1024 .f32) (v170 : Vec F S1x1x1024 .f32) : FVec F S1024x1 .f32 :=
  have v181 : FVec F S1024 .f32 := multiReduction .add [1] S1024 (k0_pay15 v5 v7 v15 v17 v144 v147 v150 v163 v170) 0x00000000#32 reduces_S1024x1024_S1024 (.inl rfl) rfl
  have v182 : FVec F S1024x1 .f32 := shapeCast S1024x1 v181 shapeCasts_S1024_S1024x1
  have v183 : FVec F S1024x1 .f32 := addf arg18 v182
  v183

/-- `%184 = tpu.matmul` of `k0_part2`. -/
noncomputable def k0_pay20 (v12 : FVec F S1024x128 .bf16) (v176 : FVec F S1024x1024 .bf16) (cst_71 : FVec F S1024x128 .f32) : FVec F S1024x128 .f32 :=
  have v184 : FVec F S1024x128 .f32 := matmul dot_S1024x1024_S1024x128_S1024x128_0_0_1_1_n_n none v176 v12 cst_71
  v184

/-- `%194 = vector.shape_cast` of `k0_part2`. -/
noncomputable def k0_pay21 (v174 : FVec F S1024x1024 .f32) (v186 : Vec F S1x1x1024 .f32) : FVec F S1x1x1024 .f32 :=
  have v187 : FVec F S1x1024 .f32 := shapeCast S1x1024 v186 shapeCasts_S1x1x1024_S1x1024
  have v188 : FVec F S1024 .f32 := multiReduction .add [0] S1024 v174 0x00000000#32 reduces_S1024x1024_S1024_2 (.inl rfl) rfl
  have v189 : FVec F S1x1024 .f32 := shapeCast S1x1024 v188 shapeCasts_S1024_S1x1024
  have v190 : FVec F S1x1024 .f32 := addf v187 v189
  have v194 : FVec F S1x1x1024 .f32 := shapeCast S1x1x1024 v190 shapeCasts_S1x1024_S1x1x1024
  v194

/-- `%202 = math.exp` of `k0_part2`. -/
noncomputable def k0_pay22 (v15 : FVec F S1024x256 .bf16) (v158 : FVec F S1024x256 .bf16) (v198 : Vec F S1x1x1024 .f32) : FVec F S1024x1024 .f32 :=
  have cst_77 : FVec F S1024x1024 .f32 := constant S1024x1024 .f32 0x00000000#32
  have v196 : FVec F S1024x1024 .f32 := matmul dot_S1024x256_S1024x256_S1024x1024_1_1_0_0_n_n none v15 v158 cst_77
  have v199 : FVec F S1x1024 .f32 := shapeCast S1x1024 v198 shapeCasts_S1x1x1024_S1x1024
  have v200 : FVec F S1024x1024 .f32 := broadcastTo S1024x1024 v199 broadcasts_S1x1024_S1024x1024
  have v201 : FVec F S1024x1024 .f32 := subf v196 v200
  have v202 : FVec F S1024x1024 .f32 := exp v201
  v202

/-- `%209 = arith.mulf` of `k0_part2`. -/
noncomputable def k0_pay23 (v5 : IVec S1024x128 1) (v15 : FVec F S1024x256 .bf16) (v17 : FVec F S1024x128 .bf16) (v148 : FVec F S1024x128 .bf16) (v158 : FVec F S1024x256 .bf16) (v159 : FVec F S1024x128 .bf16) (v198 : Vec F S1x1x1024 .f32) (v205 : Vec F S1x1x1024 .f32) : FVec F S1024x1024 .f32 :=
  have v195 : FVec F S1024x128 .bf16 := select v5 v159 v148
  have cst_80 : FVec F S1024x1024 .f32 := constant S1024x1024 .f32 0x00000000#32
  have v203 : FVec F S1024x1024 .f32 := matmul dot_S1024x128_S1024x128_S1024x1024_1_1_0_0_n_n none v17 v195 cst_80
  have v206 : FVec F S1x1024 .f32 := shapeCast S1x1024 v205 shapeCasts_S1x1x1024_S1x1024
  have v207 : FVec F S1024x1024 .f32 := broadcastTo S1024x1024 v206 broadcasts_S1x1024_S1024x1024
  have v208 : FVec F S1024x1024 .f32 := subf v203 v207
  have v209 : FVec F S1024x1024 .f32 := mulf (k0_pay22 v15 v158 v198) v208
  v209

/-- `%211 = arith.truncf` of `k0_part2`. -/
noncomputable def k0_pay24 (v5 : IVec S1024x128 1) (v15 : FVec F S1024x256 .bf16) (v17 : FVec F S1024x128 .bf16) (v148 : FVec F S1024x128 .bf16) (v158 : FVec F S1024x256 .bf16) (v159 : FVec F S1024x128 .bf16) (v198 : Vec F S1x1x1024 .f32) (v205 : Vec F S1x1x1024 .f32) : FVec F S1024x1024 .bf16 :=
  have v211 : FVec F S1024x1024 .bf16 := truncf .bf16 (k0_pay23 v5 v15 v17 v148 v158 v159 v198 v205) bitsLt_bf16_f32
  v211

/-- `%213 = arith.addf` of `k0_part2`. -/
noncomputable def k0_pay25 (v15 : FVec F S1024x256 .bf16) (arg20 : FVec F S1024x128 .f32) (v148 : FVec F S1024x128 .bf16) (v158 : FVec F S1024x256 .bf16) (v198 : Vec F S1x1x1024 .f32) : FVec F S1024x128 .f32 :=
  have v210 : FVec F S1024x1024 .bf16 := truncf .bf16 (k0_pay22 v15 v158 v198) bitsLt_bf16_f32
  have cst_83 : FVec F S1024x128 .f32 := constant S1024x128 .f32 0x00000000#32
  have v212 : FVec F S1024x128 .f32 := matmul dot_S1024x1024_S1024x128_S1024x128_1_0_0_1_n_n none v210 v148 cst_83
  have v213 : FVec F S1024x128 .f32 := addf arg20 v212
  v213

/-- `%215 = arith.addf` of `k0_part2`. -/
noncomputable def k0_pay26 (v5 : IVec S1024x128 1) (v15 : FVec F S1024x256 .bf16) (v17 : FVec F S1024x128 .bf16) (arg19 : FVec F S1024x128 .f32) (v145 : FVec F S1024x128 .bf16) (v148 : FVec F S1024x128 .bf16) (v158 : FVec F S1024x256 .bf16) (v159 : FVec F S1024x128 .bf16) (v198 : Vec F S1x1x1024 .f32) (v205 : Vec F S1x1x1024 .f32) : FVec F S1024x128 .f32 :=
  have cst_84 : FVec F S1024x128 .f32 := constant S1024x128 .f32 0x00000000#32
  have v214 : FVec F S1024x128 .f32 := matmul dot_S1024x1024_S1024x128_S1024x128_1_0_0_1_n_n none (k0_pay24 v5 v15 v17 v148 v158 v159 v198 v205) v145 cst_84
  have v215 : FVec F S1024x128 .f32 := addf arg19 v214
  v215

/-- `%218 = arith.addf` of `k0_part2`. -/
noncomputable def k0_pay27 (v5 : IVec S1024x128 1) (v15 : FVec F S1024x256 .bf16) (v17 : FVec F S1024x128 .bf16) (arg21 : FVec F S1024x1 .f32) (v148 : FVec F S1024x128 .bf16) (v158 : FVec F S1024x256 .bf16) (v159 : FVec F S1024x128 .bf16) (v198 : Vec F S1x1x1024 .f32) (v205 : Vec F S1x1x1024 .f32) : FVec F S1024x1 .f32 :=
  have v216 : FVec F S1024 .f32 := multiReduction .add [1] S1024 (k0_pay23 v5 v15 v17 v148 v158 v159 v198 v205) 0x00000000#32 reduces_S1024x1024_S1024 (.inl rfl) rfl
  have v217 : FVec F S1024x1 .f32 := shapeCast S1024x1 v216 shapeCasts_S1024_S1024x1
  have v218 : FVec F S1024x1 .f32 := addf arg21 v217
  v218

/-- `%219 = tpu.matmul` of `k0_part2`. -/
noncomputable def k0_pay28 (v5 : IVec S1024x128 1) (v12 : FVec F S1024x128 .bf16) (v15 : FVec F S1024x256 .bf16) (v17 : FVec F S1024x128 .bf16) (v148 : FVec F S1024x128 .bf16) (v158 : FVec F S1024x256 .bf16) (v159 : FVec F S1024x128 .bf16) (v198 : Vec F S1x1x1024 .f32) (v205 : Vec F S1x1x1024 .f32) : FVec F S1024x128 .f32 :=
  have cst_86 : FVec F S1024x128 .f32 := constant S1024x128 .f32 0x00000000#32
  have v219 : FVec F S1024x128 .f32 := matmul dot_S1024x1024_S1024x128_S1024x128_0_0_1_1_n_n none (k0_pay24 v5 v15 v17 v148 v158 v159 v198 v205) v12 cst_86
  v219

/-- `%222 = vector.shape_cast` of `k0_part2`. -/
noncomputable def k0_pay29 (v221 : Vec F S1x1x1024 .f32) : FVec F S1x1024 .f32 :=
  have v222 : FVec F S1x1024 .f32 := shapeCast S1x1024 v221 shapeCasts_S1x1x1024_S1x1024
  v222

/-- `%224 = vector.shape_cast` of `k0_part2`. -/
noncomputable def k0_pay30 (v5 : IVec S1024x128 1) (v15 : FVec F S1024x256 .bf16) (v17 : FVec F S1024x128 .bf16) (v148 : FVec F S1024x128 .bf16) (v158 : FVec F S1024x256 .bf16) (v159 : FVec F S1024x128 .bf16) (v198 : Vec F S1x1x1024 .f32) (v205 : Vec F S1x1x1024 .f32) : FVec F S1x1024 .f32 :=
  have v223 : FVec F S1024 .f32 := multiReduction .add [0] S1024 (k0_pay23 v5 v15 v17 v148 v158 v159 v198 v205) 0x00000000#32 reduces_S1024x1024_S1024_2 (.inl rfl) rfl
  have v224 : FVec F S1x1024 .f32 := shapeCast S1x1024 v223 shapeCasts_S1024_S1x1024
  v224

/-- `%141 = vector.broadcast` of `k0_part5`. -/
noncomputable def k0_pay54 : FVec F S4096x128 .f32 :=
  have cst_56 : F .f32 := Scalar.ofBits .f32 0x00000000#32
  have v141 : FVec F S4096x128 .f32 := broadcast S4096x128 cst_56
  v141

/-- `%146 = vector.shape_cast` of `k0_part5`. -/
noncomputable def k0_pay55 : FVec F S1x2x4096 .f32 :=
  have cst_59 : F .f32 := Scalar.ofBits .f32 0x00000000#32
  have v143 : FVec F S2x4096 .f32 := broadcast S2x4096 cst_59
  have v146 : FVec F S1x2x4096 .f32 := shapeCast S1x2x4096 v143 shapeCasts_S2x4096_S1x2x4096
  v146

/-- `%5 = arith.cmpi` of `k0_part5`. -/
noncomputable def k0_pay56 : IVec S1024x128 1 :=
  have v3 : IVec S1024x128 32 := iota .tc S1024x128 32 [1] iota_S1024x128_d1_w32
  have v4 : IVec S1024x128 32 := broadcast S1024x128 64#32
  have v5 : IVec S1024x128 1 := cmpi .slt v3 v4
  v5

/-- `%7 = arith.cmpi` of `k0_part5`. -/
noncomputable def k0_pay57 : IVec S1024x128 1 :=
  have v3 : IVec S1024x128 32 := iota .tc S1024x128 32 [1] iota_S1024x128_d1_w32
  have v6 : IVec S1024x128 32 := broadcast S1024x128 8#32
  have v7 : IVec S1024x128 1 := cmpi .slt v3 v6
  v7

/-- `%10 = arith.cmpi` of `k0_part5`. -/
noncomputable def k0_pay58 : IVec S1024x1024 1 :=
  have v8 : IVec S1024x1024 32 := iota .tc S1024x1024 32 [0] iota_S1024x1024_d0_w32
  have v9 : IVec S1024x1024 32 := iota .tc S1024x1024 32 [1] iota_S1024x1024_d1_w32
  have v10 : IVec S1024x1024 1 := cmpi .sle v8 v9
  v10

/-- `%12 = vector.shape_cast` of `k0_part5`. -/
noncomputable def k0_pay59 (v11 : Vec F S1024x128 .bf16) : FVec F S1024x128 .bf16 :=
  have v12 : FVec F S1024x128 .bf16 := shapeCast S1024x128 v11 shapeCasts_S1024x128_S1024x128
  v12

/-- `%15 = tpu.concatenate` of `k0_part5`. -/
noncomputable def k0_pay60 (v11 : Vec F S1024x128 .bf16) (v13 : Vec F S1024x128 .bf16) : FVec F S1024x256 .bf16 :=
  have v14 : FVec F S1024x128 .bf16 := shapeCast S1024x128 v13 shapeCasts_S1024x128_S1024x128
  have v15 : FVec F S1024x256 .bf16 := concatenate S1024x256 1 [⟨S1024x128, k0_pay59 v11⟩, ⟨S1024x128, v14⟩] concatenates_S1024x128_S1024x128_S1024x256_d1
  v15

/-- `%17 = vector.shape_cast` of `k0_part5`. -/
noncomputable def k0_pay61 (v16 : Vec F S1024x128 .bf16) : FVec F S1024x128 .bf16 :=
  have v17 : FVec F S1024x128 .bf16 := shapeCast S1024x128 v16 shapeCasts_S1024x128_S1024x128
  v17

/-- `%18 = vector.broadcast` of `k0_part5`. -/
noncomputable def k0_pay62 : FVec F S1024x128 .f32 :=
  have cst : F .f32 := Scalar.ofBits .f32 0x00000000#32
  have v18 : FVec F S1024x128 .f32 := broadcast S1024x128 cst
  v18

/-- `%19 = vector.broadcast` of `k0_part5`. -/
noncomputable def k0_pay63 : FVec F S1024x128 .f32 :=
  have cst_6 : F .f32 := Scalar.ofBits .f32 0x00000000#32
  have v19 : FVec F S1024x128 .f32 := broadcast S1024x128 cst_6
  v19

/-- `%20 = vector.broadcast` of `k0_part5`. -/
noncomputable def k0_pay64 : FVec F S1024x1 .f32 :=
  have cst_7 : F .f32 := Scalar.ofBits .f32 0x00000000#32
  have v20 : FVec F S1024x1 .f32 := broadcast S1024x1 cst_7
  v20

/-- `%25 = vector.shape_cast` of `k0_part5`. -/
noncomputable def k0_pay65 (v24 : Vec F S1024x128 .bf16) : FVec F S1024x128 .bf16 :=
  have v25 : FVec F S1024x128 .bf16 := shapeCast S1024x128 v24 shapeCasts_S1024x128_S1024x128
  v25

/-- `%28 = vector.shape_cast` of `k0_part5`. -/
noncomputable def k0_pay66 (v27 : Vec F S1024x128 .bf16) : FVec F S1024x128 .bf16 :=
  have v28 : FVec F S1024x128 .bf16 := shapeCast S1024x128 v27 shapeCasts_S1024x128_S1024x128
  v28

/-- `%31 = vector.shape_cast` of `k0_part5`. -/
noncomputable def k0_pay67 (v30 : Vec F S1024x128 .bf16) : FVec F S1024x128 .bf16 :=
  have v31 : FVec F S1024x128 .bf16 := shapeCast S1024x128 v30 shapeCasts_S1024x128_S1024x128
  v31

/-- `%32 = vector.broadcast` of `k0_part5`. -/
noncomputable def k0_pay68 : FVec F S1024x128 .bf16 :=
  have cst_11 : F .bf16 := Scalar.ofBits .bf16 0x0000#16
  have v32 : FVec F S1024x128 .bf16 := broadcast S1024x128 cst_11
  v32

/-- `%35 = tpu.concatenate` of `k0_part5`. -/
noncomputable def k0_pay69 (v24 : Vec F S1024x128 .bf16) (v30 : Vec F S1024x128 .bf16) : FVec F S1024x256 .bf16 :=
  have v33 : FVec F S1024x128 .bf16 := select k0_pay56 (k0_pay65 v24) (k0_pay68 (F := F))
  have v34 : FVec F S1024x128 .bf16 := select k0_pay57 (k0_pay67 v30) (k0_pay68 (F := F))
  have v35 : FVec F S1024x256 .bf16 := concatenate S1024x256 1 [⟨S1024x128, v33⟩, ⟨S1024x128, v34⟩] concatenates_S1024x128_S1024x128_S1024x256_d1
  v35

/-- `%38 = tpu.concatenate` of `k0_part5`. -/
noncomputable def k0_pay70 (v24 : Vec F S1024x128 .bf16) (v30 : Vec F S1024x128 .bf16) : FVec F S1024x256 .bf16 :=
  have v36 : FVec F S1024x128 .bf16 := select k0_pay56 (k0_pay68 (F := F)) (k0_pay65 v24)
  have v37 : FVec F S1024x128 .bf16 := select k0_pay57 (k0_pay68 (F := F)) (k0_pay67 v30)
  have v38 : FVec F S1024x256 .bf16 := concatenate S1024x256 1 [⟨S1024x128, v36⟩, ⟨S1024x128, v37⟩] concatenates_S1024x128_S1024x128_S1024x256_d1
  v38

/-- `%39 = vector.broadcast` of `k0_part6`. -/
noncomputable def k0_pay71 : FVec F S1024x128 .bf16 :=
  have cst_12 : F .bf16 := Scalar.ofBits .bf16 0x0000#16
  have v39 : FVec F S1024x128 .bf16 := broadcast S1024x128 cst_12
  v39

/-- `%49 = math.exp` of `k0_part6`. -/
noncomputable def k0_pay72 (v10 : IVec S1024x1024 1) (v15 : FVec F S1024x256 .bf16) (v35 : FVec F S1024x256 .bf16) (v45 : Vec F S1x1x1024 .f32) : FVec F S1024x1024 .f32 :=
  have cst_13 : FVec F S1024x1024 .f32 := constant S1024x1024 .f32 0x00000000#32
  have v41 : FVec F S1024x1024 .f32 := matmul dot_S1024x256_S1024x256_S1024x1024_1_1_0_0_n_n none v15 v35 cst_13
  have cst_14 : F .f32 := Named.named κ "mask" 0xF149F2CA#32
  have v42 : FVec F S1024x1024 .f32 := broadcast S1024x1024 cst_14
  have v43 : FVec F S1024x1024 .f32 := select v10 v41 v42
  have v46 : FVec F S1x1024 .f32 := shapeCast S1x1024 v45 shapeCasts_S1x1x1024_S1x1024
  have v47 : FVec F S1024x1024 .f32 := broadcastTo S1024x1024 v46 broadcasts_S1x1024_S1024x1024
  have v48 : FVec F S1024x1024 .f32 := subf v43 v47
  have v49 : FVec F S1024x1024 .f32 := exp v48
  v49

/-- `%56 = arith.mulf` of `k0_part6`. -/
noncomputable def k0_pay73 (v5 : IVec S1024x128 1) (v10 : IVec S1024x1024 1) (v15 : FVec F S1024x256 .bf16) (v17 : FVec F S1024x128 .bf16) (v28 : FVec F S1024x128 .bf16) (v35 : FVec F S1024x256 .bf16) (v45 : Vec F S1x1x1024 .f32) (v52 : Vec F S1x1x1024 .f32) : FVec F S1024x1024 .f32 :=
  have v40 : FVec F S1024x128 .bf16 := select v5 v28 (k0_pay71 (F := F))
  have cst_17 : FVec F S1024x1024 .f32 := constant S1024x1024 .f32 0x00000000#32
  have v50 : FVec F S1024x1024 .f32 := matmul dot_S1024x128_S1024x128_S1024x1024_1_1_0_0_n_n none v17 v40 cst_17
  have v53 : FVec F S1x1024 .f32 := shapeCast S1x1024 v52 shapeCasts_S1x1x1024_S1x1024
  have v54 : FVec F S1024x1024 .f32 := broadcastTo S1024x1024 v53 broadcasts_S1x1024_S1024x1024
  have v55 : FVec F S1024x1024 .f32 := subf v50 v54
  have v56 : FVec F S1024x1024 .f32 := mulf (k0_pay72 v10 v15 v35 v45) v55
  v56

/-- `%58 = arith.truncf` of `k0_part6`. -/
noncomputable def k0_pay74 (v5 : IVec S1024x128 1) (v10 : IVec S1024x1024 1) (v15 : FVec F S1024x256 .bf16) (v17 : FVec F S1024x128 .bf16) (v28 : FVec F S1024x128 .bf16) (v35 : FVec F S1024x256 .bf16) (v45 : Vec F S1x1x1024 .f32) (v52 : Vec F S1x1x1024 .f32) : FVec F S1024x1024 .bf16 :=
  have v58 : FVec F S1024x1024 .bf16 := truncf .bf16 (k0_pay73 v5 v10 v15 v17 v28 v35 v45 v52) bitsLt_bf16_f32
  v58

/-- `%60 = arith.addf` of `k0_part6`. -/
noncomputable def k0_pay75 (v10 : IVec S1024x1024 1) (v15 : FVec F S1024x256 .bf16) (v19 : FVec F S1024x128 .f32) (v28 : FVec F S1024x128 .bf16) (v35 : FVec F S1024x256 .bf16) (v45 : Vec F S1x1x1024 .f32) : FVec F S1024x128 .f32 :=
  have v57 : FVec F S1024x1024 .bf16 := truncf .bf16 (k0_pay72 v10 v15 v35 v45) bitsLt_bf16_f32
  have cst_20 : FVec F S1024x128 .f32 := constant S1024x128 .f32 0x00000000#32
  have v59 : FVec F S1024x128 .f32 := matmul dot_S1024x1024_S1024x128_S1024x128_1_0_0_1_n_n none v57 v28 cst_20
  have v60 : FVec F S1024x128 .f32 := addf v19 v59
  v60

/-- `%62 = arith.addf` of `k0_part6`. -/
noncomputable def k0_pay76 (v5 : IVec S1024x128 1) (v10 : IVec S1024x1024 1) (v15 : FVec F S1024x256 .bf16) (v17 : FVec F S1024x128 .bf16) (v18 : FVec F S1024x128 .f32) (v25 : FVec F S1024x128 .bf16) (v28 : FVec F S1024x128 .bf16) (v35 : FVec F S1024x256 .bf16) (v45 : Vec F S1x1x1024 .f32) (v52 : Vec F S1x1x1024 .f32) : FVec F S1024x128 .f32 :=
  have cst_21 : FVec F S1024x128 .f32 := constant S1024x128 .f32 0x00000000#32
  have v61 : FVec F S1024x128 .f32 := matmul dot_S1024x1024_S1024x128_S1024x128_1_0_0_1_n_n none (k0_pay74 v5 v10 v15 v17 v28 v35 v45 v52) v25 cst_21
  have v62 : FVec F S1024x128 .f32 := addf v18 v61
  v62

/-- `%65 = arith.addf` of `k0_part6`. -/
noncomputable def k0_pay77 (v5 : IVec S1024x128 1) (v10 : IVec S1024x1024 1) (v15 : FVec F S1024x256 .bf16) (v17 : FVec F S1024x128 .bf16) (v20 : FVec F S1024x1 .f32) (v28 : FVec F S1024x128 .bf16) (v35 : FVec F S1024x256 .bf16) (v45 : Vec F S1x1x1024 .f32) (v52 : Vec F S1x1x1024 .f32) : FVec F S1024x1 .f32 :=
  have v63 : FVec F S1024 .f32 := multiReduction .add [1] S1024 (k0_pay73 v5 v10 v15 v17 v28 v35 v45 v52) 0x00000000#32 reduces_S1024x1024_S1024 (.inl rfl) rfl
  have v64 : FVec F S1024x1 .f32 := shapeCast S1024x1 v63 shapeCasts_S1024_S1024x1
  have v65 : FVec F S1024x1 .f32 := addf v20 v64
  v65

/-- `%66 = tpu.matmul` of `k0_part6`. -/
noncomputable def k0_pay78 (v5 : IVec S1024x128 1) (v10 : IVec S1024x1024 1) (v12 : FVec F S1024x128 .bf16) (v15 : FVec F S1024x256 .bf16) (v17 : FVec F S1024x128 .bf16) (v28 : FVec F S1024x128 .bf16) (v35 : FVec F S1024x256 .bf16) (v45 : Vec F S1x1x1024 .f32) (v52 : Vec F S1x1x1024 .f32) : FVec F S1024x128 .f32 :=
  have cst_23 : FVec F S1024x128 .f32 := constant S1024x128 .f32 0x00000000#32
  have v66 : FVec F S1024x128 .f32 := matmul dot_S1024x1024_S1024x128_S1024x128_0_0_1_1_n_n none (k0_pay74 v5 v10 v15 v17 v28 v35 v45 v52) v12 cst_23
  v66

/-- `%76 = vector.shape_cast` of `k0_part6`. -/
noncomputable def k0_pay79 (v5 : IVec S1024x128 1) (v10 : IVec S1024x1024 1) (v15 : FVec F S1024x256 .bf16) (v17 : FVec F S1024x128 .bf16) (v28 : FVec F S1024x128 .bf16) (v35 : FVec F S1024x256 .bf16) (v45 : Vec F S1x1x1024 .f32) (v52 : Vec F S1x1x1024 .f32) (v68 : Vec F S1x1x1024 .f32) : FVec F S1x1x1024 .f32 :=
  have v69 : FVec F S1x1024 .f32 := shapeCast S1x1024 v68 shapeCasts_S1x1x1024_S1x1024
  have v70 : FVec F S1024 .f32 := multiReduction .add [0] S1024 (k0_pay73 v5 v10 v15 v17 v28 v35 v45 v52) 0x00000000#32 reduces_S1024x1024_S1024_2 (.inl rfl) rfl
  have v71 : FVec F S1x1024 .f32 := shapeCast S1x1024 v70 shapeCasts_S1024_S1x1024
  have v72 : FVec F S1x1024 .f32 := addf v69 v71
  have v76 : FVec F S1x1x1024 .f32 := shapeCast S1x1x1024 v72 shapeCasts_S1x1024_S1x1x1024
  v76

/-- `%77 = arith.select` of `k0_part6`. -/
noncomputable def k0_pay80 (v5 : IVec S1024x128 1) (v28 : FVec F S1024x128 .bf16) : FVec F S1024x128 .bf16 :=
  have v77 : FVec F S1024x128 .bf16 := select v5 (k0_pay71 (F := F)) v28
  v77

/-- `%78 = tpu.matmul` of `k0_part6`. -/
noncomputable def k0_pay81 (v15 : FVec F S1024x256 .bf16) (v38 : FVec F S1024x256 .bf16) : FVec F S1024x1024 .f32 :=
  have cst_29 : FVec F S1024x1024 .f32 := constant S1024x1024 .f32 0x00000000#32
  have v78 : FVec F S1024x1024 .f32 := matmul dot_S1024x256_S1024x256_S1024x1024_1_1_0_0_n_n none v15 v38 cst_29
  v78

/-- `%86 = math.exp` of `k0_part7`. -/
noncomputable def k0_pay82 (v10 : IVec S1024x1024 1) (v78 : FVec F S1024x1024 .f32) (cst_30 : F .f32) (v82 : Vec F S1x1x1024 .f32) : FVec F S1024x1024 .f32 :=
  have v79 : FVec F S1024x1024 .f32 := broadcast S1024x1024 cst_30
  have v80 : FVec F S1024x1024 .f32 := select v10 v78 v79
  have v83 : FVec F S1x1024 .f32 := shapeCast S1x1024 v82 shapeCasts_S1x1x1024_S1x1024
  have v84 : FVec F S1024x1024 .f32 := broadcastTo S1024x1024 v83 broadcasts_S1x1024_S1024x1024
  have v85 : FVec F S1024x1024 .f32 := subf v80 v84
  have v86 : FVec F S1024x1024 .f32 := exp v85
  v86

/-- `%93 = arith.mulf` of `k0_part7`. -/
noncomputable def k0_pay83 (v10 : IVec S1024x1024 1) (v17 : FVec F S1024x128 .bf16) (v77 : FVec F S1024x128 .bf16) (v78 : FVec F S1024x1024 .f32) (cst_30 : F .f32) (v82 : Vec F S1x1x1024 .f32) (v89 : Vec F S1x1x1024 .f32) : FVec F S1024x1024 .f32 :=
  have cst_32 : FVec F S1024x1024 .f32 := constant S1024x1024 .f32 0x00000000#32
  have v87 : FVec F S1024x1024 .f32 := matmul dot_S1024x128_S1024x128_S1024x1024_1_1_0_0_n_n none v17 v77 cst_32
  have v90 : FVec F S1x1024 .f32 := shapeCast S1x1024 v89 shapeCasts_S1x1x1024_S1x1024
  have v91 : FVec F S1024x1024 .f32 := broadcastTo S1024x1024 v90 broadcasts_S1x1024_S1024x1024
  have v92 : FVec F S1024x1024 .f32 := subf v87 v91
  have v93 : FVec F S1024x1024 .f32 := mulf (k0_pay82 v10 v78 cst_30 v82) v92
  v93

/-- `%95 = arith.truncf` of `k0_part7`. -/
noncomputable def k0_pay84 (v10 : IVec S1024x1024 1) (v17 : FVec F S1024x128 .bf16) (v77 : FVec F S1024x128 .bf16) (v78 : FVec F S1024x1024 .f32) (cst_30 : F .f32) (v82 : Vec F S1x1x1024 .f32) (v89 : Vec F S1x1x1024 .f32) : FVec F S1024x1024 .bf16 :=
  have v95 : FVec F S1024x1024 .bf16 := truncf .bf16 (k0_pay83 v10 v17 v77 v78 cst_30 v82 v89) bitsLt_bf16_f32
  v95

/-- `%97 = arith.addf` of `k0_part7`. -/
noncomputable def k0_pay85 (v10 : IVec S1024x1024 1) (v19 : FVec F S1024x128 .f32) (v28 : FVec F S1024x128 .bf16) (v78 : FVec F S1024x1024 .f32) (cst_30 : F .f32) (v82 : Vec F S1x1x1024 .f32) : FVec F S1024x128 .f32 :=
  have v94 : FVec F S1024x1024 .bf16 := truncf .bf16 (k0_pay82 v10 v78 cst_30 v82) bitsLt_bf16_f32
  have cst_35 : FVec F S1024x128 .f32 := constant S1024x128 .f32 0x00000000#32
  have v96 : FVec F S1024x128 .f32 := matmul dot_S1024x1024_S1024x128_S1024x128_1_0_0_1_n_n none v94 v28 cst_35
  have v97 : FVec F S1024x128 .f32 := addf v19 v96
  v97

/-- `%99 = arith.addf` of `k0_part7`. -/
noncomputable def k0_pay86 (v10 : IVec S1024x1024 1) (v17 : FVec F S1024x128 .bf16) (v18 : FVec F S1024x128 .f32) (v25 : FVec F S1024x128 .bf16) (v77 : FVec F S1024x128 .bf16) (v78 : FVec F S1024x1024 .f32) (cst_30 : F .f32) (v82 : Vec F S1x1x1024 .f32) (v89 : Vec F S1x1x1024 .f32) : FVec F S1024x128 .f32 :=
  have cst_36 : FVec F S1024x128 .f32 := constant S1024x128 .f32 0x00000000#32
  have v98 : FVec F S1024x128 .f32 := matmul dot_S1024x1024_S1024x128_S1024x128_1_0_0_1_n_n none (k0_pay84 v10 v17 v77 v78 cst_30 v82 v89) v25 cst_36
  have v99 : FVec F S1024x128 .f32 := addf v18 v98
  v99

/-- `%102 = arith.addf` of `k0_part7`. -/
noncomputable def k0_pay87 (v10 : IVec S1024x1024 1) (v17 : FVec F S1024x128 .bf16) (v20 : FVec F S1024x1 .f32) (v77 : FVec F S1024x128 .bf16) (v78 : FVec F S1024x1024 .f32) (cst_30 : F .f32) (v82 : Vec F S1x1x1024 .f32) (v89 : Vec F S1x1x1024 .f32) : FVec F S1024x1 .f32 :=
  have v100 : FVec F S1024 .f32 := multiReduction .add [1] S1024 (k0_pay83 v10 v17 v77 v78 cst_30 v82 v89) 0x00000000#32 reduces_S1024x1024_S1024 (.inl rfl) rfl
  have v101 : FVec F S1024x1 .f32 := shapeCast S1024x1 v100 shapeCasts_S1024_S1024x1
  have v102 : FVec F S1024x1 .f32 := addf v20 v101
  v102

/-- `%113 = vector.shape_cast` of `k0_part7`. -/
noncomputable def k0_pay88 (v10 : IVec S1024x1024 1) (v17 : FVec F S1024x128 .bf16) (v77 : FVec F S1024x128 .bf16) (v78 : FVec F S1024x1024 .f32) (cst_30 : F .f32) (v82 : Vec F S1x1x1024 .f32) (v89 : Vec F S1x1x1024 .f32) (v105 : Vec F S1x1x1024 .f32) : FVec F S1x1x1024 .f32 :=
  have v106 : FVec F S1x1024 .f32 := shapeCast S1x1024 v105 shapeCasts_S1x1x1024_S1x1024
  have v107 : FVec F S1024 .f32 := multiReduction .add [0] S1024 (k0_pay83 v10 v17 v77 v78 cst_30 v82 v89) 0x00000000#32 reduces_S1024x1024_S1024_2 (.inl rfl) rfl
  have v108 : FVec F S1x1024 .f32 := shapeCast S1x1024 v107 shapeCasts_S1024_S1x1024
  have v109 : FVec F S1x1024 .f32 := addf v106 v108
  have v113 : FVec F S1x1x1024 .f32 := shapeCast S1x1x1024 v109 shapeCasts_S1x1024_S1x1x1024
  v113

/-- `%118 = arith.addf` of `k0_part7`. -/
noncomputable def k0_pay89 (v5 : IVec S1024x128 1) (v10 : IVec S1024x1024 1) (v12 : FVec F S1024x128 .bf16) (v17 : FVec F S1024x128 .bf16) (v66 : FVec F S1024x128 .f32) (v77 : FVec F S1024x128 .bf16) (v78 : FVec F S1024x1024 .f32) (cst_30 : F .f32) (v82 : Vec F S1x1x1024 .f32) (v89 : Vec F S1x1x1024 .f32) (v115 : Vec F S1024x128 .f32) : FVec F S1024x128 .f32 :=
  have cst_38 : FVec F S1024x128 .f32 := constant S1024x128 .f32 0x00000000#32
  have v103 : FVec F S1024x128 .f32 := matmul dot_S1024x1024_S1024x128_S1024x128_0_0_1_1_n_n none (k0_pay84 v10 v17 v77 v78 cst_30 v82 v89) v12 cst_38
  have v116 : FVec F S1024x128 .f32 := shapeCast S1024x128 v115 shapeCasts_S1024x128_S1024x128
  have v117 : FVec F S1024x128 .f32 := select v5 v66 v103
  have v118 : FVec F S1024x128 .f32 := addf v116 v117
  v118

/-- The loop's region, over the function's binders and the values bound before the loop that the region reads. -/
noncomputable def k0_t1_body (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x4096 .f32) (harg5 : arg5.IsWhole) (arg6 : Memref sig .tc .vmem S1x2x4096 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x4096 .f32) (harg13 : arg13.IsWhole) (arg14 : Memref sig .tc .vmem S1024x128 .f32) (harg14 : arg14.IsWhole) (v5 : IVec S1024x128 1) (v7 : IVec S1024x128 1) (v12 : FVec F S1024x128 .bf16) (v15 : FVec F S1024x256 .bf16) (v17 : FVec F S1024x128 .bf16) (v121 : BitVec 32) :
    Fin (k0_t1_loop i).trips → FVec F S1024x128 .f32 × FVec F S1024x128 .f32 × FVec F S1024x1 .f32 × FVec F S1024x128 .f32 × FVec F S1024x128 .f32 × FVec F S1024x1 .f32 → Prog (TpuEff nD τ sig (Elt F) Λ₀ .tc) (FVec F S1024x128 .f32 × FVec F S1024x128 .f32 × FVec F S1024x1 .f32 × FVec F S1024x128 .f32 × FVec F S1024x128 .f32 × FVec F S1024x1 .f32) :=
  fun k0_t1 (arg16, arg17, arg18, arg19, arg20, arg21) => do
    let ⟨v142, v145, v148, v158, v159, v174, v176, v178, v180, v183, cst_71⟩ : Σ' (v142 : BitVec 32) (v145 : FVec F S1024x128 .bf16) (v148 : FVec F S1024x128 .bf16) (v158 : FVec F S1024x256 .bf16) (v159 : FVec F S1024x128 .bf16) (v174 : FVec F S1024x1024 .f32) (v176 : FVec F S1024x1024 .bf16) (v178 : FVec F S1024x128 .f32) (v180 : FVec F S1024x128 .f32) (v183 : FVec F S1024x1 .f32), FVec F S1024x128 .f32 ← k0_part1 i arg2 harg2 arg3 harg3 arg4 harg4 arg5 harg5 arg6 harg6 arg7 harg7 arg8 harg8 arg9 harg9 arg10 harg10 arg11 harg11 arg12 harg12 arg13 harg13 arg14 harg14 v5 v7 v15 v17 v121 1#32 k0_t1 arg16 arg17 arg18
    let ⟨v184, v213, v215, v218, v219, v222, v224⟩ : Σ' (v184 : FVec F S1024x128 .f32) (v213 : FVec F S1024x128 .f32) (v215 : FVec F S1024x128 .f32) (v218 : FVec F S1024x1 .f32) (v219 : FVec F S1024x128 .f32) (v222 : FVec F S1x1024 .f32), FVec F S1x1024 .f32 ← k0_part2 i arg2 harg2 arg3 harg3 arg4 harg4 arg5 harg5 arg6 harg6 arg7 harg7 arg8 harg8 arg9 harg9 arg10 harg10 arg11 harg11 arg12 harg12 arg13 harg13 arg14 harg14 v5 v12 v15 v17 k0_t1 arg19 arg20 arg21 v142 v145 v148 v158 v159 v174 v176 cst_71
    let v227 : Vec F S1x1x1024 .f32 ← Prog.lift (.load arg13 (Rect.unit (s := S1x2x4096) (k0_off6 i k0_t1) S1x1x1024.size (k0_off6_inb i k0_t1)).toLoadRect (View.loadsAt_vmem h_S1x1x1024))
    Prog.lift (.store arg13 (Rect.unit (s := S1x2x4096) (k0_off6 i k0_t1) S1x1x1024.size (k0_off6_inb i k0_t1)) (k0_pay1 v222 v224) Finset.univ (View.stores_vmem_bits_univ h_S1x1x1024 rfl) (.inl rfl))
    let v231 : Vec F S1024x128 .f32 ← Prog.lift (.load arg10 (Rect.unit (s := S4096x128) (k0_off4 i k0_t1) S1024x128.size (k0_off4_inb i k0_t1)).toLoadRect (View.loadsAt_vmem h_S1024x128))
    let v236 : Vec F S1024x128 .f32 ← Prog.lift (.load arg10 (Rect.unit (s := S4096x128) (k0_off4 i k0_t1) S1024x128.size (k0_off4_inb i k0_t1)).toLoadRect (View.loadsAt_vmem h_S1024x128))
    Prog.lift (.store arg10 (Rect.unit (s := S4096x128) (k0_off4 i k0_t1) S1024x128.size (k0_off4_inb i k0_t1)) (k0_pay2 v5 v184 v219 v231) Finset.univ (View.stores_vmem_bits_univ h_S1024x128 rfl) (.inl rfl))
    pure (v180, v178, v183, v215, v213, v218)

/-- The loop's region, over the function's binders and the values bound before the loop that the region reads. -/
noncomputable def k0_t2_body (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x4096 .f32) (harg5 : arg5.IsWhole) (arg6 : Memref sig .tc .vmem S1x2x4096 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x4096 .f32) (harg13 : arg13.IsWhole) (arg14 : Memref sig .tc .vmem S1024x128 .f32) (harg14 : arg14.IsWhole) (v5 : IVec S1024x128 1) (v7 : IVec S1024x128 1) (v12 : FVec F S1024x128 .bf16) (v15 : FVec F S1024x256 .bf16) (v17 : FVec F S1024x128 .bf16) (v126 : BitVec 32) :
    Fin (k0_t2_loop i).trips → FVec F S1024x128 .f32 × FVec F S1024x128 .f32 × FVec F S1024x1 .f32 × FVec F S1024x128 .f32 × FVec F S1024x128 .f32 × FVec F S1024x1 .f32 → Prog (TpuEff nD τ sig (Elt F) Λ₀ .tc) (FVec F S1024x128 .f32 × FVec F S1024x128 .f32 × FVec F S1024x1 .f32 × FVec F S1024x128 .f32 × FVec F S1024x128 .f32 × FVec F S1024x1 .f32) :=
  fun k0_t2 (arg16, arg17, arg18, arg19, arg20, arg21) => do
    let ⟨v142, v145, v148, v158, v159, v174, v176, v178, v180, v183, cst_71⟩ : Σ' (v142 : BitVec 32) (v145 : FVec F S1024x128 .bf16) (v148 : FVec F S1024x128 .bf16) (v158 : FVec F S1024x256 .bf16) (v159 : FVec F S1024x128 .bf16) (v174 : FVec F S1024x1024 .f32) (v176 : FVec F S1024x1024 .bf16) (v178 : FVec F S1024x128 .f32) (v180 : FVec F S1024x128 .f32) (v183 : FVec F S1024x1 .f32), FVec F S1024x128 .f32 ← k0_part3 i arg2 harg2 arg3 harg3 arg4 harg4 arg5 harg5 arg6 harg6 arg7 harg7 arg8 harg8 arg9 harg9 arg10 harg10 arg11 harg11 arg12 harg12 arg13 harg13 arg14 harg14 v5 v7 v15 v17 v126 1#32 k0_t2 arg16 arg17 arg18
    let ⟨v184, v213, v215, v218, v219, v222, v224⟩ : Σ' (v184 : FVec F S1024x128 .f32) (v213 : FVec F S1024x128 .f32) (v215 : FVec F S1024x128 .f32) (v218 : FVec F S1024x1 .f32) (v219 : FVec F S1024x128 .f32) (v222 : FVec F S1x1024 .f32), FVec F S1x1024 .f32 ← k0_part4 i arg2 harg2 arg3 harg3 arg4 harg4 arg5 harg5 arg6 harg6 arg7 harg7 arg8 harg8 arg9 harg9 arg10 harg10 arg11 harg11 arg12 harg12 arg13 harg13 arg14 harg14 v5 v12 v15 v17 k0_t2 arg19 arg20 arg21 v142 v145 v148 v158 v159 v174 v176 cst_71
    let v227 : Vec F S1x1x1024 .f32 ← Prog.lift (.load arg13 (Rect.unit (s := S1x2x4096) (k0_off9 i k0_t2) S1x1x1024.size (k0_off9_inb i k0_t2)).toLoadRect (View.loadsAt_vmem h_S1x1x1024))
    Prog.lift (.store arg13 (Rect.unit (s := S1x2x4096) (k0_off9 i k0_t2) S1x1x1024.size (k0_off9_inb i k0_t2)) (k0_pay3 v222 v224) Finset.univ (View.stores_vmem_bits_univ h_S1x1x1024 rfl) (.inl rfl))
    let v231 : Vec F S1024x128 .f32 ← Prog.lift (.load arg10 (Rect.unit (s := S4096x128) (k0_off7 i k0_t2) S1024x128.size (k0_off7_inb i k0_t2)).toLoadRect (View.loadsAt_vmem h_S1024x128))
    let v236 : Vec F S1024x128 .f32 ← Prog.lift (.load arg10 (Rect.unit (s := S4096x128) (k0_off7 i k0_t2) S1024x128.size (k0_off7_inb i k0_t2)).toLoadRect (View.loadsAt_vmem h_S1024x128))
    Prog.lift (.store arg10 (Rect.unit (s := S4096x128) (k0_off7 i k0_t2) S1024x128.size (k0_off7_inb i k0_t2)) (k0_pay4 v5 v184 v219 v231) Finset.univ (View.stores_vmem_bits_univ h_S1024x128 rfl) (.inl rfl))
    pure (v180, v178, v183, v215, v213, v218)

/-- `cc0_attn_bwd` as a skeleton of memory operations over payloads. -/
noncomputable def cc0_attn_bwd_skel (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x4096 .f32) (harg5 : arg5.IsWhole) (arg6 : Memref sig .tc .vmem S1x2x4096 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x4096 .f32) (harg13 : arg13.IsWhole) (arg14 : Memref sig .tc .vmem S1024x128 .f32) (harg14 : arg14.IsWhole) :
    Prog (TpuEff nD τ sig (Elt F) Λ₀ .tc) PUnit := do
  let ⟨arg1, v5, v7, v10, v12, v15, v17, v18, v19, v20, v22, v25, v28, v35, v38⟩ : Σ' (arg1 : BitVec 32) (v5 : IVec S1024x128 1) (v7 : IVec S1024x128 1) (v10 : IVec S1024x1024 1) (v12 : FVec F S1024x128 .bf16) (v15 : FVec F S1024x256 .bf16) (v17 : FVec F S1024x128 .bf16) (v18 : FVec F S1024x128 .f32) (v19 : FVec F S1024x128 .f32) (v20 : FVec F S1024x1 .f32) (v22 : BitVec 32) (v25 : FVec F S1024x128 .bf16) (v28 : FVec F S1024x128 .bf16) (v35 : FVec F S1024x256 .bf16), FVec F S1024x256 .bf16 ← k0_part5 i arg2 harg2 arg3 harg3 arg4 harg4 arg5 harg5 arg6 harg6 arg7 harg7 arg8 harg8 arg9 harg9 arg10 harg10 arg11 harg11 arg12 harg12 arg13 harg13 arg14 harg14
  let ⟨v60, v62, v65, v66, v77, v78, cst_30⟩ : Σ' (v60 : FVec F S1024x128 .f32) (v62 : FVec F S1024x128 .f32) (v65 : FVec F S1024x1 .f32) (v66 : FVec F S1024x128 .f32) (v77 : FVec F S1024x128 .bf16) (v78 : FVec F S1024x1024 .f32), F .f32 ← k0_part6 i arg2 harg2 arg3 harg3 arg4 harg4 arg5 harg5 arg6 harg6 arg7 harg7 arg8 harg8 arg9 harg9 arg10 harg10 arg11 harg11 arg12 harg12 arg13 harg13 arg14 harg14 v5 v10 v12 v15 v17 v18 v19 v20 v22 v25 v28 v35 v38
  let ⟨v97, v99, v102⟩ : Σ' (v97 : FVec F S1024x128 .f32) (v99 : FVec F S1024x128 .f32), FVec F S1024x1 .f32 ← k0_part7 i arg2 harg2 arg3 harg3 arg4 harg4 arg5 harg5 arg6 harg6 arg7 harg7 arg8 harg8 arg9 harg9 arg10 harg10 arg11 harg11 arg12 harg12 arg13 harg13 arg14 harg14 v5 v10 v12 v17 v18 v19 v20 v22 v25 v28 v66 v77 v78 cst_30
  let v121 : BitVec 32 := Scalar.addi arg1 1#32
  let v122 : BitVec 32 := Scalar.subi 4#32 v121
  let v124 : BitVec 32 := Scalar.divsi v122 1#32
  let v125 : BitVec 32 := Scalar.muli v124 1#32
  let v126 : BitVec 32 := Scalar.addi v121 v125
  let (v127_0, v127_1, v127_2, v127_3, v127_4, v127_5) ← Scf.Loop.for (k0_t1_loop i) (k0_t1_ok i) (v62, v60, v65, v99, v97, v102) (k0_t1_body i arg2 harg2 arg3 harg3 arg4 harg4 arg5 harg5 arg6 harg6 arg7 harg7 arg8 harg8 arg9 harg9 arg10 harg10 arg11 harg11 arg12 harg12 arg13 harg13 arg14 harg14 v5 v7 v12 v15 v17 v121)
  let (v128_0, v128_1, v128_2, v128_3, v128_4, v128_5) ← Scf.Loop.for (k0_t2_loop i) (k0_t2_ok i) (v127_0, v127_1, v127_2, v127_3, v127_4, v127_5) (k0_t2_body i arg2 harg2 arg3 harg3 arg4 harg4 arg5 harg5 arg6 harg6 arg7 harg7 arg8 harg8 arg9 harg9 arg10 harg10 arg11 harg11 arg12 harg12 arg13 harg13 arg14 harg14 v5 v7 v12 v15 v17 v126)
  let v130 : Vec F S1024x128 .f32 ← Prog.lift (.load arg11 (Rect.unit (s := S1024x128) ![0, 0] S1024x128.size inb_S1024x128_S1024x128_0_0).toLoadRect (View.loadsAt_vmem h_S1024x128))
  Prog.lift (.store arg11 (Rect.unit (s := S1024x128) ![0, 0] S1024x128.size inb_S1024x128_S1024x128_0_0) (k0_pay5 v5 v128_0 v128_3) Finset.univ (View.stores_vmem_bits_univ h_S1024x128 rfl) (.inl rfl))
  let v132 : Vec F S1024x128 .f32 ← Prog.lift (.load arg12 (Rect.unit (s := S1024x128) ![0, 0] S1024x128.size inb_S1024x128_S1024x128_0_0).toLoadRect (View.loadsAt_vmem h_S1024x128))
  Prog.lift (.store arg12 (Rect.unit (s := S1024x128) ![0, 0] S1024x128.size inb_S1024x128_S1024x128_0_0) (k0_pay6 v5 v128_1 v128_4) Finset.univ (View.stores_vmem_bits_univ h_S1024x128 rfl) (.inl rfl))
  let v140 : Vec F S1024x128 .f32 ← Prog.lift (.load arg14 (Rect.unit (s := S1024x128) ![0, 0] S1024x128.size inb_S1024x128_S1024x128_0_0).toLoadRect (View.loadsAt_vmem h_S1024x128))
  Prog.lift (.store arg14 (Rect.unit (s := S1024x128) ![0, 0] S1024x128.size inb_S1024x128_S1024x128_0_0) (k0_pay7 v5 v128_2 v128_5) Finset.univ (View.stores_vmem_bits_univ h_S1024x128 rfl) (.inl rfl))
  pure ⟨⟩

set_option maxRecDepth 65536 in
/-- The printed `cc0_attn_bwd` is its skeleton: by definitional unfolding. -/
theorem cc0_attn_bwd_eq_skeleton : cc0_attn_bwd (F := F) = cc0_attn_bwd_skel (F := F) := rfl

/-- `k0_part1` as a skeleton of memory operations over payloads. -/
noncomputable def k0_part1_skel (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x4096 .f32) (harg5 : arg5.IsWhole) (arg6 : Memref sig .tc .vmem S1x2x4096 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x4096 .f32) (harg13 : arg13.IsWhole) (arg14 : Memref sig .tc .vmem S1024x128 .f32) (harg14 : arg14.IsWhole) (v5 : IVec S1024x128 1) (v7 : IVec S1024x128 1) (v15 : FVec F S1024x256 .bf16) (v17 : FVec F S1024x128 .bf16) (v121 : BitVec 32) (c1_i32_47 : BitVec 32) (k0_t1 : Fin (k0_t1_loop i).trips) (arg16 : FVec F S1024x128 .f32) (arg17 : FVec F S1024x128 .f32) (arg18 : FVec F S1024x1 .f32) :
    Prog (TpuEff nD τ sig (Elt F) Λ₀ .tc) (Σ' (v142 : BitVec 32) (v145 : FVec F S1024x128 .bf16) (v148 : FVec F S1024x128 .bf16) (v158 : FVec F S1024x256 .bf16) (v159 : FVec F S1024x128 .bf16) (v174 : FVec F S1024x1024 .f32) (v176 : FVec F S1024x1024 .bf16) (v178 : FVec F S1024x128 .f32) (v180 : FVec F S1024x128 .f32) (v183 : FVec F S1024x1 .f32), FVec F S1024x128 .f32) := do
  let arg15 : BitVec 32 := Scf.iv v121 c1_i32_47 k0_t1
  let v141 : BitVec 32 := Scalar.muli arg15 1024#32
  let v142 : BitVec 32 := v141
  let v144 : Vec F S1024x128 .bf16 ← Prog.lift (.load arg2 (Rect.unit (s := S4096x128) (k0_off4 i k0_t1) S1024x128.size (k0_off4_inb i k0_t1)).toLoadRect (View.loadsAt_vmem h_S1024x128))
  let v147 : Vec F S1024x128 .bf16 ← Prog.lift (.load arg4 (Rect.unit (s := S4096x128) (k0_off4 i k0_t1) S1024x128.size (k0_off4_inb i k0_t1)).toLoadRect (View.loadsAt_vmem h_S1024x128))
  let v150 : Vec F S1024x128 .bf16 ← Prog.lift (.load arg3 (Rect.unit (s := S4096x128) (k0_off4 i k0_t1) S1024x128.size (k0_off4_inb i k0_t1)).toLoadRect (View.loadsAt_vmem h_S1024x128))
  let v163 : Vec F S1x1x1024 .f32 ← Prog.lift (.load arg5 (Rect.unit (s := S1x2x4096) (k0_off5 i k0_t1) S1x1x1024.size (k0_off5_inb i k0_t1)).toLoadRect (View.loadsAt_vmem h_S1x1x1024))
  let v170 : Vec F S1x1x1024 .f32 ← Prog.lift (.load arg6 (Rect.unit (s := S1x2x4096) (k0_off5 i k0_t1) S1x1x1024.size (k0_off5_inb i k0_t1)).toLoadRect (View.loadsAt_vmem h_S1x1x1024))
  have cst_71 : FVec F S1024x128 .f32 := constant S1024x128 .f32 0x00000000#32
  pure ⟨v142, k0_pay8 v144, k0_pay9 v147, k0_pay12 v5 v7 v144 v150, k0_pay13 (F := F), k0_pay15 v5 v7 v15 v17 v144 v147 v150 v163 v170, k0_pay16 v5 v7 v15 v17 v144 v147 v150 v163 v170, k0_pay17 v5 v7 v15 arg17 v144 v147 v150 v163, k0_pay18 v5 v7 v15 v17 arg16 v144 v147 v150 v163 v170, k0_pay19 v5 v7 v15 v17 arg18 v144 v147 v150 v163 v170, cst_71⟩

set_option maxRecDepth 65536 in
/-- The printed `k0_part1` is its skeleton: by definitional unfolding. -/
theorem k0_part1_eq_skeleton : k0_part1 (F := F) = k0_part1_skel (F := F) := rfl

/-- `k0_part2` as a skeleton of memory operations over payloads. -/
noncomputable def k0_part2_skel (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x4096 .f32) (harg5 : arg5.IsWhole) (arg6 : Memref sig .tc .vmem S1x2x4096 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x4096 .f32) (harg13 : arg13.IsWhole) (arg14 : Memref sig .tc .vmem S1024x128 .f32) (harg14 : arg14.IsWhole) (v5 : IVec S1024x128 1) (v12 : FVec F S1024x128 .bf16) (v15 : FVec F S1024x256 .bf16) (v17 : FVec F S1024x128 .bf16) (k0_t1 : Fin (k0_t1_loop i).trips) (arg19 : FVec F S1024x128 .f32) (arg20 : FVec F S1024x128 .f32) (arg21 : FVec F S1024x1 .f32) (v142 : BitVec 32) (v145 : FVec F S1024x128 .bf16) (v148 : FVec F S1024x128 .bf16) (v158 : FVec F S1024x256 .bf16) (v159 : FVec F S1024x128 .bf16) (v174 : FVec F S1024x1024 .f32) (v176 : FVec F S1024x1024 .bf16) (cst_71 : FVec F S1024x128 .f32) :
    Prog (TpuEff nD τ sig (Elt F) Λ₀ .tc) (Σ' (v184 : FVec F S1024x128 .f32) (v213 : FVec F S1024x128 .f32) (v215 : FVec F S1024x128 .f32) (v218 : FVec F S1024x1 .f32) (v219 : FVec F S1024x128 .f32) (v222 : FVec F S1x1024 .f32), FVec F S1x1024 .f32) := do
  let v186 : Vec F S1x1x1024 .f32 ← Prog.lift (.load arg13 (Rect.unit (s := S1x2x4096) (k0_off5 i k0_t1) S1x1x1024.size (k0_off5_inb i k0_t1)).toLoadRect (View.loadsAt_vmem h_S1x1x1024))
  let v192 : Vec F S1x1x1024 .f32 ← Prog.lift (.load arg13 (Rect.unit (s := S1x2x4096) (k0_off5 i k0_t1) S1x1x1024.size (k0_off5_inb i k0_t1)).toLoadRect (View.loadsAt_vmem h_S1x1x1024))
  Prog.lift (.store arg13 (Rect.unit (s := S1x2x4096) (k0_off5 i k0_t1) S1x1x1024.size (k0_off5_inb i k0_t1)) (k0_pay21 v174 v186) Finset.univ (View.stores_vmem_bits_univ h_S1x1x1024 rfl) (.inl rfl))
  let v198 : Vec F S1x1x1024 .f32 ← Prog.lift (.load arg5 (Rect.unit (s := S1x2x4096) (k0_off6 i k0_t1) S1x1x1024.size (k0_off6_inb i k0_t1)).toLoadRect (View.loadsAt_vmem h_S1x1x1024))
  let v205 : Vec F S1x1x1024 .f32 ← Prog.lift (.load arg6 (Rect.unit (s := S1x2x4096) (k0_off6 i k0_t1) S1x1x1024.size (k0_off6_inb i k0_t1)).toLoadRect (View.loadsAt_vmem h_S1x1x1024))
  let v221 : Vec F S1x1x1024 .f32 ← Prog.lift (.load arg13 (Rect.unit (s := S1x2x4096) (k0_off6 i k0_t1) S1x1x1024.size (k0_off6_inb i k0_t1)).toLoadRect (View.loadsAt_vmem h_S1x1x1024))
  pure ⟨k0_pay20 v12 v176 cst_71, k0_pay25 v15 arg20 v148 v158 v198, k0_pay26 v5 v15 v17 arg19 v145 v148 v158 v159 v198 v205, k0_pay27 v5 v15 v17 arg21 v148 v158 v159 v198 v205, k0_pay28 v5 v12 v15 v17 v148 v158 v159 v198 v205, k0_pay29 v221, k0_pay30 v5 v15 v17 v148 v158 v159 v198 v205⟩

set_option maxRecDepth 65536 in
/-- The printed `k0_part2` is its skeleton: by definitional unfolding. -/
theorem k0_part2_eq_skeleton : k0_part2 (F := F) = k0_part2_skel (F := F) := rfl

/-- `k0_part5` as a skeleton of memory operations over payloads. -/
noncomputable def k0_part5_skel (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x4096 .f32) (harg5 : arg5.IsWhole) (arg6 : Memref sig .tc .vmem S1x2x4096 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x4096 .f32) (harg13 : arg13.IsWhole) (arg14 : Memref sig .tc .vmem S1024x128 .f32) (harg14 : arg14.IsWhole) :
    Prog (TpuEff nD τ sig (Elt F) Λ₀ .tc) (Σ' (arg1 : BitVec 32) (v5 : IVec S1024x128 1) (v7 : IVec S1024x128 1) (v10 : IVec S1024x1024 1) (v12 : FVec F S1024x128 .bf16) (v15 : FVec F S1024x256 .bf16) (v17 : FVec F S1024x128 .bf16) (v18 : FVec F S1024x128 .f32) (v19 : FVec F S1024x128 .f32) (v20 : FVec F S1024x1 .f32) (v22 : BitVec 32) (v25 : FVec F S1024x128 .bf16) (v28 : FVec F S1024x128 .bf16) (v35 : FVec F S1024x256 .bf16), FVec F S1024x256 .bf16) := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let v142 : Vec F S4096x128 .f32 ← Prog.lift (.load arg10 (Rect.unit (s := S4096x128) ![0, 0] S4096x128.size inb_S4096x128_S4096x128_0_0).toLoadRect (View.loadsAt_vmem h_S4096x128))
    Prog.lift (.store arg10 (Rect.unit (s := S4096x128) ![0, 0] S4096x128.size inb_S4096x128_S4096x128_0_0) (k0_pay54 (F := F)) Finset.univ (View.stores_vmem_bits_univ h_S4096x128 rfl) (.inl rfl))
    let v144 : Vec F S1x2x4096 .f32 ← Prog.lift (.load arg13 (Rect.unit (s := S1x2x4096) ![0, 0, 0] S1x2x4096.size inb_S1x2x4096_S1x2x4096_0_0_0).toLoadRect (View.loadsAt_vmem h_S1x2x4096))
    Prog.lift (.store arg13 (Rect.unit (s := S1x2x4096) ![0, 0, 0] S1x2x4096.size inb_S1x2x4096_S1x2x4096_0_0_0) (k0_pay55 (F := F)) Finset.univ (View.stores_vmem_bits_univ h_S1x2x4096 rfl) (.inl rfl))
    pure ⟨⟩
  else do
    pure ⟨⟩
  let v11 : Vec F S1024x128 .bf16 ← Prog.lift (.load arg7 (Rect.unit (s := S1024x128) ![0, 0] S1024x128.size inb_S1024x128_S1024x128_0_0).toLoadRect (View.loadsAt_vmem h_S1024x128))
  let v13 : Vec F S1024x128 .bf16 ← Prog.lift (.load arg8 (Rect.unit (s := S1024x128) ![0, 0] S1024x128.size inb_S1024x128_S1024x128_0_0).toLoadRect (View.loadsAt_vmem h_S1024x128))
  let v16 : Vec F S1024x128 .bf16 ← Prog.lift (.load arg9 (Rect.unit (s := S1024x128) ![0, 0] S1024x128.size inb_S1024x128_S1024x128_0_0).toLoadRect (View.loadsAt_vmem h_S1024x128))
  let v21 : BitVec 32 := Scalar.muli arg1 1024#32
  let v22 : BitVec 32 := v21
  let v24 : Vec F S1024x128 .bf16 ← Prog.lift (.load arg2 (Rect.unit (s := S4096x128) (k0_off1 i) S1024x128.size (k0_off1_inb i)).toLoadRect (View.loadsAt_vmem h_S1024x128))
  let v27 : Vec F S1024x128 .bf16 ← Prog.lift (.load arg4 (Rect.unit (s := S4096x128) (k0_off1 i) S1024x128.size (k0_off1_inb i)).toLoadRect (View.loadsAt_vmem h_S1024x128))
  let v30 : Vec F S1024x128 .bf16 ← Prog.lift (.load arg3 (Rect.unit (s := S4096x128) (k0_off1 i) S1024x128.size (k0_off1_inb i)).toLoadRect (View.loadsAt_vmem h_S1024x128))
  pure ⟨arg1, k0_pay56, k0_pay57, k0_pay58, k0_pay59 v11, k0_pay60 v11 v13, k0_pay61 v16, k0_pay62 (F := F), k0_pay63 (F := F), k0_pay64 (F := F), v22, k0_pay65 v24, k0_pay66 v27, k0_pay69 v24 v30, k0_pay70 v24 v30⟩

set_option maxRecDepth 65536 in
/-- The printed `k0_part5` is its skeleton: by definitional unfolding. -/
theorem k0_part5_eq_skeleton : k0_part5 (F := F) = k0_part5_skel (F := F) := rfl

/-- `k0_part6` as a skeleton of memory operations over payloads. -/
noncomputable def k0_part6_skel (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x4096 .f32) (harg5 : arg5.IsWhole) (arg6 : Memref sig .tc .vmem S1x2x4096 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x4096 .f32) (harg13 : arg13.IsWhole) (arg14 : Memref sig .tc .vmem S1024x128 .f32) (harg14 : arg14.IsWhole) (v5 : IVec S1024x128 1) (v10 : IVec S1024x1024 1) (v12 : FVec F S1024x128 .bf16) (v15 : FVec F S1024x256 .bf16) (v17 : FVec F S1024x128 .bf16) (v18 : FVec F S1024x128 .f32) (v19 : FVec F S1024x128 .f32) (v20 : FVec F S1024x1 .f32) (v22 : BitVec 32) (v25 : FVec F S1024x128 .bf16) (v28 : FVec F S1024x128 .bf16) (v35 : FVec F S1024x256 .bf16) (v38 : FVec F S1024x256 .bf16) :
    Prog (TpuEff nD τ sig (Elt F) Λ₀ .tc) (Σ' (v60 : FVec F S1024x128 .f32) (v62 : FVec F S1024x128 .f32) (v65 : FVec F S1024x1 .f32) (v66 : FVec F S1024x128 .f32) (v77 : FVec F S1024x128 .bf16) (v78 : FVec F S1024x1024 .f32), F .f32) := do
  let v45 : Vec F S1x1x1024 .f32 ← Prog.lift (.load arg5 (Rect.unit (s := S1x2x4096) (k0_off2 i) S1x1x1024.size (k0_off2_inb i)).toLoadRect (View.loadsAt_vmem h_S1x1x1024))
  let v52 : Vec F S1x1x1024 .f32 ← Prog.lift (.load arg6 (Rect.unit (s := S1x2x4096) (k0_off2 i) S1x1x1024.size (k0_off2_inb i)).toLoadRect (View.loadsAt_vmem h_S1x1x1024))
  let v68 : Vec F S1x1x1024 .f32 ← Prog.lift (.load arg13 (Rect.unit (s := S1x2x4096) (k0_off2 i) S1x1x1024.size (k0_off2_inb i)).toLoadRect (View.loadsAt_vmem h_S1x1x1024))
  let v74 : Vec F S1x1x1024 .f32 ← Prog.lift (.load arg13 (Rect.unit (s := S1x2x4096) (k0_off2 i) S1x1x1024.size (k0_off2_inb i)).toLoadRect (View.loadsAt_vmem h_S1x1x1024))
  Prog.lift (.store arg13 (Rect.unit (s := S1x2x4096) (k0_off2 i) S1x1x1024.size (k0_off2_inb i)) (k0_pay79 v5 v10 v15 v17 v28 v35 v45 v52 v68) Finset.univ (View.stores_vmem_bits_univ h_S1x1x1024 rfl) (.inl rfl))
  have cst_30 : F .f32 := Named.named κ "mask" 0xF149F2CA#32
  pure ⟨k0_pay75 v10 v15 v19 v28 v35 v45, k0_pay76 v5 v10 v15 v17 v18 v25 v28 v35 v45 v52, k0_pay77 v5 v10 v15 v17 v20 v28 v35 v45 v52, k0_pay78 v5 v10 v12 v15 v17 v28 v35 v45 v52, k0_pay80 v5 v28, k0_pay81 v15 v38, cst_30⟩

set_option maxRecDepth 65536 in
/-- The printed `k0_part6` is its skeleton: by definitional unfolding. -/
theorem k0_part6_eq_skeleton : k0_part6 (F := F) = k0_part6_skel (F := F) := rfl

/-- `k0_part7` as a skeleton of memory operations over payloads. -/
noncomputable def k0_part7_skel (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x4096 .f32) (harg5 : arg5.IsWhole) (arg6 : Memref sig .tc .vmem S1x2x4096 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x4096 .f32) (harg13 : arg13.IsWhole) (arg14 : Memref sig .tc .vmem S1024x128 .f32) (harg14 : arg14.IsWhole) (v5 : IVec S1024x128 1) (v10 : IVec S1024x1024 1) (v12 : FVec F S1024x128 .bf16) (v17 : FVec F S1024x128 .bf16) (v18 : FVec F S1024x128 .f32) (v19 : FVec F S1024x128 .f32) (v20 : FVec F S1024x1 .f32) (v22 : BitVec 32) (v25 : FVec F S1024x128 .bf16) (v28 : FVec F S1024x128 .bf16) (v66 : FVec F S1024x128 .f32) (v77 : FVec F S1024x128 .bf16) (v78 : FVec F S1024x1024 .f32) (cst_30 : F .f32) :
    Prog (TpuEff nD τ sig (Elt F) Λ₀ .tc) (Σ' (v97 : FVec F S1024x128 .f32) (v99 : FVec F S1024x128 .f32), FVec F S1024x1 .f32) := do
  let v82 : Vec F S1x1x1024 .f32 ← Prog.lift (.load arg5 (Rect.unit (s := S1x2x4096) (k0_off3 i) S1x1x1024.size (k0_off3_inb i)).toLoadRect (View.loadsAt_vmem h_S1x1x1024))
  let v89 : Vec F S1x1x1024 .f32 ← Prog.lift (.load arg6 (Rect.unit (s := S1x2x4096) (k0_off3 i) S1x1x1024.size (k0_off3_inb i)).toLoadRect (View.loadsAt_vmem h_S1x1x1024))
  let v105 : Vec F S1x1x1024 .f32 ← Prog.lift (.load arg13 (Rect.unit (s := S1x2x4096) (k0_off3 i) S1x1x1024.size (k0_off3_inb i)).toLoadRect (View.loadsAt_vmem h_S1x1x1024))
  let v111 : Vec F S1x1x1024 .f32 ← Prog.lift (.load arg13 (Rect.unit (s := S1x2x4096) (k0_off3 i) S1x1x1024.size (k0_off3_inb i)).toLoadRect (View.loadsAt_vmem h_S1x1x1024))
  Prog.lift (.store arg13 (Rect.unit (s := S1x2x4096) (k0_off3 i) S1x1x1024.size (k0_off3_inb i)) (k0_pay88 v10 v17 v77 v78 cst_30 v82 v89 v105) Finset.univ (View.stores_vmem_bits_univ h_S1x1x1024 rfl) (.inl rfl))
  let v115 : Vec F S1024x128 .f32 ← Prog.lift (.load arg10 (Rect.unit (s := S4096x128) (k0_off1 i) S1024x128.size (k0_off1_inb i)).toLoadRect (View.loadsAt_vmem h_S1024x128))
  let v120 : Vec F S1024x128 .f32 ← Prog.lift (.load arg10 (Rect.unit (s := S4096x128) (k0_off1 i) S1024x128.size (k0_off1_inb i)).toLoadRect (View.loadsAt_vmem h_S1024x128))
  Prog.lift (.store arg10 (Rect.unit (s := S4096x128) (k0_off1 i) S1024x128.size (k0_off1_inb i)) (k0_pay89 v5 v10 v12 v17 v66 v77 v78 cst_30 v82 v89 v115) Finset.univ (View.stores_vmem_bits_univ h_S1024x128 rfl) (.inl rfl))
  pure ⟨k0_pay85 v10 v19 v28 v78 cst_30 v82, k0_pay86 v10 v17 v18 v25 v77 v78 cst_30 v82 v89, k0_pay87 v10 v17 v20 v77 v78 cst_30 v82 v89⟩

set_option maxRecDepth 65536 in
/-- The printed `k0_part7` is its skeleton: by definitional unfolding. -/
theorem k0_part7_eq_skeleton : k0_part7 (F := F) = k0_part7_skel (F := F) := rfl

end Cert.KernelIdeal.Gen

end
-- ==== Proof.Body.Tile.lean ====
/- What one step of the kernel computes: a tile of 1024 keys against 1024 queries, for a pair of heads, as functions of
   the blocks it reads; and the reading of a block of rows or of a row's stretch out of a buffer. -/
module

public import proofs.«01_k».proof.Proof.Body.Skeleton
public import Idealize.ShloMosaic.Lib.VecWindow
public import Idealize.ShloMosaic.Lib.Exec
public import Idealize.ShloMosaic.Lib.ValueIdx

@[expose] public section

noncomputable section

namespace Cert.KernelIdeal.Tile

open Idealize.ShloMosaic Idealize.ShloMosaic.ValueIdx Idealize.SL.Sem Cert.KernelIdeal Cert.KernelIdeal.Gen

variable {F : FTy → Type} [FloatOps F] [Named F]

/-! ## Blocks of rows and stretches of a row -/

section Blocks

variable {α : Type}

/-- Rows `1024·n …` of a sequence buffer. -/
def blk (x : S4096x128.Idx → α) (n : ℕ) : S1024x128.Idx → α :=
  fun y => x (ix2 (⟨(1024 * n + (y 0).val) % 4096, Nat.mod_lt _ (by decide)⟩ : Fin 4096) (⟨(y 1).val, (y 1).isLt⟩ : Fin 128))

/-- Places `1024·n …` of row `h`. -/
def lane (x : S1x2x4096.Idx → α) (h : Fin 2) (n : ℕ) : S1x1x1024.Idx → α :=
  fun y => x (ix3 (0 : Fin 1) h (⟨(1024 * n + (y 2).val) % 4096, Nat.mod_lt _ (by decide)⟩ : Fin 4096))

/-- A sequence buffer with rows `1024·n …` replaced. -/
def putB (x : S4096x128.Idx → α) (n : ℕ) (w : S1024x128.Idx → α) : S4096x128.Idx → α :=
  fun y => if (y 0).val / 1024 = n then w (ix2 (⟨(y 0).val % 1024, Nat.mod_lt _ (by decide)⟩ : Fin 1024) (⟨(y 1).val, (y 1).isLt⟩ : Fin 128)) else x y

/-- A pair of rows with places `1024·n …` of row `h` replaced. -/
def putL (x : S1x2x4096.Idx → α) (h : Fin 2) (n : ℕ) (w : S1x1x1024.Idx → α) : S1x2x4096.Idx → α :=
  fun y => if (y 1).val = h.val ∧ (y 2).val / 1024 = n then
    w (ix3 (0 : Fin 1) (0 : Fin 1) (⟨(y 2).val % 1024, Nat.mod_lt _ (by decide)⟩ : Fin 1024)) else x y

theorem window_blk (x : S4096x128.Idx → α) (n : ℕ) (hn : n < 4) (inb : ∀ a, ![1024 * n, 0] a + S1024x128.size a ≤ S4096x128.size a) :
    VecWindow.window x ![1024 * n, 0] S1024x128.size inb = blk x n := by
  funext y
  refine congrArg x (funext fun a => Fin.ext ?_)
  have h0 : (y 0).val < 1024 := (y 0).isLt
  fin_cases a
  · show 1024 * n + 1 * (y 0).val = (1024 * n + (y 0).val) % 4096
    omega
  · show 0 + 1 * (y 1).val = (y 1).val
    omega

theorem window_lane (x : S1x2x4096.Idx → α) (h : Fin 2) (n : ℕ) (hn : n < 4)
    (inb : ∀ a, ![0, h.val, 1024 * n] a + S1x1x1024.size a ≤ S1x2x4096.size a) :
    VecWindow.window x ![0, h.val, 1024 * n] S1x1x1024.size inb = lane x h n := by
  funext y
  refine congrArg x (funext fun a => Fin.ext ?_)
  have h0 : (y 0).val < 1 := (y 0).isLt
  have h1 : (y 1).val < 1 := (y 1).isLt
  have h2 : (y 2).val < 1024 := (y 2).isLt
  fin_cases a
  · show 0 + 1 * (y 0).val = 0
    omega
  · show h.val + 1 * (y 1).val = h.val
    omega
  · show 1024 * n + 1 * (y 2).val = (1024 * n + (y 2).val) % 4096
    omega

theorem put_blk (x : S4096x128.Idx → α) (n : ℕ) (w : S1024x128.Idx → α) :
    VecWindow.put x ![1024 * n, 0] S1024x128.size w = putB x n w := by
  funext y
  have h0 : (y 0).val < 4096 := (y 0).isLt
  have h1 : (y 1).val < 128 := (y 1).isLt
  by_cases hb : (y 0).val / 1024 = n
  · have hm : ∀ a, ![1024 * n, 0] a ≤ (y a).val ∧ (y a).val < ![1024 * n, 0] a + S1024x128.size a := by
      intro a; fin_cases a
      · show 1024 * n ≤ (y 0).val ∧ (y 0).val < 1024 * n + 1024
        omega
      · show 0 ≤ (y 1).val ∧ (y 1).val < 0 + 128
        omega
    unfold VecWindow.put putB
    rw [dif_pos hm, if_pos hb]
    refine congrArg w (funext fun a => Fin.ext ?_)
    fin_cases a
    · show (y 0).val - 1024 * n = (y 0).val % 1024
      omega
    · show (y 1).val - 0 = (y 1).val
      omega
  · have hm : ¬ ∀ a, ![1024 * n, 0] a ≤ (y a).val ∧ (y a).val < ![1024 * n, 0] a + S1024x128.size a := by
      intro hall
      have : 1024 * n ≤ (y 0).val ∧ (y 0).val < 1024 * n + 1024 := hall 0
      omega
    unfold VecWindow.put putB
    rw [dif_neg hm, if_neg hb]

theorem put_lane (x : S1x2x4096.Idx → α) (h : Fin 2) (n : ℕ) (w : S1x1x1024.Idx → α) :
    VecWindow.put x ![0, h.val, 1024 * n] S1x1x1024.size w = putL x h n w := by
  funext y
  have h0 : (y 0).val < 1 := (y 0).isLt
  have h1 : (y 1).val < 2 := (y 1).isLt
  have h2 : (y 2).val < 4096 := (y 2).isLt
  by_cases hb : (y 1).val = h.val ∧ (y 2).val / 1024 = n
  · have hm : ∀ a, ![0, h.val, 1024 * n] a ≤ (y a).val ∧ (y a).val < ![0, h.val, 1024 * n] a + S1x1x1024.size a := by
      intro a; fin_cases a
      · show 0 ≤ (y 0).val ∧ (y 0).val < 0 + 1
        omega
      · show h.val ≤ (y 1).val ∧ (y 1).val < h.val + 1
        omega
      · show 1024 * n ≤ (y 2).val ∧ (y 2).val < 1024 * n + 1024
        omega
    unfold VecWindow.put putL
    rw [dif_pos hm, if_pos hb]
    refine congrArg w (funext fun a => Fin.ext ?_)
    fin_cases a
    · show (y 0).val - 0 = 0
      omega
    · show (y 1).val - h.val = 0
      omega
    · show (y 2).val - 1024 * n = (y 2).val % 1024
      omega
  · have hm : ¬ ∀ a, ![0, h.val, 1024 * n] a ≤ (y a).val ∧ (y a).val < ![0, h.val, 1024 * n] a + S1x1x1024.size a := by
      intro hall
      have e1 : h.val ≤ (y 1).val ∧ (y 1).val < h.val + 1 := hall 1
      have e2 : 1024 * n ≤ (y 2).val ∧ (y 2).val < 1024 * n + 1024 := hall 2
      exact hb ⟨by omega, by omega⟩
    unfold VecWindow.put putL
    rw [dif_neg hm, if_neg hb]

theorem lane_putL_ne (x : S1x2x4096.Idx → α) (h h' : Fin 2) (hh : h ≠ h') (n : ℕ) (w : S1x1x1024.Idx → α) :
    lane (putL x h n w) h' n = lane x h' n := by
  funext y
  unfold lane putL
  rw [if_neg]
  intro hc
  exact hh (Fin.ext hc.1.symm)

end Blocks

/-! ## The same through a view of a buffer -/

section Views

variable {κ : Kind} {sp : Space} {Val : EltTy → Type} {e : EltTy}

theorem inb_blk {n : ℕ} (hn : n < 4) : ∀ a, ![1024 * n, 0] a + S1024x128.size a ≤ S4096x128.size a := by
  intro a; fin_cases a
  · show 1024 * n + 1024 ≤ 4096
    omega
  · show 0 + 128 ≤ 128
    omega

theorem inb_lane {n : ℕ} (hn : n < 4) (h : Fin 2) : ∀ a, ![0, h.val, 1024 * n] a + S1x1x1024.size a ≤ S1x2x4096.size a := by
  have := h.isLt
  intro a; fin_cases a
  · show 0 + 1 ≤ 1
    omega
  · show h.val + 1 ≤ 2
    omega
  · show 1024 * n + 1024 ≤ 4096
    omega

theorem readAt_blk (v : View sig κ sp S4096x128 e) (f : v.ty.Contents Val) {off : Fin 2 → ℕ}
    (inb : ∀ a, off a + S1024x128.size a ≤ S4096x128.size a) (n : ℕ) (hn : n < 4) (h : off = ![1024 * n, 0]) :
    v.readAt Val (Rect.unit (s := S4096x128) off S1024x128.size inb).toLoadRect f = blk (v.read Val f) n :=
  (View.readAt_unit v f inb h (inb_blk hn)).trans (window_blk _ n hn _)

theorem readAt_lane (v : View sig κ sp S1x2x4096 e) (f : v.ty.Contents Val) {off : Fin 3 → ℕ}
    (inb : ∀ a, off a + S1x1x1024.size a ≤ S1x2x4096.size a) (hd : Fin 2) (n : ℕ) (hn : n < 4) (h : off = ![0, hd.val, 1024 * n]) :
    v.readAt Val (Rect.unit (s := S1x2x4096) off S1x1x1024.size inb).toLoadRect f = lane (v.read Val f) hd n :=
  (View.readAt_unit v f inb h (inb_lane hn hd)).trans (window_lane _ hd n hn _)

theorem read_writes_blk (v : View sig κ sp S4096x128 e) (f : v.ty.Contents Val) {off : Fin 2 → ℕ}
    (inb : ∀ a, off a + S1024x128.size a ≤ S4096x128.size a) (w : (Rect.unit (s := S4096x128) off S1024x128.size inb).shape.Idx → Val e)
    (L : List (View.Piece Val S4096x128 e)) (n : ℕ) (h : off = ![1024 * n, 0]) :
    v.read Val (v.writes Val f (⟨Rect.unit (s := S4096x128) off S1024x128.size inb, w⟩ :: L)) = putB (v.read Val (v.writes Val f L)) n w :=
  (View.read_writes_cons_put v f inb w L h).trans (put_blk _ n w)

theorem read_writes_lane (v : View sig κ sp S1x2x4096 e) (f : v.ty.Contents Val) {off : Fin 3 → ℕ}
    (inb : ∀ a, off a + S1x1x1024.size a ≤ S1x2x4096.size a) (w : (Rect.unit (s := S1x2x4096) off S1x1x1024.size inb).shape.Idx → Val e)
    (L : List (View.Piece Val S1x2x4096 e)) (hd : Fin 2) (n : ℕ) (h : off = ![0, hd.val, 1024 * n]) :
    v.read Val (v.writes Val f (⟨Rect.unit (s := S1x2x4096) off S1x1x1024.size inb, w⟩ :: L)) = putL (v.read Val (v.writes Val f L)) hd n w :=
  (View.read_writes_cons_put v f inb w L h).trans (put_lane _ hd n w)

end Views

/-! ## One tile -/

/-- The probabilities of a tile: the scores less the queries' saved log-sums, exponentiated. -/
def probs (s : FVec F S1024x1024 .f32) (lse : Vec F S1x1x1024 .f32) : FVec F S1024x1024 .f32 :=
  exp (subf s (broadcastTo S1024x1024 (shapeCast S1x1024 lse shapeCasts_S1x1x1024_S1x1024) broadcasts_S1x1024_S1024x1024))

/-- The scores' gradient on a tile. -/
def dscore (p : FVec F S1024x1024 .f32) (v dom : FVec F S1024x128 .bf16) (dlt : Vec F S1x1x1024 .f32) : FVec F S1024x1024 .f32 :=
  mulf p (subf (matmul dot_S1024x128_S1024x128_S1024x1024_1_1_0_0_n_n none v dom (constant S1024x1024 .f32 0x00000000#32))
    (broadcastTo S1024x1024 (shapeCast S1x1024 dlt shapeCasts_S1x1x1024_S1x1024) broadcasts_S1x1024_S1024x1024))

/-- A key block's gradient, `w` the tile's weights and `x` the queries (or cotangents) they weigh. -/
def accK (acc : FVec F S1024x128 .f32) (w : FVec F S1024x1024 .f32) (x : FVec F S1024x128 .bf16) : FVec F S1024x128 .f32 :=
  addf acc (matmul dot_S1024x1024_S1024x128_S1024x128_1_0_0_1_n_n none (truncf .bf16 w bitsLt_bf16_f32) x (constant S1024x128 .f32 0x00000000#32))

/-- The sums over a tile's queries. -/
def accC (acc : FVec F S1024x1 .f32) (ds : FVec F S1024x1024 .f32) : FVec F S1024x1 .f32 :=
  addf acc (shapeCast S1024x1 (multiReduction .add [1] S1024 ds 0x00000000#32 reduces_S1024x1024_S1024 (.inl rfl) rfl) shapeCasts_S1024_S1024x1)

/-- The sums over a tile's keys. -/
def accR (r : Vec F S1x1x1024 .f32) (ds : FVec F S1024x1024 .f32) : FVec F S1x1x1024 .f32 :=
  shapeCast S1x1x1024 (addf (shapeCast S1x1024 r shapeCasts_S1x1x1024_S1x1024)
    (shapeCast S1x1024 (multiReduction .add [0] S1024 ds 0x00000000#32 reduces_S1024x1024_S1024_2 (.inl rfl) rfl) shapeCasts_S1024_S1x1024))
    shapeCasts_S1x1024_S1x1x1024

/-- A tile's part of the queries' gradient. -/
def dqry (ds : FVec F S1024x1024 .f32) (k : FVec F S1024x128 .bf16) : FVec F S1024x128 .f32 :=
  matmul dot_S1024x1024_S1024x128_S1024x128_0_0_1_1_n_n none (truncf .bf16 ds bitsLt_bf16_f32) k (constant S1024x128 .f32 0x00000000#32)

/-- What it is added to. -/
def accQ (d a b : FVec F S1024x128 .f32) : FVec F S1024x128 .f32 :=
  addf (shapeCast S1024x128 d shapeCasts_S1024x128_S1024x128) (select k0_pay56 a b)

/-- The zero block. -/
def zb : FVec F S1024x128 .bf16 := broadcast S1024x128 (Scalar.ofBits .bf16 0x0000#16 : F .bf16)

/-- A block with the other head's lanes set to zero. -/
def half (h : Fin 2) (m : IVec S1024x128 1) (x : Vec F S1024x128 .bf16) : FVec F S1024x128 .bf16 :=
  if h = 0 then select m (shapeCast S1024x128 x shapeCasts_S1024x128_S1024x128) zb
  else select m zb (shapeCast S1024x128 x shapeCasts_S1024x128_S1024x128)

/-- A head's queries, the decay's lanes beside them. -/
def qcat (h : Fin 2) (q qa : Vec F S1024x128 .bf16) : FVec F S1024x256 .bf16 :=
  concatenate S1024x256 1 [⟨S1024x128, half h k0_pay56 q⟩, ⟨S1024x128, half h k0_pay57 qa⟩] concatenates_S1024x128_S1024x128_S1024x256_d1

/-- A tile's scores; on the diagonal (`b`) a key past its query scores −∞. -/
def score (b : Bool) (kaug qm : FVec F S1024x256 .bf16) : FVec F S1024x1024 .f32 :=
  if b then select k0_pay58
      (matmul dot_S1024x256_S1024x256_S1024x1024_1_1_0_0_n_n none kaug qm (constant S1024x1024 .f32 0x00000000#32))
      (broadcast S1024x1024 (Named.named κ "mask" 0xF149F2CA#32 : F .f32))
  else matmul dot_S1024x256_S1024x256_S1024x1024_1_1_0_0_n_n none kaug qm (constant S1024x1024 .f32 0x00000000#32)

/-! ## The steps of a grid point -/

/-- What a grid point reads: the pair's queries, their decay lanes, cotangents, log-sums and inner products, whole; its
    block of keys, keys beside their decay lanes, and values. -/
structure Ins (F : FTy → Type) where
  q : Vec F S4096x128 .bf16
  qa : Vec F S4096x128 .bf16
  ct : Vec F S4096x128 .bf16
  lse : Vec F S1x2x4096 .f32
  dlt : Vec F S1x2x4096 .f32
  k : FVec F S1024x128 .bf16
  kaug : FVec F S1024x256 .bf16
  v : FVec F S1024x128 .bf16

/-- What the steps carry: per head the gradient of the keys, of the values, and the sums over the queries. -/
abbrev Carry (F : FTy → Type) :=
  FVec F S1024x128 .f32 × FVec F S1024x128 .f32 × FVec F S1024x1 .f32 × FVec F S1024x128 .f32 × FVec F S1024x128 .f32 × FVec F S1024x1 .f32

namespace Ins

variable (I : Ins F)

/-- The probabilities of query block `n`, head `h`. -/
def p (b : Bool) (h : Fin 2) (n : ℕ) : FVec F S1024x1024 .f32 :=
  probs (score b I.kaug (qcat h (blk I.q n) (blk I.qa n))) (lane I.lse h n)

/-- The scores' gradient of query block `n`, head `h`. -/
def ds (b : Bool) (h : Fin 2) (n : ℕ) : FVec F S1024x1024 .f32 :=
  dscore (I.p b h n) I.v (half h k0_pay56 (blk I.ct n)) (lane I.dlt h n)

/-- The queries of block `n`, as the products take them. -/
def qb (n : ℕ) : FVec F S1024x128 .bf16 := shapeCast S1024x128 (blk I.q n) shapeCasts_S1024x128_S1024x128
/-- The cotangents of block `n`. -/
def cb (n : ℕ) : FVec F S1024x128 .bf16 := shapeCast S1024x128 (blk I.ct n) shapeCasts_S1024x128_S1024x128

/-- A step's carried values. -/
def next (b : Bool) (n : ℕ) (c : Carry F) : Carry F :=
  (accK c.1 (I.ds b 0 n) (I.qb n), accK c.2.1 (I.p b 0 n) (I.cb n), accC c.2.2.1 (I.ds b 0 n),
   accK c.2.2.2.1 (I.ds b 1 n) (I.qb n), accK c.2.2.2.2.1 (I.p b 1 n) (I.cb n), accC c.2.2.2.2.2 (I.ds b 1 n))

/-- A step's queries' gradient. -/
def dq (b : Bool) (n : ℕ) (d : Vec F S4096x128 .f32) : Vec F S4096x128 .f32 :=
  putB d n (accQ (blk d n) (dqry (I.ds b 0 n) I.k) (dqry (I.ds b 1 n) I.k))

/-- A step's sums over keys, head 0, -/
def rows0 (b : Bool) (n : ℕ) (r : Vec F S1x2x4096 .f32) : Vec F S1x2x4096 .f32 :=
  putL r 0 n (accR (lane r 0 n) (I.ds b 0 n))
/-- and both heads. -/
def rows (b : Bool) (n : ℕ) (r : Vec F S1x2x4096 .f32) : Vec F S1x2x4096 .f32 :=
  putL (I.rows0 b n r) 1 n (accR (lane r 1 n) (I.ds b 1 n))

/-- The carried values at the start. -/
def zero : Carry F := (k0_pay62, k0_pay63, k0_pay64, k0_pay62, k0_pay63, k0_pay64)

/-- The state after `k` steps past the diagonal, from the one at it: key block `j` meets query blocks `j+1`, `j+2`, … -/
def carryL (j : ℕ) (c : Carry F) : ℕ → Carry F
  | 0 => c
  | k + 1 => I.next false (j + 1 + k) (carryL j c k)
def dqL (j : ℕ) (d : Vec F S4096x128 .f32) : ℕ → Vec F S4096x128 .f32
  | 0 => d
  | k + 1 => I.dq false (j + 1 + k) (dqL j d k)
def rowsL (j : ℕ) (r : Vec F S1x2x4096 .f32) : ℕ → Vec F S1x2x4096 .f32
  | 0 => r
  | k + 1 => I.rows false (j + 1 + k) (rowsL j r k)

/-- What a grid point leaves: the gradients of the queries and the sums over keys, on top of those it finds; -/
def dqOut (j : ℕ) (d : Vec F S4096x128 .f32) : Vec F S4096x128 .f32 := I.dqL j (I.dq true j d) (3 - j)
def rowsOut (j : ℕ) (r : Vec F S1x2x4096 .f32) : Vec F S1x2x4096 .f32 := I.rowsL j (I.rows true j r) (3 - j)
/-- the carried values, -/
def carryOut (j : ℕ) : Carry F := I.carryL j (I.next true j zero) (3 - j)
/-- and of them the gradients of the keys and the values, each head's lanes from its own, and the sums over queries. -/
def dkOut (j : ℕ) : FVec F S1024x128 .f32 := k0_pay5 k0_pay56 (I.carryOut j).1 (I.carryOut j).2.2.2.1
def dvOut (j : ℕ) : FVec F S1024x128 .f32 := k0_pay6 k0_pay56 (I.carryOut j).2.1 (I.carryOut j).2.2.2.2.1
def colsOut (j : ℕ) : FVec F S1024x128 .f32 := k0_pay7 k0_pay56 (I.carryOut j).2.2.1 (I.carryOut j).2.2.2.2.2

variable {I} in
theorem dkOut_of {I' : Ins F} {j n : ℕ} {c : Carry F} (hI : I' = I) (hc : c = I.next true j zero) (hn : n = 3 - j) :
    k0_pay5 k0_pay56 (I'.carryL j c n).1 (I'.carryL j c n).2.2.2.1 = I.dkOut j := by subst hI hc hn; rfl

variable {I} in
theorem dvOut_of {I' : Ins F} {j n : ℕ} {c : Carry F} (hI : I' = I) (hc : c = I.next true j zero) (hn : n = 3 - j) :
    k0_pay6 k0_pay56 (I'.carryL j c n).2.1 (I'.carryL j c n).2.2.2.2.1 = I.dvOut j := by subst hI hc hn; rfl

variable {I} in
theorem colsOut_of {I' : Ins F} {j n : ℕ} {c : Carry F} (hI : I' = I) (hc : c = I.next true j zero) (hn : n = 3 - j) :
    k0_pay7 k0_pay56 (I'.carryL j c n).2.2.1 (I'.carryL j c n).2.2.2.2.2 = I.colsOut j := by subst hI hc hn; rfl

variable {I} in
theorem dqOut_of {I' : Ins F} {j n : ℕ} {d d' : Vec F S4096x128 .f32} (hI : I' = I) (hd : d' = I.dq true j d) (hn : n = 3 - j) :
    I'.dqL j d' n = I.dqOut j d := by subst hI hd hn; rfl

variable {I} in
theorem rowsOut_of {I' : Ins F} {j n : ℕ} {r r' : Vec F S1x2x4096 .f32} (hI : I' = I) (hr : r' = I.rows true j r) (hn : n = 3 - j) :
    I'.rowsL j r' n = I.rowsOut j r := by subst hI hr hn; rfl

end Ins

end Cert.KernelIdeal.Tile

end
-- ==== Proof.Value.Ops.lean ====
/- The operations of a tile at the ideal values, each at an index. -/
module

public import proofs.«01_k».proof.Proof.Body.Tile
public import Idealize.ShloMosaic.Lib.MatmulPlain
public import Idealize.ShloMosaic.Lib.Pipeline.Value
public import Idealize.ShloMosaic.Lib.WordCmp
public import Idealize.ShloMosaic.Lib.IdealHost
public import Idealize.ShloMosaic.PureOps.Ideal.Laws

@[expose] public section

noncomputable section

namespace Cert.KernelIdeal.Tile

open Idealize.ShloMosaic Idealize.ShloMosaic.ValueIdx Cert.KernelIdeal Cert.KernelIdeal.Gen
open scoped BigOperators

/-! ## Products -/

theorem zero_apply {s : Shape} (i : s.Idx) : (constant (F := Ideal) s .f32 0x00000000#32 : FVec Ideal s .f32) i = 0 := Ideal.ofBits_zero_f32

theorem mm_score (x y : FVec Ideal S1024x256 .bf16) (a b : Fin 1024) :
    matmul dot_S1024x256_S1024x256_S1024x1024_1_1_0_0_n_n none x y (constant S1024x1024 .f32 0x00000000#32) (ix2 a b)
      = ∑ k : Fin 256, x (ix2 a k) * y (ix2 b k) := by
  refine (Ideal.matmul_transposedRhs_apply (M := 1024) (K := 256) (N := 1024) none x y _ a b).trans ?_
  rw [zero_apply, zero_add]

theorem mm_dp (x y : FVec Ideal S1024x128 .bf16) (a b : Fin 1024) :
    matmul dot_S1024x128_S1024x128_S1024x1024_1_1_0_0_n_n none x y (constant S1024x1024 .f32 0x00000000#32) (ix2 a b)
      = ∑ k : Fin 128, x (ix2 a k) * y (ix2 b k) := by
  refine (Ideal.matmul_transposedRhs_apply (M := 1024) (K := 128) (N := 1024) none x y _ a b).trans ?_
  rw [zero_apply, zero_add]

theorem mm_keys (x : FVec Ideal S1024x1024 .bf16) (y : FVec Ideal S1024x128 .bf16) (a : Fin 1024) (b : Fin 128) :
    matmul dot_S1024x1024_S1024x128_S1024x128_1_0_0_1_n_n none x y (constant S1024x128 .f32 0x00000000#32) (ix2 a b)
      = ∑ k : Fin 1024, x (ix2 a k) * y (ix2 k b) := by
  refine (Ideal.matmul_plain_apply (M := 1024) (K := 1024) (N := 128) none x y _ a b).trans ?_
  rw [zero_apply, zero_add]

theorem mm_qry (x : FVec Ideal S1024x1024 .bf16) (y : FVec Ideal S1024x128 .bf16) (a : Fin 1024) (b : Fin 128) :
    matmul dot_S1024x1024_S1024x128_S1024x128_0_0_1_1_n_n none x y (constant S1024x128 .f32 0x00000000#32) (ix2 a b)
      = ∑ k : Fin 1024, x (ix2 k a) * y (ix2 k b) := by
  have e : ∀ acc : FVec Ideal S1024x128 .f32, FloatOps.matmul dot_S1024x1024_S1024x128_S1024x128_0_0_1_1_n_n none x y acc (ix2 a b)
      = acc (ix2 a b) + ∑ k : Fin 1024, x (ix2 k a) * y (ix2 k b) := fun acc => by
    have hr : dot_S1024x1024_S1024x128_S1024x128_0_0_1_1_n_n.contr.rank = 1 := rfl
    have hs : dot_S1024x1024_S1024x128_S1024x128_0_0_1_1_n_n.contr.size ⟨0, by rw [hr]; exact Nat.one_pos⟩ = 1024 := rfl
    rw [Ideal.matmul_apply, ← Equiv.sum_comp (contrEquiv1 _ 1024 hr hs).symm]
    refine congrArg (acc (ix2 a b) + ·) (Finset.sum_congr rfl fun k _ => ?_)
    have hk := contrEquiv1_symm_val _ 1024 hr hs k
    have el : dot_S1024x1024_S1024x128_S1024x128_0_0_1_1_n_n.lhsIdx (ix2 a b) ((contrEquiv1 _ 1024 hr hs).symm k) = ix2 k a := by
      funext z; apply Fin.ext
      match z with
      | ⟨0, _⟩ => exact hk
      | ⟨1, _⟩ => rfl
    have er : dot_S1024x1024_S1024x128_S1024x128_0_0_1_1_n_n.rhsIdx (ix2 a b) ((contrEquiv1 _ 1024 hr hs).symm k) = ix2 k b := by
      funext z; apply Fin.ext
      match z with
      | ⟨0, _⟩ => exact hk
      | ⟨1, _⟩ => rfl
    rw [el, er]
  refine (e _).trans ?_
  rw [zero_apply, zero_add]

/-! ## Reshapes and sums -/

theorem lane_bcast (x : Vec Ideal S1x1x1024 .f32) (a b : Fin 1024) :
    broadcastTo S1024x1024 (shapeCast S1x1024 x shapeCasts_S1x1x1024_S1x1024) broadcasts_S1x1024_S1024x1024 (ix2 a b) = x (ix3 (0 : Fin 1) (0 : Fin 1) b) := by
  rw [broadcastTo_apply _ _ _ (ix2 (0 : Fin 1) b) (fun z => by
    match z with
    | ⟨0, _⟩ => rfl
    | ⟨1, _⟩ => rfl)]
  exact shapeCast_apply _ _ _ _ (by rw [Shape.rowMajor_val_two, Shape.rowMajor_val_three]; show (0 * 1 + 0) * 1024 + b.val = 0 * 1024 + b.val; omega)

theorem same128 {φ : EltTy} (x : Vec Ideal S1024x128 φ) : shapeCast S1024x128 x shapeCasts_S1024x128_S1024x128 = x := by
  funext i; exact shapeCast_apply _ _ _ _ rfl

theorem same1 (x : FVec Ideal S1024x1 .f32) : shapeCast S1024x1 x shapeCasts_S1024x1_S1024x1 = x := by
  funext i; exact shapeCast_apply _ _ _ _ rfl

theorem probs_apply (s : FVec Ideal S1024x1024 .f32) (l : Vec Ideal S1x1x1024 .f32) (a b : Fin 1024) :
    probs s l (ix2 a b) = Ideal.exp (s (ix2 a b) - l (ix3 (0 : Fin 1) (0 : Fin 1) b)) := by
  rw [← lane_bcast l a b]; rfl

theorem dscore_apply (p : FVec Ideal S1024x1024 .f32) (v c : FVec Ideal S1024x128 .bf16) (d : Vec Ideal S1x1x1024 .f32) (a b : Fin 1024) :
    dscore p v c d (ix2 a b) = p (ix2 a b) * ((∑ k : Fin 128, v (ix2 a k) * c (ix2 b k)) - d (ix3 (0 : Fin 1) (0 : Fin 1) b)) := by
  rw [← lane_bcast d a b, ← mm_dp]; rfl

theorem accK_apply (c : FVec Ideal S1024x128 .f32) (w : FVec Ideal S1024x1024 .f32) (x : FVec Ideal S1024x128 .bf16) (a : Fin 1024) (b : Fin 128) :
    accK c w x (ix2 a b) = c (ix2 a b) + ∑ k : Fin 1024, w (ix2 a k) * x (ix2 k b) :=
  congrArg (c (ix2 a b) + ·) (mm_keys _ _ a b)

theorem dqry_apply (w : FVec Ideal S1024x1024 .f32) (x : FVec Ideal S1024x128 .bf16) (a : Fin 1024) (b : Fin 128) :
    dqry w x (ix2 a b) = ∑ k : Fin 1024, w (ix2 k a) * x (ix2 k b) :=
  mm_qry _ _ a b

theorem accC_apply (c : FVec Ideal S1024x1 .f32) (w : FVec Ideal S1024x1024 .f32) (a : Fin 1024) :
    accC c w (ix2 a (0 : Fin 1)) = c (ix2 a (0 : Fin 1)) + ∑ k : Fin 1024, w (ix2 a k) := by
  refine congrArg (c (ix2 a (0 : Fin 1)) + ·) ?_
  rw [shapeCast_apply _ _ _ (ix1 a) (by rw [Shape.rowMajor_val_two, Shape.rowMajor_val_one]; show a.val = a.val * 1 + 0; omega),
    ]
  refine (Ideal.multiReduction_add_single _ _ _ _ _ _).trans ?_
  refine Finset.sum_congr rfl fun k _ => congrArg w ?_
  funext z; apply Fin.ext
  match z with
  | ⟨0, _⟩ => rfl
  | ⟨1, _⟩ => rfl

theorem accR_apply (r : Vec Ideal S1x1x1024 .f32) (w : FVec Ideal S1024x1024 .f32) (b : Fin 1024) :
    accR r w (ix3 (0 : Fin 1) (0 : Fin 1) b) = r (ix3 (0 : Fin 1) (0 : Fin 1) b) + ∑ k : Fin 1024, w (ix2 k b) := by
  unfold accR
  rw [shapeCast_apply _ _ _ (ix2 (0 : Fin 1) b) (by rw [Shape.rowMajor_val_two, Shape.rowMajor_val_three]; show 0 * 1024 + b.val = (0 * 1 + 0) * 1024 + b.val; omega)]
  refine congrArg₂ (fun x y : EReal => x + y) ?_ ?_
  · exact shapeCast_apply _ _ _ _ (by rw [Shape.rowMajor_val_two, Shape.rowMajor_val_three]; show (0 * 1 + 0) * 1024 + b.val = 0 * 1024 + b.val; omega)
  · rw [shapeCast_apply _ _ _ (ix1 b) (by rw [Shape.rowMajor_val_two, Shape.rowMajor_val_one]; show b.val = 0 * 1024 + b.val; omega),
      ]
    refine (Ideal.multiReduction_add_single _ _ _ _ _ _).trans ?_
    refine Finset.sum_congr rfl fun k _ => congrArg w ?_
    funext z; apply Fin.ext
    match z with
    | ⟨0, _⟩ => rfl
    | ⟨1, _⟩ => rfl

/-! ## Masks -/

theorem slt_pos (a b : ℕ) (ha : a < 4096) (hb : b < 4096) :
    IntOp.cmpi .slt (BitVec.ofNat 32 a) (BitVec.ofNat 32 b) = if a < b then 1#1 else 0#1 := by
  rw [WordCmp.cmpi_slt_ofNat (by omega) (by omega)]
  by_cases h : a < b <;> simp [h]

theorem sle_pos (a b : ℕ) (ha : a < 4096) (hb : b < 4096) :
    IntOp.cmpi .sle (BitVec.ofNat 32 a) (BitVec.ofNat 32 b) = if a ≤ b then 1#1 else 0#1 := by
  rw [WordCmp.cmpi_sle_ofNat (by omega) (by omega)]
  by_cases h : a ≤ b <;> simp [h]

theorem lo_apply (a : Fin 1024) (b : Fin 128) : k0_pay56 (ix2 a b) = if b.val < 64 then 1#1 else 0#1 := by
  have := b.isLt
  refine Eq.trans ?_ (slt_pos b.val 64 (by omega) (by omega))
  show IntOp.cmpi .slt (BitVec.ofNat 32 (0 + b.val)) 64#32 = _
  rw [zero_add]

theorem alo_apply (a : Fin 1024) (b : Fin 128) : k0_pay57 (ix2 a b) = if b.val < 8 then 1#1 else 0#1 := by
  have := b.isLt
  refine Eq.trans ?_ (slt_pos b.val 8 (by omega) (by omega))
  show IntOp.cmpi .slt (BitVec.ofNat 32 (0 + b.val)) 8#32 = _
  rw [zero_add]

theorem triu_apply (a b : Fin 1024) : k0_pay58 (ix2 a b) = if a.val ≤ b.val then 1#1 else 0#1 := by
  have := a.isLt
  have := b.isLt
  refine Eq.trans ?_ (sle_pos a.val b.val (by omega) (by omega))
  show IntOp.cmpi .sle (BitVec.ofNat 32 (0 + a.val)) (BitVec.ofNat 32 (0 + b.val)) = _
  rw [zero_add, zero_add]

theorem sel_ite {α : Type} (p : Prop) [Decidable p] (a b : α) : Scalar.select (if p then 1#1 else 0#1) a b = if p then a else b := by
  by_cases h : p <;> simp [h, Scalar.select]

theorem zb_apply (i : S1024x128.Idx) : zb (F := Ideal) i = 0 := Ideal.ofBits_zero_bf16

theorem mask_bot : (Named.named κ "mask" 0xF149F2CA#32 : Ideal .f32) = (⊥ : EReal) := rfl

/-- A block with the other head's lanes set to zero, `c` the lanes of the first head. -/
theorem half_apply (m : IVec S1024x128 1) (c : ℕ) (hm : ∀ a b, m (ix2 a b) = if b.val < c then 1#1 else 0#1) (h : Fin 2)
    (x : Vec Ideal S1024x128 .bf16) (a : Fin 1024) (b : Fin 128) :
    half h m x (ix2 a b) = if (b.val < c ↔ h = 0) then x (ix2 a b) else 0 := by
  unfold half
  rw [same128]
  by_cases hh : h = 0
  · rw [if_pos hh]
    refine (show _ = Scalar.select (m (ix2 a b)) (x (ix2 a b)) (zb (F := Ideal) (ix2 a b)) from rfl).trans ?_
    rw [hm, sel_ite, zb_apply]
    by_cases hb : b.val < c <;> simp [hb, hh]
  · rw [if_neg hh]
    refine (show _ = Scalar.select (m (ix2 a b)) (zb (F := Ideal) (ix2 a b)) (x (ix2 a b)) from rfl).trans ?_
    rw [hm, sel_ite, zb_apply]
    by_cases hb : b.val < c <;> simp [hb, hh]

/-- A head's queries with the decay's lanes beside them. -/
theorem qcat_left (h : Fin 2) (q qa : Vec Ideal S1024x128 .bf16) (a : Fin 1024) (b : Fin 128) :
    qcat h q qa (ix2 a (⟨b.val, by omega⟩ : Fin 256)) = if (b.val < 64 ↔ h = 0) then q (ix2 a b) else 0 := by
  rw [← half_apply _ 64 lo_apply]
  exact concatenate_pair_apply_left (s₁ := S1024x128) (s₂ := S1024x128) (t := S1024x256) 1 _ _ _ (ix2 a (⟨b.val, by omega⟩ : Fin 256)) rfl (ix2 a b) (fun z => by
    match z with
    | ⟨0, _⟩ => rfl
    | ⟨1, _⟩ => rfl)

theorem qcat_right (h : Fin 2) (q qa : Vec Ideal S1024x128 .bf16) (a : Fin 1024) (b : Fin 128) :
    qcat h q qa (ix2 a (⟨128 + b.val, by omega⟩ : Fin 256)) = if (b.val < 8 ↔ h = 0) then qa (ix2 a b) else 0 := by
  rw [← half_apply _ 8 alo_apply]
  exact concatenate_pair_apply_right (s₁ := S1024x128) (s₂ := S1024x128) (t := S1024x256) 1 _ _ _ (ix2 a (⟨128 + b.val, by omega⟩ : Fin 256)) rfl rfl (ix2 a b) (fun z hz => by
    match z with
    | ⟨0, _⟩ => rfl
    | ⟨1, _⟩ => exact absurd rfl hz) (show b.val + 128 = 128 + b.val from Nat.add_comm _ _)

/-- Keys with the decay's lanes beside them. -/
theorem kcat_left (k ka : Vec Ideal S1024x128 .bf16) (a : Fin 1024) (b : Fin 128) :
    k0_pay60 k ka (ix2 a (⟨b.val, by omega⟩ : Fin 256)) = k (ix2 a b) := by
  unfold k0_pay60 k0_pay59
  dsimp only
  rw [same128, same128]
  exact concatenate_pair_apply_left (s₁ := S1024x128) (s₂ := S1024x128) (t := S1024x256) 1 _ _ _ (ix2 a (⟨b.val, by omega⟩ : Fin 256)) rfl (ix2 a b) (fun z => by
    match z with
    | ⟨0, _⟩ => rfl
    | ⟨1, _⟩ => rfl)

theorem kcat_right (k ka : Vec Ideal S1024x128 .bf16) (a : Fin 1024) (b : Fin 128) :
    k0_pay60 k ka (ix2 a (⟨128 + b.val, by omega⟩ : Fin 256)) = ka (ix2 a b) := by
  unfold k0_pay60 k0_pay59
  dsimp only
  rw [same128, same128]
  exact concatenate_pair_apply_right (s₁ := S1024x128) (s₂ := S1024x128) (t := S1024x256) 1 _ _ _ (ix2 a (⟨128 + b.val, by omega⟩ : Fin 256)) rfl rfl (ix2 a b) (fun z hz => by
    match z with
    | ⟨0, _⟩ => rfl
    | ⟨1, _⟩ => exact absurd rfl hz) (show b.val + 128 = 128 + b.val from Nat.add_comm _ _)

/-- The scores: on the diagonal, −∞ for a key past its query. -/
theorem score_apply (b : Bool) (ka qm : FVec Ideal S1024x256 .bf16) (x y : Fin 1024) :
    score b ka qm (ix2 x y) = if b = true ∧ ¬ x.val ≤ y.val then ⊥ else ∑ k : Fin 256, ka (ix2 x k) * qm (ix2 y k) := by
  unfold score
  cases b
  · rw [if_neg (by simp), if_neg (by simp)]
    exact mm_score _ _ x y
  · rw [if_pos rfl]
    refine (show _ = Scalar.select (k0_pay58 (ix2 x y)) (matmul dot_S1024x256_S1024x256_S1024x1024_1_1_0_0_n_n none ka qm (constant S1024x1024 .f32 0x00000000#32) (ix2 x y))
      (Named.named κ "mask" 0xF149F2CA#32 : Ideal .f32) from rfl).trans ?_
    rw [triu_apply, sel_ite, mm_score, mask_bot]
    by_cases h : x.val ≤ y.val <;> simp [h]

theorem accQ_apply (d x y : FVec Ideal S1024x128 .f32) (a : Fin 1024) (b : Fin 128) :
    accQ d x y (ix2 a b) = d (ix2 a b) + if b.val < 64 then x (ix2 a b) else y (ix2 a b) := by
  unfold accQ
  rw [show shapeCast S1024x128 d shapeCasts_S1024x128_S1024x128 = d from same128 (φ := .f32) d]
  refine congrArg (d (ix2 a b) + ·) ?_
  refine (show _ = Scalar.select (k0_pay56 (ix2 a b)) (x (ix2 a b)) (y (ix2 a b)) from rfl).trans ?_
  rw [lo_apply, sel_ite]

/-! ## What a point leaves, from what it carries -/

theorem pay5_apply (x y : FVec Ideal S1024x128 .f32) (a : Fin 1024) (b : Fin 128) :
    k0_pay5 k0_pay56 x y (ix2 a b) = if b.val < 64 then x (ix2 a b) else y (ix2 a b) := by
  refine (show _ = Scalar.select (k0_pay56 (ix2 a b)) (x (ix2 a b)) (y (ix2 a b)) from rfl).trans ?_
  rw [lo_apply, sel_ite]

theorem pay6_apply (x y : FVec Ideal S1024x128 .f32) (a : Fin 1024) (b : Fin 128) :
    k0_pay6 k0_pay56 x y (ix2 a b) = if b.val < 64 then x (ix2 a b) else y (ix2 a b) := by
  refine (show _ = Scalar.select (k0_pay56 (ix2 a b)) (x (ix2 a b)) (y (ix2 a b)) from rfl).trans ?_
  rw [lo_apply, sel_ite]

theorem col_bcast (x : FVec Ideal S1024x1 .f32) (a : Fin 1024) (b : Fin 128) :
    broadcastTo S1024x128 x broadcasts_S1024x1_S1024x128 (ix2 a b) = x (ix2 a (0 : Fin 1)) :=
  broadcastTo_apply _ _ _ (ix2 a (0 : Fin 1)) (fun z => by
    match z with
    | ⟨0, _⟩ => rfl
    | ⟨1, _⟩ => rfl)

theorem pay7_apply (x y : FVec Ideal S1024x1 .f32) (a : Fin 1024) (b : Fin 128) :
    k0_pay7 k0_pay56 x y (ix2 a b) = -(if b.val < 64 then x (ix2 a (0 : Fin 1)) else y (ix2 a (0 : Fin 1))) := by
  unfold k0_pay7
  rw [same1, same1]
  refine (show _ = (Ideal.ofBits .f32 0x00000000#32 : EReal) - Scalar.select (k0_pay56 (ix2 a b)) (broadcastTo S1024x128 x broadcasts_S1024x1_S1024x128 (ix2 a b))
    (broadcastTo S1024x128 y broadcasts_S1024x1_S1024x128 (ix2 a b)) from rfl).trans ?_
  rw [lo_apply, sel_ite, col_bcast, col_bcast, Ideal.ofBits_zero_f32, zero_sub]

theorem pay54_apply (i : S4096x128.Idx) : k0_pay54 (F := Ideal) i = 0 := Ideal.ofBits_zero_f32
theorem pay62_apply (i : S1024x128.Idx) : k0_pay62 (F := Ideal) i = 0 := Ideal.ofBits_zero_f32
theorem pay63_apply (i : S1024x128.Idx) : k0_pay63 (F := Ideal) i = 0 := Ideal.ofBits_zero_f32
theorem pay64_apply (i : S1024x1.Idx) : k0_pay64 (F := Ideal) i = 0 := Ideal.ofBits_zero_f32
theorem pay55_apply (i : S1x2x4096.Idx) : k0_pay55 (F := Ideal) i = 0 := by
  unfold k0_pay55
  exact Ideal.ofBits_zero_f32

end Cert.KernelIdeal.Tile

end
-- ==== Proof.Host.Read.lean ====
/- The lines before the kernel's call, one operation at a time: `val_<buffer>` is the value an operation writes, as a
   function of the arguments it depends on; `val_<buffer>_apply` reads it at an index from its operands at an index. -/
module

public import proofs.«01_k».proof.Proof.Gen.KernelIdeal.Launch
public import Idealize.ShloMosaic.Lib.Pipeline.Value
public import Idealize.ShloMosaic.Lib.ValueIdx
public import Idealize.ShloMosaic.PureOps.Ideal.Laws

@[expose] public section

noncomputable section

namespace Cert.KernelIdeal.Read

open Cert.KernelIdeal Cert.KernelIdeal.Gen Idealize.ShloMosaic Idealize.ShloMosaic.TcCoe Idealize.SL.Sem Idealize.ShloMosaic.StableHlo

/-- An array's contents. -/
abbrev Arr (F : FTy → Type) (s : Shape) (e : EltTy) := (⟨s, e⟩ : BufTy).Contents (Elt F)

variable {F : FTy → Type} [FloatOps F]

def val_main_cst : Arr F S_ .f32 :=
  constant S_ .f32 0x3E000000#32
theorem val_main_cst_apply (i : S_.Idx) :
    val_main_cst (F := F) i = FloatOps.ofBits .f32 0x3E000000#32 := rfl

def val_main_v0 : Arr F S8x4096x64 .f32 :=
  broadcastInDim S8x4096x64 ![] bcast_S_S8x4096x64 (val_main_cst (F := F))
abbrev idx_main_v0 (i : S8x4096x64.Idx) : S_.Idx := fun a => a.elim0
theorem val_main_v0_apply (i : S8x4096x64.Idx) :
    val_main_v0 (F := F) i = val_main_cst (F := F) (idx_main_v0 i) := by
  unfold val_main_v0
  generalize val_main_cst (F := F) = y
  exact broadcastInDim_apply _ bcast_S_S8x4096x64 y i (idx_main_v0 i) (fun a => a.elim0)

def val_main_v1 (x0 : Arr F S8x4096x64 .f32) : Arr F S8x4096x64 .f32 :=
  mulf (x0) (val_main_v0 (F := F))
theorem val_main_v1_apply (x0 : Arr F S8x4096x64 .f32) (i : S8x4096x64.Idx) :
    val_main_v1 (F := F) x0 i = FloatOps.mulf (x0 i) (val_main_v0 (F := F) i) := rfl

def val_main_v2 (x3 : Arr F S8x4096 .f32) : Arr F S8x4096 .bf16 :=
  truncf .bf16 (x3) bitsLt_bf16_f32
theorem val_main_v2_apply (x3 : Arr F S8x4096 .f32) (i : S8x4096.Idx) :
    val_main_v2 (F := F) x3 i = FloatOps.truncf .bf16 bitsLt_bf16_f32 (x3 i) := rfl

def val_main_v3 (x3 : Arr F S8x4096 .f32) : Arr F S8x4096 .f32 :=
  extf .f32 (val_main_v2 (F := F) x3) bitsLt_bf16_f32
theorem val_main_v3_apply (x3 : Arr F S8x4096 .f32) (i : S8x4096.Idx) :
    val_main_v3 (F := F) x3 i = FloatOps.extf .f32 bitsLt_bf16_f32 (val_main_v2 (F := F) x3 i) := rfl

def val_main_v4 (x3 : Arr F S8x4096 .f32) : Arr F S8x4096 .f32 :=
  subf (x3) (val_main_v3 (F := F) x3)
theorem val_main_v4_apply (x3 : Arr F S8x4096 .f32) (i : S8x4096.Idx) :
    val_main_v4 (F := F) x3 i = FloatOps.subf (x3 i) (val_main_v3 (F := F) x3 i) := rfl

def val_main_v5 (x3 : Arr F S8x4096 .f32) : Arr F S8x4096 .bf16 :=
  truncf .bf16 (val_main_v4 (F := F) x3) bitsLt_bf16_f32
theorem val_main_v5_apply (x3 : Arr F S8x4096 .f32) (i : S8x4096.Idx) :
    val_main_v5 (F := F) x3 i = FloatOps.truncf .bf16 bitsLt_bf16_f32 (val_main_v4 (F := F) x3 i) := rfl

def val_main_v6 (x3 : Arr F S8x4096 .f32) : Arr F S8x4096 .f32 :=
  extf .f32 (val_main_v5 (F := F) x3) bitsLt_bf16_f32
theorem val_main_v6_apply (x3 : Arr F S8x4096 .f32) (i : S8x4096.Idx) :
    val_main_v6 (F := F) x3 i = FloatOps.extf .f32 bitsLt_bf16_f32 (val_main_v5 (F := F) x3 i) := rfl

def val_main_v7 (x3 : Arr F S8x4096 .f32) : Arr F S8x4096 .f32 :=
  subf (val_main_v4 (F := F) x3) (val_main_v6 (F := F) x3)
theorem val_main_v7_apply (x3 : Arr F S8x4096 .f32) (i : S8x4096.Idx) :
    val_main_v7 (F := F) x3 i = FloatOps.subf (val_main_v4 (F := F) x3 i) (val_main_v6 (F := F) x3 i) := rfl

def val_main_v8 (x3 : Arr F S8x4096 .f32) : Arr F S8x4096 .bf16 :=
  truncf .bf16 (val_main_v7 (F := F) x3) bitsLt_bf16_f32
theorem val_main_v8_apply (x3 : Arr F S8x4096 .f32) (i : S8x4096.Idx) :
    val_main_v8 (F := F) x3 i = FloatOps.truncf .bf16 bitsLt_bf16_f32 (val_main_v7 (F := F) x3 i) := rfl

def val_main_v9 (x3 : Arr F S8x4096 .f32) : Arr F S8x4096 .f32 :=
  extf .f32 (val_main_v2 (F := F) x3) bitsLt_bf16_f32
theorem val_main_v9_apply (x3 : Arr F S8x4096 .f32) (i : S8x4096.Idx) :
    val_main_v9 (F := F) x3 i = FloatOps.extf .f32 bitsLt_bf16_f32 (val_main_v2 (F := F) x3 i) := rfl

def val_main_v10 (x3 : Arr F S8x4096 .f32) : Arr F S8x4096 .f32 :=
  extf .f32 (val_main_v5 (F := F) x3) bitsLt_bf16_f32
theorem val_main_v10_apply (x3 : Arr F S8x4096 .f32) (i : S8x4096.Idx) :
    val_main_v10 (F := F) x3 i = FloatOps.extf .f32 bitsLt_bf16_f32 (val_main_v5 (F := F) x3 i) := rfl

def val_main_v11 (x3 : Arr F S8x4096 .f32) : Arr F S8x4096 .f32 :=
  extf .f32 (val_main_v8 (F := F) x3) bitsLt_bf16_f32
theorem val_main_v11_apply (x3 : Arr F S8x4096 .f32) (i : S8x4096.Idx) :
    val_main_v11 (F := F) x3 i = FloatOps.extf .f32 bitsLt_bf16_f32 (val_main_v8 (F := F) x3 i) := rfl

def val_main_cst_0 : Arr F S_ .f32 :=
  constant S_ .f32 0x3F800000#32
theorem val_main_cst_0_apply (i : S_.Idx) :
    val_main_cst_0 (F := F) i = FloatOps.ofBits .f32 0x3F800000#32 := rfl

def val_main_v12 : Arr F S8x4096 .f32 :=
  broadcastInDim S8x4096 ![] bcast_S_S8x4096 (val_main_cst_0 (F := F))
abbrev idx_main_v12 (i : S8x4096.Idx) : S_.Idx := fun a => a.elim0
theorem val_main_v12_apply (i : S8x4096.Idx) :
    val_main_v12 (F := F) i = val_main_cst_0 (F := F) (idx_main_v12 i) := by
  unfold val_main_v12
  generalize val_main_cst_0 (F := F) = y
  exact broadcastInDim_apply _ bcast_S_S8x4096 y i (idx_main_v12 i) (fun a => a.elim0)

def val_main_cst_1 : Arr F S_ .f32 :=
  constant S_ .f32 0x00000000#32
theorem val_main_cst_1_apply (i : S_.Idx) :
    val_main_cst_1 (F := F) i = FloatOps.ofBits .f32 0x00000000#32 := rfl

def val_main_v13 : Arr F S8x4096 .f32 :=
  broadcastInDim S8x4096 ![] bcast_S_S8x4096 (val_main_cst_1 (F := F))
abbrev idx_main_v13 (i : S8x4096.Idx) : S_.Idx := fun a => a.elim0
theorem val_main_v13_apply (i : S8x4096.Idx) :
    val_main_v13 (F := F) i = val_main_cst_1 (F := F) (idx_main_v13 i) := by
  unfold val_main_v13
  generalize val_main_cst_1 (F := F) = y
  exact broadcastInDim_apply _ bcast_S_S8x4096 y i (idx_main_v13 i) (fun a => a.elim0)

def val_main_v14 (x3 : Arr F S8x4096 .f32) : Arr F S8x1x4096 .f32 :=
  broadcastInDim S8x1x4096 ![0, 2] bcast_S8x4096_S8x1x4096_0_2 (val_main_v9 (F := F) x3)
abbrev idx_main_v14 (i : S8x1x4096.Idx) : S8x4096.Idx := fun a => match a with
  | ⟨0, _⟩ => ⟨(i 0).val, (i 0).isLt⟩
  | ⟨1, _⟩ => ⟨(i 2).val, (i 2).isLt⟩
theorem val_main_v14_apply (x3 : Arr F S8x4096 .f32) (i : S8x1x4096.Idx) :
    val_main_v14 (F := F) x3 i = val_main_v9 (F := F) x3 (idx_main_v14 i) := by
  unfold val_main_v14
  generalize val_main_v9 (F := F) x3 = y
  exact broadcastInDim_apply _ bcast_S8x4096_S8x1x4096_0_2 y i (idx_main_v14 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v15 (x3 : Arr F S8x4096 .f32) : Arr F S8x1x4096 .f32 :=
  broadcastInDim S8x1x4096 ![0, 2] bcast_S8x4096_S8x1x4096_0_2 (val_main_v10 (F := F) x3)
abbrev idx_main_v15 (i : S8x1x4096.Idx) : S8x4096.Idx := fun a => match a with
  | ⟨0, _⟩ => ⟨(i 0).val, (i 0).isLt⟩
  | ⟨1, _⟩ => ⟨(i 2).val, (i 2).isLt⟩
theorem val_main_v15_apply (x3 : Arr F S8x4096 .f32) (i : S8x1x4096.Idx) :
    val_main_v15 (F := F) x3 i = val_main_v10 (F := F) x3 (idx_main_v15 i) := by
  unfold val_main_v15
  generalize val_main_v10 (F := F) x3 = y
  exact broadcastInDim_apply _ bcast_S8x4096_S8x1x4096_0_2 y i (idx_main_v15 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v16 (x3 : Arr F S8x4096 .f32) : Arr F S8x1x4096 .f32 :=
  broadcastInDim S8x1x4096 ![0, 2] bcast_S8x4096_S8x1x4096_0_2 (val_main_v11 (F := F) x3)
abbrev idx_main_v16 (i : S8x1x4096.Idx) : S8x4096.Idx := fun a => match a with
  | ⟨0, _⟩ => ⟨(i 0).val, (i 0).isLt⟩
  | ⟨1, _⟩ => ⟨(i 2).val, (i 2).isLt⟩
theorem val_main_v16_apply (x3 : Arr F S8x4096 .f32) (i : S8x1x4096.Idx) :
    val_main_v16 (F := F) x3 i = val_main_v11 (F := F) x3 (idx_main_v16 i) := by
  unfold val_main_v16
  generalize val_main_v11 (F := F) x3 = y
  exact broadcastInDim_apply _ bcast_S8x4096_S8x1x4096_0_2 y i (idx_main_v16 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v17 : Arr F S8x1x4096 .f32 :=
  broadcastInDim S8x1x4096 ![0, 2] bcast_S8x4096_S8x1x4096_0_2 (val_main_v12 (F := F))
abbrev idx_main_v17 (i : S8x1x4096.Idx) : S8x4096.Idx := fun a => match a with
  | ⟨0, _⟩ => ⟨(i 0).val, (i 0).isLt⟩
  | ⟨1, _⟩ => ⟨(i 2).val, (i 2).isLt⟩
theorem val_main_v17_apply (i : S8x1x4096.Idx) :
    val_main_v17 (F := F) i = val_main_v12 (F := F) (idx_main_v17 i) := by
  unfold val_main_v17
  generalize val_main_v12 (F := F) = y
  exact broadcastInDim_apply _ bcast_S8x4096_S8x1x4096_0_2 y i (idx_main_v17 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v18 : Arr F S8x1x4096 .f32 :=
  broadcastInDim S8x1x4096 ![0, 2] bcast_S8x4096_S8x1x4096_0_2 (val_main_v12 (F := F))
abbrev idx_main_v18 (i : S8x1x4096.Idx) : S8x4096.Idx := fun a => match a with
  | ⟨0, _⟩ => ⟨(i 0).val, (i 0).isLt⟩
  | ⟨1, _⟩ => ⟨(i 2).val, (i 2).isLt⟩
theorem val_main_v18_apply (i : S8x1x4096.Idx) :
    val_main_v18 (F := F) i = val_main_v12 (F := F) (idx_main_v18 i) := by
  unfold val_main_v18
  generalize val_main_v12 (F := F) = y
  exact broadcastInDim_apply _ bcast_S8x4096_S8x1x4096_0_2 y i (idx_main_v18 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v19 : Arr F S8x1x4096 .f32 :=
  broadcastInDim S8x1x4096 ![0, 2] bcast_S8x4096_S8x1x4096_0_2 (val_main_v12 (F := F))
abbrev idx_main_v19 (i : S8x1x4096.Idx) : S8x4096.Idx := fun a => match a with
  | ⟨0, _⟩ => ⟨(i 0).val, (i 0).isLt⟩
  | ⟨1, _⟩ => ⟨(i 2).val, (i 2).isLt⟩
theorem val_main_v19_apply (i : S8x1x4096.Idx) :
    val_main_v19 (F := F) i = val_main_v12 (F := F) (idx_main_v19 i) := by
  unfold val_main_v19
  generalize val_main_v12 (F := F) = y
  exact broadcastInDim_apply _ bcast_S8x4096_S8x1x4096_0_2 y i (idx_main_v19 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v20 : Arr F S8x1x4096 .f32 :=
  broadcastInDim S8x1x4096 ![0, 2] bcast_S8x4096_S8x1x4096_0_2 (val_main_v13 (F := F))
abbrev idx_main_v20 (i : S8x1x4096.Idx) : S8x4096.Idx := fun a => match a with
  | ⟨0, _⟩ => ⟨(i 0).val, (i 0).isLt⟩
  | ⟨1, _⟩ => ⟨(i 2).val, (i 2).isLt⟩
theorem val_main_v20_apply (i : S8x1x4096.Idx) :
    val_main_v20 (F := F) i = val_main_v13 (F := F) (idx_main_v20 i) := by
  unfold val_main_v20
  generalize val_main_v13 (F := F) = y
  exact broadcastInDim_apply _ bcast_S8x4096_S8x1x4096_0_2 y i (idx_main_v20 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v21 : Arr F S8x1x4096 .f32 :=
  broadcastInDim S8x1x4096 ![0, 2] bcast_S8x4096_S8x1x4096_0_2 (val_main_v13 (F := F))
abbrev idx_main_v21 (i : S8x1x4096.Idx) : S8x4096.Idx := fun a => match a with
  | ⟨0, _⟩ => ⟨(i 0).val, (i 0).isLt⟩
  | ⟨1, _⟩ => ⟨(i 2).val, (i 2).isLt⟩
theorem val_main_v21_apply (i : S8x1x4096.Idx) :
    val_main_v21 (F := F) i = val_main_v13 (F := F) (idx_main_v21 i) := by
  unfold val_main_v21
  generalize val_main_v13 (F := F) = y
  exact broadcastInDim_apply _ bcast_S8x4096_S8x1x4096_0_2 y i (idx_main_v21 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v22 (x3 : Arr F S8x4096 .f32) : Arr F S8x8x4096 .f32 :=
  (concatenate S8x8x4096 1 [⟨S8x1x4096, ((val_main_v14 (F := F) x3) : Arr F S8x1x4096 .f32)⟩, ⟨S8x1x4096, ((val_main_v15 (F := F) x3) : Arr F S8x1x4096 .f32)⟩, ⟨S8x1x4096, ((val_main_v16 (F := F) x3) : Arr F S8x1x4096 .f32)⟩, ⟨S8x1x4096, ((val_main_v17 (F := F)) : Arr F S8x1x4096 .f32)⟩, ⟨S8x1x4096, ((val_main_v18 (F := F)) : Arr F S8x1x4096 .f32)⟩, ⟨S8x1x4096, ((val_main_v19 (F := F)) : Arr F S8x1x4096 .f32)⟩, ⟨S8x1x4096, ((val_main_v20 (F := F)) : Arr F S8x1x4096 .f32)⟩, ⟨S8x1x4096, ((val_main_v21 (F := F)) : Arr F S8x1x4096 .f32)⟩] concatenates_S8x1x4096_S8x1x4096_S8x1x4096_S8x1x4096_S8x1x4096_S8x1x4096_S8x1x4096_S8x1x4096_S8x8x4096_d1 : Arr F S8x8x4096 .f32)

def val_main_v23 (x3 : Arr F S8x4096 .f32) : Arr F S4x16x4096 .f32 :=
  shapeCast _ (val_main_v22 (F := F) x3) shapeCasts_S8x8x4096_S4x16x4096
set_option backward.proofsInPublic true in
abbrev idx_main_v23 (i : S4x16x4096.Idx) : S8x8x4096.Idx := fun a => match a with
  | ⟨0, _⟩ => ⟨(((i 0).val * 16 + (i 1).val) * 4096 + (i 2).val) / 32768, by have h0 : (i 0).val < 4 := (i 0).isLt; have h1 : (i 1).val < 16 := (i 1).isLt; have h2 : (i 2).val < 4096 := (i 2).isLt; show (((i 0).val * 16 + (i 1).val) * 4096 + (i 2).val) / 32768 < 8; omega⟩
  | ⟨1, _⟩ => ⟨(((i 0).val * 16 + (i 1).val) * 4096 + (i 2).val) / 4096 % 8, by have h0 : (i 0).val < 4 := (i 0).isLt; have h1 : (i 1).val < 16 := (i 1).isLt; have h2 : (i 2).val < 4096 := (i 2).isLt; show (((i 0).val * 16 + (i 1).val) * 4096 + (i 2).val) / 4096 % 8 < 8; omega⟩
  | ⟨2, _⟩ => ⟨(((i 0).val * 16 + (i 1).val) * 4096 + (i 2).val) % 4096, by have h0 : (i 0).val < 4 := (i 0).isLt; have h1 : (i 1).val < 16 := (i 1).isLt; have h2 : (i 2).val < 4096 := (i 2).isLt; show (((i 0).val * 16 + (i 1).val) * 4096 + (i 2).val) % 4096 < 4096; omega⟩
theorem val_main_v23_apply (x3 : Arr F S8x4096 .f32) (i : S4x16x4096.Idx) :
    val_main_v23 (F := F) x3 i = val_main_v22 (F := F) x3 (idx_main_v23 i) := by
  unfold val_main_v23
  generalize val_main_v22 (F := F) x3 = y
  exact shapeCast_apply y shapeCasts_S8x8x4096_S4x16x4096 i (idx_main_v23 i)
    (by rewrite [Shape.rowMajor_val_three, Shape.rowMajor_val_three]; have h0 : (i 0).val < 4 := (i 0).isLt; have h1 : (i 1).val < 16 := (i 1).isLt; have h2 : (i 2).val < 4096 := (i 2).isLt; show ((((i 0).val * 16 + (i 1).val) * 4096 + (i 2).val) / 32768 * 8 + (((i 0).val * 16 + (i 1).val) * 4096 + (i 2).val) / 4096 % 8) * 4096 + (((i 0).val * 16 + (i 1).val) * 4096 + (i 2).val) % 4096 = ((i 0).val * 16 + (i 1).val) * 4096 + (i 2).val; omega)

def val_main_c : Arr F S_ .i32 :=
  constantI S_ 32 0#32
theorem val_main_c_apply (i : S_.Idx) :
    val_main_c (F := F) i = 0#32 := rfl

def val_main_call0_v0 : Arr F S_ .f32 :=
  sitofp .f32 (val_main_c (F := F))
theorem val_main_call0_v0_apply (i : S_.Idx) :
    val_main_call0_v0 (F := F) i = FloatOps.sitofp .f32 (val_main_c (F := F) i) := rfl

def val_main_v24 (x3 : Arr F S8x4096 .f32) : Arr F S4x128x4096 .f32 :=
  pad S4x128x4096 ![0, 0, 0] ![0, 112, 0] ![0, 0, 0] (val_main_v23 (F := F) x3) (val_main_call0_v0 (F := F)) pads_S4x16x4096_S4x128x4096_000_01120_000 h_S_

def val_main_v25 (x3 : Arr F S8x4096 .f32) : Arr F S512x4096 .f32 :=
  shapeCast _ (val_main_v24 (F := F) x3) shapeCasts_S4x128x4096_S512x4096
set_option backward.proofsInPublic true in
abbrev idx_main_v25 (i : S512x4096.Idx) : S4x128x4096.Idx := fun a => match a with
  | ⟨0, _⟩ => ⟨((i 0).val * 4096 + (i 1).val) / 524288, by have h0 : (i 0).val < 512 := (i 0).isLt; have h1 : (i 1).val < 4096 := (i 1).isLt; show ((i 0).val * 4096 + (i 1).val) / 524288 < 4; omega⟩
  | ⟨1, _⟩ => ⟨((i 0).val * 4096 + (i 1).val) / 4096 % 128, by have h0 : (i 0).val < 512 := (i 0).isLt; have h1 : (i 1).val < 4096 := (i 1).isLt; show ((i 0).val * 4096 + (i 1).val) / 4096 % 128 < 128; omega⟩
  | ⟨2, _⟩ => ⟨((i 0).val * 4096 + (i 1).val) % 4096, by have h0 : (i 0).val < 512 := (i 0).isLt; have h1 : (i 1).val < 4096 := (i 1).isLt; show ((i 0).val * 4096 + (i 1).val) % 4096 < 4096; omega⟩
theorem val_main_v25_apply (x3 : Arr F S8x4096 .f32) (i : S512x4096.Idx) :
    val_main_v25 (F := F) x3 i = val_main_v24 (F := F) x3 (idx_main_v25 i) := by
  unfold val_main_v25
  generalize val_main_v24 (F := F) x3 = y
  exact shapeCast_apply y shapeCasts_S4x128x4096_S512x4096 i (idx_main_v25 i)
    (by rewrite [Shape.rowMajor_val_three, Shape.rowMajor_val_two]; have h0 : (i 0).val < 512 := (i 0).isLt; have h1 : (i 1).val < 4096 := (i 1).isLt; show (((i 0).val * 4096 + (i 1).val) / 524288 * 128 + ((i 0).val * 4096 + (i 1).val) / 4096 % 128) * 4096 + ((i 0).val * 4096 + (i 1).val) % 4096 = (i 0).val * 4096 + (i 1).val; omega)

def val_main_v26 (x3 : Arr F S8x4096 .f32) : Arr F S4096x512 .f32 :=
  transpose S4096x512 [1, 0] (val_main_v25 (F := F) x3) transposes_S512x4096_S4096x512_1_0
abbrev idx_main_v26 (i : S4096x512.Idx) : S512x4096.Idx := fun a => match a with
  | ⟨0, _⟩ => ⟨(i 1).val, (i 1).isLt⟩
  | ⟨1, _⟩ => ⟨(i 0).val, (i 0).isLt⟩
theorem val_main_v26_apply (x3 : Arr F S8x4096 .f32) (i : S4096x512.Idx) :
    val_main_v26 (F := F) x3 i = val_main_v25 (F := F) x3 (idx_main_v26 i) := by
  unfold val_main_v26
  generalize val_main_v25 (F := F) x3 = y
  exact transpose_apply [1, 0] y transposes_S512x4096_S4096x512_1_0 i (idx_main_v26 i) (fun b => match b with
    | ⟨0, _⟩ => rfl
    | ⟨1, _⟩ => rfl)

def val_main_v27 (x3 : Arr F S8x4096 .f32) : Arr F S4096x512 .bf16 :=
  truncf .bf16 (val_main_v26 (F := F) x3) bitsLt_bf16_f32
theorem val_main_v27_apply (x3 : Arr F S8x4096 .f32) (i : S4096x512.Idx) :
    val_main_v27 (F := F) x3 i = FloatOps.truncf .bf16 bitsLt_bf16_f32 (val_main_v26 (F := F) x3 i) := rfl

def val_main_v28 (x3 : Arr F S8x4096 .f32) : Arr F S8x4096 .f32 :=
  Host.negf (val_main_v9 (F := F) x3)
theorem val_main_v28_apply (x3 : Arr F S8x4096 .f32) (i : S8x4096.Idx) :
    val_main_v28 (F := F) x3 i = FloatOps.hostNegf (val_main_v9 (F := F) x3 i) := rfl

def val_main_v29 (x3 : Arr F S8x4096 .f32) : Arr F S8x4096 .f32 :=
  Host.negf (val_main_v10 (F := F) x3)
theorem val_main_v29_apply (x3 : Arr F S8x4096 .f32) (i : S8x4096.Idx) :
    val_main_v29 (F := F) x3 i = FloatOps.hostNegf (val_main_v10 (F := F) x3 i) := rfl

def val_main_v30 (x3 : Arr F S8x4096 .f32) : Arr F S8x4096 .f32 :=
  Host.negf (val_main_v11 (F := F) x3)
theorem val_main_v30_apply (x3 : Arr F S8x4096 .f32) (i : S8x4096.Idx) :
    val_main_v30 (F := F) x3 i = FloatOps.hostNegf (val_main_v11 (F := F) x3 i) := rfl

def val_main_v31 : Arr F S8x1x4096 .f32 :=
  broadcastInDim S8x1x4096 ![0, 2] bcast_S8x4096_S8x1x4096_0_2 (val_main_v12 (F := F))
abbrev idx_main_v31 (i : S8x1x4096.Idx) : S8x4096.Idx := fun a => match a with
  | ⟨0, _⟩ => ⟨(i 0).val, (i 0).isLt⟩
  | ⟨1, _⟩ => ⟨(i 2).val, (i 2).isLt⟩
theorem val_main_v31_apply (i : S8x1x4096.Idx) :
    val_main_v31 (F := F) i = val_main_v12 (F := F) (idx_main_v31 i) := by
  unfold val_main_v31
  generalize val_main_v12 (F := F) = y
  exact broadcastInDim_apply _ bcast_S8x4096_S8x1x4096_0_2 y i (idx_main_v31 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v32 : Arr F S8x1x4096 .f32 :=
  broadcastInDim S8x1x4096 ![0, 2] bcast_S8x4096_S8x1x4096_0_2 (val_main_v12 (F := F))
abbrev idx_main_v32 (i : S8x1x4096.Idx) : S8x4096.Idx := fun a => match a with
  | ⟨0, _⟩ => ⟨(i 0).val, (i 0).isLt⟩
  | ⟨1, _⟩ => ⟨(i 2).val, (i 2).isLt⟩
theorem val_main_v32_apply (i : S8x1x4096.Idx) :
    val_main_v32 (F := F) i = val_main_v12 (F := F) (idx_main_v32 i) := by
  unfold val_main_v32
  generalize val_main_v12 (F := F) = y
  exact broadcastInDim_apply _ bcast_S8x4096_S8x1x4096_0_2 y i (idx_main_v32 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v33 : Arr F S8x1x4096 .f32 :=
  broadcastInDim S8x1x4096 ![0, 2] bcast_S8x4096_S8x1x4096_0_2 (val_main_v12 (F := F))
abbrev idx_main_v33 (i : S8x1x4096.Idx) : S8x4096.Idx := fun a => match a with
  | ⟨0, _⟩ => ⟨(i 0).val, (i 0).isLt⟩
  | ⟨1, _⟩ => ⟨(i 2).val, (i 2).isLt⟩
theorem val_main_v33_apply (i : S8x1x4096.Idx) :
    val_main_v33 (F := F) i = val_main_v12 (F := F) (idx_main_v33 i) := by
  unfold val_main_v33
  generalize val_main_v12 (F := F) = y
  exact broadcastInDim_apply _ bcast_S8x4096_S8x1x4096_0_2 y i (idx_main_v33 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v34 (x3 : Arr F S8x4096 .f32) : Arr F S8x1x4096 .f32 :=
  broadcastInDim S8x1x4096 ![0, 2] bcast_S8x4096_S8x1x4096_0_2 (val_main_v28 (F := F) x3)
abbrev idx_main_v34 (i : S8x1x4096.Idx) : S8x4096.Idx := fun a => match a with
  | ⟨0, _⟩ => ⟨(i 0).val, (i 0).isLt⟩
  | ⟨1, _⟩ => ⟨(i 2).val, (i 2).isLt⟩
theorem val_main_v34_apply (x3 : Arr F S8x4096 .f32) (i : S8x1x4096.Idx) :
    val_main_v34 (F := F) x3 i = val_main_v28 (F := F) x3 (idx_main_v34 i) := by
  unfold val_main_v34
  generalize val_main_v28 (F := F) x3 = y
  exact broadcastInDim_apply _ bcast_S8x4096_S8x1x4096_0_2 y i (idx_main_v34 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v35 (x3 : Arr F S8x4096 .f32) : Arr F S8x1x4096 .f32 :=
  broadcastInDim S8x1x4096 ![0, 2] bcast_S8x4096_S8x1x4096_0_2 (val_main_v29 (F := F) x3)
abbrev idx_main_v35 (i : S8x1x4096.Idx) : S8x4096.Idx := fun a => match a with
  | ⟨0, _⟩ => ⟨(i 0).val, (i 0).isLt⟩
  | ⟨1, _⟩ => ⟨(i 2).val, (i 2).isLt⟩
theorem val_main_v35_apply (x3 : Arr F S8x4096 .f32) (i : S8x1x4096.Idx) :
    val_main_v35 (F := F) x3 i = val_main_v29 (F := F) x3 (idx_main_v35 i) := by
  unfold val_main_v35
  generalize val_main_v29 (F := F) x3 = y
  exact broadcastInDim_apply _ bcast_S8x4096_S8x1x4096_0_2 y i (idx_main_v35 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v36 (x3 : Arr F S8x4096 .f32) : Arr F S8x1x4096 .f32 :=
  broadcastInDim S8x1x4096 ![0, 2] bcast_S8x4096_S8x1x4096_0_2 (val_main_v30 (F := F) x3)
abbrev idx_main_v36 (i : S8x1x4096.Idx) : S8x4096.Idx := fun a => match a with
  | ⟨0, _⟩ => ⟨(i 0).val, (i 0).isLt⟩
  | ⟨1, _⟩ => ⟨(i 2).val, (i 2).isLt⟩
theorem val_main_v36_apply (x3 : Arr F S8x4096 .f32) (i : S8x1x4096.Idx) :
    val_main_v36 (F := F) x3 i = val_main_v30 (F := F) x3 (idx_main_v36 i) := by
  unfold val_main_v36
  generalize val_main_v30 (F := F) x3 = y
  exact broadcastInDim_apply _ bcast_S8x4096_S8x1x4096_0_2 y i (idx_main_v36 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v37 : Arr F S8x1x4096 .f32 :=
  broadcastInDim S8x1x4096 ![0, 2] bcast_S8x4096_S8x1x4096_0_2 (val_main_v13 (F := F))
abbrev idx_main_v37 (i : S8x1x4096.Idx) : S8x4096.Idx := fun a => match a with
  | ⟨0, _⟩ => ⟨(i 0).val, (i 0).isLt⟩
  | ⟨1, _⟩ => ⟨(i 2).val, (i 2).isLt⟩
theorem val_main_v37_apply (i : S8x1x4096.Idx) :
    val_main_v37 (F := F) i = val_main_v13 (F := F) (idx_main_v37 i) := by
  unfold val_main_v37
  generalize val_main_v13 (F := F) = y
  exact broadcastInDim_apply _ bcast_S8x4096_S8x1x4096_0_2 y i (idx_main_v37 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v38 : Arr F S8x1x4096 .f32 :=
  broadcastInDim S8x1x4096 ![0, 2] bcast_S8x4096_S8x1x4096_0_2 (val_main_v13 (F := F))
abbrev idx_main_v38 (i : S8x1x4096.Idx) : S8x4096.Idx := fun a => match a with
  | ⟨0, _⟩ => ⟨(i 0).val, (i 0).isLt⟩
  | ⟨1, _⟩ => ⟨(i 2).val, (i 2).isLt⟩
theorem val_main_v38_apply (i : S8x1x4096.Idx) :
    val_main_v38 (F := F) i = val_main_v13 (F := F) (idx_main_v38 i) := by
  unfold val_main_v38
  generalize val_main_v13 (F := F) = y
  exact broadcastInDim_apply _ bcast_S8x4096_S8x1x4096_0_2 y i (idx_main_v38 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v39 (x3 : Arr F S8x4096 .f32) : Arr F S8x8x4096 .f32 :=
  (concatenate S8x8x4096 1 [⟨S8x1x4096, ((val_main_v31 (F := F)) : Arr F S8x1x4096 .f32)⟩, ⟨S8x1x4096, ((val_main_v32 (F := F)) : Arr F S8x1x4096 .f32)⟩, ⟨S8x1x4096, ((val_main_v33 (F := F)) : Arr F S8x1x4096 .f32)⟩, ⟨S8x1x4096, ((val_main_v34 (F := F) x3) : Arr F S8x1x4096 .f32)⟩, ⟨S8x1x4096, ((val_main_v35 (F := F) x3) : Arr F S8x1x4096 .f32)⟩, ⟨S8x1x4096, ((val_main_v36 (F := F) x3) : Arr F S8x1x4096 .f32)⟩, ⟨S8x1x4096, ((val_main_v37 (F := F)) : Arr F S8x1x4096 .f32)⟩, ⟨S8x1x4096, ((val_main_v38 (F := F)) : Arr F S8x1x4096 .f32)⟩] concatenates_S8x1x4096_S8x1x4096_S8x1x4096_S8x1x4096_S8x1x4096_S8x1x4096_S8x1x4096_S8x1x4096_S8x8x4096_d1 : Arr F S8x8x4096 .f32)

def val_main_v40 (x3 : Arr F S8x4096 .f32) : Arr F S4x16x4096 .f32 :=
  shapeCast _ (val_main_v39 (F := F) x3) shapeCasts_S8x8x4096_S4x16x4096
set_option backward.proofsInPublic true in
abbrev idx_main_v40 (i : S4x16x4096.Idx) : S8x8x4096.Idx := fun a => match a with
  | ⟨0, _⟩ => ⟨(((i 0).val * 16 + (i 1).val) * 4096 + (i 2).val) / 32768, by have h0 : (i 0).val < 4 := (i 0).isLt; have h1 : (i 1).val < 16 := (i 1).isLt; have h2 : (i 2).val < 4096 := (i 2).isLt; show (((i 0).val * 16 + (i 1).val) * 4096 + (i 2).val) / 32768 < 8; omega⟩
  | ⟨1, _⟩ => ⟨(((i 0).val * 16 + (i 1).val) * 4096 + (i 2).val) / 4096 % 8, by have h0 : (i 0).val < 4 := (i 0).isLt; have h1 : (i 1).val < 16 := (i 1).isLt; have h2 : (i 2).val < 4096 := (i 2).isLt; show (((i 0).val * 16 + (i 1).val) * 4096 + (i 2).val) / 4096 % 8 < 8; omega⟩
  | ⟨2, _⟩ => ⟨(((i 0).val * 16 + (i 1).val) * 4096 + (i 2).val) % 4096, by have h0 : (i 0).val < 4 := (i 0).isLt; have h1 : (i 1).val < 16 := (i 1).isLt; have h2 : (i 2).val < 4096 := (i 2).isLt; show (((i 0).val * 16 + (i 1).val) * 4096 + (i 2).val) % 4096 < 4096; omega⟩
theorem val_main_v40_apply (x3 : Arr F S8x4096 .f32) (i : S4x16x4096.Idx) :
    val_main_v40 (F := F) x3 i = val_main_v39 (F := F) x3 (idx_main_v40 i) := by
  unfold val_main_v40
  generalize val_main_v39 (F := F) x3 = y
  exact shapeCast_apply y shapeCasts_S8x8x4096_S4x16x4096 i (idx_main_v40 i)
    (by rewrite [Shape.rowMajor_val_three, Shape.rowMajor_val_three]; have h0 : (i 0).val < 4 := (i 0).isLt; have h1 : (i 1).val < 16 := (i 1).isLt; have h2 : (i 2).val < 4096 := (i 2).isLt; show ((((i 0).val * 16 + (i 1).val) * 4096 + (i 2).val) / 32768 * 8 + (((i 0).val * 16 + (i 1).val) * 4096 + (i 2).val) / 4096 % 8) * 4096 + (((i 0).val * 16 + (i 1).val) * 4096 + (i 2).val) % 4096 = ((i 0).val * 16 + (i 1).val) * 4096 + (i 2).val; omega)

def val_main_c_2 : Arr F S_ .i32 :=
  constantI S_ 32 0#32
theorem val_main_c_2_apply (i : S_.Idx) :
    val_main_c_2 (F := F) i = 0#32 := rfl

def val_main_call1_v0 : Arr F S_ .f32 :=
  sitofp .f32 (val_main_c_2 (F := F))
theorem val_main_call1_v0_apply (i : S_.Idx) :
    val_main_call1_v0 (F := F) i = FloatOps.sitofp .f32 (val_main_c_2 (F := F) i) := rfl

def val_main_v41 (x3 : Arr F S8x4096 .f32) : Arr F S4x128x4096 .f32 :=
  pad S4x128x4096 ![0, 0, 0] ![0, 112, 0] ![0, 0, 0] (val_main_v40 (F := F) x3) (val_main_call1_v0 (F := F)) pads_S4x16x4096_S4x128x4096_000_01120_000 h_S_

def val_main_v42 (x3 : Arr F S8x4096 .f32) : Arr F S512x4096 .f32 :=
  shapeCast _ (val_main_v41 (F := F) x3) shapeCasts_S4x128x4096_S512x4096
set_option backward.proofsInPublic true in
abbrev idx_main_v42 (i : S512x4096.Idx) : S4x128x4096.Idx := fun a => match a with
  | ⟨0, _⟩ => ⟨((i 0).val * 4096 + (i 1).val) / 524288, by have h0 : (i 0).val < 512 := (i 0).isLt; have h1 : (i 1).val < 4096 := (i 1).isLt; show ((i 0).val * 4096 + (i 1).val) / 524288 < 4; omega⟩
  | ⟨1, _⟩ => ⟨((i 0).val * 4096 + (i 1).val) / 4096 % 128, by have h0 : (i 0).val < 512 := (i 0).isLt; have h1 : (i 1).val < 4096 := (i 1).isLt; show ((i 0).val * 4096 + (i 1).val) / 4096 % 128 < 128; omega⟩
  | ⟨2, _⟩ => ⟨((i 0).val * 4096 + (i 1).val) % 4096, by have h0 : (i 0).val < 512 := (i 0).isLt; have h1 : (i 1).val < 4096 := (i 1).isLt; show ((i 0).val * 4096 + (i 1).val) % 4096 < 4096; omega⟩
theorem val_main_v42_apply (x3 : Arr F S8x4096 .f32) (i : S512x4096.Idx) :
    val_main_v42 (F := F) x3 i = val_main_v41 (F := F) x3 (idx_main_v42 i) := by
  unfold val_main_v42
  generalize val_main_v41 (F := F) x3 = y
  exact shapeCast_apply y shapeCasts_S4x128x4096_S512x4096 i (idx_main_v42 i)
    (by rewrite [Shape.rowMajor_val_three, Shape.rowMajor_val_two]; have h0 : (i 0).val < 512 := (i 0).isLt; have h1 : (i 1).val < 4096 := (i 1).isLt; show (((i 0).val * 4096 + (i 1).val) / 524288 * 128 + ((i 0).val * 4096 + (i 1).val) / 4096 % 128) * 4096 + ((i 0).val * 4096 + (i 1).val) % 4096 = (i 0).val * 4096 + (i 1).val; omega)

def val_main_v43 (x3 : Arr F S8x4096 .f32) : Arr F S4096x512 .f32 :=
  transpose S4096x512 [1, 0] (val_main_v42 (F := F) x3) transposes_S512x4096_S4096x512_1_0
abbrev idx_main_v43 (i : S4096x512.Idx) : S512x4096.Idx := fun a => match a with
  | ⟨0, _⟩ => ⟨(i 1).val, (i 1).isLt⟩
  | ⟨1, _⟩ => ⟨(i 0).val, (i 0).isLt⟩
theorem val_main_v43_apply (x3 : Arr F S8x4096 .f32) (i : S4096x512.Idx) :
    val_main_v43 (F := F) x3 i = val_main_v42 (F := F) x3 (idx_main_v43 i) := by
  unfold val_main_v43
  generalize val_main_v42 (F := F) x3 = y
  exact transpose_apply [1, 0] y transposes_S512x4096_S4096x512_1_0 i (idx_main_v43 i) (fun b => match b with
    | ⟨0, _⟩ => rfl
    | ⟨1, _⟩ => rfl)

def val_main_v44 (x3 : Arr F S8x4096 .f32) : Arr F S4096x512 .bf16 :=
  truncf .bf16 (val_main_v43 (F := F) x3) bitsLt_bf16_f32
theorem val_main_v44_apply (x3 : Arr F S8x4096 .f32) (i : S4096x512.Idx) :
    val_main_v44 (F := F) x3 i = FloatOps.truncf .bf16 bitsLt_bf16_f32 (val_main_v43 (F := F) x3 i) := rfl

def val_main_v45 (x0 x1 : Arr F S8x4096x64 .f32) : Arr F S8x4096x4096 .f32 :=
  Host.dotGeneral dot_S8x4096x64_S8x4096x64_S8x4096x4096_2_2_1_1_0_0 none (val_main_v1 (F := F) x0) (x1)
theorem lhs_main_v45_0 (i : S8x4096x4096.Idx) (q : dot_S8x4096x64_S8x4096x64_S8x4096x4096_2_2_1_1_0_0.contr.Idx) :
    (dot_S8x4096x64_S8x4096x64_S8x4096x4096_2_2_1_1_0_0.lhsIdx i q 0).val = (i 0).val := by
  unfold DotDims.lhsIdx
  rw [dif_pos (show (0 : Fin S8x4096x64.rank) ∈ dot_S8x4096x64_S8x4096x64_S8x4096x4096_2_2_1_1_0_0.lhsBatch by decide)]
  rfl
theorem lhs_main_v45_1 (i : S8x4096x4096.Idx) (q : dot_S8x4096x64_S8x4096x64_S8x4096x4096_2_2_1_1_0_0.contr.Idx) :
    (dot_S8x4096x64_S8x4096x64_S8x4096x4096_2_2_1_1_0_0.lhsIdx i q 1).val = (i 1).val := by
  unfold DotDims.lhsIdx
  rw [dif_neg (show ¬(1 : Fin S8x4096x64.rank) ∈ dot_S8x4096x64_S8x4096x64_S8x4096x4096_2_2_1_1_0_0.lhsBatch by decide), dif_pos (show (1 : Fin S8x4096x64.rank) ∈ dot_S8x4096x64_S8x4096x64_S8x4096x4096_2_2_1_1_0_0.lhsNonContracting by decide)]
  rfl
theorem lhs_main_v45_2 (i : S8x4096x4096.Idx) (q : dot_S8x4096x64_S8x4096x64_S8x4096x4096_2_2_1_1_0_0.contr.Idx) :
    (dot_S8x4096x64_S8x4096x64_S8x4096x4096_2_2_1_1_0_0.lhsIdx i q 2).val = (q ⟨0, by decide⟩).val :=
  dot_S8x4096x64_S8x4096x64_S8x4096x4096_2_2_1_1_0_0.lhsIdx_val_of_single rfl i q
theorem rhs_main_v45_0 (i : S8x4096x4096.Idx) (q : dot_S8x4096x64_S8x4096x64_S8x4096x4096_2_2_1_1_0_0.contr.Idx) :
    (dot_S8x4096x64_S8x4096x64_S8x4096x4096_2_2_1_1_0_0.rhsIdx i q 0).val = (i 0).val := by
  unfold DotDims.rhsIdx
  rw [dif_pos (show (0 : Fin S8x4096x64.rank) ∈ dot_S8x4096x64_S8x4096x64_S8x4096x4096_2_2_1_1_0_0.rhsBatch by decide)]
  rfl
theorem rhs_main_v45_1 (i : S8x4096x4096.Idx) (q : dot_S8x4096x64_S8x4096x64_S8x4096x4096_2_2_1_1_0_0.contr.Idx) :
    (dot_S8x4096x64_S8x4096x64_S8x4096x4096_2_2_1_1_0_0.rhsIdx i q 1).val = (i 2).val := by
  unfold DotDims.rhsIdx
  rw [dif_neg (show ¬(1 : Fin S8x4096x64.rank) ∈ dot_S8x4096x64_S8x4096x64_S8x4096x4096_2_2_1_1_0_0.rhsBatch by decide), dif_pos (show (1 : Fin S8x4096x64.rank) ∈ dot_S8x4096x64_S8x4096x64_S8x4096x4096_2_2_1_1_0_0.rhsNonContracting by decide)]
  rfl
theorem rhs_main_v45_2 (i : S8x4096x4096.Idx) (q : dot_S8x4096x64_S8x4096x64_S8x4096x4096_2_2_1_1_0_0.contr.Idx) :
    (dot_S8x4096x64_S8x4096x64_S8x4096x4096_2_2_1_1_0_0.rhsIdx i q 2).val = (q ⟨0, by decide⟩).val :=
  dot_S8x4096x64_S8x4096x64_S8x4096x4096_2_2_1_1_0_0.rhsIdx_val_of_single rfl i q
abbrev lidx_main_v45 (i : S8x4096x4096.Idx) (k : Fin 64) : S8x4096x64.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v45 (i : S8x4096x4096.Idx) (k : Fin 64) : S8x4096x64.Idx := fun a => match a with
  | ⟨0, _⟩ => ⟨(i 0).val, (i 0).isLt⟩
  | ⟨1, _⟩ => ⟨(i 2).val, (i 2).isLt⟩
  | ⟨2, _⟩ => ⟨k.val, k.isLt⟩
/-- Stated at `F := Ideal`, where the host's `dot_general` is this sum; at a bit-exact instance it is an opaque function of its operands. -/
theorem val_main_v45_apply (x0 x1 : Arr Ideal S8x4096x64 .f32) (i : S8x4096x4096.Idx) :
    val_main_v45 (F := Ideal) x0 x1 i = ∑ k : Fin 64, (val_main_v1 (F := Ideal) x0) (lidx_main_v45 i k) * x1 (ridx_main_v45 i k) := by
  unfold val_main_v45
  generalize val_main_v1 (F := Ideal) x0 = y0
  simp only [Host.dotGeneral]
  rw [Ideal.dotGeneral_apply, ← Equiv.sum_comp (ValueIdx.contrEquiv1 dot_S8x4096x64_S8x4096x64_S8x4096x4096_2_2_1_1_0_0 64 rfl rfl).symm]
  refine Finset.sum_congr rfl fun k _ => ?_
  have hk := ValueIdx.contrEquiv1_symm_val dot_S8x4096x64_S8x4096x64_S8x4096x4096_2_2_1_1_0_0 64 rfl rfl k
  have el : dot_S8x4096x64_S8x4096x64_S8x4096x4096_2_2_1_1_0_0.lhsIdx i ((ValueIdx.contrEquiv1 dot_S8x4096x64_S8x4096x64_S8x4096x4096_2_2_1_1_0_0 64 rfl rfl).symm k) = lidx_main_v45 i k := funext fun a => Fin.ext (by
    match a with
    | ⟨0, _⟩ => exact lhs_main_v45_0 _ _
    | ⟨1, _⟩ => exact lhs_main_v45_1 _ _
    | ⟨2, _⟩ => exact (lhs_main_v45_2 _ _).trans hk)
  have er : dot_S8x4096x64_S8x4096x64_S8x4096x4096_2_2_1_1_0_0.rhsIdx i ((ValueIdx.contrEquiv1 dot_S8x4096x64_S8x4096x64_S8x4096x4096_2_2_1_1_0_0 64 rfl rfl).symm k) = ridx_main_v45 i k := funext fun a => Fin.ext (by
    match a with
    | ⟨0, _⟩ => exact rhs_main_v45_0 _ _
    | ⟨1, _⟩ => exact rhs_main_v45_1 _ _
    | ⟨2, _⟩ => exact (rhs_main_v45_2 _ _).trans hk)
  rw [el, er]

def val_main_v46 (x3 : Arr F S8x4096 .f32) : Arr F S8x4096x1 .f32 :=
  broadcastInDim S8x4096x1 ![0, 1] bcast_S8x4096_S8x4096x1_0_1 (x3)
abbrev idx_main_v46 (i : S8x4096x1.Idx) : S8x4096.Idx := fun a => match a with
  | ⟨0, _⟩ => ⟨(i 0).val, (i 0).isLt⟩
  | ⟨1, _⟩ => ⟨(i 1).val, (i 1).isLt⟩
theorem val_main_v46_apply (x3 : Arr F S8x4096 .f32) (i : S8x4096x1.Idx) :
    val_main_v46 (F := F) x3 i = x3 (idx_main_v46 i) := by
  unfold val_main_v46
  exact broadcastInDim_apply _ bcast_S8x4096_S8x4096x1_0_1 x3 i (idx_main_v46 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)])

def val_main_v47 (x3 : Arr F S8x4096 .f32) : Arr F S8x1x4096 .f32 :=
  broadcastInDim S8x1x4096 ![0, 2] bcast_S8x4096_S8x1x4096_0_2 (x3)
abbrev idx_main_v47 (i : S8x1x4096.Idx) : S8x4096.Idx := fun a => match a with
  | ⟨0, _⟩ => ⟨(i 0).val, (i 0).isLt⟩
  | ⟨1, _⟩ => ⟨(i 2).val, (i 2).isLt⟩
theorem val_main_v47_apply (x3 : Arr F S8x4096 .f32) (i : S8x1x4096.Idx) :
    val_main_v47 (F := F) x3 i = x3 (idx_main_v47 i) := by
  unfold val_main_v47
  exact broadcastInDim_apply _ bcast_S8x4096_S8x1x4096_0_2 x3 i (idx_main_v47 i) (fun a => match a with
    | ⟨0, _⟩ => by show (i 0).val = if (8 : Nat) = 1 then 0 else (i 0).val; rw [if_neg (by decide)]
    | ⟨1, _⟩ => by show (i 2).val = if (4096 : Nat) = 1 then 0 else (i 2).val; rw [if_neg (by decide)])

def val_main_v48 (x3 : Arr F S8x4096 .f32) : Arr F S8x4096x4096 .f32 :=
  broadcastInDim S8x4096x4096 ![0, 1, 2] bcast_S8x4096x1_S8x4096x4096_0_1_2 (val_main_v46 (F := F) x3)
abbrev idx_main_v48 (i : S8x4096x4096.Idx) : S8x4096x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v48_apply (x3 : Arr F S8x4096 .f32) (i : S8x4096x4096.Idx) :
    val_main_v48 (F := F) x3 i = val_main_v46 (F := F) x3 (idx_main_v48 i) := by
  unfold val_main_v48
  generalize val_main_v46 (F := F) x3 = y
  exact broadcastInDim_apply _ bcast_S8x4096x1_S8x4096x4096_0_1_2 y i (idx_main_v48 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

def val_main_v49 (x3 : Arr F S8x4096 .f32) : Arr F S8x4096x4096 .f32 :=
  broadcastInDim S8x4096x4096 ![0, 1, 2] bcast_S8x1x4096_S8x4096x4096_0_1_2 (val_main_v47 (F := F) x3)
abbrev idx_main_v49 (i : S8x4096x4096.Idx) : S8x1x4096.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v49_apply (x3 : Arr F S8x4096 .f32) (i : S8x4096x4096.Idx) :
    val_main_v49 (F := F) x3 i = val_main_v47 (F := F) x3 (idx_main_v49 i) := by
  unfold val_main_v49
  generalize val_main_v47 (F := F) x3 = y
  exact broadcastInDim_apply _ bcast_S8x1x4096_S8x4096x4096_0_1_2 y i (idx_main_v49 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show (i 2).val = if (4096 : Nat) = 1 then 0 else (i 2).val; rw [if_neg (by decide)])

def val_main_v50 (x3 : Arr F S8x4096 .f32) : Arr F S8x4096x4096 .f32 :=
  subf (val_main_v48 (F := F) x3) (val_main_v49 (F := F) x3)
theorem val_main_v50_apply (x3 : Arr F S8x4096 .f32) (i : S8x4096x4096.Idx) :
    val_main_v50 (F := F) x3 i = FloatOps.subf (val_main_v48 (F := F) x3 i) (val_main_v49 (F := F) x3 i) := rfl

def val_main_v51 (x0 x1 : Arr F S8x4096x64 .f32) (x3 : Arr F S8x4096 .f32) : Arr F S8x4096x4096 .f32 :=
  addf (val_main_v45 (F := F) x0 x1) (val_main_v50 (F := F) x3)
theorem val_main_v51_apply (x0 x1 : Arr F S8x4096x64 .f32) (x3 : Arr F S8x4096 .f32) (i : S8x4096x4096.Idx) :
    val_main_v51 (F := F) x0 x1 x3 i = FloatOps.addf (val_main_v45 (F := F) x0 x1 i) (val_main_v50 (F := F) x3 i) := rfl

def val_main_v52 : Arr F S4096 .i32 :=
  iotaInDim S4096 32 0
theorem val_main_v52_apply (i : S4096.Idx) :
    val_main_v52 (F := F) i = BitVec.ofNat 32 (i 0).val := rfl

def val_main_v53 : Arr F S4096x1 .i32 :=
  broadcastInDim S4096x1 ![0] bcast_S4096_S4096x1_0 (val_main_v52 (F := F))
abbrev idx_main_v53 (i : S4096x1.Idx) : S4096.Idx := fun a => match a with
  | ⟨0, _⟩ => ⟨(i 0).val, (i 0).isLt⟩
theorem val_main_v53_apply (i : S4096x1.Idx) :
    val_main_v53 (F := F) i = val_main_v52 (F := F) (idx_main_v53 i) := by
  unfold val_main_v53
  generalize val_main_v52 (F := F) = y
  exact broadcastInDim_apply _ bcast_S4096_S4096x1_0 y i (idx_main_v53 i) (fun a => match a with
    | ⟨0, _⟩ => by show (i 0).val = if (4096 : Nat) = 1 then 0 else (i 0).val; rw [if_neg (by decide)])

def val_main_v54 : Arr F S1x4096 .i32 :=
  broadcastInDim S1x4096 ![1] bcast_S4096_S1x4096_1 (val_main_v52 (F := F))
abbrev idx_main_v54 (i : S1x4096.Idx) : S4096.Idx := fun a => match a with
  | ⟨0, _⟩ => ⟨(i 1).val, (i 1).isLt⟩
theorem val_main_v54_apply (i : S1x4096.Idx) :
    val_main_v54 (F := F) i = val_main_v52 (F := F) (idx_main_v54 i) := by
  unfold val_main_v54
  generalize val_main_v52 (F := F) = y
  exact broadcastInDim_apply _ bcast_S4096_S1x4096_1 y i (idx_main_v54 i) (fun a => match a with
    | ⟨0, _⟩ => by show (i 1).val = if (4096 : Nat) = 1 then 0 else (i 1).val; rw [if_neg (by decide)])

def val_main_v55 : Arr F S4096x4096 .i32 :=
  broadcastInDim S4096x4096 ![0, 1] bcast_S4096x1_S4096x4096_0_1 (val_main_v53 (F := F))
abbrev idx_main_v55 (i : S4096x4096.Idx) : S4096x1.Idx := fun a => match a with
  | ⟨0, _⟩ => ⟨(i 0).val, (i 0).isLt⟩
  | ⟨1, _⟩ => ⟨0, Nat.one_pos⟩
theorem val_main_v55_apply (i : S4096x4096.Idx) :
    val_main_v55 (F := F) i = val_main_v53 (F := F) (idx_main_v55 i) := by
  unfold val_main_v55
  generalize val_main_v53 (F := F) = y
  exact broadcastInDim_apply _ bcast_S4096x1_S4096x4096_0_1 y i (idx_main_v55 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v56 : Arr F S4096x4096 .i32 :=
  broadcastInDim S4096x4096 ![0, 1] bcast_S1x4096_S4096x4096_0_1 (val_main_v54 (F := F))
abbrev idx_main_v56 (i : S4096x4096.Idx) : S1x4096.Idx := fun a => match a with
  | ⟨0, _⟩ => ⟨0, Nat.one_pos⟩
  | ⟨1, _⟩ => ⟨(i 1).val, (i 1).isLt⟩
theorem val_main_v56_apply (i : S4096x4096.Idx) :
    val_main_v56 (F := F) i = val_main_v54 (F := F) (idx_main_v56 i) := by
  unfold val_main_v56
  generalize val_main_v54 (F := F) = y
  exact broadcastInDim_apply _ bcast_S1x4096_S4096x4096_0_1 y i (idx_main_v56 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])

def val_main_v57 : Arr F S4096x4096 .i1 :=
  cmpi .sge (val_main_v55 (F := F)) (val_main_v56 (F := F))
theorem val_main_v57_apply (i : S4096x4096.Idx) :
    val_main_v57 (F := F) i = IntOp.cmpi .sge (val_main_v55 (F := F) i) (val_main_v56 (F := F) i) := rfl

def val_main_cst_3 : Arr F S_ .f32 :=
  constant S_ .f32 0xFF800000#32
theorem val_main_cst_3_apply (i : S_.Idx) :
    val_main_cst_3 (F := F) i = FloatOps.ofBits .f32 0xFF800000#32 := rfl

def val_main_call2_v0 : Arr F S_ .f32 :=
  id (val_main_cst_3 (F := F))
theorem val_main_call2_v0_apply (i : S_.Idx) :
    val_main_call2_v0 (F := F) i = (val_main_cst_3 (F := F) i) := rfl

def val_main_call2_v1 : Arr F S8x4096x4096 .i1 :=
  broadcastInDim S8x4096x4096 ![1, 2] bcast_S4096x4096_S8x4096x4096_1_2 (val_main_v57 (F := F))
abbrev idx_main_call2_v1 (i : S8x4096x4096.Idx) : S4096x4096.Idx := fun a => match a with
  | ⟨0, _⟩ => ⟨(i 1).val, (i 1).isLt⟩
  | ⟨1, _⟩ => ⟨(i 2).val, (i 2).isLt⟩
theorem val_main_call2_v1_apply (i : S8x4096x4096.Idx) :
    val_main_call2_v1 (F := F) i = val_main_v57 (F := F) (idx_main_call2_v1 i) := by
  unfold val_main_call2_v1
  generalize val_main_v57 (F := F) = y
  exact broadcastInDim_apply _ bcast_S4096x4096_S8x4096x4096_1_2 y i (idx_main_call2_v1 i) (fun a => match a with
    | ⟨0, _⟩ => by show (i 1).val = if (4096 : Nat) = 1 then 0 else (i 1).val; rw [if_neg (by decide)]
    | ⟨1, _⟩ => by show (i 2).val = if (4096 : Nat) = 1 then 0 else (i 2).val; rw [if_neg (by decide)])

def val_main_call2_v2 : Arr F S8x4096x4096 .f32 :=
  broadcastInDim S8x4096x4096 ![] bcast_S_S8x4096x4096 (val_main_call2_v0 (F := F))
abbrev idx_main_call2_v2 (i : S8x4096x4096.Idx) : S_.Idx := fun a => a.elim0
theorem val_main_call2_v2_apply (i : S8x4096x4096.Idx) :
    val_main_call2_v2 (F := F) i = val_main_call2_v0 (F := F) (idx_main_call2_v2 i) := by
  unfold val_main_call2_v2
  generalize val_main_call2_v0 (F := F) = y
  exact broadcastInDim_apply _ bcast_S_S8x4096x4096 y i (idx_main_call2_v2 i) (fun a => a.elim0)

def val_main_v58 (x0 x1 : Arr F S8x4096x64 .f32) (x3 : Arr F S8x4096 .f32) : Arr F S8x4096x4096 .f32 :=
  select (val_main_call2_v1 (F := F)) (val_main_v51 (F := F) x0 x1 x3) (val_main_call2_v2 (F := F))
theorem val_main_v58_apply (x0 x1 : Arr F S8x4096x64 .f32) (x3 : Arr F S8x4096 .f32) (i : S8x4096x4096.Idx) :
    val_main_v58 (F := F) x0 x1 x3 i = Scalar.select (val_main_call2_v1 (F := F) i) (val_main_v51 (F := F) x0 x1 x3 i) (val_main_call2_v2 (F := F) i) := rfl

def val_main_cst_4 : Arr F S_ .f32 :=
  constant S_ .f32 0xFF800000#32
theorem val_main_cst_4_apply (i : S_.Idx) :
    val_main_cst_4 (F := F) i = FloatOps.ofBits .f32 0xFF800000#32 := rfl

def val_main_v59 (x0 x1 : Arr F S8x4096x64 .f32) (x3 : Arr F S8x4096 .f32) : Arr F S8x4096 .f32 :=
  Host.reduce FloatOps.maximumf (val_main_v58 (F := F) x0 x1 x3) (val_main_cst_4 (F := F)) reducesTo_S8x4096x4096_S8x4096_d2 h_S_

def val_main_v60 (x0 x1 : Arr F S8x4096x64 .f32) (x3 : Arr F S8x4096 .f32) : Arr F S8x4096x1 .f32 :=
  broadcastInDim S8x4096x1 ![0, 1] bcast_S8x4096_S8x4096x1_0_1 (val_main_v59 (F := F) x0 x1 x3)
abbrev idx_main_v60 (i : S8x4096x1.Idx) : S8x4096.Idx := fun a => match a with
  | ⟨0, _⟩ => ⟨(i 0).val, (i 0).isLt⟩
  | ⟨1, _⟩ => ⟨(i 1).val, (i 1).isLt⟩
theorem val_main_v60_apply (x0 x1 : Arr F S8x4096x64 .f32) (x3 : Arr F S8x4096 .f32) (i : S8x4096x1.Idx) :
    val_main_v60 (F := F) x0 x1 x3 i = val_main_v59 (F := F) x0 x1 x3 (idx_main_v60 i) := by
  unfold val_main_v60
  generalize val_main_v59 (F := F) x0 x1 x3 = y
  exact broadcastInDim_apply _ bcast_S8x4096_S8x4096x1_0_1 y i (idx_main_v60 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)])

def val_main_v61 (x0 x1 : Arr F S8x4096x64 .f32) (x3 : Arr F S8x4096 .f32) : Arr F S8x4096x4096 .f32 :=
  broadcastInDim S8x4096x4096 ![0, 1, 2] bcast_S8x4096x1_S8x4096x4096_0_1_2 (val_main_v60 (F := F) x0 x1 x3)
abbrev idx_main_v61 (i : S8x4096x4096.Idx) : S8x4096x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v61_apply (x0 x1 : Arr F S8x4096x64 .f32) (x3 : Arr F S8x4096 .f32) (i : S8x4096x4096.Idx) :
    val_main_v61 (F := F) x0 x1 x3 i = val_main_v60 (F := F) x0 x1 x3 (idx_main_v61 i) := by
  unfold val_main_v61
  generalize val_main_v60 (F := F) x0 x1 x3 = y
  exact broadcastInDim_apply _ bcast_S8x4096x1_S8x4096x4096_0_1_2 y i (idx_main_v61 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

def val_main_v62 (x0 x1 : Arr F S8x4096x64 .f32) (x3 : Arr F S8x4096 .f32) : Arr F S8x4096x4096 .f32 :=
  subf (val_main_v58 (F := F) x0 x1 x3) (val_main_v61 (F := F) x0 x1 x3)
theorem val_main_v62_apply (x0 x1 : Arr F S8x4096x64 .f32) (x3 : Arr F S8x4096 .f32) (i : S8x4096x4096.Idx) :
    val_main_v62 (F := F) x0 x1 x3 i = FloatOps.subf (val_main_v58 (F := F) x0 x1 x3 i) (val_main_v61 (F := F) x0 x1 x3 i) := rfl

def val_main_v63 (x0 x1 : Arr F S8x4096x64 .f32) (x3 : Arr F S8x4096 .f32) : Arr F S8x4096x4096 .f32 :=
  Host.exp (val_main_v62 (F := F) x0 x1 x3)
theorem val_main_v63_apply (x0 x1 : Arr F S8x4096x64 .f32) (x3 : Arr F S8x4096 .f32) (i : S8x4096x4096.Idx) :
    val_main_v63 (F := F) x0 x1 x3 i = FloatOps.hostUnary .exp (val_main_v62 (F := F) x0 x1 x3 i) := rfl

def val_main_cst_5 : Arr F S_ .f32 :=
  constant S_ .f32 0x00000000#32
theorem val_main_cst_5_apply (i : S_.Idx) :
    val_main_cst_5 (F := F) i = FloatOps.ofBits .f32 0x00000000#32 := rfl

def val_main_v64 (x0 x1 : Arr F S8x4096x64 .f32) (x3 : Arr F S8x4096 .f32) : Arr F S8x4096 .f32 :=
  Host.reduceAdd (val_main_v63 (F := F) x0 x1 x3) (val_main_cst_5 (F := F)) reducesTo_S8x4096x4096_S8x4096_d2 h_S_
abbrev idx_main_v64 (i : S8x4096.Idx) (k : Fin 4096) : S8x4096x4096.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v64_apply (x0 x1 : Arr Ideal S8x4096x64 .f32) (x3 : Arr Ideal S8x4096 .f32) (i : S8x4096.Idx) :
    val_main_v64 (F := Ideal) x0 x1 x3 i = (val_main_cst_5 (F := Ideal)) (Shape.Idx.first h_S_) + ∑ k : Fin 4096, (val_main_v63 (F := Ideal) x0 x1 x3) (idx_main_v64 i k) := by
  unfold val_main_v64
  generalize val_main_v63 (F := Ideal) x0 x1 x3 = y0
  simp only [Host.reduceAdd, Ideal.hostReduceAdd_def]
  rw [Ideal.hostReduceAdd_single reducesTo_S8x4096x4096_S8x4096_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v65 (x0 x1 : Arr F S8x4096x64 .f32) (x3 : Arr F S8x4096 .f32) : Arr F S8x4096x1 .f32 :=
  broadcastInDim S8x4096x1 ![0, 1] bcast_S8x4096_S8x4096x1_0_1 (val_main_v64 (F := F) x0 x1 x3)
abbrev idx_main_v65 (i : S8x4096x1.Idx) : S8x4096.Idx := fun a => match a with
  | ⟨0, _⟩ => ⟨(i 0).val, (i 0).isLt⟩
  | ⟨1, _⟩ => ⟨(i 1).val, (i 1).isLt⟩
theorem val_main_v65_apply (x0 x1 : Arr F S8x4096x64 .f32) (x3 : Arr F S8x4096 .f32) (i : S8x4096x1.Idx) :
    val_main_v65 (F := F) x0 x1 x3 i = val_main_v64 (F := F) x0 x1 x3 (idx_main_v65 i) := by
  unfold val_main_v65
  generalize val_main_v64 (F := F) x0 x1 x3 = y
  exact broadcastInDim_apply _ bcast_S8x4096_S8x4096x1_0_1 y i (idx_main_v65 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)])

def val_main_v66 (x0 x1 : Arr F S8x4096x64 .f32) (x3 : Arr F S8x4096 .f32) : Arr F S8x4096x4096 .f32 :=
  broadcastInDim S8x4096x4096 ![0, 1, 2] bcast_S8x4096x1_S8x4096x4096_0_1_2 (val_main_v65 (F := F) x0 x1 x3)
abbrev idx_main_v66 (i : S8x4096x4096.Idx) : S8x4096x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v66_apply (x0 x1 : Arr F S8x4096x64 .f32) (x3 : Arr F S8x4096 .f32) (i : S8x4096x4096.Idx) :
    val_main_v66 (F := F) x0 x1 x3 i = val_main_v65 (F := F) x0 x1 x3 (idx_main_v66 i) := by
  unfold val_main_v66
  generalize val_main_v65 (F := F) x0 x1 x3 = y
  exact broadcastInDim_apply _ bcast_S8x4096x1_S8x4096x4096_0_1_2 y i (idx_main_v66 i) (fun a => match a with
    | ⟨0, _⟩ => by show (i 0).val = if (8 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

def val_main_v67 (x0 x1 : Arr F S8x4096x64 .f32) (x3 : Arr F S8x4096 .f32) : Arr F S8x4096x4096 .f32 :=
  Host.divf (val_main_v63 (F := F) x0 x1 x3) (val_main_v66 (F := F) x0 x1 x3)
theorem val_main_v67_apply (x0 x1 : Arr F S8x4096x64 .f32) (x3 : Arr F S8x4096 .f32) (i : S8x4096x4096.Idx) :
    val_main_v67 (F := F) x0 x1 x3 i = FloatOps.hostDivf (val_main_v63 (F := F) x0 x1 x3 i) (val_main_v66 (F := F) x0 x1 x3 i) := rfl

def val_main_v68 (x0 x1 x2 : Arr F S8x4096x64 .f32) (x3 : Arr F S8x4096 .f32) : Arr F S8x4096x64 .f32 :=
  Host.dotGeneral dot_S8x4096x4096_S8x4096x64_S8x4096x64_2_1_1_2_0_0 none (val_main_v67 (F := F) x0 x1 x3) (x2)
theorem lhs_main_v68_0 (i : S8x4096x64.Idx) (q : dot_S8x4096x4096_S8x4096x64_S8x4096x64_2_1_1_2_0_0.contr.Idx) :
    (dot_S8x4096x4096_S8x4096x64_S8x4096x64_2_1_1_2_0_0.lhsIdx i q 0).val = (i 0).val := by
  unfold DotDims.lhsIdx
  rw [dif_pos (show (0 : Fin S8x4096x4096.rank) ∈ dot_S8x4096x4096_S8x4096x64_S8x4096x64_2_1_1_2_0_0.lhsBatch by decide)]
  rfl
theorem lhs_main_v68_1 (i : S8x4096x64.Idx) (q : dot_S8x4096x4096_S8x4096x64_S8x4096x64_2_1_1_2_0_0.contr.Idx) :
    (dot_S8x4096x4096_S8x4096x64_S8x4096x64_2_1_1_2_0_0.lhsIdx i q 1).val = (i 1).val := by
  unfold DotDims.lhsIdx
  rw [dif_neg (show ¬(1 : Fin S8x4096x4096.rank) ∈ dot_S8x4096x4096_S8x4096x64_S8x4096x64_2_1_1_2_0_0.lhsBatch by decide), dif_pos (show (1 : Fin S8x4096x4096.rank) ∈ dot_S8x4096x4096_S8x4096x64_S8x4096x64_2_1_1_2_0_0.lhsNonContracting by decide)]
  rfl
theorem lhs_main_v68_2 (i : S8x4096x64.Idx) (q : dot_S8x4096x4096_S8x4096x64_S8x4096x64_2_1_1_2_0_0.contr.Idx) :
    (dot_S8x4096x4096_S8x4096x64_S8x4096x64_2_1_1_2_0_0.lhsIdx i q 2).val = (q ⟨0, by decide⟩).val :=
  dot_S8x4096x4096_S8x4096x64_S8x4096x64_2_1_1_2_0_0.lhsIdx_val_of_single rfl i q
theorem rhs_main_v68_0 (i : S8x4096x64.Idx) (q : dot_S8x4096x4096_S8x4096x64_S8x4096x64_2_1_1_2_0_0.contr.Idx) :
    (dot_S8x4096x4096_S8x4096x64_S8x4096x64_2_1_1_2_0_0.rhsIdx i q 0).val = (i 0).val := by
  unfold DotDims.rhsIdx
  rw [dif_pos (show (0 : Fin S8x4096x64.rank) ∈ dot_S8x4096x4096_S8x4096x64_S8x4096x64_2_1_1_2_0_0.rhsBatch by decide)]
  rfl
theorem rhs_main_v68_1 (i : S8x4096x64.Idx) (q : dot_S8x4096x4096_S8x4096x64_S8x4096x64_2_1_1_2_0_0.contr.Idx) :
    (dot_S8x4096x4096_S8x4096x64_S8x4096x64_2_1_1_2_0_0.rhsIdx i q 1).val = (q ⟨0, by decide⟩).val :=
  dot_S8x4096x4096_S8x4096x64_S8x4096x64_2_1_1_2_0_0.rhsIdx_val_of_single rfl i q
theorem rhs_main_v68_2 (i : S8x4096x64.Idx) (q : dot_S8x4096x4096_S8x4096x64_S8x4096x64_2_1_1_2_0_0.contr.Idx) :
    (dot_S8x4096x4096_S8x4096x64_S8x4096x64_2_1_1_2_0_0.rhsIdx i q 2).val = (i 2).val := by
  unfold DotDims.rhsIdx
  rw [dif_neg (show ¬(2 : Fin S8x4096x64.rank) ∈ dot_S8x4096x4096_S8x4096x64_S8x4096x64_2_1_1_2_0_0.rhsBatch by decide), dif_pos (show (2 : Fin S8x4096x64.rank) ∈ dot_S8x4096x4096_S8x4096x64_S8x4096x64_2_1_1_2_0_0.rhsNonContracting by decide)]
  rfl
abbrev lidx_main_v68 (i : S8x4096x64.Idx) (k : Fin 4096) : S8x4096x4096.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v68 (i : S8x4096x64.Idx) (k : Fin 4096) : S8x4096x64.Idx := fun a => match a with
  | ⟨0, _⟩ => ⟨(i 0).val, (i 0).isLt⟩
  | ⟨1, _⟩ => ⟨k.val, k.isLt⟩
  | ⟨2, _⟩ => ⟨(i 2).val, (i 2).isLt⟩
/-- Stated at `F := Ideal`, where the host's `dot_general` is this sum; at a bit-exact instance it is an opaque function of its operands. -/
theorem val_main_v68_apply (x0 x1 x2 : Arr Ideal S8x4096x64 .f32) (x3 : Arr Ideal S8x4096 .f32) (i : S8x4096x64.Idx) :
    val_main_v68 (F := Ideal) x0 x1 x2 x3 i = ∑ k : Fin 4096, (val_main_v67 (F := Ideal) x0 x1 x3) (lidx_main_v68 i k) * x2 (ridx_main_v68 i k) := by
  unfold val_main_v68
  generalize val_main_v67 (F := Ideal) x0 x1 x3 = y0
  simp only [Host.dotGeneral]
  rw [Ideal.dotGeneral_apply, ← Equiv.sum_comp (ValueIdx.contrEquiv1 dot_S8x4096x4096_S8x4096x64_S8x4096x64_2_1_1_2_0_0 4096 rfl rfl).symm]
  refine Finset.sum_congr rfl fun k _ => ?_
  have hk := ValueIdx.contrEquiv1_symm_val dot_S8x4096x4096_S8x4096x64_S8x4096x64_2_1_1_2_0_0 4096 rfl rfl k
  have el : dot_S8x4096x4096_S8x4096x64_S8x4096x64_2_1_1_2_0_0.lhsIdx i ((ValueIdx.contrEquiv1 dot_S8x4096x4096_S8x4096x64_S8x4096x64_2_1_1_2_0_0 4096 rfl rfl).symm k) = lidx_main_v68 i k := funext fun a => Fin.ext (by
    match a with
    | ⟨0, _⟩ => exact lhs_main_v68_0 _ _
    | ⟨1, _⟩ => exact lhs_main_v68_1 _ _
    | ⟨2, _⟩ => exact (lhs_main_v68_2 _ _).trans hk)
  have er : dot_S8x4096x4096_S8x4096x64_S8x4096x64_2_1_1_2_0_0.rhsIdx i ((ValueIdx.contrEquiv1 dot_S8x4096x4096_S8x4096x64_S8x4096x64_2_1_1_2_0_0 4096 rfl rfl).symm k) = ridx_main_v68 i k := funext fun a => Fin.ext (by
    match a with
    | ⟨0, _⟩ => exact rhs_main_v68_0 _ _
    | ⟨1, _⟩ => exact (rhs_main_v68_1 _ _).trans hk
    | ⟨2, _⟩ => exact rhs_main_v68_2 _ _)
  rw [el, er]

def val_main_v69 (x0 x1 : Arr F S8x4096x64 .f32) (x3 : Arr F S8x4096 .f32) : Arr F S8x4096x1 .f32 :=
  Host.log (val_main_v65 (F := F) x0 x1 x3)
theorem val_main_v69_apply (x0 x1 : Arr F S8x4096x64 .f32) (x3 : Arr F S8x4096 .f32) (i : S8x4096x1.Idx) :
    val_main_v69 (F := F) x0 x1 x3 i = FloatOps.hostUnary .log (val_main_v65 (F := F) x0 x1 x3 i) := rfl

def val_main_v70 (x0 x1 : Arr F S8x4096x64 .f32) (x3 : Arr F S8x4096 .f32) : Arr F S8x4096x1 .f32 :=
  addf (val_main_v60 (F := F) x0 x1 x3) (val_main_v69 (F := F) x0 x1 x3)
theorem val_main_v70_apply (x0 x1 : Arr F S8x4096x64 .f32) (x3 : Arr F S8x4096 .f32) (i : S8x4096x1.Idx) :
    val_main_v70 (F := F) x0 x1 x3 i = FloatOps.addf (val_main_v60 (F := F) x0 x1 x3 i) (val_main_v69 (F := F) x0 x1 x3 i) := rfl

def val_main_v71 (x0 x1 : Arr F S8x4096x64 .f32) (x3 : Arr F S8x4096 .f32) : Arr F S4x2x4096 .f32 :=
  shapeCast _ (val_main_v70 (F := F) x0 x1 x3) shapeCasts_S8x4096x1_S4x2x4096
set_option backward.proofsInPublic true in
abbrev idx_main_v71 (i : S4x2x4096.Idx) : S8x4096x1.Idx := fun a => match a with
  | ⟨0, _⟩ => ⟨(((i 0).val * 2 + (i 1).val) * 4096 + (i 2).val) / 4096, by have h0 : (i 0).val < 4 := (i 0).isLt; have h1 : (i 1).val < 2 := (i 1).isLt; have h2 : (i 2).val < 4096 := (i 2).isLt; show (((i 0).val * 2 + (i 1).val) * 4096 + (i 2).val) / 4096 < 8; omega⟩
  | ⟨1, _⟩ => ⟨(((i 0).val * 2 + (i 1).val) * 4096 + (i 2).val) / 1 % 4096, by have h0 : (i 0).val < 4 := (i 0).isLt; have h1 : (i 1).val < 2 := (i 1).isLt; have h2 : (i 2).val < 4096 := (i 2).isLt; show (((i 0).val * 2 + (i 1).val) * 4096 + (i 2).val) / 1 % 4096 < 4096; omega⟩
  | ⟨2, _⟩ => ⟨0, Nat.one_pos⟩
theorem val_main_v71_apply (x0 x1 : Arr F S8x4096x64 .f32) (x3 : Arr F S8x4096 .f32) (i : S4x2x4096.Idx) :
    val_main_v71 (F := F) x0 x1 x3 i = val_main_v70 (F := F) x0 x1 x3 (idx_main_v71 i) := by
  unfold val_main_v71
  generalize val_main_v70 (F := F) x0 x1 x3 = y
  exact shapeCast_apply y shapeCasts_S8x4096x1_S4x2x4096 i (idx_main_v71 i)
    (by rewrite [Shape.rowMajor_val_three, Shape.rowMajor_val_three]; have h0 : (i 0).val < 4 := (i 0).isLt; have h1 : (i 1).val < 2 := (i 1).isLt; have h2 : (i 2).val < 4096 := (i 2).isLt; show ((((i 0).val * 2 + (i 1).val) * 4096 + (i 2).val) / 4096 * 4096 + (((i 0).val * 2 + (i 1).val) * 4096 + (i 2).val) / 1 % 4096) * 1 + 0 = ((i 0).val * 2 + (i 1).val) * 4096 + (i 2).val; omega)

def val_main_v72 (x0 x1 x2 : Arr F S8x4096x64 .f32) (x3 : Arr F S8x4096 .f32) (x4 : Arr F S8x4096x64 .f32) : Arr F S8x4096x64 .f32 :=
  mulf (val_main_v68 (F := F) x0 x1 x2 x3) (x4)
theorem val_main_v72_apply (x0 x1 x2 : Arr F S8x4096x64 .f32) (x3 : Arr F S8x4096 .f32) (x4 : Arr F S8x4096x64 .f32) (i : S8x4096x64.Idx) :
    val_main_v72 (F := F) x0 x1 x2 x3 x4 i = FloatOps.mulf (val_main_v68 (F := F) x0 x1 x2 x3 i) (x4 i) := rfl

def val_main_cst_6 : Arr F S_ .f32 :=
  constant S_ .f32 0x00000000#32
theorem val_main_cst_6_apply (i : S_.Idx) :
    val_main_cst_6 (F := F) i = FloatOps.ofBits .f32 0x00000000#32 := rfl

def val_main_v73 (x0 x1 x2 : Arr F S8x4096x64 .f32) (x3 : Arr F S8x4096 .f32) (x4 : Arr F S8x4096x64 .f32) : Arr F S8x4096 .f32 :=
  Host.reduceAdd (val_main_v72 (F := F) x0 x1 x2 x3 x4) (val_main_cst_6 (F := F)) reducesTo_S8x4096x64_S8x4096_d2 h_S_
abbrev idx_main_v73 (i : S8x4096.Idx) (k : Fin 64) : S8x4096x64.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v73_apply (x0 x1 x2 : Arr Ideal S8x4096x64 .f32) (x3 : Arr Ideal S8x4096 .f32) (x4 : Arr Ideal S8x4096x64 .f32) (i : S8x4096.Idx) :
    val_main_v73 (F := Ideal) x0 x1 x2 x3 x4 i = (val_main_cst_6 (F := Ideal)) (Shape.Idx.first h_S_) + ∑ k : Fin 64, (val_main_v72 (F := Ideal) x0 x1 x2 x3 x4) (idx_main_v73 i k) := by
  unfold val_main_v73
  generalize val_main_v72 (F := Ideal) x0 x1 x2 x3 x4 = y0
  simp only [Host.reduceAdd, Ideal.hostReduceAdd_def]
  rw [Ideal.hostReduceAdd_single reducesTo_S8x4096x64_S8x4096_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v74 (x0 x1 x2 : Arr F S8x4096x64 .f32) (x3 : Arr F S8x4096 .f32) (x4 : Arr F S8x4096x64 .f32) : Arr F S4x2x4096 .f32 :=
  shapeCast _ (val_main_v73 (F := F) x0 x1 x2 x3 x4) shapeCasts_S8x4096_S4x2x4096
set_option backward.proofsInPublic true in
abbrev idx_main_v74 (i : S4x2x4096.Idx) : S8x4096.Idx := fun a => match a with
  | ⟨0, _⟩ => ⟨(((i 0).val * 2 + (i 1).val) * 4096 + (i 2).val) / 4096, by have h0 : (i 0).val < 4 := (i 0).isLt; have h1 : (i 1).val < 2 := (i 1).isLt; have h2 : (i 2).val < 4096 := (i 2).isLt; show (((i 0).val * 2 + (i 1).val) * 4096 + (i 2).val) / 4096 < 8; omega⟩
  | ⟨1, _⟩ => ⟨(((i 0).val * 2 + (i 1).val) * 4096 + (i 2).val) % 4096, by have h0 : (i 0).val < 4 := (i 0).isLt; have h1 : (i 1).val < 2 := (i 1).isLt; have h2 : (i 2).val < 4096 := (i 2).isLt; show (((i 0).val * 2 + (i 1).val) * 4096 + (i 2).val) % 4096 < 4096; omega⟩
theorem val_main_v74_apply (x0 x1 x2 : Arr F S8x4096x64 .f32) (x3 : Arr F S8x4096 .f32) (x4 : Arr F S8x4096x64 .f32) (i : S4x2x4096.Idx) :
    val_main_v74 (F := F) x0 x1 x2 x3 x4 i = val_main_v73 (F := F) x0 x1 x2 x3 x4 (idx_main_v74 i) := by
  unfold val_main_v74
  generalize val_main_v73 (F := F) x0 x1 x2 x3 x4 = y
  exact shapeCast_apply y shapeCasts_S8x4096_S4x2x4096 i (idx_main_v74 i)
    (by rewrite [Shape.rowMajor_val_two, Shape.rowMajor_val_three]; have h0 : (i 0).val < 4 := (i 0).isLt; have h1 : (i 1).val < 2 := (i 1).isLt; have h2 : (i 2).val < 4096 := (i 2).isLt; show (((i 0).val * 2 + (i 1).val) * 4096 + (i 2).val) / 4096 * 4096 + (((i 0).val * 2 + (i 1).val) * 4096 + (i 2).val) % 4096 = ((i 0).val * 2 + (i 1).val) * 4096 + (i 2).val; omega)

def val_main_v75 (x0 : Arr F S8x4096x64 .f32) : Arr F S4096x8x64 .f32 :=
  transpose S4096x8x64 [1, 0, 2] (val_main_v1 (F := F) x0) transposes_S8x4096x64_S4096x8x64_1_0_2
abbrev idx_main_v75 (i : S4096x8x64.Idx) : S8x4096x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v75_apply (x0 : Arr F S8x4096x64 .f32) (i : S4096x8x64.Idx) :
    val_main_v75 (F := F) x0 i = val_main_v1 (F := F) x0 (idx_main_v75 i) := by
  unfold val_main_v75
  generalize val_main_v1 (F := F) x0 = y
  exact transpose_apply [1, 0, 2] y transposes_S8x4096x64_S4096x8x64_1_0_2 i (idx_main_v75 i) (fun b => match b with
    | ⟨0, _⟩ => rfl
    | ⟨1, _⟩ => rfl
    | ⟨2, _⟩ => rfl)

def val_main_v76 (x0 : Arr F S8x4096x64 .f32) : Arr F S4096x512 .f32 :=
  shapeCast _ (val_main_v75 (F := F) x0) shapeCasts_S4096x8x64_S4096x512
set_option backward.proofsInPublic true in
abbrev idx_main_v76 (i : S4096x512.Idx) : S4096x8x64.Idx := fun a => match a with
  | ⟨0, _⟩ => ⟨((i 0).val * 512 + (i 1).val) / 512, by have h0 : (i 0).val < 4096 := (i 0).isLt; have h1 : (i 1).val < 512 := (i 1).isLt; show ((i 0).val * 512 + (i 1).val) / 512 < 4096; omega⟩
  | ⟨1, _⟩ => ⟨((i 0).val * 512 + (i 1).val) / 64 % 8, by have h0 : (i 0).val < 4096 := (i 0).isLt; have h1 : (i 1).val < 512 := (i 1).isLt; show ((i 0).val * 512 + (i 1).val) / 64 % 8 < 8; omega⟩
  | ⟨2, _⟩ => ⟨((i 0).val * 512 + (i 1).val) % 64, by have h0 : (i 0).val < 4096 := (i 0).isLt; have h1 : (i 1).val < 512 := (i 1).isLt; show ((i 0).val * 512 + (i 1).val) % 64 < 64; omega⟩
theorem val_main_v76_apply (x0 : Arr F S8x4096x64 .f32) (i : S4096x512.Idx) :
    val_main_v76 (F := F) x0 i = val_main_v75 (F := F) x0 (idx_main_v76 i) := by
  unfold val_main_v76
  generalize val_main_v75 (F := F) x0 = y
  exact shapeCast_apply y shapeCasts_S4096x8x64_S4096x512 i (idx_main_v76 i)
    (by rewrite [Shape.rowMajor_val_three, Shape.rowMajor_val_two]; have h0 : (i 0).val < 4096 := (i 0).isLt; have h1 : (i 1).val < 512 := (i 1).isLt; show (((i 0).val * 512 + (i 1).val) / 512 * 8 + ((i 0).val * 512 + (i 1).val) / 64 % 8) * 64 + ((i 0).val * 512 + (i 1).val) % 64 = (i 0).val * 512 + (i 1).val; omega)

def val_main_v77 (x0 : Arr F S8x4096x64 .f32) : Arr F S4096x512 .bf16 :=
  truncf .bf16 (val_main_v76 (F := F) x0) bitsLt_bf16_f32
theorem val_main_v77_apply (x0 : Arr F S8x4096x64 .f32) (i : S4096x512.Idx) :
    val_main_v77 (F := F) x0 i = FloatOps.truncf .bf16 bitsLt_bf16_f32 (val_main_v76 (F := F) x0 i) := rfl

def val_main_v78 (x1 : Arr F S8x4096x64 .f32) : Arr F S4096x8x64 .f32 :=
  transpose S4096x8x64 [1, 0, 2] (x1) transposes_S8x4096x64_S4096x8x64_1_0_2
abbrev idx_main_v78 (i : S4096x8x64.Idx) : S8x4096x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v78_apply (x1 : Arr F S8x4096x64 .f32) (i : S4096x8x64.Idx) :
    val_main_v78 (F := F) x1 i = x1 (idx_main_v78 i) := by
  unfold val_main_v78
  exact transpose_apply [1, 0, 2] x1 transposes_S8x4096x64_S4096x8x64_1_0_2 i (idx_main_v78 i) (fun b => match b with
    | ⟨0, _⟩ => rfl
    | ⟨1, _⟩ => rfl
    | ⟨2, _⟩ => rfl)

def val_main_v79 (x1 : Arr F S8x4096x64 .f32) : Arr F S4096x512 .f32 :=
  shapeCast _ (val_main_v78 (F := F) x1) shapeCasts_S4096x8x64_S4096x512
set_option backward.proofsInPublic true in
abbrev idx_main_v79 (i : S4096x512.Idx) : S4096x8x64.Idx := fun a => match a with
  | ⟨0, _⟩ => ⟨((i 0).val * 512 + (i 1).val) / 512, by have h0 : (i 0).val < 4096 := (i 0).isLt; have h1 : (i 1).val < 512 := (i 1).isLt; show ((i 0).val * 512 + (i 1).val) / 512 < 4096; omega⟩
  | ⟨1, _⟩ => ⟨((i 0).val * 512 + (i 1).val) / 64 % 8, by have h0 : (i 0).val < 4096 := (i 0).isLt; have h1 : (i 1).val < 512 := (i 1).isLt; show ((i 0).val * 512 + (i 1).val) / 64 % 8 < 8; omega⟩
  | ⟨2, _⟩ => ⟨((i 0).val * 512 + (i 1).val) % 64, by have h0 : (i 0).val < 4096 := (i 0).isLt; have h1 : (i 1).val < 512 := (i 1).isLt; show ((i 0).val * 512 + (i 1).val) % 64 < 64; omega⟩
theorem val_main_v79_apply (x1 : Arr F S8x4096x64 .f32) (i : S4096x512.Idx) :
    val_main_v79 (F := F) x1 i = val_main_v78 (F := F) x1 (idx_main_v79 i) := by
  unfold val_main_v79
  generalize val_main_v78 (F := F) x1 = y
  exact shapeCast_apply y shapeCasts_S4096x8x64_S4096x512 i (idx_main_v79 i)
    (by rewrite [Shape.rowMajor_val_three, Shape.rowMajor_val_two]; have h0 : (i 0).val < 4096 := (i 0).isLt; have h1 : (i 1).val < 512 := (i 1).isLt; show (((i 0).val * 512 + (i 1).val) / 512 * 8 + ((i 0).val * 512 + (i 1).val) / 64 % 8) * 64 + ((i 0).val * 512 + (i 1).val) % 64 = (i 0).val * 512 + (i 1).val; omega)

def val_main_v80 (x1 : Arr F S8x4096x64 .f32) : Arr F S4096x512 .bf16 :=
  truncf .bf16 (val_main_v79 (F := F) x1) bitsLt_bf16_f32
theorem val_main_v80_apply (x1 : Arr F S8x4096x64 .f32) (i : S4096x512.Idx) :
    val_main_v80 (F := F) x1 i = FloatOps.truncf .bf16 bitsLt_bf16_f32 (val_main_v79 (F := F) x1 i) := rfl

def val_main_v81 (x2 : Arr F S8x4096x64 .f32) : Arr F S4096x8x64 .f32 :=
  transpose S4096x8x64 [1, 0, 2] (x2) transposes_S8x4096x64_S4096x8x64_1_0_2
abbrev idx_main_v81 (i : S4096x8x64.Idx) : S8x4096x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v81_apply (x2 : Arr F S8x4096x64 .f32) (i : S4096x8x64.Idx) :
    val_main_v81 (F := F) x2 i = x2 (idx_main_v81 i) := by
  unfold val_main_v81
  exact transpose_apply [1, 0, 2] x2 transposes_S8x4096x64_S4096x8x64_1_0_2 i (idx_main_v81 i) (fun b => match b with
    | ⟨0, _⟩ => rfl
    | ⟨1, _⟩ => rfl
    | ⟨2, _⟩ => rfl)

def val_main_v82 (x2 : Arr F S8x4096x64 .f32) : Arr F S4096x512 .f32 :=
  shapeCast _ (val_main_v81 (F := F) x2) shapeCasts_S4096x8x64_S4096x512
set_option backward.proofsInPublic true in
abbrev idx_main_v82 (i : S4096x512.Idx) : S4096x8x64.Idx := fun a => match a with
  | ⟨0, _⟩ => ⟨((i 0).val * 512 + (i 1).val) / 512, by have h0 : (i 0).val < 4096 := (i 0).isLt; have h1 : (i 1).val < 512 := (i 1).isLt; show ((i 0).val * 512 + (i 1).val) / 512 < 4096; omega⟩
  | ⟨1, _⟩ => ⟨((i 0).val * 512 + (i 1).val) / 64 % 8, by have h0 : (i 0).val < 4096 := (i 0).isLt; have h1 : (i 1).val < 512 := (i 1).isLt; show ((i 0).val * 512 + (i 1).val) / 64 % 8 < 8; omega⟩
  | ⟨2, _⟩ => ⟨((i 0).val * 512 + (i 1).val) % 64, by have h0 : (i 0).val < 4096 := (i 0).isLt; have h1 : (i 1).val < 512 := (i 1).isLt; show ((i 0).val * 512 + (i 1).val) % 64 < 64; omega⟩
theorem val_main_v82_apply (x2 : Arr F S8x4096x64 .f32) (i : S4096x512.Idx) :
    val_main_v82 (F := F) x2 i = val_main_v81 (F := F) x2 (idx_main_v82 i) := by
  unfold val_main_v82
  generalize val_main_v81 (F := F) x2 = y
  exact shapeCast_apply y shapeCasts_S4096x8x64_S4096x512 i (idx_main_v82 i)
    (by rewrite [Shape.rowMajor_val_three, Shape.rowMajor_val_two]; have h0 : (i 0).val < 4096 := (i 0).isLt; have h1 : (i 1).val < 512 := (i 1).isLt; show (((i 0).val * 512 + (i 1).val) / 512 * 8 + ((i 0).val * 512 + (i 1).val) / 64 % 8) * 64 + ((i 0).val * 512 + (i 1).val) % 64 = (i 0).val * 512 + (i 1).val; omega)

def val_main_v83 (x2 : Arr F S8x4096x64 .f32) : Arr F S4096x512 .bf16 :=
  truncf .bf16 (val_main_v82 (F := F) x2) bitsLt_bf16_f32
theorem val_main_v83_apply (x2 : Arr F S8x4096x64 .f32) (i : S4096x512.Idx) :
    val_main_v83 (F := F) x2 i = FloatOps.truncf .bf16 bitsLt_bf16_f32 (val_main_v82 (F := F) x2 i) := rfl

def val_main_v84 (x4 : Arr F S8x4096x64 .f32) : Arr F S4096x8x64 .f32 :=
  transpose S4096x8x64 [1, 0, 2] (x4) transposes_S8x4096x64_S4096x8x64_1_0_2
abbrev idx_main_v84 (i : S4096x8x64.Idx) : S8x4096x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v84_apply (x4 : Arr F S8x4096x64 .f32) (i : S4096x8x64.Idx) :
    val_main_v84 (F := F) x4 i = x4 (idx_main_v84 i) := by
  unfold val_main_v84
  exact transpose_apply [1, 0, 2] x4 transposes_S8x4096x64_S4096x8x64_1_0_2 i (idx_main_v84 i) (fun b => match b with
    | ⟨0, _⟩ => rfl
    | ⟨1, _⟩ => rfl
    | ⟨2, _⟩ => rfl)

def val_main_v85 (x4 : Arr F S8x4096x64 .f32) : Arr F S4096x512 .f32 :=
  shapeCast _ (val_main_v84 (F := F) x4) shapeCasts_S4096x8x64_S4096x512
set_option backward.proofsInPublic true in
abbrev idx_main_v85 (i : S4096x512.Idx) : S4096x8x64.Idx := fun a => match a with
  | ⟨0, _⟩ => ⟨((i 0).val * 512 + (i 1).val) / 512, by have h0 : (i 0).val < 4096 := (i 0).isLt; have h1 : (i 1).val < 512 := (i 1).isLt; show ((i 0).val * 512 + (i 1).val) / 512 < 4096; omega⟩
  | ⟨1, _⟩ => ⟨((i 0).val * 512 + (i 1).val) / 64 % 8, by have h0 : (i 0).val < 4096 := (i 0).isLt; have h1 : (i 1).val < 512 := (i 1).isLt; show ((i 0).val * 512 + (i 1).val) / 64 % 8 < 8; omega⟩
  | ⟨2, _⟩ => ⟨((i 0).val * 512 + (i 1).val) % 64, by have h0 : (i 0).val < 4096 := (i 0).isLt; have h1 : (i 1).val < 512 := (i 1).isLt; show ((i 0).val * 512 + (i 1).val) % 64 < 64; omega⟩
theorem val_main_v85_apply (x4 : Arr F S8x4096x64 .f32) (i : S4096x512.Idx) :
    val_main_v85 (F := F) x4 i = val_main_v84 (F := F) x4 (idx_main_v85 i) := by
  unfold val_main_v85
  generalize val_main_v84 (F := F) x4 = y
  exact shapeCast_apply y shapeCasts_S4096x8x64_S4096x512 i (idx_main_v85 i)
    (by rewrite [Shape.rowMajor_val_three, Shape.rowMajor_val_two]; have h0 : (i 0).val < 4096 := (i 0).isLt; have h1 : (i 1).val < 512 := (i 1).isLt; show (((i 0).val * 512 + (i 1).val) / 512 * 8 + ((i 0).val * 512 + (i 1).val) / 64 % 8) * 64 + ((i 0).val * 512 + (i 1).val) % 64 = (i 0).val * 512 + (i 1).val; omega)

def val_main_v86 (x4 : Arr F S8x4096x64 .f32) : Arr F S4096x512 .bf16 :=
  truncf .bf16 (val_main_v85 (F := F) x4) bitsLt_bf16_f32
theorem val_main_v86_apply (x4 : Arr F S8x4096x64 .f32) (i : S4096x512.Idx) :
    val_main_v86 (F := F) x4 i = FloatOps.truncf .bf16 bitsLt_bf16_f32 (val_main_v85 (F := F) x4 i) := rfl

end Cert.KernelIdeal.Read

end
-- ==== Proof.Value.HostVals.lean ====
/- What the kernel's call is given: the arrays its host lines prepare, element by element. -/
module

public import proofs.«01_k».proof.Proof.Value.Ref
public import proofs.«01_k».proof.Proof.Host.Read
public import Idealize.ShloMosaic.Lib.KernelVsHost

@[expose] public section

noncomputable section

namespace Cert.Attn

open Idealize.ShloMosaic Idealize.ShloMosaic.ValueIdx
open scoped BigOperators

theorem add_log_coe (M L : ℝ) (hL : 0 < L) : ((M : ℝ) : EReal) + Ideal.log ((L * Real.exp (-M) : ℝ) : EReal) = ((Real.log L : ℝ) : EReal) := by
  rw [log_coe _ (mul_pos hL (Real.exp_pos _)), ← EReal.coe_add, Real.log_mul hL.ne' (Real.exp_pos _).ne', Real.log_exp]
  refine congrArg _ ?_
  ring

/-- The eight lanes that carry the decay beside a head's queries: its value, two remainders (zero here), three ones, two zeros; -/
def qlane (D : Data) (h : Fin 8) (r : ℕ) (t : Fin 4096) : ℝ := if r = 0 then D.c h t else if r = 3 ∨ r = 4 ∨ r = 5 then 1 else 0
/-- and beside its keys: three ones, its value and two remainders, all negated, two zeros. -/
def klane (D : Data) (h : Fin 8) (r : ℕ) (t : Fin 4096) : ℝ := if r = 3 then -D.c h t else if r = 0 ∨ r = 1 ∨ r = 2 then 1 else 0

/-- Of a pair of heads' 128 lanes the first sixteen are used. -/
def lanes (f : Fin 8 → ℕ → Fin 4096 → ℝ) (t : Fin 4096) (x : Fin 512) : ℝ :=
  if x.val % 128 < 16 then f ⟨2 * (x.val / 128) + x.val % 128 / 8 % 2, by omega⟩ (x.val % 8) t else 0

namespace Host

open Cert.KernelIdeal Cert.KernelIdeal.Gen Cert.KernelIdeal.Read

variable {D : Data} {x0 x1 x2 : (⟨S8x4096x64, .f32⟩ : BufTy).Contents (Elt Ideal)} {x3 : (⟨S8x4096, .f32⟩ : BufTy).Contents (Elt Ideal)}
  {x4 : (⟨S8x4096x64, .f32⟩ : BufTy).Contents (Elt Ideal)} (H : Holds D x0 x1 x2 x3 x4)

include H

/-! ## The saved log-sums and inner products -/

theorem r1 (i : S8x4096x64.Idx) : val_main_v1 (F := Ideal) x0 i = ((D.qs (i 0) (i 1) (i 2) : ℝ) : EReal) := by
  rw [val_main_v1_apply, val_main_v0_apply, val_main_cst_apply, H.q, Ideal.mulf_def, Ideal.ofBits_def, ofBits_eighth, ← EReal.coe_mul]; rfl

theorem r51 (i : S8x4096x4096.Idx) : val_main_v51 (F := Ideal) x0 x1 x3 i = ((D.Z (i 0) (i 1) (i 2) : ℝ) : EReal) := by
  rw [val_main_v51_apply, val_main_v45_apply, val_main_v50_apply, val_main_v48_apply, val_main_v49_apply, val_main_v46_apply, val_main_v47_apply,
    H.c, H.c, Ideal.addf_def, Ideal.subf_def, ← EReal.coe_sub]
  simp only [r1 H, H.k, ← EReal.coe_mul]
  rw [← coe_sum, ← EReal.coe_add]; rfl

omit H in
theorem r58m (i : S8x4096x4096.Idx) : val_main_call2_v1 (F := Ideal) i = if (i 2).val ≤ (i 1).val then 1#1 else 0#1 := by
  rw [val_main_call2_v1_apply, val_main_v57_apply, val_main_v55_apply, val_main_v56_apply, val_main_v53_apply, val_main_v54_apply,
    val_main_v52_apply, val_main_v52_apply]
  exact sge_pos _ _ (i 1).isLt (i 2).isLt

theorem r58 (i : S8x4096x4096.Idx) :
    val_main_v58 (F := Ideal) x0 x1 x3 i = if (i 2).val ≤ (i 1).val then ((D.Z (i 0) (i 1) (i 2) : ℝ) : EReal) else ⊥ := by
  rw [val_main_v58_apply, r58m, select_ite, r51 H, val_main_call2_v2_apply, val_main_call2_v0_apply, val_main_cst_3_apply,
    Ideal.ofBits_def, ofBits_ninf]

theorem r59 (i : S8x4096.Idx) : ∃ M : ℝ, val_main_v59 (F := Ideal) x0 x1 x3 i = (M : EReal) := by
  unfold val_main_v59
  rw [Host.reduce_eq_fold, val_main_cst_4_apply, Ideal.ofBits_def, ofBits_ninf]
  refine fold_max_real _ _ (fun j _ => ?_) (ix3 (i 0) (i 1) (0 : Fin 4096)) ?_ ?_
  · rw [r58 H]; split
    · exact EReal.coe_lt_top _
    · exact bot_lt_top
  · rw [Finset.mem_filter]
    refine ⟨Finset.mem_univ _, funext fun a => Fin.ext ?_⟩
    match a with
    | ⟨0, _⟩ => exact Shape.ReducesTo.drop_apply_val_of_eq reducesTo_S8x4096x4096_S8x4096_d2 _ 0 0
    | ⟨1, _⟩ => exact Shape.ReducesTo.drop_apply_val_of_eq reducesTo_S8x4096x4096_S8x4096_d2 _ 1 1
  · rw [r58 H]
    exact lt_of_lt_of_eq (EReal.bot_lt_coe _) (if_pos (Nat.zero_le _)).symm

theorem exists_M : ∃ M : S8x4096.Idx → ℝ, ∀ i, val_main_v59 (F := Ideal) x0 x1 x3 i = (M i : EReal) :=
  ⟨fun i => (r59 H i).choose, fun i => (r59 H i).choose_spec⟩

section

variable {M : S8x4096.Idx → ℝ} (hM : ∀ i, val_main_v59 (F := Ideal) x0 x1 x3 i = (M i : EReal))
include hM

theorem r63 (i : S8x4096x4096.Idx) :
    val_main_v63 (F := Ideal) x0 x1 x3 i = ((D.E (i 0) (i 1) (i 2) * Real.exp (-(M (ix2 (i 0) (i 1)))) : ℝ) : EReal) := by
  rw [val_main_v63_apply, val_main_v62_apply, r58 H, val_main_v61_apply, val_main_v60_apply, hM, Ideal.hostUnary_exp_def, Ideal.subf_def]
  have e : idx_main_v60 (idx_main_v61 i) = ix2 (i 0) (i 1) := by
    funext a
    match a with
    | ⟨0, _⟩ => rfl
    | ⟨1, _⟩ => rfl
  rw [e]
  unfold Data.E
  by_cases h : (i 2).val ≤ (i 1).val
  · have h' : (show Fin 4096 from i 2).val ≤ (show Fin 4096 from i 1).val := h
    rw [if_pos h, if_pos h', ← EReal.coe_sub, exp_coe, sub_eq_add_neg, Real.exp_add]; rfl
  · have h' : ¬ (show Fin 4096 from i 2).val ≤ (show Fin 4096 from i 1).val := h
    rw [if_neg h, if_neg h', EReal.bot_sub, exp_bot, zero_mul]; rfl

theorem r64 (i : S8x4096.Idx) :
    val_main_v64 (F := Ideal) x0 x1 x3 i = ((D.L (i 0) (i 1) * Real.exp (-(M (ix2 (i 0) (i 1)))) : ℝ) : EReal) := by
  rw [val_main_v64_apply, val_main_cst_5_apply, Ideal.ofBits_def, Ideal.ofBits_zero_f32, zero_add]
  simp only [r63 H hM]
  rw [← coe_sum]
  exact congrArg _ (Finset.sum_mul Finset.univ (fun s => D.E (i 0) (i 1) s) (Real.exp (-(M (ix2 (i 0) (i 1)))))).symm

theorem r65 (i : S8x4096x1.Idx) :
    val_main_v65 (F := Ideal) x0 x1 x3 i = ((D.L (i 0) (i 1) * Real.exp (-(M (ix2 (i 0) (i 1)))) : ℝ) : EReal) := by
  rw [val_main_v65_apply, r64 H hM]; rfl

theorem r67 (i : S8x4096x4096.Idx) : val_main_v67 (F := Ideal) x0 x1 x3 i = ((D.P (i 0) (i 1) (i 2) : ℝ) : EReal) := by
  rw [val_main_v67_apply, val_main_v66_apply, r63 H hM, r65 H hM, Ideal.hostDivf_def]
  exact div_mul_coe _ _ _ (D.L_pos _ _) (Real.exp_pos _)

theorem r68 (i : S8x4096x64.Idx) : val_main_v68 (F := Ideal) x0 x1 x2 x3 i = ((∑ s, D.P (i 0) (i 1) s * D.v (i 0) s (i 2) : ℝ) : EReal) := by
  rw [val_main_v68_apply]
  simp only [r67 H hM, H.v, ← EReal.coe_mul]
  rw [← coe_sum]; rfl

theorem r72 (i : S8x4096x64.Idx) :
    val_main_v72 (F := Ideal) x0 x1 x2 x3 x4 i = (((∑ s, D.P (i 0) (i 1) s * D.v (i 0) s (i 2)) * D.w (i 0) (i 1) (i 2) : ℝ) : EReal) := by
  rw [val_main_v72_apply, r68 H hM, H.w, Ideal.mulf_def, ← EReal.coe_mul]

theorem r70 (i : S8x4096x1.Idx) : val_main_v70 (F := Ideal) x0 x1 x3 i = ((Real.log (D.L (i 0) (i 1)) : ℝ) : EReal) := by
  rw [val_main_v70_apply, val_main_v69_apply, r65 H hM, val_main_v60_apply, hM, Ideal.addf_def, Ideal.hostUnary_log_def]
  have e : idx_main_v60 i = ix2 (i 0) (i 1) := by
    funext a
    match a with
    | ⟨0, _⟩ => rfl
    | ⟨1, _⟩ => rfl
  rw [e]
  exact add_log_coe _ _ (D.L_pos _ _)

end

/-- The logarithm of a query's sum. -/
theorem lse (a : Fin 4) (b : Fin 2) (t : Fin 4096) :
    val_main_v71 (F := Ideal) x0 x1 x3 (ix3 a b t) = ((Real.log (D.L ⟨2 * a.val + b.val, by omega⟩ t) : ℝ) : EReal) := by
  obtain ⟨M, hM⟩ := exists_M H
  rw [val_main_v71_apply, r70 H hM]
  have h0 := a.isLt
  have h1 := b.isLt
  have h2 := t.isLt
  have e : idx_main_v71 (ix3 a b t) = ix3 (⟨2 * a.val + b.val, by omega⟩ : Fin 8) t (0 : Fin 1) := by
    funext z
    match z with
    | ⟨0, _⟩ => exact Fin.ext (show ((a.val * 2 + b.val) * 4096 + t.val) / 4096 = 2 * a.val + b.val by omega)
    | ⟨1, _⟩ => exact Fin.ext (show ((a.val * 2 + b.val) * 4096 + t.val) / 1 % 4096 = t.val by omega)
    | ⟨2, _⟩ => rfl
  rw [e]

/-- A query's inner product of output and cotangent. -/
theorem dlt (a : Fin 4) (b : Fin 2) (t : Fin 4096) :
    val_main_v74 (F := Ideal) x0 x1 x2 x3 x4 (ix3 a b t) = ((D.Dl ⟨2 * a.val + b.val, by omega⟩ t : ℝ) : EReal) := by
  obtain ⟨M, hM⟩ := exists_M H
  rw [val_main_v74_apply, val_main_v73_apply, val_main_cst_6_apply, Ideal.ofBits_def, Ideal.ofBits_zero_f32, zero_add]
  simp only [r72 H hM]
  rw [← coe_sum]
  have h0 := a.isLt
  have h1 := b.isLt
  have h2 := t.isLt
  have e : idx_main_v74 (ix3 a b t) = ix2 (⟨2 * a.val + b.val, by omega⟩ : Fin 8) t := by
    funext z
    match z with
    | ⟨0, _⟩ => exact Fin.ext (show ((a.val * 2 + b.val) * 4096 + t.val) / 4096 = 2 * a.val + b.val by omega)
    | ⟨1, _⟩ => exact Fin.ext (show ((a.val * 2 + b.val) * 4096 + t.val) % 4096 = t.val by omega)
  rw [e]
  exact congrArg _ (D.Dl_eq _ _)

/-! ## Heads side by side -/

theorem queries (t : Fin 4096) (x : Fin 512) :
    val_main_v77 (F := Ideal) x0 (ix2 t x) = ((D.qs ⟨x.val / 64, by omega⟩ t ⟨x.val % 64, by omega⟩ : ℝ) : EReal) := by
  rw [val_main_v77_apply, val_main_v76_apply, val_main_v75_apply, r1 H, Ideal.truncf_def]
  have e : idx_main_v75 (idx_main_v76 (ix2 t x)) = ix3 (⟨x.val / 64, by omega⟩ : Fin 8) t (⟨x.val % 64, by omega⟩ : Fin 64) := by
    funext z
    match z with
    | ⟨0, _⟩ => exact Fin.ext (show (t.val * 512 + x.val) / 64 % 8 = x.val / 64 by omega)
    | ⟨1, _⟩ => exact Fin.ext (show (t.val * 512 + x.val) / 512 = t.val by omega)
    | ⟨2, _⟩ => exact Fin.ext (show (t.val * 512 + x.val) % 64 = x.val % 64 by omega)
  rw [e]

theorem keys (t : Fin 4096) (x : Fin 512) :
    val_main_v80 (F := Ideal) x1 (ix2 t x) = ((D.k ⟨x.val / 64, by omega⟩ t ⟨x.val % 64, by omega⟩ : ℝ) : EReal) := by
  rw [val_main_v80_apply, val_main_v79_apply, val_main_v78_apply, H.k, Ideal.truncf_def]
  have e : idx_main_v78 (idx_main_v79 (ix2 t x)) = ix3 (⟨x.val / 64, by omega⟩ : Fin 8) t (⟨x.val % 64, by omega⟩ : Fin 64) := by
    funext z
    match z with
    | ⟨0, _⟩ => exact Fin.ext (show (t.val * 512 + x.val) / 64 % 8 = x.val / 64 by omega)
    | ⟨1, _⟩ => exact Fin.ext (show (t.val * 512 + x.val) / 512 = t.val by omega)
    | ⟨2, _⟩ => exact Fin.ext (show (t.val * 512 + x.val) % 64 = x.val % 64 by omega)
  rw [e]

theorem values (t : Fin 4096) (x : Fin 512) :
    val_main_v83 (F := Ideal) x2 (ix2 t x) = ((D.v ⟨x.val / 64, by omega⟩ t ⟨x.val % 64, by omega⟩ : ℝ) : EReal) := by
  rw [val_main_v83_apply, val_main_v82_apply, val_main_v81_apply, H.v, Ideal.truncf_def]
  have e : idx_main_v81 (idx_main_v82 (ix2 t x)) = ix3 (⟨x.val / 64, by omega⟩ : Fin 8) t (⟨x.val % 64, by omega⟩ : Fin 64) := by
    funext z
    match z with
    | ⟨0, _⟩ => exact Fin.ext (show (t.val * 512 + x.val) / 64 % 8 = x.val / 64 by omega)
    | ⟨1, _⟩ => exact Fin.ext (show (t.val * 512 + x.val) / 512 = t.val by omega)
    | ⟨2, _⟩ => exact Fin.ext (show (t.val * 512 + x.val) % 64 = x.val % 64 by omega)
  rw [e]

theorem cotangents (t : Fin 4096) (x : Fin 512) :
    val_main_v86 (F := Ideal) x4 (ix2 t x) = ((D.w ⟨x.val / 64, by omega⟩ t ⟨x.val % 64, by omega⟩ : ℝ) : EReal) := by
  rw [val_main_v86_apply, val_main_v85_apply, val_main_v84_apply, H.w, Ideal.truncf_def]
  have e : idx_main_v84 (idx_main_v85 (ix2 t x)) = ix3 (⟨x.val / 64, by omega⟩ : Fin 8) t (⟨x.val % 64, by omega⟩ : Fin 64) := by
    funext z
    match z with
    | ⟨0, _⟩ => exact Fin.ext (show (t.val * 512 + x.val) / 64 % 8 = x.val / 64 by omega)
    | ⟨1, _⟩ => exact Fin.ext (show (t.val * 512 + x.val) / 512 = t.val by omega)
    | ⟨2, _⟩ => exact Fin.ext (show (t.val * 512 + x.val) % 64 = x.val % 64 by omega)
  rw [e]

/-! ## The decay's lanes -/

theorem r4 (i : S8x4096.Idx) : val_main_v4 (F := Ideal) x3 i = ((0 : ℝ) : EReal) := by
  rw [val_main_v4_apply, val_main_v3_apply, val_main_v2_apply, H.c, Ideal.extf_def, Ideal.truncf_def, Ideal.subf_def, ← EReal.coe_sub, sub_self]

theorem r7 (i : S8x4096.Idx) : val_main_v7 (F := Ideal) x3 i = ((0 : ℝ) : EReal) := by
  rw [val_main_v7_apply, val_main_v6_apply, val_main_v5_apply, r4 H, Ideal.extf_def, Ideal.truncf_def, Ideal.subf_def, ← EReal.coe_sub, sub_self]

theorem r9 (i : S8x4096.Idx) : val_main_v9 (F := Ideal) x3 i = ((D.c (i 0) (i 1) : ℝ) : EReal) := by
  rw [val_main_v9_apply, val_main_v2_apply, H.c, Ideal.extf_def, Ideal.truncf_def]

theorem r10 (i : S8x4096.Idx) : val_main_v10 (F := Ideal) x3 i = ((0 : ℝ) : EReal) := by
  rw [val_main_v10_apply, val_main_v5_apply, r4 H, Ideal.extf_def, Ideal.truncf_def]

theorem r11 (i : S8x4096.Idx) : val_main_v11 (F := Ideal) x3 i = ((0 : ℝ) : EReal) := by
  rw [val_main_v11_apply, val_main_v8_apply, r7 H, Ideal.extf_def, Ideal.truncf_def]

omit H in
theorem off (h r : Fin 8) (t : Fin 4096) (b : Fin S8x1x4096.rank) (hb : b.cast (rfl : S8x1x4096.rank = S8x8x4096.rank) ≠ 1) :
    ((ix3 h (0 : Fin 1) t : S8x1x4096.Idx) b).val = ((ix3 h r t : S8x8x4096.Idx) (b.cast rfl)).val := by
  match b with
  | ⟨0, _⟩ => rfl
  | ⟨1, _⟩ => exact absurd rfl hb
  | ⟨2, _⟩ => rfl

omit H in
/-- Eight rows set side by side, read at a row. -/
theorem stack8 (f0 f1 f2 f3 f4 f5 f6 f7 : S8x1x4096.Idx → EReal)
    (hc : Shape.Concatenates [S8x1x4096, S8x1x4096, S8x1x4096, S8x1x4096, S8x1x4096, S8x1x4096, S8x1x4096, S8x1x4096] S8x8x4096 1)
    (h r : Fin 8) (t : Fin 4096) :
    concatenate S8x8x4096 1 [⟨S8x1x4096, f0⟩, ⟨S8x1x4096, f1⟩, ⟨S8x1x4096, f2⟩, ⟨S8x1x4096, f3⟩, ⟨S8x1x4096, f4⟩, ⟨S8x1x4096, f5⟩,
      ⟨S8x1x4096, f6⟩, ⟨S8x1x4096, f7⟩] hc (ix3 h r t) = (![f0, f1, f2, f3, f4, f5, f6, f7] : Fin 8 → S8x1x4096.Idx → EReal) r (ix3 h (0 : Fin 1) t) := by
  match r with
  | ⟨0, _⟩ => exact concatenate_apply_piece (t := S8x8x4096) 1 [⟨S8x1x4096, f0⟩, ⟨S8x1x4096, f1⟩, ⟨S8x1x4096, f2⟩, ⟨S8x1x4096, f3⟩, ⟨S8x1x4096, f4⟩, ⟨S8x1x4096, f5⟩, ⟨S8x1x4096, f6⟩, ⟨S8x1x4096, f7⟩] hc _ 0 (by decide : 0 < 8) S8x1x4096 f0 rfl rfl 0 rfl (ix3 h (0 : Fin 1) t) (off h _ t) rfl
  | ⟨1, _⟩ => exact concatenate_apply_piece (t := S8x8x4096) 1 [⟨S8x1x4096, f0⟩, ⟨S8x1x4096, f1⟩, ⟨S8x1x4096, f2⟩, ⟨S8x1x4096, f3⟩, ⟨S8x1x4096, f4⟩, ⟨S8x1x4096, f5⟩, ⟨S8x1x4096, f6⟩, ⟨S8x1x4096, f7⟩] hc _ 1 (by decide : 1 < 8) S8x1x4096 f1 rfl rfl 1 rfl (ix3 h (0 : Fin 1) t) (off h _ t) rfl
  | ⟨2, _⟩ => exact concatenate_apply_piece (t := S8x8x4096) 1 [⟨S8x1x4096, f0⟩, ⟨S8x1x4096, f1⟩, ⟨S8x1x4096, f2⟩, ⟨S8x1x4096, f3⟩, ⟨S8x1x4096, f4⟩, ⟨S8x1x4096, f5⟩, ⟨S8x1x4096, f6⟩, ⟨S8x1x4096, f7⟩] hc _ 2 (by decide : 2 < 8) S8x1x4096 f2 rfl rfl 2 rfl (ix3 h (0 : Fin 1) t) (off h _ t) rfl
  | ⟨3, _⟩ => exact concatenate_apply_piece (t := S8x8x4096) 1 [⟨S8x1x4096, f0⟩, ⟨S8x1x4096, f1⟩, ⟨S8x1x4096, f2⟩, ⟨S8x1x4096, f3⟩, ⟨S8x1x4096, f4⟩, ⟨S8x1x4096, f5⟩, ⟨S8x1x4096, f6⟩, ⟨S8x1x4096, f7⟩] hc _ 3 (by decide : 3 < 8) S8x1x4096 f3 rfl rfl 3 rfl (ix3 h (0 : Fin 1) t) (off h _ t) rfl
  | ⟨4, _⟩ => exact concatenate_apply_piece (t := S8x8x4096) 1 [⟨S8x1x4096, f0⟩, ⟨S8x1x4096, f1⟩, ⟨S8x1x4096, f2⟩, ⟨S8x1x4096, f3⟩, ⟨S8x1x4096, f4⟩, ⟨S8x1x4096, f5⟩, ⟨S8x1x4096, f6⟩, ⟨S8x1x4096, f7⟩] hc _ 4 (by decide : 4 < 8) S8x1x4096 f4 rfl rfl 4 rfl (ix3 h (0 : Fin 1) t) (off h _ t) rfl
  | ⟨5, _⟩ => exact concatenate_apply_piece (t := S8x8x4096) 1 [⟨S8x1x4096, f0⟩, ⟨S8x1x4096, f1⟩, ⟨S8x1x4096, f2⟩, ⟨S8x1x4096, f3⟩, ⟨S8x1x4096, f4⟩, ⟨S8x1x4096, f5⟩, ⟨S8x1x4096, f6⟩, ⟨S8x1x4096, f7⟩] hc _ 5 (by decide : 5 < 8) S8x1x4096 f5 rfl rfl 5 rfl (ix3 h (0 : Fin 1) t) (off h _ t) rfl
  | ⟨6, _⟩ => exact concatenate_apply_piece (t := S8x8x4096) 1 [⟨S8x1x4096, f0⟩, ⟨S8x1x4096, f1⟩, ⟨S8x1x4096, f2⟩, ⟨S8x1x4096, f3⟩, ⟨S8x1x4096, f4⟩, ⟨S8x1x4096, f5⟩, ⟨S8x1x4096, f6⟩, ⟨S8x1x4096, f7⟩] hc _ 6 (by decide : 6 < 8) S8x1x4096 f6 rfl rfl 6 rfl (ix3 h (0 : Fin 1) t) (off h _ t) rfl
  | ⟨7, _⟩ => exact concatenate_apply_piece (t := S8x8x4096) 1 [⟨S8x1x4096, f0⟩, ⟨S8x1x4096, f1⟩, ⟨S8x1x4096, f2⟩, ⟨S8x1x4096, f3⟩, ⟨S8x1x4096, f4⟩, ⟨S8x1x4096, f5⟩, ⟨S8x1x4096, f6⟩, ⟨S8x1x4096, f7⟩] hc _ 7 (by decide : 7 < 8) S8x1x4096 f7 rfl rfl 7 rfl (ix3 h (0 : Fin 1) t) (off h _ t) rfl

theorem r22 (h : Fin 8) (r : Fin 8) (t : Fin 4096) : val_main_v22 (F := Ideal) x3 (ix3 h r t) = ((qlane D h r.val t : ℝ) : EReal) := by
  have e : val_main_v22 (F := Ideal) x3 (ix3 h r t)
      = (![val_main_v14 (F := Ideal) x3, val_main_v15 (F := Ideal) x3, val_main_v16 (F := Ideal) x3, val_main_v17 (F := Ideal), val_main_v18 (F := Ideal),
          val_main_v19 (F := Ideal), val_main_v20 (F := Ideal), val_main_v21 (F := Ideal)] : Fin 8 → S8x1x4096.Idx → EReal) r (ix3 h (0 : Fin 1) t) :=
    stack8 _ _ _ _ _ _ _ _ _ h r t
  rw [e]
  match r with
  | ⟨0, _⟩ => exact (val_main_v14_apply _ (ix3 h (0 : Fin 1) t)).trans (r9 H _)
  | ⟨1, _⟩ => exact (val_main_v15_apply _ (ix3 h (0 : Fin 1) t)).trans (r10 H _)
  | ⟨2, _⟩ => exact (val_main_v16_apply _ (ix3 h (0 : Fin 1) t)).trans (r11 H _)
  | ⟨3, _⟩ => exact (val_main_v17_apply (ix3 h (0 : Fin 1) t)).trans ((val_main_v12_apply _).trans ofBits_one)
  | ⟨4, _⟩ => exact (val_main_v18_apply (ix3 h (0 : Fin 1) t)).trans ((val_main_v12_apply _).trans ofBits_one)
  | ⟨5, _⟩ => exact (val_main_v19_apply (ix3 h (0 : Fin 1) t)).trans ((val_main_v12_apply _).trans ofBits_one)
  | ⟨6, _⟩ => exact (val_main_v20_apply (ix3 h (0 : Fin 1) t)).trans ((val_main_v13_apply _).trans ofBits_zero)
  | ⟨7, _⟩ => exact (val_main_v21_apply (ix3 h (0 : Fin 1) t)).trans ((val_main_v13_apply _).trans ofBits_zero)

theorem r39 (h : Fin 8) (r : Fin 8) (t : Fin 4096) : val_main_v39 (F := Ideal) x3 (ix3 h r t) = ((klane D h r.val t : ℝ) : EReal) := by
  have e : val_main_v39 (F := Ideal) x3 (ix3 h r t)
      = (![val_main_v31 (F := Ideal), val_main_v32 (F := Ideal), val_main_v33 (F := Ideal), val_main_v34 (F := Ideal) x3, val_main_v35 (F := Ideal) x3,
          val_main_v36 (F := Ideal) x3, val_main_v37 (F := Ideal), val_main_v38 (F := Ideal)] : Fin 8 → S8x1x4096.Idx → EReal) r (ix3 h (0 : Fin 1) t) :=
    stack8 _ _ _ _ _ _ _ _ _ h r t
  rw [e]
  have n0 : -((0 : ℝ) : EReal) = ((0 : ℝ) : EReal) := by rw [← EReal.coe_neg, neg_zero]
  match r with
  | ⟨0, _⟩ => exact (val_main_v31_apply (ix3 h (0 : Fin 1) t)).trans ((val_main_v12_apply _).trans ofBits_one)
  | ⟨1, _⟩ => exact (val_main_v32_apply (ix3 h (0 : Fin 1) t)).trans ((val_main_v12_apply _).trans ofBits_one)
  | ⟨2, _⟩ => exact (val_main_v33_apply (ix3 h (0 : Fin 1) t)).trans ((val_main_v12_apply _).trans ofBits_one)
  | ⟨3, _⟩ => exact (val_main_v34_apply _ (ix3 h (0 : Fin 1) t)).trans ((val_main_v28_apply _ _).trans (congrArg Neg.neg (r9 H _)))
  | ⟨4, _⟩ => exact (val_main_v35_apply _ (ix3 h (0 : Fin 1) t)).trans ((val_main_v29_apply _ _).trans ((congrArg Neg.neg (r10 H _)).trans n0))
  | ⟨5, _⟩ => exact (val_main_v36_apply _ (ix3 h (0 : Fin 1) t)).trans ((val_main_v30_apply _ _).trans ((congrArg Neg.neg (r11 H _)).trans n0))
  | ⟨6, _⟩ => exact (val_main_v37_apply (ix3 h (0 : Fin 1) t)).trans ((val_main_v13_apply _).trans ofBits_zero)
  | ⟨7, _⟩ => exact (val_main_v38_apply (ix3 h (0 : Fin 1) t)).trans ((val_main_v13_apply _).trans ofBits_zero)

theorem qdecay (t : Fin 4096) (x : Fin 512) : val_main_v27 (F := Ideal) x3 (ix2 t x) = ((lanes (qlane D) t x : ℝ) : EReal) := by
  have h0 := t.isLt
  have h1 := x.isLt
  rw [val_main_v27_apply, val_main_v26_apply, val_main_v25_apply, Ideal.truncf_def]
  have e : idx_main_v25 (idx_main_v26 (ix2 t x)) = ix3 (⟨x.val / 128, by omega⟩ : Fin 4) (⟨x.val % 128, by omega⟩ : Fin 128) t := by
    funext z
    match z with
    | ⟨0, _⟩ => exact Fin.ext (show (x.val * 4096 + t.val) / 524288 = x.val / 128 by omega)
    | ⟨1, _⟩ => exact Fin.ext (show (x.val * 4096 + t.val) / 4096 % 128 = x.val % 128 by omega)
    | ⟨2, _⟩ => exact Fin.ext (show (x.val * 4096 + t.val) % 4096 = t.val by omega)
  rw [e]
  unfold val_main_v24 lanes
  by_cases hx : x.val % 128 < 16
  · rw [if_pos hx, pad_apply_of_inside (s := S4x16x4096) _ _ _ _ _ _ _ _ (ix3 (⟨x.val / 128, by omega⟩ : Fin 4) (⟨x.val % 128, hx⟩ : Fin 16) t) (fun a => by
      match a with
      | ⟨0, _⟩ => exact (show x.val / 128 = 0 + x.val / 128 * (0 + 1) by omega)
      | ⟨1, _⟩ => exact (show x.val % 128 = 0 + x.val % 128 * (0 + 1) by omega)
      | ⟨2, _⟩ => exact (show t.val = 0 + t.val * (0 + 1) by omega)), val_main_v23_apply]
    have e' : idx_main_v23 (ix3 (⟨x.val / 128, by omega⟩ : Fin 4) (⟨x.val % 128, hx⟩ : Fin 16) t)
        = ix3 (⟨2 * (x.val / 128) + x.val % 128 / 8 % 2, by omega⟩ : Fin 8) (⟨x.val % 8, by omega⟩ : Fin 8) t := by
      funext z
      match z with
      | ⟨0, _⟩ => exact Fin.ext (show ((x.val / 128 * 16 + x.val % 128) * 4096 + t.val) / 32768 = 2 * (x.val / 128) + x.val % 128 / 8 % 2 by omega)
      | ⟨1, _⟩ => exact Fin.ext (show ((x.val / 128 * 16 + x.val % 128) * 4096 + t.val) / 4096 % 8 = x.val % 8 by omega)
      | ⟨2, _⟩ => exact Fin.ext (show ((x.val / 128 * 16 + x.val % 128) * 4096 + t.val) % 4096 = t.val by omega)
    rw [e', r22 H]
  · rw [if_neg hx, pad_apply_of_not_inside (s := S4x16x4096) _ _ _ _ _ _ _ _ 1 (fun hc => hx (by
      have h2 : (x.val % 128 - 0) / (0 + 1) < 16 := hc.2.2
      omega))]
    exact (sitofp_zero (φ := .f32)).trans EReal.coe_zero.symm

theorem kdecay (t : Fin 4096) (x : Fin 512) : val_main_v44 (F := Ideal) x3 (ix2 t x) = ((lanes (klane D) t x : ℝ) : EReal) := by
  have h0 := t.isLt
  have h1 := x.isLt
  rw [val_main_v44_apply, val_main_v43_apply, val_main_v42_apply, Ideal.truncf_def]
  have e : idx_main_v42 (idx_main_v43 (ix2 t x)) = ix3 (⟨x.val / 128, by omega⟩ : Fin 4) (⟨x.val % 128, by omega⟩ : Fin 128) t := by
    funext z
    match z with
    | ⟨0, _⟩ => exact Fin.ext (show (x.val * 4096 + t.val) / 524288 = x.val / 128 by omega)
    | ⟨1, _⟩ => exact Fin.ext (show (x.val * 4096 + t.val) / 4096 % 128 = x.val % 128 by omega)
    | ⟨2, _⟩ => exact Fin.ext (show (x.val * 4096 + t.val) % 4096 = t.val by omega)
  rw [e]
  unfold val_main_v41 lanes
  by_cases hx : x.val % 128 < 16
  · rw [if_pos hx, pad_apply_of_inside (s := S4x16x4096) _ _ _ _ _ _ _ _ (ix3 (⟨x.val / 128, by omega⟩ : Fin 4) (⟨x.val % 128, hx⟩ : Fin 16) t) (fun a => by
      match a with
      | ⟨0, _⟩ => exact (show x.val / 128 = 0 + x.val / 128 * (0 + 1) by omega)
      | ⟨1, _⟩ => exact (show x.val % 128 = 0 + x.val % 128 * (0 + 1) by omega)
      | ⟨2, _⟩ => exact (show t.val = 0 + t.val * (0 + 1) by omega)), val_main_v40_apply]
    have e' : idx_main_v40 (ix3 (⟨x.val / 128, by omega⟩ : Fin 4) (⟨x.val % 128, hx⟩ : Fin 16) t)
        = ix3 (⟨2 * (x.val / 128) + x.val % 128 / 8 % 2, by omega⟩ : Fin 8) (⟨x.val % 8, by omega⟩ : Fin 8) t := by
      funext z
      match z with
      | ⟨0, _⟩ => exact Fin.ext (show ((x.val / 128 * 16 + x.val % 128) * 4096 + t.val) / 32768 = 2 * (x.val / 128) + x.val % 128 / 8 % 2 by omega)
      | ⟨1, _⟩ => exact Fin.ext (show ((x.val / 128 * 16 + x.val % 128) * 4096 + t.val) / 4096 % 8 = x.val % 8 by omega)
      | ⟨2, _⟩ => exact Fin.ext (show ((x.val / 128 * 16 + x.val % 128) * 4096 + t.val) % 4096 = t.val by omega)
    rw [e', r39 H]
  · rw [if_neg hx, pad_apply_of_not_inside (s := S4x16x4096) _ _ _ _ _ _ _ _ 1 (fun hc => hx (by
      have h2 : (x.val % 128 - 0) / (0 + 1) < 16 := hc.2.2
      omega))]
    exact (sitofp_zero (φ := .f32)).trans EReal.coe_zero.symm

end Host

end Cert.Attn

end
-- ==== Proof.Value.Tiles.lean ====
/- What one tile computes, over the real numbers: key block `j` of a pair of heads against query block `n` gives that tile's
   probabilities and scores' gradients. -/
module

public import proofs.«01_k».proof.Proof.Value.Ops
public import proofs.«01_k».proof.Proof.Value.HostVals

@[expose] public section

noncomputable section

namespace Cert.KernelIdeal.Tile

open Idealize.ShloMosaic Idealize.ShloMosaic.ValueIdx Cert.KernelIdeal Cert.KernelIdeal.Gen
open Cert.Attn (Data coe_sum lanes qlane klane)
open scoped BigOperators

/-! ## Positions and heads -/

/-- Row `r` of block `n`. -/
def pos (n : ℕ) (r : Fin 1024) : Fin 4096 := ⟨(1024 * n + r.val) % 4096, Nat.mod_lt _ (by norm_num)⟩
/-- Head `h` of pair `hp`, -/
def hd (hp : Fin 4) (h : Fin 2) : Fin 8 := ⟨2 * hp.val + h.val, by omega⟩
/-- the head of its lane `y`, -/
def hl (hp : Fin 4) (y : Fin 128) : Fin 8 := ⟨2 * hp.val + y.val / 64, by omega⟩
/-- the lane's coordinate in that head, -/
def dl (y : Fin 128) : Fin 64 := ⟨y.val % 64, by omega⟩
/-- and its place among all pairs' lanes. -/
def ln (hp : Fin 4) (y : Fin 128) : Fin 512 := ⟨128 * hp.val + y.val, by omega⟩

theorem pos_val {n : ℕ} (hn : n < 4) (r : Fin 1024) : (pos n r).val = 1024 * n + r.val := by
  show (1024 * n + r.val) % 4096 = _
  omega

/-- A grid point's inputs are pair `hp`'s and key block `j`'s part of the data. -/
structure Desc (I : Ins Ideal) (D : Data) (hp : Fin 4) (j : ℕ) : Prop where
  q : ∀ t y, I.q (ix2 t y) = ((D.qs (hl hp y) t (dl y) : ℝ) : EReal)
  qa : ∀ t y, I.qa (ix2 t y) = ((lanes (qlane D) t (ln hp y) : ℝ) : EReal)
  ct : ∀ t y, I.ct (ix2 t y) = ((D.w (hl hp y) t (dl y) : ℝ) : EReal)
  lse : ∀ h t, I.lse (ix3 (0 : Fin 1) h t) = ((Real.log (D.L (hd hp h) t) : ℝ) : EReal)
  dlt : ∀ h t, I.dlt (ix3 (0 : Fin 1) h t) = ((D.Dl (hd hp h) t : ℝ) : EReal)
  k : ∀ s y, I.k (ix2 s y) = ((D.k (hl hp y) (pos j s) (dl y) : ℝ) : EReal)
  kl : ∀ s (y : Fin 128), I.kaug (ix2 s (⟨y.val, by omega⟩ : Fin 256)) = ((D.k (hl hp y) (pos j s) (dl y) : ℝ) : EReal)
  kr : ∀ s (y : Fin 128), I.kaug (ix2 s (⟨128 + y.val, by omega⟩ : Fin 256)) = ((lanes (klane D) (pos j s) (ln hp y) : ℝ) : EReal)
  v : ∀ s y, I.v (ix2 s y) = ((D.v (hl hp y) (pos j s) (dl y) : ℝ) : EReal)

/-! ## Sums over lanes -/

theorem sum_256 (f : Fin 256 → EReal) : ∑ y, f y = ∑ y : Fin 128, f ⟨y.val, by omega⟩ + ∑ y : Fin 128, f ⟨128 + y.val, by omega⟩ :=
  Fin.sum_univ_add (a := 128) (b := 128) f
theorem sum_128 (f : Fin 128 → EReal) : ∑ y, f y = ∑ y : Fin 64, f ⟨y.val, by omega⟩ + ∑ y : Fin 64, f ⟨64 + y.val, by omega⟩ :=
  Fin.sum_univ_add (a := 64) (b := 64) f
theorem sum_128' (f : Fin 128 → EReal) : ∑ y, f y = ∑ y : Fin 8, f ⟨y.val, by omega⟩ + (∑ y : Fin 8, f ⟨8 + y.val, by omega⟩ + ∑ y : Fin 112, f ⟨8 + (8 + y.val), by omega⟩) := by
  refine (Fin.sum_univ_add (a := 8) (b := 120) f).trans (congrArg _ ?_)
  exact Fin.sum_univ_add (a := 8) (b := 112) fun y => f ⟨8 + y.val, by omega⟩

/-- With the other head's lanes zero a sum over both heads' lanes is the head's own. -/
theorem half_sum (h : Fin 2) (f g : Fin 128 → EReal) :
    ∑ y, f y * (if (y.val < 64 ↔ h = 0) then g y else 0) = ∑ d : Fin 64, f ⟨64 * h.val + d.val, by omega⟩ * g ⟨64 * h.val + d.val, by omega⟩ := by
  rw [sum_128]
  match h with
  | ⟨0, _⟩ =>
    rw [Finset.sum_congr (s₂ := Finset.univ) rfl (g := fun d : Fin 64 => f ⟨64 * 0 + d.val, by omega⟩ * g ⟨64 * 0 + d.val, by omega⟩)
      (fun d _ => by rw [if_pos (by simp)]; simp only [Nat.mul_zero, Nat.zero_add]),
      Finset.sum_eq_zero (f := fun d : Fin 64 => f ⟨64 + d.val, by omega⟩ * _) (fun d _ => by rw [if_neg (by simp), mul_zero]), add_zero]
  | ⟨1, _⟩ =>
    rw [Finset.sum_eq_zero (f := fun d : Fin 64 => f ⟨d.val, by omega⟩ * _) (fun d _ => by rw [if_neg (by simp), mul_zero]), zero_add]
    exact Finset.sum_congr rfl fun d _ => by rw [if_pos (by simp)]; rfl

/-- The same of the decay's lanes, eight to a head and the rest unused. -/
theorem eighth_sum (h : Fin 2) (f g : Fin 128 → EReal) (h0 : ∀ y, 16 ≤ y.val → f y = 0) :
    ∑ y, f y * (if (y.val < 8 ↔ h = 0) then g y else 0) = ∑ d : Fin 8, f ⟨8 * h.val + d.val, by omega⟩ * g ⟨8 * h.val + d.val, by omega⟩ := by
  rw [sum_128', Finset.sum_eq_zero (f := fun d : Fin 112 => f ⟨8 + (8 + d.val), by omega⟩ * _)
    (fun d _ => by rw [h0 _ (show 16 ≤ 8 + (8 + d.val) by omega), zero_mul]), add_zero]
  match h with
  | ⟨0, _⟩ =>
    rw [Finset.sum_congr (s₂ := Finset.univ) rfl (g := fun d : Fin 8 => f ⟨8 * 0 + d.val, by omega⟩ * g ⟨8 * 0 + d.val, by omega⟩)
      (fun d _ => by rw [if_pos (by simp)]; simp only [Nat.mul_zero, Nat.zero_add]),
      Finset.sum_eq_zero (f := fun d : Fin 8 => f ⟨8 + d.val, by omega⟩ * _) (fun d _ => by rw [if_neg (by simp), mul_zero]), add_zero]
  | ⟨1, _⟩ =>
    rw [Finset.sum_eq_zero (f := fun d : Fin 8 => f ⟨d.val, by omega⟩ * _) (fun d _ => by rw [if_neg (by simp), mul_zero]), zero_add]
    exact Finset.sum_congr rfl fun d _ => by rw [if_pos (by simp)]; rfl

/-- A sum of products of reals. -/
theorem dot_coe {n : ℕ} (f g : Fin n → EReal) (f' g' : Fin n → ℝ) (hf : ∀ i, f i = (f' i : EReal)) (hg : ∀ i, g i = (g' i : EReal)) :
    ∑ i, f i * g i = ((∑ i, f' i * g' i : ℝ) : EReal) := by
  rw [coe_sum]
  exact Finset.sum_congr rfl fun i _ => by rw [hf, hg, EReal.coe_mul]

theorem hl_lane (hp : Fin 4) (h : Fin 2) (d : Fin 64) : hl hp ⟨64 * h.val + d.val, by omega⟩ = hd hp h :=
  Fin.ext (show 2 * hp.val + (64 * h.val + d.val) / 64 = 2 * hp.val + h.val by omega)
theorem dl_lane (h : Fin 2) (d : Fin 64) : dl ⟨64 * h.val + d.val, by omega⟩ = d :=
  Fin.ext (show (64 * h.val + d.val) % 64 = d.val by omega)

theorem lanes_out (f : Fin 8 → ℕ → Fin 4096 → ℝ) (t : Fin 4096) (hp : Fin 4) (y : Fin 128) (hy : 16 ≤ y.val) : lanes f t (ln hp y) = 0 := by
  unfold lanes
  exact if_neg (show ¬ (128 * hp.val + y.val) % 128 < 16 by omega)

theorem lanes_in (f : Fin 8 → ℕ → Fin 4096 → ℝ) (t : Fin 4096) (hp : Fin 4) (h : Fin 2) (r : Fin 8) :
    lanes f t (ln hp ⟨8 * h.val + r.val, by omega⟩) = f (hd hp h) r.val t := by
  unfold lanes
  refine (if_pos (show (128 * hp.val + (8 * h.val + r.val)) % 128 < 16 by omega)).trans ?_
  exact congrArg₂ (fun a b => f a b t) (Fin.ext (show 2 * ((128 * hp.val + (8 * h.val + r.val)) / 128) + (128 * hp.val + (8 * h.val + r.val)) % 128 / 8 % 2 = 2 * hp.val + h.val by omega))
    (show (128 * hp.val + (8 * h.val + r.val)) % 8 = r.val by omega)

/-- The decay's lanes multiply to the difference of its sums. -/
theorem lanes_dot (D : Data) (a : Fin 8) (t s : Fin 4096) :
    ∑ r : Fin 8, klane D a r.val s * qlane D a r.val t = D.c a t - D.c a s := by
  simp [Fin.sum_univ_eight, klane, qlane]
  ring

/-! ## One tile -/

variable {I : Ins Ideal} {D : Data} {hp : Fin 4} {j : ℕ}

/-- Its products of keys and queries, decay lanes included, are the scores. -/
theorem Desc.dots (H : Desc I D hp j) (h : Fin 2) (n : ℕ) (s t : Fin 1024) :
    ∑ y : Fin 256, I.kaug (ix2 s y) * qcat h (blk I.q n) (blk I.qa n) (ix2 t y) = ((D.Z (hd hp h) (pos n t) (pos j s) : ℝ) : EReal) := by
  have hq : ∀ y, blk I.q n (ix2 t y) = ((D.qs (hl hp y) (pos n t) (dl y) : ℝ) : EReal) := fun y => H.q (pos n t) y
  have ha : ∀ y, blk I.qa n (ix2 t y) = ((lanes (qlane D) (pos n t) (ln hp y) : ℝ) : EReal) := fun y => H.qa (pos n t) y
  rw [sum_256]
  simp only [qcat_left, qcat_right, H.kl, H.kr, hq, ha]
  rw [half_sum h (fun y => ((D.k (hl hp y) (pos j s) (dl y) : ℝ) : EReal)) (fun y => ((D.qs (hl hp y) (pos n t) (dl y) : ℝ) : EReal)),
    eighth_sum h (fun y => ((lanes (klane D) (pos j s) (ln hp y) : ℝ) : EReal)) (fun y => ((lanes (qlane D) (pos n t) (ln hp y) : ℝ) : EReal))
      (fun y hy => by rw [lanes_out _ _ _ _ hy, EReal.coe_zero]),
    dot_coe _ _ (fun d => D.k (hd hp h) (pos j s) d) (fun d => D.qs (hd hp h) (pos n t) d) (fun d => by rw [hl_lane, dl_lane])
      (fun d => by rw [hl_lane, dl_lane]),
    dot_coe _ _ (fun r => klane D (hd hp h) r.val (pos j s)) (fun r => qlane D (hd hp h) r.val (pos n t)) (fun r => by rw [lanes_in])
      (fun r => by rw [lanes_in]),
    lanes_dot, ← EReal.coe_add]
  unfold Data.Z
  exact congrArg (fun x : ℝ => ((x + (D.c (hd hp h) (pos n t) - D.c (hd hp h) (pos j s)) : ℝ) : EReal)) (Finset.sum_congr rfl fun d _ => mul_comm _ _)

/-- Tiles on the diagonal are masked, later ones are not. -/
def On (b : Bool) (j n : ℕ) : Prop := n < 4 ∧ (b = true ∧ n = j ∨ b = false ∧ j < n)

theorem Desc.p (H : Desc I D hp j) {b : Bool} {n : ℕ} (hb : On b j n) (h : Fin 2) (s t : Fin 1024) :
    I.p b h n (ix2 s t) = ((D.P (hd hp h) (pos n t) (pos j s) : ℝ) : EReal) := by
  obtain ⟨hn, hb⟩ := hb
  have hj : j < 4 := by omega
  have hl : lane I.lse h n (ix3 (0 : Fin 1) (0 : Fin 1) t) = ((Real.log (D.L (hd hp h) (pos n t)) : ℝ) : EReal) := H.lse h (pos n t)
  unfold Ins.p
  rw [probs_apply, score_apply, H.dots, hl]
  by_cases hm : b = true ∧ ¬ s.val ≤ t.val
  · rw [if_pos hm, D.P_of_lt _ _ _ (by
      rw [pos_val hn, pos_val hj]
      rcases hb with ⟨h1, h2⟩ | ⟨h1, h2⟩
      · have := hm.2
        omega
      · exact absurd (h1.symm.trans hm.1) (by decide))]
    rfl
  · rw [if_neg hm, D.P_of_le _ _ _ (by
      rw [pos_val hn, pos_val hj]
      rcases hb with ⟨h1, h2⟩ | ⟨h1, h2⟩
      · have : s.val ≤ t.val := by by_contra hc; exact hm ⟨h1, hc⟩
        omega
      · omega), ← EReal.coe_sub]
    rfl

theorem Desc.ds (H : Desc I D hp j) {b : Bool} {n : ℕ} (hb : On b j n) (h : Fin 2) (s t : Fin 1024) :
    I.ds b h n (ix2 s t) = ((D.DS (hd hp h) (pos n t) (pos j s) : ℝ) : EReal) := by
  have hd' : lane I.dlt h n (ix3 (0 : Fin 1) (0 : Fin 1) t) = ((D.Dl (hd hp h) (pos n t) : ℝ) : EReal) := H.dlt h (pos n t)
  have hc : ∀ y, blk I.ct n (ix2 t y) = ((D.w (hl hp y) (pos n t) (dl y) : ℝ) : EReal) := fun y => H.ct (pos n t) y
  unfold Ins.ds
  rw [dscore_apply, H.p hb, hd']
  simp only [half_apply _ 64 lo_apply, hc, H.v]
  rw [half_sum h (fun y => ((D.v (hl hp y) (pos j s) (dl y) : ℝ) : EReal)) (fun y => ((D.w (hl hp y) (pos n t) (dl y) : ℝ) : EReal)),
    dot_coe _ _ (fun d => D.v (hd hp h) (pos j s) d) (fun d => D.w (hd hp h) (pos n t) d) (fun d => by rw [hl_lane, dl_lane])
      (fun d => by rw [hl_lane, dl_lane]),
    ← EReal.coe_sub, ← EReal.coe_mul]
  unfold Data.DS Data.dP
  exact congrArg (fun x : ℝ => ((D.P (hd hp h) (pos n t) (pos j s) * (x - D.Dl (hd hp h) (pos n t)) : ℝ) : EReal)) (Finset.sum_congr rfl fun d _ => mul_comm _ _)

end Cert.KernelIdeal.Tile

end
-- ==== Proof.Value.Point.lean ====
/- What one grid point leaves, over the real numbers: a key block's gradients whole, and its part of the sums over keys. -/
module

public import proofs.«01_k».proof.Proof.Value.Tiles

@[expose] public section

noncomputable section

namespace Cert.KernelIdeal.Tile

open Idealize.ShloMosaic Idealize.ShloMosaic.ValueIdx Cert.KernelIdeal Cert.KernelIdeal.Gen
open Cert.Attn (Data coe_sum)
open scoped BigOperators

/-- A sum over the positions, block by block. -/
theorem sum_blocks (f : Fin 4096 → ℝ) : ∑ n ∈ Finset.range 4, ∑ r : Fin 1024, f (pos n r) = ∑ t, f t := by
  rw [Finset.sum_range, ← Fintype.sum_prod_type', ← Equiv.sum_comp (finProdFinEquiv (m := 4) (n := 1024)) f]
  refine Finset.sum_congr rfl fun x _ => congrArg f (Fin.ext ?_)
  rw [pos_val x.1.isLt]
  show 1024 * x.1.val + x.2.val = x.2.val + 1024 * x.1.val
  omega

section Parts

variable (D : Data) (hp : Fin 4) (j : ℕ)

/-- Query block `n`'s parts of a key's gradient, of a value's, and of the sum over queries, by head `h`'s tile. -/
def gK (h : Fin 2) (n : ℕ) (s : Fin 1024) (y : Fin 128) : ℝ := ∑ t : Fin 1024, D.DS (hd hp h) (pos n t) (pos j s) * D.qs (hl hp y) (pos n t) (dl y)
def gV (h : Fin 2) (n : ℕ) (s : Fin 1024) (y : Fin 128) : ℝ := ∑ t : Fin 1024, D.P (hd hp h) (pos n t) (pos j s) * D.w (hl hp y) (pos n t) (dl y)
def gC (h : Fin 2) (n : ℕ) (s : Fin 1024) : ℝ := ∑ t : Fin 1024, D.DS (hd hp h) (pos n t) (pos j s)
/-- Key block `j`'s parts of a query's gradient and of the sum over keys. -/
def gQ (t : Fin 4096) (y : Fin 128) : ℝ := ∑ s : Fin 1024, D.DS (hl hp y) t (pos j s) * D.k (hl hp y) (pos j s) (dl y)
def gR (h : Fin 2) (t : Fin 4096) : ℝ := ∑ s : Fin 1024, D.DS (hd hp h) t (pos j s)

variable {D hp j}

theorem before {n : ℕ} (hj : j < 4) (hn : n < j) (s t : Fin 1024) : (pos n t).val < (pos j s).val := by
  rw [pos_val hj, pos_val (by omega)]; omega

theorem gK_zero {n : ℕ} (hj : j < 4) (hn : n < j) (h : Fin 2) (s : Fin 1024) (y : Fin 128) : gK D hp j h n s y = 0 :=
  Finset.sum_eq_zero fun t _ => by rw [D.DS_of_lt _ _ _ (before hj hn s t), zero_mul]
theorem gV_zero {n : ℕ} (hj : j < 4) (hn : n < j) (h : Fin 2) (s : Fin 1024) (y : Fin 128) : gV D hp j h n s y = 0 :=
  Finset.sum_eq_zero fun t _ => by rw [D.P_of_lt _ _ _ (before hj hn s t), zero_mul]
theorem gC_zero {n : ℕ} (hj : j < 4) (hn : n < j) (h : Fin 2) (s : Fin 1024) : gC D hp j h n s = 0 :=
  Finset.sum_eq_zero fun t _ => D.DS_of_lt _ _ _ (before hj hn s t)
theorem gQ_zero {t : Fin 4096} (hj : j < 4) (ht : t.val / 1024 < j) (y : Fin 128) : gQ D hp j t y = 0 :=
  Finset.sum_eq_zero fun s _ => by rw [D.DS_of_lt _ _ _ (by rw [pos_val hj]; omega), zero_mul]
theorem gR_zero {t : Fin 4096} (hj : j < 4) (ht : t.val / 1024 < j) (h : Fin 2) : gR D hp j h t = 0 :=
  Finset.sum_eq_zero fun s _ => D.DS_of_lt _ _ _ (by rw [pos_val hj]; omega)

end Parts

variable {I : Ins Ideal} {D : Data} {hp : Fin 4} {j : ℕ}

/-! ## The carried values -/

/-- The carried values once the query blocks before `n` are in. -/
structure Carried (D : Data) (hp : Fin 4) (j : ℕ) (c : Carry Ideal) (n : ℕ) : Prop where
  k0 : ∀ s y, c.1 (ix2 s y) = ((∑ n' ∈ Finset.range n, gK D hp j 0 n' s y : ℝ) : EReal)
  v0 : ∀ s y, c.2.1 (ix2 s y) = ((∑ n' ∈ Finset.range n, gV D hp j 0 n' s y : ℝ) : EReal)
  c0 : ∀ s, c.2.2.1 (ix2 s (0 : Fin 1)) = ((∑ n' ∈ Finset.range n, gC D hp j 0 n' s : ℝ) : EReal)
  k1 : ∀ s y, c.2.2.2.1 (ix2 s y) = ((∑ n' ∈ Finset.range n, gK D hp j 1 n' s y : ℝ) : EReal)
  v1 : ∀ s y, c.2.2.2.2.1 (ix2 s y) = ((∑ n' ∈ Finset.range n, gV D hp j 1 n' s y : ℝ) : EReal)
  c1 : ∀ s, c.2.2.2.2.2 (ix2 s (0 : Fin 1)) = ((∑ n' ∈ Finset.range n, gC D hp j 1 n' s : ℝ) : EReal)

/-- Before the diagonal nothing is to be added. -/
theorem Carried.zero (hj : j < 4) : Carried D hp j Ins.zero j where
  k0 s y := (pay62_apply (ix2 s y)).trans (by rw [Finset.sum_eq_zero fun n hn => gK_zero hj (Finset.mem_range.mp hn) _ _ _, EReal.coe_zero])
  v0 s y := (pay63_apply (ix2 s y)).trans (by rw [Finset.sum_eq_zero fun n hn => gV_zero hj (Finset.mem_range.mp hn) _ _ _, EReal.coe_zero])
  c0 s := (pay64_apply (ix2 s (0 : Fin 1))).trans (by rw [Finset.sum_eq_zero fun n hn => gC_zero hj (Finset.mem_range.mp hn) _ _, EReal.coe_zero])
  k1 s y := (pay62_apply (ix2 s y)).trans (by rw [Finset.sum_eq_zero fun n hn => gK_zero hj (Finset.mem_range.mp hn) _ _ _, EReal.coe_zero])
  v1 s y := (pay63_apply (ix2 s y)).trans (by rw [Finset.sum_eq_zero fun n hn => gV_zero hj (Finset.mem_range.mp hn) _ _ _, EReal.coe_zero])
  c1 s := (pay64_apply (ix2 s (0 : Fin 1))).trans (by rw [Finset.sum_eq_zero fun n hn => gC_zero hj (Finset.mem_range.mp hn) _ _, EReal.coe_zero])

theorem Desc.addK (H : Desc I D hp j) {b : Bool} {n : ℕ} (hb : On b j n) (h : Fin 2) (c : FVec Ideal S1024x128 .f32) (s : Fin 1024) (y : Fin 128)
    (hc : c (ix2 s y) = ((∑ n' ∈ Finset.range n, gK D hp j h n' s y : ℝ) : EReal)) :
    accK c (I.ds b h n) (I.qb n) (ix2 s y) = ((∑ n' ∈ Finset.range (n + 1), gK D hp j h n' s y : ℝ) : EReal) := by
  have hq : I.qb n = blk I.q n := same128 (φ := .bf16) _
  rw [accK_apply, hc, hq, dot_coe (fun t => I.ds b h n (ix2 s t)) (fun t => blk I.q n (ix2 t y)) (fun t => D.DS (hd hp h) (pos n t) (pos j s)) (fun t => D.qs (hl hp y) (pos n t) (dl y))
    (fun t => H.ds hb h s t) (fun t => H.q (pos n t) y), ← EReal.coe_add, Finset.sum_range_succ]
  rfl

theorem Desc.addV (H : Desc I D hp j) {b : Bool} {n : ℕ} (hb : On b j n) (h : Fin 2) (c : FVec Ideal S1024x128 .f32) (s : Fin 1024) (y : Fin 128)
    (hc : c (ix2 s y) = ((∑ n' ∈ Finset.range n, gV D hp j h n' s y : ℝ) : EReal)) :
    accK c (I.p b h n) (I.cb n) (ix2 s y) = ((∑ n' ∈ Finset.range (n + 1), gV D hp j h n' s y : ℝ) : EReal) := by
  have hq : I.cb n = blk I.ct n := same128 (φ := .bf16) _
  rw [accK_apply, hc, hq, dot_coe (fun t => I.p b h n (ix2 s t)) (fun t => blk I.ct n (ix2 t y)) (fun t => D.P (hd hp h) (pos n t) (pos j s)) (fun t => D.w (hl hp y) (pos n t) (dl y))
    (fun t => H.p hb h s t) (fun t => H.ct (pos n t) y), ← EReal.coe_add, Finset.sum_range_succ]
  rfl

theorem Desc.addC (H : Desc I D hp j) {b : Bool} {n : ℕ} (hb : On b j n) (h : Fin 2) (c : FVec Ideal S1024x1 .f32) (s : Fin 1024)
    (hc : c (ix2 s (0 : Fin 1)) = ((∑ n' ∈ Finset.range n, gC D hp j h n' s : ℝ) : EReal)) :
    accC c (I.ds b h n) (ix2 s (0 : Fin 1)) = ((∑ n' ∈ Finset.range (n + 1), gC D hp j h n' s : ℝ) : EReal) := by
  rw [accC_apply, hc, Finset.sum_congr rfl fun t _ => H.ds hb h s t, ← coe_sum, ← EReal.coe_add, Finset.sum_range_succ]
  rfl

theorem Carried.next (H : Desc I D hp j) {b : Bool} {n : ℕ} (hb : On b j n) {c : Carry Ideal} (hc : Carried D hp j c n) :
    Carried D hp j (I.next b n c) (n + 1) where
  k0 s y := H.addK hb 0 _ s y (hc.k0 s y)
  v0 s y := H.addV hb 0 _ s y (hc.v0 s y)
  c0 s := H.addC hb 0 _ s (hc.c0 s)
  k1 s y := H.addK hb 1 _ s y (hc.k1 s y)
  v1 s y := H.addV hb 1 _ s y (hc.v1 s y)
  c1 s := H.addC hb 1 _ s (hc.c1 s)

theorem Carried.loop (H : Desc I D hp j) (c : Carry Ideal) (hc : Carried D hp j c (j + 1)) :
    ∀ k, j + 1 + k ≤ 4 → Carried D hp j (I.carryL j c k) (j + 1 + k)
  | 0, _ => hc
  | k + 1, hk => Carried.next H ⟨by omega, .inr ⟨rfl, by omega⟩⟩ (Carried.loop H c hc k (by omega))

theorem Carried.out (H : Desc I D hp j) (hj : j < 4) : Carried D hp j (I.carryOut j) 4 := by
  have := Carried.loop H _ (Carried.next H ⟨hj, .inl ⟨rfl, rfl⟩⟩ (Carried.zero (D := D) (hp := hp) hj)) (3 - j) (by omega)
  rwa [show j + 1 + (3 - j) = 4 by omega] at this

/-- A lane's own head. -/
theorem hl_lo {y : Fin 128} (hy : y.val < 64) : hd hp 0 = hl hp y := Fin.ext (show 2 * hp.val + 0 = 2 * hp.val + y.val / 64 by omega)
theorem hl_hi {y : Fin 128} (hy : ¬ y.val < 64) : hd hp 1 = hl hp y := Fin.ext (show 2 * hp.val + 1 = 2 * hp.val + y.val / 64 by omega)

/-- The gradient of the keys, -/
theorem Desc.dk (H : Desc I D hp j) (hj : j < 4) (s : Fin 1024) (y : Fin 128) :
    I.dkOut j (ix2 s y) = ((D.dK (hl hp y) (pos j s) (dl y) : ℝ) : EReal) := by
  have hc := Carried.out H hj
  unfold Ins.dkOut Data.dK
  rw [pay5_apply, hc.k0, hc.k1, ← sum_blocks]
  by_cases hy : y.val < 64
  · rw [if_pos hy]; unfold gK; rw [hl_lo hy]
  · rw [if_neg hy]; unfold gK; rw [hl_hi hy]

/-- of the values, -/
theorem Desc.dv (H : Desc I D hp j) (hj : j < 4) (s : Fin 1024) (y : Fin 128) :
    I.dvOut j (ix2 s y) = ((D.dV (hl hp y) (pos j s) (dl y) : ℝ) : EReal) := by
  have hc := Carried.out H hj
  unfold Ins.dvOut Data.dV
  rw [pay6_apply, hc.v0, hc.v1, ← sum_blocks]
  by_cases hy : y.val < 64
  · rw [if_pos hy]; unfold gV; rw [hl_lo hy]
  · rw [if_neg hy]; unfold gV; rw [hl_hi hy]

/-- and the sums over queries, negated. -/
theorem Desc.cols (H : Desc I D hp j) (hj : j < 4) (s : Fin 1024) (y : Fin 128) :
    I.colsOut j (ix2 s y) = ((D.col (hl hp y) (pos j s) : ℝ) : EReal) := by
  have hc := Carried.out H hj
  unfold Ins.colsOut Data.col
  rw [pay7_apply, hc.c0, hc.c1, ← sum_blocks, EReal.coe_neg]
  by_cases hy : y.val < 64
  · rw [if_pos hy]; unfold gC; rw [hl_lo hy]
  · rw [if_neg hy]; unfold gC; rw [hl_hi hy]

/-! ## The sums over keys -/

/-- What a buffer held, `a`, and the key block's part on the query blocks before `n`. -/
def Queried (D : Data) (hp : Fin 4) (j : ℕ) (a : Fin 4096 → Fin 128 → ℝ) (d : Vec Ideal S4096x128 .f32) (n : ℕ) : Prop :=
  ∀ t y, d (ix2 t y) = ((a t y + (if t.val / 1024 < n then gQ D hp j t y else 0) : ℝ) : EReal)

theorem pos_self {n : ℕ} (t : Fin 4096) (h : t.val / 1024 = n) : pos n ⟨t.val % 1024, Nat.mod_lt _ (by norm_num)⟩ = t :=
  Fin.ext (show (1024 * n + t.val % 1024) % 4096 = t.val by omega)

theorem Desc.addQ (H : Desc I D hp j) {b : Bool} {n : ℕ} (hb : On b j n) (a : Fin 4096 → Fin 128 → ℝ) (d : Vec Ideal S4096x128 .f32)
    (hd' : Queried D hp j a d n) : Queried D hp j a (I.dq b n d) (n + 1) := by
  intro t y
  unfold Ins.dq putB
  by_cases ht : t.val / 1024 = n
  · refine (if_pos ht).trans ?_
    have hr : ∀ h : Fin 2, dqry (I.ds b h n) I.k (ix2 (⟨t.val % 1024, Nat.mod_lt _ (by norm_num)⟩ : Fin 1024) y)
        = ((∑ s : Fin 1024, D.DS (hd hp h) t (pos j s) * D.k (hl hp y) (pos j s) (dl y) : ℝ) : EReal) := fun h => by
      rw [dqry_apply, dot_coe _ _ (fun s => D.DS (hd hp h) t (pos j s)) (fun s => D.k (hl hp y) (pos j s) (dl y))
        (fun s => (H.ds hb h s _).trans (by rw [pos_self t ht])) (fun s => H.k s y)]
    have hbl : blk d n (ix2 (⟨t.val % 1024, Nat.mod_lt _ (by norm_num)⟩ : Fin 1024) y) = ((a t y : ℝ) : EReal) := by
      refine (hd' (pos n ⟨t.val % 1024, Nat.mod_lt _ (by norm_num)⟩) y).trans ?_
      rw [pos_self t ht, if_neg (by omega), add_zero]
    refine (accQ_apply _ _ _ (⟨t.val % 1024, Nat.mod_lt _ (by norm_num)⟩ : Fin 1024) y).trans ?_
    rw [hr, hr, hbl, if_pos (show t.val / 1024 < n + 1 by omega), EReal.coe_add]
    unfold gQ
    by_cases hy : y.val < 64
    · rw [if_pos hy, hl_lo hy]
    · rw [if_neg hy, hl_hi hy]
  · refine (if_neg ht).trans ((hd' t y).trans ?_)
    by_cases h1 : t.val / 1024 < n
    · rw [if_pos h1, if_pos (by omega)]
    · rw [if_neg h1, if_neg (by omega)]

theorem Queried.loop (H : Desc I D hp j) (a : Fin 4096 → Fin 128 → ℝ) (d : Vec Ideal S4096x128 .f32) (hd' : Queried D hp j a d (j + 1)) :
    ∀ k, j + 1 + k ≤ 4 → Queried D hp j a (I.dqL j d k) (j + 1 + k)
  | 0, _ => hd'
  | k + 1, hk => H.addQ ⟨by omega, .inr ⟨rfl, by omega⟩⟩ a _ (Queried.loop H a d hd' k (by omega))

/-- A grid point adds its key block's part to the queries' gradient. -/
theorem Desc.dq (H : Desc I D hp j) (hj : j < 4) (a : Fin 4096 → Fin 128 → ℝ) (d : Vec Ideal S4096x128 .f32)
    (hd' : ∀ t y, d (ix2 t y) = ((a t y : ℝ) : EReal)) (t : Fin 4096) (y : Fin 128) :
    I.dqOut j d (ix2 t y) = ((a t y + gQ D hp j t y : ℝ) : EReal) := by
  have h0 : Queried D hp j a d j := fun t y => (hd' t y).trans (by
    by_cases h : t.val / 1024 < j
    · rw [if_pos h, gQ_zero hj h, add_zero]
    · rw [if_neg h, add_zero])
  have := Queried.loop H a _ (H.addQ ⟨hj, .inl ⟨rfl, rfl⟩⟩ a d h0) (3 - j) (by omega) t y
  rwa [if_pos (by omega)] at this

/-- The same of the sums of the scores' gradient; `hs h` counts the query blocks that head `h` has seen. -/
def Rowed (D : Data) (hp : Fin 4) (j : ℕ) (a : Fin 2 → Fin 4096 → ℝ) (r : Vec Ideal S1x2x4096 .f32) (hs : Fin 2 → ℕ) : Prop :=
  ∀ h t, r (ix3 (0 : Fin 1) h t) = ((a h t + (if t.val / 1024 < hs h then gR D hp j h t else 0) : ℝ) : EReal)

theorem Desc.addR (H : Desc I D hp j) {b : Bool} {n : ℕ} (hb : On b j n) (a : Fin 2 → Fin 4096 → ℝ) (r r' : Vec Ideal S1x2x4096 .f32)
    (g : Fin 2) (hs : Fin 2 → ℕ) (hg : hs g = n) (hr : Rowed D hp j a r hs) (hr' : lane r' g n = lane r g n) :
    Rowed D hp j a (putL r g n (accR (lane r' g n) (I.ds b g n))) (fun h => if h = g then n + 1 else hs h) := by
  intro h t
  unfold putL
  by_cases ht : h.val = g.val ∧ t.val / 1024 = n
  · obtain rfl : h = g := Fin.ext ht.1
    refine (if_pos ht).trans ?_
    have hl : lane r' h n (ix3 (0 : Fin 1) (0 : Fin 1) (⟨t.val % 1024, Nat.mod_lt _ (by norm_num)⟩ : Fin 1024)) = ((a h t : ℝ) : EReal) := by
      rw [hr']
      refine (hr h (pos n ⟨t.val % 1024, Nat.mod_lt _ (by norm_num)⟩)).trans ?_
      rw [pos_self t ht.2, hg, if_neg (by omega), add_zero]
    refine (accR_apply _ _ (⟨t.val % 1024, Nat.mod_lt _ (by norm_num)⟩ : Fin 1024)).trans ?_
    rw [hl, Finset.sum_congr rfl fun s _ => H.ds hb h s _, ← coe_sum, ← EReal.coe_add, pos_self t ht.2]
    refine congrArg (fun x : ℝ => ((a h t + x : ℝ) : EReal)) (if_pos ?_).symm
    show t.val / 1024 < if h = h then n + 1 else hs h
    rw [if_pos rfl]
    omega
  · refine (if_neg ht).trans ((hr h t).trans ?_)
    by_cases hh : h = g
    · have h2 : t.val / 1024 ≠ n := fun e => ht ⟨congrArg Fin.val hh, e⟩
      subst hh
      show ((a h t + (if t.val / 1024 < hs h then gR D hp j h t else 0) : ℝ) : EReal)
        = ((a h t + (if t.val / 1024 < (if h = h then n + 1 else hs h) then gR D hp j h t else 0) : ℝ) : EReal)
      rw [if_pos (show h = h from rfl), hg]
      by_cases h1 : t.val / 1024 < n
      · rw [if_pos h1, if_pos (by omega)]
      · rw [if_neg h1, if_neg (by omega)]
    · show ((a h t + (if t.val / 1024 < hs h then gR D hp j h t else 0) : ℝ) : EReal)
        = ((a h t + (if t.val / 1024 < (if h = g then n + 1 else hs h) then gR D hp j h t else 0) : ℝ) : EReal)
      rw [if_neg hh]

theorem Desc.addRows (H : Desc I D hp j) {b : Bool} {n : ℕ} (hb : On b j n) (a : Fin 2 → Fin 4096 → ℝ) (r : Vec Ideal S1x2x4096 .f32)
    (hr : Rowed D hp j a r fun _ => n) : Rowed D hp j a (I.rows b n r) fun _ => n + 1 := by
  have h0 := H.addR hb a r r 0 (fun _ => n) rfl hr rfl
  have h1 := H.addR hb a _ r 1 (fun h => if h = 0 then n + 1 else n) (if_neg (by decide)) h0 (lane_putL_ne r 0 1 (by decide) n _).symm
  intro h t
  refine (h1 h t).trans ?_
  match h with
  | ⟨0, _⟩ => rfl
  | ⟨1, _⟩ => rfl

theorem Rowed.loop (H : Desc I D hp j) (a : Fin 2 → Fin 4096 → ℝ) (r : Vec Ideal S1x2x4096 .f32) (hr : Rowed D hp j a r fun _ => j + 1) :
    ∀ k, j + 1 + k ≤ 4 → Rowed D hp j a (I.rowsL j r k) fun _ => j + 1 + k
  | 0, _ => hr
  | k + 1, hk => H.addRows ⟨by omega, .inr ⟨rfl, by omega⟩⟩ a _ (Rowed.loop H a r hr k (by omega))

/-- A grid point adds its key block's part to the sums of the scores' gradient. -/
theorem Desc.rows (H : Desc I D hp j) (hj : j < 4) (a : Fin 2 → Fin 4096 → ℝ) (r : Vec Ideal S1x2x4096 .f32)
    (hr : ∀ h t, r (ix3 (0 : Fin 1) h t) = ((a h t : ℝ) : EReal)) (h : Fin 2) (t : Fin 4096) :
    I.rowsOut j r (ix3 (0 : Fin 1) h t) = ((a h t + gR D hp j h t : ℝ) : EReal) := by
  have h0 : Rowed D hp j a r fun _ => j := fun h t => (hr h t).trans (by
    by_cases hh : t.val / 1024 < j
    · rw [if_pos hh, gR_zero hj hh, add_zero]
    · rw [if_neg hh, add_zero])
  have := Rowed.loop H a _ (H.addRows ⟨hj, .inl ⟨rfl, rfl⟩⟩ a r h0) (3 - j) (by omega) h t
  rwa [if_pos (show t.val / 1024 < j + 1 + (3 - j) by omega)] at this

end Cert.KernelIdeal.Tile

end
-- ==== Proof.Body.Step.lean ====
/- The counted loop over the query blocks past the diagonal: one trip computes one step of Tile.lean, and the loop's
   invariant says so. -/
module

public import proofs.«01_k».proof.Proof.Body.Tile
public import Idealize.ShloMosaic.Lib.Exec
public import Idealize.ShloMosaic.Lib.Tactic
public import Idealize.ShloMosaic.Lib.Pipeline.Kit
public import Idealize.ShloMosaic.Lib.LoopRemainder

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (UR sig nD τ) ℕ

open Cert.KernelIdeal.Tile

/-- The class of the loop's invariants. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x4096 .f32) (harg5 : arg5.IsWhole) (arg6 : Memref sig .tc .vmem S1x2x4096 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x4096 .f32) (harg13 : arg13.IsWhole) (arg14 : Memref sig .tc .vmem S1024x128 .f32) (harg14 : arg14.IsWhole) (v5 : IVec S1024x128 1) (v7 : IVec S1024x128 1) (v12 : FVec F S1024x128 .bf16) (v15 : FVec F S1024x256 .bf16) (v17 : FVec F S1024x128 .bf16) (v121 : BitVec 32) (init : FVec F S1024x128 .f32 × FVec F S1024x128 .f32 × FVec F S1024x1 .f32 × FVec F S1024x128 .f32 × FVec F S1024x128 .f32 × FVec F S1024x1 .f32) :=
  Idealize.ShloMosaic.LoopInv (M := MT nD τ sig Ix (Elt F) Name U Lvl) Idealize.ShloMosaic.frame (wpE defs₀ 𝒱 (c : Thread nD τ) bd) E
    (k0_t1_loop i).lb (k0_t1_loop i).ub (k0_t1_loop i).st (k0_t1_ok i) init (k0_t1_body (F := F) i arg2 harg2 arg3 harg3 arg4 harg4 arg5 harg5 arg6 harg6 arg7 harg7 arg8 harg8 arg9 harg9 arg10 harg10 arg11 harg11 arg12 harg12 arg13 harg13 arg14 harg14 v5 v7 v12 v15 v17 v121)

/-! ### `k0_t1_loop i`: the generated invariant (classifier: listed) -/

/-- The buffers a trip reads and writes, at given contents. -/
abbrev Trip_k0_t1 (c : Dev nD) (arg2 : Memref sig .tc .vmem S4096x128 .bf16) (arg3 : Memref sig .tc .vmem S4096x128 .bf16) (arg4 : Memref sig .tc .vmem S4096x128 .bf16) (arg5 : Memref sig .tc .vmem S1x2x4096 .f32) (arg6 : Memref sig .tc .vmem S1x2x4096 .f32) (arg10 : Memref sig .tc .vmem S4096x128 .f32) (arg13 : Memref sig .tc .vmem S1x2x4096 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (f_arg10 : BufTy.Contents (Elt F) arg10.view.ty) (f_arg13 : BufTy.Contents (Elt F) arg13.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg10.view.loc (c : Thread nD τ) ↦[arg10.view.set]{fullShare} f_arg10) ∗ (arg13.view.loc (c : Thread nD τ) ↦[arg13.view.set]{fullShare} f_arg13))

/-- The loop runs over the query blocks after the key block's own. -/
theorem trips_eq (i : grid0.Coords) : (k0_t1_loop i).trips = 3 - (i 1).val := by
  have h : ∀ j : Fin 4, (Scf.trips (Scalar.addi (BitVec.ofNat 32 j.val) 1#32) (Scalar.addi (Scalar.addi (BitVec.ofNat 32 j.val) 1#32) (Scalar.muli (Scalar.divsi (Scalar.subi 4#32 (Scalar.addi (BitVec.ofNat 32 j.val) 1#32)) 1#32) 1#32)) 1#32) = 3 - j.val := by
    decide +kernel
  exact h (i 1)

/-- The inputs of a trip, read out of the buffers. -/
abbrev insOf (arg2 : Memref sig .tc .vmem S4096x128 .bf16) (arg3 : Memref sig .tc .vmem S4096x128 .bf16) (arg4 : Memref sig .tc .vmem S4096x128 .bf16) (arg5 : Memref sig .tc .vmem S1x2x4096 .f32) (arg6 : Memref sig .tc .vmem S1x2x4096 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (v12 : FVec F S1024x128 .bf16) (v15 : FVec F S1024x256 .bf16) (v17 : FVec F S1024x128 .bf16) : Ins F :=
  ⟨arg2.view.read (Elt F) X_arg2, arg3.view.read (Elt F) X_arg3, arg4.view.read (Elt F) X_arg4, arg5.view.read (Elt F) X_arg5, arg6.view.read (Elt F) X_arg6, v12, v15, v17⟩

theorem trip_spec (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x4096 .f32) (harg5 : arg5.IsWhole) (arg6 : Memref sig .tc .vmem S1x2x4096 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x4096 .f32) (harg13 : arg13.IsWhole) (arg14 : Memref sig .tc .vmem S1024x128 .f32) (harg14 : arg14.IsWhole) (v12 : FVec F S1024x128 .bf16) (v15 : FVec F S1024x256 .bf16) (v17 : FVec F S1024x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin (k0_t1_loop i).trips)
    (E : Set ℕ) (acc : Carry F) (f_arg10 : BufTy.Contents (Elt F) arg10.view.ty) (f_arg13 : BufTy.Contents (Elt F) arg13.view.ty) :
      Trip_k0_t1 (F := F) c arg2 arg3 arg4 arg5 arg6 arg10 arg13 X_arg2 X_arg3 X_arg4 X_arg5 X_arg6 f_arg10 f_arg13
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 k0_pay56 k0_pay57 v12 v15 v17 (Scalar.addi (BitVec.ofNat 32 (i 1).val) 1#32) k acc)
          (fun yld => iprop(∃ g_arg10 g_arg13, ⌜yld = (insOf arg2 arg3 arg4 arg5 arg6 X_arg2 X_arg3 X_arg4 X_arg5 X_arg6 v12 v15 v17).next false ((i 1).val + 1 + k.val) acc
            ∧ arg10.view.read (Elt F) g_arg10 = (insOf arg2 arg3 arg4 arg5 arg6 X_arg2 X_arg3 X_arg4 X_arg5 X_arg6 v12 v15 v17).dq false ((i 1).val + 1 + k.val) (arg10.view.read (Elt F) f_arg10)
            ∧ arg13.view.read (Elt F) g_arg13 = (insOf arg2 arg3 arg4 arg5 arg6 X_arg2 X_arg3 X_arg4 X_arg5 X_arg6 v12 v15 v17).rows false ((i 1).val + 1 + k.val) (arg13.view.read (Elt F) f_arg13)⌝
            ∗ Trip_k0_t1 (F := F) c arg2 arg3 arg4 arg5 arg6 arg10 arg13 X_arg2 X_arg3 X_arg4 X_arg5 X_arg6 g_arg10 g_arg13)) := by
  have hn : (i 1).val + 1 + k.val < 4 := by
    have h1 := trips_eq i
    have h2 := k.isLt
    have h3 : (i 1).val < 4 := (i 1).isLt
    omega
  have o4 : k0_off4 i k = ![1024 * ((i 1).val + 1 + k.val), 0] := by
    rw [k0_off4_eq]; congr 1; ring
  have o5 : k0_off5 i k = ![0, (0 : Fin 2).val, 1024 * ((i 1).val + 1 + k.val)] := by
    rw [k0_off5_eq, show 1024 * (i 1).val + 1024 * k.val + 1024 = 1024 * ((i 1).val + 1 + k.val) by ring]; rfl
  have o6 : k0_off6 i k = ![0, (1 : Fin 2).val, 1024 * ((i 1).val + 1 + k.val)] := by
    rw [k0_off6_eq, show 1024 * (i 1).val + 1024 * k.val + 1024 = 1024 * ((i 1).val + 1 + k.val) by ring]; rfl
  generalize hI : insOf arg2 arg3 arg4 arg5 arg6 X_arg2 X_arg3 X_arg4 X_arg5 X_arg6 v12 v15 v17 = I
  generalize hq : (i 1).val + 1 + k.val = n at *
  unfold k0_t1_body
  iintro ⟨HR_arg2, HR_arg3, HR_arg4, HR_arg5, HR_arg6, HW_arg10, HW_arg13⟩
  sl_exec
  sl_step
  iexists _, _
  isplitr
  rotate_left
  · isplitl [HR_arg2]; · iexact HR_arg2
    isplitl [HR_arg3]; · iexact HR_arg3
    isplitl [HR_arg4]; · iexact HR_arg4
    isplitl [HR_arg5]; · iexact HR_arg5
    isplitl [HR_arg6]; · iexact HR_arg6
    isplitl [HW_arg10]; · iexact HW_arg10
    iexact HW_arg13
  ipureintro
  subst hI
  have e2 := readAt_blk arg2.view X_arg2 (k0_off4_inb i k) n hn o4
  have e3 := readAt_blk arg3.view X_arg3 (k0_off4_inb i k) n hn o4
  have e4 := readAt_blk arg4.view X_arg4 (k0_off4_inb i k) n hn o4
  have e10 := readAt_blk arg10.view f_arg10 (k0_off4_inb i k) n hn o4
  have e5 := readAt_lane arg5.view X_arg5 (k0_off5_inb i k) 0 n hn o5
  have e6 := readAt_lane arg6.view X_arg6 (k0_off5_inb i k) 0 n hn o5
  have e13 := readAt_lane arg13.view f_arg13 (k0_off5_inb i k) 0 n hn o5
  have e5' := readAt_lane arg5.view X_arg5 (k0_off6_inb i k) 1 n hn o6
  have e6' := readAt_lane arg6.view X_arg6 (k0_off6_inb i k) 1 n hn o6
  have e13' := readAt_lane arg13.view f_arg13 (k0_off6_inb i k) 1 n hn o6
  refine ⟨?_, ?_, ?_⟩
  · sl_unfold_run_names
    rw [e2, e3, e4, e5, e6, e5', e6']
    rfl
  · rw [read_writes_blk _ _ _ _ _ n o4]
    sl_unfold_run_names
    rw [e2, e3, e4, e5, e6, e5', e6', e10]
    rfl
  · rw [read_writes_lane _ _ _ _ _ 1 n o6, read_writes_lane _ _ _ _ _ 0 n o5]
    sl_unfold_run_names
    rw [e2, e3, e4, e5, e6, e5', e6', e13, e13']
    rfl

/-- The loop's invariant: before trip `k` the carried values, the queries' gradient and the sums over keys are what `k`
    steps make of those at the loop's entry. -/
@[sl_loop] def loopInv (𝒱 : Variants) (c : Dev nD) (bd : Option 𝒱.V) (E : Set ℕ) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x4096 .f32) (harg5 : arg5.IsWhole) (arg6 : Memref sig .tc .vmem S1x2x4096 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x4096 .f32) (harg13 : arg13.IsWhole) (arg14 : Memref sig .tc .vmem S1024x128 .f32) (harg14 : arg14.IsWhole) (v12 : FVec F S1024x128 .bf16) (v15 : FVec F S1024x256 .bf16) (v17 : FVec F S1024x128 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty)
    (G_arg10 : BufTy.Contents (Elt F) arg10.view.ty) (G_arg13 : BufTy.Contents (Elt F) arg13.view.ty) (init : Carry F) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 k0_pay56 k0_pay57 v12 v15 v17 (Scalar.addi (BitVec.ofNat 32 (i 1).val) 1#32) init where
  inv k acc := iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6)
      ∗ (∃ f_arg10, (arg10.view.loc (c : Thread nD τ) ↦[arg10.view.set]{fullShare} f_arg10) ∗ ⌜arg10.view.read (Elt F) f_arg10 = (insOf arg2 arg3 arg4 arg5 arg6 X_arg2 X_arg3 X_arg4 X_arg5 X_arg6 v12 v15 v17).dqL (i 1).val (arg10.view.read (Elt F) G_arg10) k⌝)
      ∗ (∃ f_arg13, (arg13.view.loc (c : Thread nD τ) ↦[arg13.view.set]{fullShare} f_arg13) ∗ ⌜arg13.view.read (Elt F) f_arg13 = (insOf arg2 arg3 arg4 arg5 arg6 X_arg2 X_arg3 X_arg4 X_arg5 X_arg6 v12 v15 v17).rowsL (i 1).val (arg13.view.read (Elt F) G_arg13) k⌝)
      ∗ ⌜acc = (insOf arg2 arg3 arg4 arg5 arg6 X_arg2 X_arg3 X_arg4 X_arg5 X_arg6 v12 v15 v17).carryL (i 1).val init k⌝)
  step k acc := by
    iintro ⟨H2, H3, H4, H5, H6, ⟨%f10, H10, %h10⟩, ⟨%f13, H13, %h13⟩, %hacc⟩
    iapply (wp_wand_r Idealize.ShloMosaic.frame (wpE (defs₀ (F := F)) 𝒱 (c : Thread nD τ) bd) E)
    isplitl [H2 H3 H4 H5 H6 H10 H13]
    · iapply (trip_spec 𝒱 c bd i arg2 harg2 arg3 harg3 arg4 harg4 arg5 harg5 arg6 harg6 arg7 harg7 arg8 harg8 arg9 harg9 arg10 harg10 arg11 harg11 arg12 harg12 arg13 harg13 arg14 harg14 v12 v15 v17 X_arg2 X_arg3 X_arg4 X_arg5 X_arg6 k E acc f10 f13)
      isplitl [H2]; · iexact H2
      isplitl [H3]; · iexact H3
      isplitl [H4]; · iexact H4
      isplitl [H5]; · iexact H5
      isplitl [H6]; · iexact H6
      isplitl [H10]; · iexact H10
      iexact H13
    · iintro %yld ⟨%g10, %g13, %h, H2, H3, H4, H5, H6, H10, H13⟩
      isplitl [H2]; · iexact H2
      isplitl [H3]; · iexact H3
      isplitl [H4]; · iexact H4
      isplitl [H5]; · iexact H5
      isplitl [H6]; · iexact H6
      isplitl [H10]
      · iexists g10; isplitl [H10]; · iexact H10
        ipureintro; rw [h.2.1, h10]; rfl
      isplitl [H13]
      · iexists g13; isplitl [H13]; · iexact H13
        ipureintro; rw [h.2.2, h13]; rfl
      ipureintro; rw [h.1, hacc]; rfl

end Cert.KernelIdeal.Gen

end
-- ==== Proof.Body.Base.lean ====
/- The body's one condition in closed form over the grid points, and the staging buffers the body is called with. -/
module

public import proofs.«01_k».proof.Proof.Gen.KernelIdeal.Frame
public import proofs.«01_k».proof.Proof.Body.Step

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-! ## The kernel body on any staging memrefs: a subtype the run finds -/

/-- Each window's current staging memref at point `t`, spelled as the pipeline passes it (`bodyAt0`), and its wholeness. -/
abbrev ms0_0 (t : Fin cfg0.N) : Memref sig .tc .vmem S4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x4096 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x128 .f32 := win0_12.stage (cfg0.slots t 12)
abbrev hs0_12 (t : Fin cfg0.N) : (ms0_12 t).IsWhole := hstage0_12 ((cfg0.slots t 12).cast nbuf0_12)

end Cert.KernelIdeal.Gen

end
-- ==== Proof.Body.RunA.lean ====
/- The whole body at a point that meets a pair's first key block: it zeroes what it accumulates on and leaves one
   grid point's values. -/
module

public import proofs.«01_k».proof.Proof.Body.Base

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Tile

/-- What a grid point reads, as Tile.lean's record: the keys, the keys beside their decay lanes and the values are the
    blocks as loaded. -/
abbrev ins (x0 x1 x2 : Vec F S4096x128 .bf16) (x3 x4 : Vec F S1x2x4096 .f32) (x5 x6 x7 : Vec F S1024x128 .bf16) : Ins F :=
  ⟨x0, x1, x2, x3, x4, k0_pay59 x5, k0_pay60 x5 x6, k0_pay61 x7⟩

set_option maxHeartbeats 4000000 in
theorem bodyRunA (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x4096 .f32) (harg5 : arg5.IsWhole) (arg6 : Memref sig .tc .vmem S1x2x4096 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x4096 .f32) (harg13 : arg13.IsWhole) (arg14 : Memref sig .tc .vmem S1024x128 .f32) (harg14 : arg14.IsWhole) (hc0 : cond0_0 i)
    (x0 : Vec F S4096x128 .bf16) (x1 : Vec F S4096x128 .bf16) (x2 : Vec F S4096x128 .bf16) (x3 : Vec F S1x2x4096 .f32) (x4 : Vec F S1x2x4096 .f32) (x5 : Vec F S1024x128 .bf16) (x6 : Vec F S1024x128 .bf16) (x7 : Vec F S1024x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare ((ins x0 x1 x2 x3 x4 x5 x6 x7).dqOut (i 1).val k0_pay54) ∗ owns (c : Thread nD τ) arg11 fullShare ((ins x0 x1 x2 x3 x4 x5 x6 x7).dkOut (i 1).val) ∗ owns (c : Thread nD τ) arg12 fullShare ((ins x0 x1 x2 x3 x4 x5 x6 x7).dvOut (i 1).val) ∗ owns (c : Thread nD τ) arg13 fullShare ((ins x0 x1 x2 x3 x4 x5 x6 x7).rowsOut (i 1).val k0_pay55) ∗ owns (c : Thread nD τ) arg14 fullShare ((ins x0 x1 x2 x3 x4 x5 x6 x7).colsOut (i 1).val)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
    simp only [cc0_attn_bwd_eq_skeleton]; unfold cc0_attn_bwd_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    subst hf0; subst hf1; subst hf2; subst hf3; subst hf4; subst hf5; subst hf6; subst hf7
    sl_exec (disch := first | sl_exact hc0)
    sl_step
    iapply Hk
    have ht : Scf.trips (k0_t1_loop i).lb (k0_t1_loop i).ub (k0_t1_loop i).st = 3 - (i 1).val := trips_eq i
    have hn : (i 1).val < 4 := (i 1).isLt
    have o1 : k0_off1 i = ![1024 * (i 1).val, 0] := k0_off1_eq i
    have o2 : k0_off2 i = ![0, (0 : Fin 2).val, 1024 * (i 1).val] := k0_off2_eq i
    have o3 : k0_off3 i = ![0, (1 : Fin 2).val, 1024 * (i 1).val] := k0_off3_eq i
    have e2 := readAt_blk arg2.view f0 (k0_off1_inb i) _ hn o1
    have e3 := readAt_blk arg3.view f1 (k0_off1_inb i) _ hn o1
    have e4 := readAt_blk arg4.view f2 (k0_off1_inb i) _ hn o1
    have e5 := readAt_lane arg5.view f3 (k0_off2_inb i) 0 _ hn o2
    have e6 := readAt_lane arg6.view f4 (k0_off2_inb i) 0 _ hn o2
    have e5' := readAt_lane arg5.view f3 (k0_off3_inb i) 1 _ hn o3
    have e6' := readAt_lane arg6.view f4 (k0_off3_inb i) 1 _ hn o3
    have e7 := View.readAt_full arg7.view f5 inb_S1024x128_S1024x128_0_0
    have e8 := View.readAt_full arg8.view f6 inb_S1024x128_S1024x128_0_0
    have e9 := View.readAt_full arg9.view f7 inb_S1024x128_S1024x128_0_0
    have z10 := View.read_writes_full arg10.view (View.junk (Val := Elt F) arg10.view) inb_S4096x128_S4096x128_0_0 (k0_pay54 (F := F)) []
    have z13 := View.read_writes_full arg13.view (View.junk (Val := Elt F) arg13.view) inb_S1x2x4096_S1x2x4096_0_0_0 (k0_pay55 (F := F)) []
    have e10 := (readAt_blk arg10.view _ (k0_off1_inb i) _ hn o1).trans (congrArg (fun x => blk x (i 1).val) z10)
    have e13 := (readAt_lane arg13.view _ (k0_off2_inb i) 0 _ hn o2).trans (congrArg (fun x => lane x 0 (i 1).val) z13)
    have e13' := fun w => (readAt_lane arg13.view _ (k0_off3_inb i) 1 _ hn o3).trans ((congrArg (fun x => lane x 1 (i 1).val)
      (read_writes_lane arg13.view (View.junk (Val := Elt F) arg13.view) (k0_off2_inb i) w _ 0 _ o2)).trans ((lane_putL_ne _ 0 1 (by decide) _ w).trans
        (congrArg (fun x => lane x 1 (i 1).val) z13)))
    isplitl [H0]
    · iexists _; isplitr; · ipureintro; exact rfl
      iexact H0
    isplitl [H1]
    · iexists _; isplitr; · ipureintro; exact rfl
      iexact H1
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    isplitl [H6]
    · iexists _; isplitr; · ipureintro; exact rfl
      iexact H6
    isplitl [H7]
    · iexists _; isplitr; · ipureintro; exact rfl
      iexact H7
    isplitl [H8]
    · iexists _
      isplitr
      rotate_left
      · iexact H8
      ipureintro
      refine hL6.trans ?_
      refine Ins.dqOut_of ?_ ?_ ht
      · sl_unfold_run_names
        rw [e7, e8, e9]
      · clear * - ht hn o1 o2 o3 e2 e3 e4 e5 e6 e5' e6' e7 e8 e9 e10 e13 e13' z10 z13
        rw [read_writes_blk _ _ _ _ _ _ o1]
        sl_unfold_run_names
        rw [e10, e2, e3, e4, e5, e6, e5', e6', e7, e8, e9, z10]
        rfl
    isplitl [H9]
    · iexists _
      isplitr
      rotate_left
      · iexact H9
      ipureintro
      clear * - ht e2 e3 e4 e5 e6 e5' e6' e7 e8 e9 e10 e13 e13' z10 z13
      refine Eq.trans (View.read_writes_full arg11.view _ inb_S1024x128_S1024x128_0_0 _ _) ?_
      rw [ht]
      dsimp only
      refine Ins.dkOut_of ?_ ?_ rfl
      · sl_unfold_run_names
        rw [e7, e8, e9]
      · sl_unfold_run_names
        rw [e2, e3, e4, e5, e6, e5', e6', e7, e8, e9]
        rfl
    isplitl [H10]
    · iexists _
      isplitr
      rotate_left
      · iexact H10
      ipureintro
      clear * - ht e2 e3 e4 e5 e6 e5' e6' e7 e8 e9 e10 e13 e13' z10 z13
      refine Eq.trans (View.read_writes_full arg12.view _ inb_S1024x128_S1024x128_0_0 _ _) ?_
      rw [ht]
      dsimp only
      refine Ins.dvOut_of ?_ ?_ rfl
      · sl_unfold_run_names
        rw [e7, e8, e9]
      · sl_unfold_run_names
        rw [e2, e3, e4, e5, e6, e5', e6', e7, e8, e9]
        rfl
    isplitl [H11]
    · iexists _
      isplitr
      rotate_left
      · iexact H11
      ipureintro
      refine hL8.trans ?_
      refine Ins.rowsOut_of ?_ ?_ ht
      · sl_unfold_run_names
        rw [e7, e8, e9]
      · clear * - ht hn o1 o2 o3 e2 e3 e4 e5 e6 e5' e6' e7 e8 e9 e10 e13 e13' z10 z13
        rw [read_writes_lane _ _ _ _ _ 1 _ o3]
        sl_unfold_run_names
        rw [e13', read_writes_lane _ _ _ _ _ 0 _ o2]
        rw [e13, e2, e3, e4, e5, e6, e5', e6', e7, e8, e9, z13]
        rfl
    · iexists _
      isplitr
      rotate_left
      · iexact H12
      ipureintro
      clear * - ht e2 e3 e4 e5 e6 e5' e6' e7 e8 e9 e10 e13 e13' z10 z13
      refine Eq.trans (View.read_writes_full arg14.view _ inb_S1024x128_S1024x128_0_0 _ _) ?_
      rw [ht]
      dsimp only
      refine Ins.colsOut_of ?_ ?_ rfl
      · sl_unfold_run_names
        rw [e7, e8, e9]
      · sl_unfold_run_names
        rw [e2, e3, e4, e5, e6, e5', e6', e7, e8, e9]
        rfl

end Cert.KernelIdeal.Gen

end
-- ==== Proof.Body.RunB.lean ====
/- The whole body at a point that meets a later key block: it leaves one grid point's values on top of what it finds. -/
module

public import proofs.«01_k».proof.Proof.Body.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Tile

set_option maxHeartbeats 4000000 in
theorem bodyRunB (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x2x4096 .f32) (harg5 : arg5.IsWhole) (arg6 : Memref sig .tc .vmem S1x2x4096 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x4096 .f32) (harg13 : arg13.IsWhole) (arg14 : Memref sig .tc .vmem S1024x128 .f32) (harg14 : arg14.IsWhole) (hc0 : ¬ cond0_0 i)
    (x0 : Vec F S4096x128 .bf16) (x1 : Vec F S4096x128 .bf16) (x2 : Vec F S4096x128 .bf16) (x3 : Vec F S1x2x4096 .f32) (x4 : Vec F S1x2x4096 .f32) (x5 : Vec F S1024x128 .bf16) (x6 : Vec F S1024x128 .bf16) (x7 : Vec F S1024x128 .bf16)
    (d8 : Vec F S4096x128 .f32) (d11 : Vec F S1x2x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ (∃ d, owns (c : Thread nD τ) arg11 fullShare d) ∗ (∃ d, owns (c : Thread nD τ) arg12 fullShare d) ∗ owns (c : Thread nD τ) arg13 fullShare d11 ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare ((ins x0 x1 x2 x3 x4 x5 x6 x7).dqOut (i 1).val d8) ∗ owns (c : Thread nD τ) arg11 fullShare ((ins x0 x1 x2 x3 x4 x5 x6 x7).dkOut (i 1).val) ∗ owns (c : Thread nD τ) arg12 fullShare ((ins x0 x1 x2 x3 x4 x5 x6 x7).dvOut (i 1).val) ∗ owns (c : Thread nD τ) arg13 fullShare ((ins x0 x1 x2 x3 x4 x5 x6 x7).rowsOut (i 1).val d11) ∗ owns (c : Thread nD τ) arg14 fullShare ((ins x0 x1 x2 x3 x4 x5 x6 x7).colsOut (i 1).val)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
    simp only [cc0_attn_bwd_eq_skeleton]; unfold cc0_attn_bwd_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, Hk⟩
    subst hf0; subst hf1; subst hf2; subst hf3; subst hf4; subst hf5; subst hf6; subst hf7; subst hf8; subst hf11
    sl_exec (disch := first | sl_exact hc0)
    sl_step
    iapply Hk
    have ht : Scf.trips (k0_t1_loop i).lb (k0_t1_loop i).ub (k0_t1_loop i).st = 3 - (i 1).val := trips_eq i
    have hn : (i 1).val < 4 := (i 1).isLt
    have o1 : k0_off1 i = ![1024 * (i 1).val, 0] := k0_off1_eq i
    have o2 : k0_off2 i = ![0, (0 : Fin 2).val, 1024 * (i 1).val] := k0_off2_eq i
    have o3 : k0_off3 i = ![0, (1 : Fin 2).val, 1024 * (i 1).val] := k0_off3_eq i
    have e2 := readAt_blk arg2.view f0 (k0_off1_inb i) _ hn o1
    have e3 := readAt_blk arg3.view f1 (k0_off1_inb i) _ hn o1
    have e4 := readAt_blk arg4.view f2 (k0_off1_inb i) _ hn o1
    have e5 := readAt_lane arg5.view f3 (k0_off2_inb i) 0 _ hn o2
    have e6 := readAt_lane arg6.view f4 (k0_off2_inb i) 0 _ hn o2
    have e5' := readAt_lane arg5.view f3 (k0_off3_inb i) 1 _ hn o3
    have e6' := readAt_lane arg6.view f4 (k0_off3_inb i) 1 _ hn o3
    have e7 := View.readAt_full arg7.view f5 inb_S1024x128_S1024x128_0_0
    have e8 := View.readAt_full arg8.view f6 inb_S1024x128_S1024x128_0_0
    have e9 := View.readAt_full arg9.view f7 inb_S1024x128_S1024x128_0_0
    have e10 := readAt_blk arg10.view f8 (k0_off1_inb i) _ hn o1
    have e13 := readAt_lane arg13.view f11 (k0_off2_inb i) 0 _ hn o2
    have e13' := readAt_lane arg13.view f11 (k0_off3_inb i) 1 _ hn o3
    isplitl [H0]
    · iexists _; isplitr; · ipureintro; exact rfl
      iexact H0
    isplitl [H1]
    · iexists _; isplitr; · ipureintro; exact rfl
      iexact H1
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    isplitl [H6]
    · iexists _; isplitr; · ipureintro; exact rfl
      iexact H6
    isplitl [H7]
    · iexists _; isplitr; · ipureintro; exact rfl
      iexact H7
    isplitl [H8]
    · iexists _
      isplitr
      rotate_left
      · iexact H8
      ipureintro
      refine hL6.trans ?_
      refine Ins.dqOut_of ?_ ?_ ht
      · sl_unfold_run_names
        rw [e7, e8, e9]
      · clear * - ht hn o1 o2 o3 e2 e3 e4 e5 e6 e5' e6' e7 e8 e9 e10 e13 e13'
        rw [read_writes_blk _ _ _ _ _ _ o1]
        sl_unfold_run_names
        rw [e10, e2, e3, e4, e5, e6, e5', e6', e7, e8, e9]
        rfl
    isplitl [H9]
    · iexists _
      isplitr
      rotate_left
      · iexact H9
      ipureintro
      clear * - ht e2 e3 e4 e5 e6 e5' e6' e7 e8 e9 e10 e13 e13'
      refine Eq.trans (View.read_writes_full arg11.view _ inb_S1024x128_S1024x128_0_0 _ _) ?_
      rw [ht]
      dsimp only
      refine Ins.dkOut_of ?_ ?_ rfl
      · sl_unfold_run_names
        rw [e7, e8, e9]
      · sl_unfold_run_names
        rw [e2, e3, e4, e5, e6, e5', e6', e7, e8, e9]
        rfl
    isplitl [H10]
    · iexists _
      isplitr
      rotate_left
      · iexact H10
      ipureintro
      clear * - ht e2 e3 e4 e5 e6 e5' e6' e7 e8 e9 e10 e13 e13'
      refine Eq.trans (View.read_writes_full arg12.view _ inb_S1024x128_S1024x128_0_0 _ _) ?_
      rw [ht]
      dsimp only
      refine Ins.dvOut_of ?_ ?_ rfl
      · sl_unfold_run_names
        rw [e7, e8, e9]
      · sl_unfold_run_names
        rw [e2, e3, e4, e5, e6, e5', e6', e7, e8, e9]
        rfl
    isplitl [H11]
    · iexists _
      isplitr
      rotate_left
      · iexact H11
      ipureintro
      refine hL8.trans ?_
      refine Ins.rowsOut_of ?_ ?_ ht
      · sl_unfold_run_names
        rw [e7, e8, e9]
      · clear * - ht hn o1 o2 o3 e2 e3 e4 e5 e6 e5' e6' e7 e8 e9 e10 e13 e13'
        rw [read_writes_lane _ _ _ _ _ 1 _ o3]
        sl_unfold_run_names
        rw [read_writes_lane _ _ _ _ _ 0 _ o2]
        rw [e13, e13', e2, e3, e4, e5, e6, e5', e6', e7, e8, e9]
        rfl
    · iexists _
      isplitr
      rotate_left
      · iexact H12
      ipureintro
      clear * - ht e2 e3 e4 e5 e6 e5' e6' e7 e8 e9 e10 e13 e13'
      refine Eq.trans (View.read_writes_full arg14.view _ inb_S1024x128_S1024x128_0_0 _ _) ?_
      rw [ht]
      dsimp only
      refine Ins.colsOut_of ?_ ?_ rfl
      · sl_unfold_run_names
        rw [e7, e8, e9]
      · sl_unfold_run_names
        rw [e2, e3, e4, e5, e6, e5', e6', e7, e8, e9]
        rfl

end Cert.KernelIdeal.Gen

end
-- ==== Proof.Body.Run.lean ====
/- The run of the whole grid with its results named: what the body leaves at each point, the obligation, the run, the frame. -/
module

public import proofs.«01_k».proof.Proof.Body.RunB
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Tile

variable (m : (ℓ : Loc nD τ sig) → Buf (Elt F) ℓ) (ρ : Dev nD → PrngReg)

/-! ## What the body leaves, point by point -/

/-- The grid's `n`-th point. -/
def pt (n : ℕ) : Fin cfg0.N := ⟨n % 16, lt_of_lt_of_eq (Nat.mod_lt _ (by decide)) (show 16 = cfg0.N from N_0.symm)⟩

theorem pt_val (t : Fin cfg0.N) : pt t.val = t :=
  Fin.ext (Nat.mod_eq_of_lt (lt_of_lt_of_eq t.isLt (show cfg0.N = 16 from N_0)))

/-- The blocks the body reads at point `t`. -/
def insAt (c : Dev nD) (t : Fin cfg0.N) : Ins F :=
  ins (iblk m c 0 t) (iblk m c 1 t) (iblk m c 2 t) (iblk m c 3 t) (iblk m c 4 t) (iblk m c 5 t) (iblk m c 6 t) (iblk m c 7 t)

/-- The key block of point `t`. -/
abbrev kj (t : Fin cfg0.N) : ℕ := (grid0.coords t 1).val

/-- The queries' gradient after point `n`: begun from zero at a pair of heads' first key block. -/
def dqAt (c : Dev nD) : ℕ → Vec F S4096x128 .f32
  | 0 => (insAt m c (pt 0)).dqOut (kj (pt 0)) k0_pay54
  | n + 1 => (insAt m c (pt (n + 1))).dqOut (kj (pt (n + 1))) (if (n + 1) % 4 = 0 then k0_pay54 else dqAt c n)

/-- The sums over keys after point `n`, likewise. -/
def rowsAt (c : Dev nD) : ℕ → Vec F S1x2x4096 .f32
  | 0 => (insAt m c (pt 0)).rowsOut (kj (pt 0)) k0_pay55
  | n + 1 => (insAt m c (pt (n + 1))).rowsOut (kj (pt (n + 1))) (if (n + 1) % 4 = 0 then k0_pay55 else rowsAt c n)

theorem dqAt_first (c : Dev nD) (t : Fin cfg0.N) (h : t.val % 4 = 0) : dqAt m c t.val = (insAt m c t).dqOut (kj t) k0_pay54 := by
  have e := pt_val t
  generalize hn : t.val = n at e h
  cases n with
  | zero => rw [dqAt, e]
  | succ n => rw [dqAt, e, if_pos h]

theorem rowsAt_first (c : Dev nD) (t : Fin cfg0.N) (h : t.val % 4 = 0) : rowsAt m c t.val = (insAt m c t).rowsOut (kj t) k0_pay55 := by
  have e := pt_val t
  generalize hn : t.val = n at e h
  cases n with
  | zero => rw [rowsAt, e]
  | succ n => rw [rowsAt, e, if_pos h]

theorem dqAt_next (c : Dev nD) (t : Fin cfg0.N) (h : ¬ t.val % 4 = 0) : dqAt m c t.val = (insAt m c t).dqOut (kj t) (dqAt m c (t.val - 1)) := by
  have e := pt_val t
  generalize hn : t.val = n at e h
  cases n with
  | zero => exact absurd rfl h
  | succ n => rw [dqAt, e, if_neg h]; rfl

theorem rowsAt_next (c : Dev nD) (t : Fin cfg0.N) (h : ¬ t.val % 4 = 0) : rowsAt m c t.val = (insAt m c t).rowsOut (kj t) (rowsAt m c (t.val - 1)) := by
  have e := pt_val t
  generalize hn : t.val = n at e h
  cases n with
  | zero => exact absurd rfl h
  | succ n => rw [rowsAt, e, if_neg h]; rfl

/-! ## The proof data -/

/-- The proof data: each input's buffer at its block, each result's at what the body left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAt m c t.val
    | ⟨9, _⟩ => (insAt m c t).dkOut (kj t)
    | ⟨10, _⟩ => (insAt m c t).dvOut (kj t)
    | ⟨11, _⟩ => rowsAt m c t.val
    | ⟨12, _⟩ => (insAt m c t).colsOut (kj t)
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dqAt m c t.val := by dsimp only [dats]
theorem after0_9 (c : Dev nD) (t : Fin cfg0.N) : (dats m 0 c).after 9 t = (insAt m c t).dkOut (kj t) := by dsimp only [dats]
theorem after0_10 (c : Dev nD) (t : Fin cfg0.N) : (dats m 0 c).after 10 t = (insAt m c t).dvOut (kj t) := by dsimp only [dats]
theorem after0_11 (c : Dev nD) (t : Fin cfg0.N) : (dats m 0 c).after 11 t = rowsAt m c t.val := by dsimp only [dats]
theorem after0_12 (c : Dev nD) (t : Fin cfg0.N) : (dats m 0 c).after 12 t = (insAt m c t).colsOut (kj t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Past a pair's first key block the body finds what the point before left. -/
theorem before0_8 (c : Dev nD) (t : Fin cfg0.N) (h : ¬ t.val % 4 = 0) (d) : (dats m 0 c).before 8 t d = dqAt m c (t.val - 1) := by
  have ht : t.val ≠ 0 := fun e => h (by rw [e])
  refine ((dats m 0 c).before_out_kept 8 rfl t ht ?_ (fun _ => rfl) (fun _ _ => rfl) d).trans (after0_8 m c _)
  rw [Bool.eq_false_iff]
  intro hf
  have := (flush0_8 _).mp hf
  dsimp only at this
  omega

/-- Past a pair's first key block the body finds what the point before left. -/
theorem before0_11 (c : Dev nD) (t : Fin cfg0.N) (h : ¬ t.val % 4 = 0) (d) : (dats m 0 c).before 11 t d = rowsAt m c (t.val - 1) := by
  have ht : t.val ≠ 0 := fun e => h (by rw [e])
  refine ((dats m 0 c).before_out_kept 11 rfl t ht ?_ (fun _ => rfl) (fun _ _ => rfl) d).trans (after0_11 m c _)
  rw [Bool.eq_false_iff]
  intro hf
  have := (flush0_11 _).mp hf
  dsimp only at this
  omega

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 2400000 in
/-- The body at any point: its run, at the blocks the point finds. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  have hN : t.val < 16 := lt_of_lt_of_eq t.isLt (show cfg0.N = 16 from N_0)
  by_cases h0 : t.val % 4 = 0
  · rw [dqAt_first m c t h0, rowsAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyRunA c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [dqAt_next m c t h0, rowsAt_next m c t h0]
    simp only [before0_8 m c t h0, before0_11 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (bodyRunB c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (dqAt m c (t.val - 1)) (rowsAt m c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) :
    defs₀ (F := F) .tc cfg0.body (cfg0.bodyArgs t (cfg0.slots t)) = bodyAt0 t := by
  unfold defs₀; rw [Defs.onTc_tc]

/-- The obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends, each array at what the write-backs left and every semaphore at zero. -/
theorem run_main_quiescent : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := fun r => Pipeline.FramePost cfgs (dats m) 0 (V m) r ∧ r.2.sem = fun _ => 0)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- with every semaphore at zero, -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- and the results at their arrays' final contents. -/
theorem results : θ_run defs (onTc (τ := τ) (main (F := F))) ⟨m, fun _ => 0, ρ⟩ (fun r => ∀ c : Dev nD,
      r.2.mem ((c.tc : Thread nD τ).loc main_v87_0) = (dats m 0 c).arrAt 8 cfg0.N
      ∧ r.2.mem ((c.tc : Thread nD τ).loc main_v87_1) = (dats m 0 c).arrAt 9 cfg0.N
      ∧ r.2.mem ((c.tc : Thread nD τ).loc main_v87_2) = (dats m 0 c).arrAt 10 cfg0.N
      ∧ r.2.mem ((c.tc : Thread nD τ).loc main_v87_3) = (dats m 0 c).arrAt 11 cfg0.N
      ∧ r.2.mem ((c.tc : Thread nD τ).loc main_v87_4) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 8, (h.1 c).1 9, (h.1 c).1 10, (h.1 c).1 11, (h.1 c).1 12, h.2 c⟩) (θ_run_and (run_main m ρ) (unchanged m ρ))

end Cert.KernelIdeal.Gen

end
-- ==== Proof.Value.Blocks.lean ====
/- Where a grid point's blocks lie in the call's arrays. -/
module

public import proofs.«01_k».proof.Proof.Value.Point
public import proofs.«01_k».proof.Proof.Body.Run
public import Idealize.ShloMosaic.Lib.Pipeline.ValueKit

@[expose] public section

set_option maxRecDepth 16384

noncomputable section

namespace Cert.KernelIdeal.Arrays

open Idealize.ShloMosaic hiding ix1 ix2 ix3 eq_ix2 eq_ix3
open Idealize.ShloMosaic.TcCoe Idealize.ShloMosaic.ValueIdx Cert.KernelIdeal Cert.KernelIdeal.Gen Cert.KernelIdeal.Tile
open Idealize.ShloMosaic.Pipeline (Dat)
open Cert.Attn (Data Holds lanes qlane klane)
open scoped BigOperators

variable (m : (ℓ : Loc nD τ sig) → Buf (Elt Ideal) ℓ) (c : Dev nD)

/-! ## Where the blocks lie -/

theorem lt16 (t : Fin cfg0.N) : t.val < 16 := lt_of_lt_of_eq t.isLt (show cfg0.N = 16 from N_0)
/-- The pair of heads of point `t`. -/
def hpOf (t : Fin cfg0.N) : Fin 4 := ⟨t.val / 4, by have := lt16 t; omega⟩

theorem kj_eq : ∀ t : Fin cfg0.N, kj t = t.val % 4 := (by decide +kernel : ∀ t : Fin grid0.N, (grid0.coords t 1).val = t.val % 4)

theorem idx0 : ∀ t : Fin grid0.N, win0_0.index t = ![0, t.val / 4] := by decide +kernel
theorem idx1 : ∀ t : Fin grid0.N, win0_1.index t = ![0, t.val / 4] := by decide +kernel
theorem idx2 : ∀ t : Fin grid0.N, win0_2.index t = ![0, t.val / 4] := by decide +kernel
theorem idx3 : ∀ t : Fin grid0.N, win0_3.index t = ![t.val / 4, 0, 0] := by decide +kernel
theorem idx4 : ∀ t : Fin grid0.N, win0_4.index t = ![t.val / 4, 0, 0] := by decide +kernel
theorem idx5 : ∀ t : Fin grid0.N, win0_5.index t = ![t.val % 4, t.val / 4] := by decide +kernel
theorem idx6 : ∀ t : Fin grid0.N, win0_6.index t = ![t.val % 4, t.val / 4] := by decide +kernel
theorem idx7 : ∀ t : Fin grid0.N, win0_7.index t = ![t.val % 4, t.val / 4] := by decide +kernel
theorem idx8 : ∀ t : Fin grid0.N, win0_8.index t = ![0, t.val / 4] := by decide +kernel
theorem idx9 : ∀ t : Fin grid0.N, win0_9.index t = ![t.val % 4, t.val / 4] := by decide +kernel
theorem idx10 : ∀ t : Fin grid0.N, win0_10.index t = ![t.val % 4, t.val / 4] := by decide +kernel
theorem idx11 : ∀ t : Fin grid0.N, win0_11.index t = ![t.val / 4, 0, 0] := by decide +kernel
theorem idx12 : ∀ t : Fin grid0.N, win0_12.index t = ![t.val % 4, t.val / 4] := by decide +kernel

theorem read0 (X : Buf (Elt Ideal) ((c : Thread nD τ).loc main_v77)) (t : Fin cfg0.N) (a : Fin 4096) (y : Fin 128) :
    ((cfg0.win 0).blk t).view.read (Elt Ideal) X (ix2 a y) = X (ix2 a (ln (hpOf t) y)) := by
  refine congrArg X (show ((cfg0.win 0).blk t).view.emb (ix2 a y) = ix2 a (ln (hpOf t) y) from ?_)
  funext b; apply Fin.ext
  blk_simp [idx0]
  match b with
  | ⟨0, _⟩ => show 0 * 4096 + a.val = a.val; omega
  | ⟨1, _⟩ => show t.val / 4 * 128 + y.val = 128 * (t.val / 4) + y.val; omega

theorem blk0 (t : Fin cfg0.N) (a : Fin 4096) (y : Fin 128) : iblk m c 0 t (ix2 a y) = V m c main_v77 (ix2 a (ln (hpOf t) y)) :=
  read0 c (V m c main_v77) t a y

theorem read1 (X : Buf (Elt Ideal) ((c : Thread nD τ).loc main_v27)) (t : Fin cfg0.N) (a : Fin 4096) (y : Fin 128) :
    ((cfg0.win 1).blk t).view.read (Elt Ideal) X (ix2 a y) = X (ix2 a (ln (hpOf t) y)) := by
  refine congrArg X (show ((cfg0.win 1).blk t).view.emb (ix2 a y) = ix2 a (ln (hpOf t) y) from ?_)
  funext b; apply Fin.ext
  blk_simp [idx1]
  match b with
  | ⟨0, _⟩ => show 0 * 4096 + a.val = a.val; omega
  | ⟨1, _⟩ => show t.val / 4 * 128 + y.val = 128 * (t.val / 4) + y.val; omega

theorem blk1 (t : Fin cfg0.N) (a : Fin 4096) (y : Fin 128) : iblk m c 1 t (ix2 a y) = V m c main_v27 (ix2 a (ln (hpOf t) y)) :=
  read1 c (V m c main_v27) t a y

theorem read2 (X : Buf (Elt Ideal) ((c : Thread nD τ).loc main_v86)) (t : Fin cfg0.N) (a : Fin 4096) (y : Fin 128) :
    ((cfg0.win 2).blk t).view.read (Elt Ideal) X (ix2 a y) = X (ix2 a (ln (hpOf t) y)) := by
  refine congrArg X (show ((cfg0.win 2).blk t).view.emb (ix2 a y) = ix2 a (ln (hpOf t) y) from ?_)
  funext b; apply Fin.ext
  blk_simp [idx2]
  match b with
  | ⟨0, _⟩ => show 0 * 4096 + a.val = a.val; omega
  | ⟨1, _⟩ => show t.val / 4 * 128 + y.val = 128 * (t.val / 4) + y.val; omega

theorem blk2 (t : Fin cfg0.N) (a : Fin 4096) (y : Fin 128) : iblk m c 2 t (ix2 a y) = V m c main_v86 (ix2 a (ln (hpOf t) y)) :=
  read2 c (V m c main_v86) t a y

theorem read3 (X : Buf (Elt Ideal) ((c : Thread nD τ).loc main_v71)) (t : Fin cfg0.N) (h : Fin 2) (a : Fin 4096) :
    ((cfg0.win 3).blk t).view.read (Elt Ideal) X (ix3 (0 : Fin 1) h a) = X (ix3 (hpOf t) h a) := by
  refine congrArg X (show ((cfg0.win 3).blk t).view.emb (ix3 (0 : Fin 1) h a) = ix3 (hpOf t) h a from ?_)
  funext b; apply Fin.ext
  blk_simp [idx3]
  match b with
  | ⟨0, _⟩ => show t.val / 4 * 1 + 0 = t.val / 4; omega
  | ⟨1, _⟩ => show 0 * 2 + h.val = h.val; omega
  | ⟨2, _⟩ => show 0 * 4096 + a.val = a.val; omega

theorem blk3 (t : Fin cfg0.N) (h : Fin 2) (a : Fin 4096) : iblk m c 3 t (ix3 (0 : Fin 1) h a) = V m c main_v71 (ix3 (hpOf t) h a) :=
  read3 c (V m c main_v71) t h a

theorem read4 (X : Buf (Elt Ideal) ((c : Thread nD τ).loc main_v74)) (t : Fin cfg0.N) (h : Fin 2) (a : Fin 4096) :
    ((cfg0.win 4).blk t).view.read (Elt Ideal) X (ix3 (0 : Fin 1) h a) = X (ix3 (hpOf t) h a) := by
  refine congrArg X (show ((cfg0.win 4).blk t).view.emb (ix3 (0 : Fin 1) h a) = ix3 (hpOf t) h a from ?_)
  funext b; apply Fin.ext
  blk_simp [idx4]
  match b with
  | ⟨0, _⟩ => show t.val / 4 * 1 + 0 = t.val / 4; omega
  | ⟨1, _⟩ => show 0 * 2 + h.val = h.val; omega
  | ⟨2, _⟩ => show 0 * 4096 + a.val = a.val; omega

theorem blk4 (t : Fin cfg0.N) (h : Fin 2) (a : Fin 4096) : iblk m c 4 t (ix3 (0 : Fin 1) h a) = V m c main_v74 (ix3 (hpOf t) h a) :=
  read4 c (V m c main_v74) t h a

theorem read5 (X : Buf (Elt Ideal) ((c : Thread nD τ).loc main_v80)) (t : Fin cfg0.N) (a : Fin 1024) (y : Fin 128) :
    ((cfg0.win 5).blk t).view.read (Elt Ideal) X (ix2 a y) = X (ix2 (pos (kj t) a) (ln (hpOf t) y)) := by
  have hk := kj_eq t
  refine congrArg X (show ((cfg0.win 5).blk t).view.emb (ix2 a y) = ix2 (pos (kj t) a) (ln (hpOf t) y) from ?_)
  funext b; apply Fin.ext
  blk_simp [idx5]
  match b with
  | ⟨0, _⟩ => show t.val % 4 * 1024 + a.val = (pos (kj t) a).val; rw [hk, pos_val (by omega)]; omega
  | ⟨1, _⟩ => show t.val / 4 * 128 + y.val = 128 * (t.val / 4) + y.val; omega

theorem blk5 (t : Fin cfg0.N) (a : Fin 1024) (y : Fin 128) : iblk m c 5 t (ix2 a y) = V m c main_v80 (ix2 (pos (kj t) a) (ln (hpOf t) y)) :=
  read5 c (V m c main_v80) t a y

theorem read6 (X : Buf (Elt Ideal) ((c : Thread nD τ).loc main_v44)) (t : Fin cfg0.N) (a : Fin 1024) (y : Fin 128) :
    ((cfg0.win 6).blk t).view.read (Elt Ideal) X (ix2 a y) = X (ix2 (pos (kj t) a) (ln (hpOf t) y)) := by
  have hk := kj_eq t
  refine congrArg X (show ((cfg0.win 6).blk t).view.emb (ix2 a y) = ix2 (pos (kj t) a) (ln (hpOf t) y) from ?_)
  funext b; apply Fin.ext
  blk_simp [idx6]
  match b with
  | ⟨0, _⟩ => show t.val % 4 * 1024 + a.val = (pos (kj t) a).val; rw [hk, pos_val (by omega)]; omega
  | ⟨1, _⟩ => show t.val / 4 * 128 + y.val = 128 * (t.val / 4) + y.val; omega

theorem blk6 (t : Fin cfg0.N) (a : Fin 1024) (y : Fin 128) : iblk m c 6 t (ix2 a y) = V m c main_v44 (ix2 (pos (kj t) a) (ln (hpOf t) y)) :=
  read6 c (V m c main_v44) t a y

theorem read7 (X : Buf (Elt Ideal) ((c : Thread nD τ).loc main_v83)) (t : Fin cfg0.N) (a : Fin 1024) (y : Fin 128) :
    ((cfg0.win 7).blk t).view.read (Elt Ideal) X (ix2 a y) = X (ix2 (pos (kj t) a) (ln (hpOf t) y)) := by
  have hk := kj_eq t
  refine congrArg X (show ((cfg0.win 7).blk t).view.emb (ix2 a y) = ix2 (pos (kj t) a) (ln (hpOf t) y) from ?_)
  funext b; apply Fin.ext
  blk_simp [idx7]
  match b with
  | ⟨0, _⟩ => show t.val % 4 * 1024 + a.val = (pos (kj t) a).val; rw [hk, pos_val (by omega)]; omega
  | ⟨1, _⟩ => show t.val / 4 * 128 + y.val = 128 * (t.val / 4) + y.val; omega

theorem blk7 (t : Fin cfg0.N) (a : Fin 1024) (y : Fin 128) : iblk m c 7 t (ix2 a y) = V m c main_v83 (ix2 (pos (kj t) a) (ln (hpOf t) y)) :=
  read7 c (V m c main_v83) t a y

end Cert.KernelIdeal.Arrays

end
-- ==== Proof.Host.Entry.lean ====
/- What the kernel's call finds in the arrays it reads: each is the last value of the lines that prepare it. -/
module

public import proofs.«01_k».proof.Proof.Host.Read
public import proofs.«01_k».proof.Proof.Gen.KernelIdeal.Frame
public import Idealize.ShloMosaic.Lib.StableHlo.Run

@[expose] public section

set_option maxRecDepth 16384

noncomputable section

namespace Cert.KernelIdeal.Entry

open Cert.KernelIdeal Cert.KernelIdeal.Gen Cert.KernelIdeal.Read Idealize.ShloMosaic Idealize.ShloMosaic.TcCoe Idealize.SL.Sem Idealize.ShloMosaic.StableHlo

variable {F : FTy → Type} [FloatOps F] [Named F]

/-- The eight rows stacked, as a function of the rows. -/
def fn_main_v22 : (main_v14 : Ref sig .tc).ty.Contents (Elt F) → (main_v15 : Ref sig .tc).ty.Contents (Elt F) → (main_v16 : Ref sig .tc).ty.Contents (Elt F) → (main_v17 : Ref sig .tc).ty.Contents (Elt F) → (main_v18 : Ref sig .tc).ty.Contents (Elt F) → (main_v19 : Ref sig .tc).ty.Contents (Elt F) → (main_v20 : Ref sig .tc).ty.Contents (Elt F) → (main_v21 : Ref sig .tc).ty.Contents (Elt F) → (main_v22 : Ref sig .tc).ty.Contents (Elt F) :=
  (fun u0 u1 u2 u3 u4 u5 u6 u7 => (concatenate S8x8x4096 1 [⟨S8x1x4096, (u0 : Arr F S8x1x4096 .f32)⟩, ⟨S8x1x4096, (u1 : Arr F S8x1x4096 .f32)⟩, ⟨S8x1x4096, (u2 : Arr F S8x1x4096 .f32)⟩, ⟨S8x1x4096, (u3 : Arr F S8x1x4096 .f32)⟩, ⟨S8x1x4096, (u4 : Arr F S8x1x4096 .f32)⟩, ⟨S8x1x4096, (u5 : Arr F S8x1x4096 .f32)⟩, ⟨S8x1x4096, (u6 : Arr F S8x1x4096 .f32)⟩, ⟨S8x1x4096, (u7 : Arr F S8x1x4096 .f32)⟩] concatenates_S8x1x4096_S8x1x4096_S8x1x4096_S8x1x4096_S8x1x4096_S8x1x4096_S8x1x4096_S8x1x4096_S8x8x4096_d1 : Arr F S8x8x4096 .f32))

/-- The eight rows stacked, as a function of the rows. -/
def fn_main_v39 : (main_v31 : Ref sig .tc).ty.Contents (Elt F) → (main_v32 : Ref sig .tc).ty.Contents (Elt F) → (main_v33 : Ref sig .tc).ty.Contents (Elt F) → (main_v34 : Ref sig .tc).ty.Contents (Elt F) → (main_v35 : Ref sig .tc).ty.Contents (Elt F) → (main_v36 : Ref sig .tc).ty.Contents (Elt F) → (main_v37 : Ref sig .tc).ty.Contents (Elt F) → (main_v38 : Ref sig .tc).ty.Contents (Elt F) → (main_v39 : Ref sig .tc).ty.Contents (Elt F) :=
  (fun u0 u1 u2 u3 u4 u5 u6 u7 => (concatenate S8x8x4096 1 [⟨S8x1x4096, (u0 : Arr F S8x1x4096 .f32)⟩, ⟨S8x1x4096, (u1 : Arr F S8x1x4096 .f32)⟩, ⟨S8x1x4096, (u2 : Arr F S8x1x4096 .f32)⟩, ⟨S8x1x4096, (u3 : Arr F S8x1x4096 .f32)⟩, ⟨S8x1x4096, (u4 : Arr F S8x1x4096 .f32)⟩, ⟨S8x1x4096, (u5 : Arr F S8x1x4096 .f32)⟩, ⟨S8x1x4096, (u6 : Arr F S8x1x4096 .f32)⟩, ⟨S8x1x4096, (u7 : Arr F S8x1x4096 .f32)⟩] concatenates_S8x1x4096_S8x1x4096_S8x1x4096_S8x1x4096_S8x1x4096_S8x1x4096_S8x1x4096_S8x1x4096_S8x8x4096_d1 : Arr F S8x8x4096 .f32))

/-- @main's 101 operations, in order (a called function's operations stand in its call's place, spelt `TRef.…`). -/
abbrev ops : List (HloOp τ sig (Elt F)) :=
  [ nullary main_cst (constant S_ .f32 0x3E000000#32),
    unary main_cst main_v0 (broadcastInDim S8x4096x64 ![] bcast_S_S8x4096x64 : Arr F S_ .f32 → Arr F S8x4096x64 .f32),
    binary main_arg0 main_v0 main_v1 (mulf : Arr F S8x4096x64 .f32 → Arr F S8x4096x64 .f32 → Arr F S8x4096x64 .f32),
    unary main_arg3 main_v2 ((truncf .bf16 · bitsLt_bf16_f32) : Arr F S8x4096 .f32 → Arr F S8x4096 .bf16),
    unary main_v2 main_v3 ((extf .f32 · bitsLt_bf16_f32) : Arr F S8x4096 .bf16 → Arr F S8x4096 .f32),
    binary main_arg3 main_v3 main_v4 (subf : Arr F S8x4096 .f32 → Arr F S8x4096 .f32 → Arr F S8x4096 .f32),
    unary main_v4 main_v5 ((truncf .bf16 · bitsLt_bf16_f32) : Arr F S8x4096 .f32 → Arr F S8x4096 .bf16),
    unary main_v5 main_v6 ((extf .f32 · bitsLt_bf16_f32) : Arr F S8x4096 .bf16 → Arr F S8x4096 .f32),
    binary main_v4 main_v6 main_v7 (subf : Arr F S8x4096 .f32 → Arr F S8x4096 .f32 → Arr F S8x4096 .f32),
    unary main_v7 main_v8 ((truncf .bf16 · bitsLt_bf16_f32) : Arr F S8x4096 .f32 → Arr F S8x4096 .bf16),
    unary main_v2 main_v9 ((extf .f32 · bitsLt_bf16_f32) : Arr F S8x4096 .bf16 → Arr F S8x4096 .f32),
    unary main_v5 main_v10 ((extf .f32 · bitsLt_bf16_f32) : Arr F S8x4096 .bf16 → Arr F S8x4096 .f32),
    unary main_v8 main_v11 ((extf .f32 · bitsLt_bf16_f32) : Arr F S8x4096 .bf16 → Arr F S8x4096 .f32),
    nullary main_cst_0 (constant S_ .f32 0x3F800000#32),
    unary main_cst_0 main_v12 (broadcastInDim S8x4096 ![] bcast_S_S8x4096 : Arr F S_ .f32 → Arr F S8x4096 .f32),
    nullary main_cst_1 (constant S_ .f32 0x00000000#32),
    unary main_cst_1 main_v13 (broadcastInDim S8x4096 ![] bcast_S_S8x4096 : Arr F S_ .f32 → Arr F S8x4096 .f32),
    unary main_v9 main_v14 (broadcastInDim S8x1x4096 ![0, 2] bcast_S8x4096_S8x1x4096_0_2 : Arr F S8x4096 .f32 → Arr F S8x1x4096 .f32),
    unary main_v10 main_v15 (broadcastInDim S8x1x4096 ![0, 2] bcast_S8x4096_S8x1x4096_0_2 : Arr F S8x4096 .f32 → Arr F S8x1x4096 .f32),
    unary main_v11 main_v16 (broadcastInDim S8x1x4096 ![0, 2] bcast_S8x4096_S8x1x4096_0_2 : Arr F S8x4096 .f32 → Arr F S8x1x4096 .f32),
    unary main_v12 main_v17 (broadcastInDim S8x1x4096 ![0, 2] bcast_S8x4096_S8x1x4096_0_2 : Arr F S8x4096 .f32 → Arr F S8x1x4096 .f32),
    unary main_v12 main_v18 (broadcastInDim S8x1x4096 ![0, 2] bcast_S8x4096_S8x1x4096_0_2 : Arr F S8x4096 .f32 → Arr F S8x1x4096 .f32),
    unary main_v12 main_v19 (broadcastInDim S8x1x4096 ![0, 2] bcast_S8x4096_S8x1x4096_0_2 : Arr F S8x4096 .f32 → Arr F S8x1x4096 .f32),
    unary main_v13 main_v20 (broadcastInDim S8x1x4096 ![0, 2] bcast_S8x4096_S8x1x4096_0_2 : Arr F S8x4096 .f32 → Arr F S8x1x4096 .f32),
    unary main_v13 main_v21 (broadcastInDim S8x1x4096 ![0, 2] bcast_S8x4096_S8x1x4096_0_2 : Arr F S8x4096 .f32 → Arr F S8x1x4096 .f32),
    nary ![main_v14, main_v15, main_v16, main_v17, main_v18, main_v19, main_v20, main_v21] main_v22 (fun u => fn_main_v22 (F := F) (u 0) (u 1) (u 2) (u 3) (u 4) (u 5) (u 6) (u 7)),
    reshape main_v22 main_v23 (rfl : (.f32 : EltTy) = .f32) shapeCasts_S8x8x4096_S4x16x4096,
    nullary main_c (constantI S_ 32 0#32),
    TRef.unary (TRef.of (T := ⟨S_, .i32⟩) main_c) (TRef.of (T := ⟨S_, .f32⟩) main_call0_v0) (sitofp .f32),
    TRef.binary (TRef.of (T := ⟨S4x16x4096, .f32⟩) main_v23) (TRef.of (T := ⟨S_, .f32⟩) main_call0_v0) (TRef.of (T := ⟨S4x128x4096, .f32⟩) main_v24) (fun x v => pad S4x128x4096 ![0, 0, 0] ![0, 112, 0] ![0, 0, 0] x v pads_S4x16x4096_S4x128x4096_000_01120_000 h_S_),
    reshape main_v24 main_v25 (rfl : (.f32 : EltTy) = .f32) shapeCasts_S4x128x4096_S512x4096,
    unary main_v25 main_v26 ((transpose S4096x512 [1, 0] · transposes_S512x4096_S4096x512_1_0) : Arr F S512x4096 .f32 → Arr F S4096x512 .f32),
    unary main_v26 main_v27 ((truncf .bf16 · bitsLt_bf16_f32) : Arr F S4096x512 .f32 → Arr F S4096x512 .bf16),
    unary main_v9 main_v28 (Host.negf : Arr F S8x4096 .f32 → Arr F S8x4096 .f32),
    unary main_v10 main_v29 (Host.negf : Arr F S8x4096 .f32 → Arr F S8x4096 .f32),
    unary main_v11 main_v30 (Host.negf : Arr F S8x4096 .f32 → Arr F S8x4096 .f32),
    unary main_v12 main_v31 (broadcastInDim S8x1x4096 ![0, 2] bcast_S8x4096_S8x1x4096_0_2 : Arr F S8x4096 .f32 → Arr F S8x1x4096 .f32),
    unary main_v12 main_v32 (broadcastInDim S8x1x4096 ![0, 2] bcast_S8x4096_S8x1x4096_0_2 : Arr F S8x4096 .f32 → Arr F S8x1x4096 .f32),
    unary main_v12 main_v33 (broadcastInDim S8x1x4096 ![0, 2] bcast_S8x4096_S8x1x4096_0_2 : Arr F S8x4096 .f32 → Arr F S8x1x4096 .f32),
    unary main_v28 main_v34 (broadcastInDim S8x1x4096 ![0, 2] bcast_S8x4096_S8x1x4096_0_2 : Arr F S8x4096 .f32 → Arr F S8x1x4096 .f32),
    unary main_v29 main_v35 (broadcastInDim S8x1x4096 ![0, 2] bcast_S8x4096_S8x1x4096_0_2 : Arr F S8x4096 .f32 → Arr F S8x1x4096 .f32),
    unary main_v30 main_v36 (broadcastInDim S8x1x4096 ![0, 2] bcast_S8x4096_S8x1x4096_0_2 : Arr F S8x4096 .f32 → Arr F S8x1x4096 .f32),
    unary main_v13 main_v37 (broadcastInDim S8x1x4096 ![0, 2] bcast_S8x4096_S8x1x4096_0_2 : Arr F S8x4096 .f32 → Arr F S8x1x4096 .f32),
    unary main_v13 main_v38 (broadcastInDim S8x1x4096 ![0, 2] bcast_S8x4096_S8x1x4096_0_2 : Arr F S8x4096 .f32 → Arr F S8x1x4096 .f32),
    nary ![main_v31, main_v32, main_v33, main_v34, main_v35, main_v36, main_v37, main_v38] main_v39 (fun u => fn_main_v39 (F := F) (u 0) (u 1) (u 2) (u 3) (u 4) (u 5) (u 6) (u 7)),
    reshape main_v39 main_v40 (rfl : (.f32 : EltTy) = .f32) shapeCasts_S8x8x4096_S4x16x4096,
    nullary main_c_2 (constantI S_ 32 0#32),
    TRef.unary (TRef.of (T := ⟨S_, .i32⟩) main_c_2) (TRef.of (T := ⟨S_, .f32⟩) main_call1_v0) (sitofp .f32),
    TRef.binary (TRef.of (T := ⟨S4x16x4096, .f32⟩) main_v40) (TRef.of (T := ⟨S_, .f32⟩) main_call1_v0) (TRef.of (T := ⟨S4x128x4096, .f32⟩) main_v41) (fun x v => pad S4x128x4096 ![0, 0, 0] ![0, 112, 0] ![0, 0, 0] x v pads_S4x16x4096_S4x128x4096_000_01120_000 h_S_),
    reshape main_v41 main_v42 (rfl : (.f32 : EltTy) = .f32) shapeCasts_S4x128x4096_S512x4096,
    unary main_v42 main_v43 ((transpose S4096x512 [1, 0] · transposes_S512x4096_S4096x512_1_0) : Arr F S512x4096 .f32 → Arr F S4096x512 .f32),
    unary main_v43 main_v44 ((truncf .bf16 · bitsLt_bf16_f32) : Arr F S4096x512 .f32 → Arr F S4096x512 .bf16),
    binary main_v1 main_arg1 main_v45 ((fun l r => Host.dotGeneral dot_S8x4096x64_S8x4096x64_S8x4096x4096_2_2_1_1_0_0 none l r) : Arr F S8x4096x64 .f32 → Arr F S8x4096x64 .f32 → Arr F S8x4096x4096 .f32),
    unary main_arg3 main_v46 (broadcastInDim S8x4096x1 ![0, 1] bcast_S8x4096_S8x4096x1_0_1 : Arr F S8x4096 .f32 → Arr F S8x4096x1 .f32),
    unary main_arg3 main_v47 (broadcastInDim S8x1x4096 ![0, 2] bcast_S8x4096_S8x1x4096_0_2 : Arr F S8x4096 .f32 → Arr F S8x1x4096 .f32),
    unary main_v46 main_v48 (broadcastInDim S8x4096x4096 ![0, 1, 2] bcast_S8x4096x1_S8x4096x4096_0_1_2 : Arr F S8x4096x1 .f32 → Arr F S8x4096x4096 .f32),
    unary main_v47 main_v49 (broadcastInDim S8x4096x4096 ![0, 1, 2] bcast_S8x1x4096_S8x4096x4096_0_1_2 : Arr F S8x1x4096 .f32 → Arr F S8x4096x4096 .f32),
    binary main_v48 main_v49 main_v50 (subf : Arr F S8x4096x4096 .f32 → Arr F S8x4096x4096 .f32 → Arr F S8x4096x4096 .f32),
    binary main_v45 main_v50 main_v51 (addf : Arr F S8x4096x4096 .f32 → Arr F S8x4096x4096 .f32 → Arr F S8x4096x4096 .f32),
    nullary main_v52 (iotaInDim S4096 32 0),
    unary main_v52 main_v53 (broadcastInDim S4096x1 ![0] bcast_S4096_S4096x1_0 : Arr F S4096 .i32 → Arr F S4096x1 .i32),
    unary main_v52 main_v54 (broadcastInDim S1x4096 ![1] bcast_S4096_S1x4096_1 : Arr F S4096 .i32 → Arr F S1x4096 .i32),
    unary main_v53 main_v55 (broadcastInDim S4096x4096 ![0, 1] bcast_S4096x1_S4096x4096_0_1 : Arr F S4096x1 .i32 → Arr F S4096x4096 .i32),
    unary main_v54 main_v56 (broadcastInDim S4096x4096 ![0, 1] bcast_S1x4096_S4096x4096_0_1 : Arr F S1x4096 .i32 → Arr F S4096x4096 .i32),
    binary main_v55 main_v56 main_v57 (cmpi .sge : Arr F S4096x4096 .i32 → Arr F S4096x4096 .i32 → Arr F S4096x4096 .i1),
    nullary main_cst_3 (constant S_ .f32 0xFF800000#32),
    TRef.unary (TRef.of (T := ⟨S_, .f32⟩) main_cst_3) (TRef.of (T := ⟨S_, .f32⟩) main_call2_v0) id,
    TRef.unary (TRef.of (T := ⟨S4096x4096, .i1⟩) main_v57) (TRef.of (T := ⟨S8x4096x4096, .i1⟩) main_call2_v1) (broadcastInDim S8x4096x4096 ![1, 2] bcast_S4096x4096_S8x4096x4096_1_2),
    TRef.unary (TRef.of (T := ⟨S_, .f32⟩) main_call2_v0) (TRef.of (T := ⟨S8x4096x4096, .f32⟩) main_call2_v2) (broadcastInDim S8x4096x4096 ![] bcast_S_S8x4096x4096),
    TRef.ternary (TRef.of (T := ⟨S8x4096x4096, .i1⟩) main_call2_v1) (TRef.of (T := ⟨S8x4096x4096, .f32⟩) main_v51) (TRef.of (T := ⟨S8x4096x4096, .f32⟩) main_call2_v2) (TRef.of (T := ⟨S8x4096x4096, .f32⟩) main_v58) select,
    nullary main_cst_4 (constant S_ .f32 0xFF800000#32),
    binary main_v58 main_cst_4 main_v59 ((fun x v => Host.reduce FloatOps.maximumf x v reducesTo_S8x4096x4096_S8x4096_d2 h_S_) : Arr F S8x4096x4096 .f32 → Arr F S_ .f32 → Arr F S8x4096 .f32),
    unary main_v59 main_v60 (broadcastInDim S8x4096x1 ![0, 1] bcast_S8x4096_S8x4096x1_0_1 : Arr F S8x4096 .f32 → Arr F S8x4096x1 .f32),
    unary main_v60 main_v61 (broadcastInDim S8x4096x4096 ![0, 1, 2] bcast_S8x4096x1_S8x4096x4096_0_1_2 : Arr F S8x4096x1 .f32 → Arr F S8x4096x4096 .f32),
    binary main_v58 main_v61 main_v62 (subf : Arr F S8x4096x4096 .f32 → Arr F S8x4096x4096 .f32 → Arr F S8x4096x4096 .f32),
    unary main_v62 main_v63 (Host.exp : Arr F S8x4096x4096 .f32 → Arr F S8x4096x4096 .f32),
    nullary main_cst_5 (constant S_ .f32 0x00000000#32),
    binary main_v63 main_cst_5 main_v64 ((fun x v => Host.reduceAdd x v reducesTo_S8x4096x4096_S8x4096_d2 h_S_) : Arr F S8x4096x4096 .f32 → Arr F S_ .f32 → Arr F S8x4096 .f32),
    unary main_v64 main_v65 (broadcastInDim S8x4096x1 ![0, 1] bcast_S8x4096_S8x4096x1_0_1 : Arr F S8x4096 .f32 → Arr F S8x4096x1 .f32),
    unary main_v65 main_v66 (broadcastInDim S8x4096x4096 ![0, 1, 2] bcast_S8x4096x1_S8x4096x4096_0_1_2 : Arr F S8x4096x1 .f32 → Arr F S8x4096x4096 .f32),
    binary main_v63 main_v66 main_v67 (Host.divf : Arr F S8x4096x4096 .f32 → Arr F S8x4096x4096 .f32 → Arr F S8x4096x4096 .f32),
    binary main_v67 main_arg2 main_v68 ((fun l r => Host.dotGeneral dot_S8x4096x4096_S8x4096x64_S8x4096x64_2_1_1_2_0_0 none l r) : Arr F S8x4096x4096 .f32 → Arr F S8x4096x64 .f32 → Arr F S8x4096x64 .f32),
    unary main_v65 main_v69 (Host.log : Arr F S8x4096x1 .f32 → Arr F S8x4096x1 .f32),
    binary main_v60 main_v69 main_v70 (addf : Arr F S8x4096x1 .f32 → Arr F S8x4096x1 .f32 → Arr F S8x4096x1 .f32),
    reshape main_v70 main_v71 (rfl : (.f32 : EltTy) = .f32) shapeCasts_S8x4096x1_S4x2x4096,
    binary main_v68 main_arg4 main_v72 (mulf : Arr F S8x4096x64 .f32 → Arr F S8x4096x64 .f32 → Arr F S8x4096x64 .f32),
    nullary main_cst_6 (constant S_ .f32 0x00000000#32),
    binary main_v72 main_cst_6 main_v73 ((fun x v => Host.reduceAdd x v reducesTo_S8x4096x64_S8x4096_d2 h_S_) : Arr F S8x4096x64 .f32 → Arr F S_ .f32 → Arr F S8x4096 .f32),
    reshape main_v73 main_v74 (rfl : (.f32 : EltTy) = .f32) shapeCasts_S8x4096_S4x2x4096,
    unary main_v1 main_v75 ((transpose S4096x8x64 [1, 0, 2] · transposes_S8x4096x64_S4096x8x64_1_0_2) : Arr F S8x4096x64 .f32 → Arr F S4096x8x64 .f32),
    reshape main_v75 main_v76 (rfl : (.f32 : EltTy) = .f32) shapeCasts_S4096x8x64_S4096x512,
    unary main_v76 main_v77 ((truncf .bf16 · bitsLt_bf16_f32) : Arr F S4096x512 .f32 → Arr F S4096x512 .bf16),
    unary main_arg1 main_v78 ((transpose S4096x8x64 [1, 0, 2] · transposes_S8x4096x64_S4096x8x64_1_0_2) : Arr F S8x4096x64 .f32 → Arr F S4096x8x64 .f32),
    reshape main_v78 main_v79 (rfl : (.f32 : EltTy) = .f32) shapeCasts_S4096x8x64_S4096x512,
    unary main_v79 main_v80 ((truncf .bf16 · bitsLt_bf16_f32) : Arr F S4096x512 .f32 → Arr F S4096x512 .bf16),
    unary main_arg2 main_v81 ((transpose S4096x8x64 [1, 0, 2] · transposes_S8x4096x64_S4096x8x64_1_0_2) : Arr F S8x4096x64 .f32 → Arr F S4096x8x64 .f32),
    reshape main_v81 main_v82 (rfl : (.f32 : EltTy) = .f32) shapeCasts_S4096x8x64_S4096x512,
    unary main_v82 main_v83 ((truncf .bf16 · bitsLt_bf16_f32) : Arr F S4096x512 .f32 → Arr F S4096x512 .bf16),
    unary main_arg4 main_v84 ((transpose S4096x8x64 [1, 0, 2] · transposes_S8x4096x64_S4096x8x64_1_0_2) : Arr F S8x4096x64 .f32 → Arr F S4096x8x64 .f32),
    reshape main_v84 main_v85 (rfl : (.f32 : EltTy) = .f32) shapeCasts_S4096x8x64_S4096x512,
    unary main_v85 main_v86 ((truncf .bf16 · bitsLt_bf16_f32) : Arr F S4096x512 .f32 → Arr F S4096x512 .bf16) ]

set_option maxRecDepth 8192 in
set_option maxHeartbeats 4000000 in

/-- The lines, as the launch lists them. -/
theorem flat : List.flatten [hostOps0, hostOps0_1, hostOps0_2, hostOps0_3, hostOps0_4, hostOps0_5, hostOps0_6] = (ops : List (HloOp τ sig (Elt F))) := rfl

theorem V_ops (m : (ℓ : Loc nD τ sig) → Buf (Elt F) ℓ) (c : Dev nD) (b : Ref sig .tc) :
    V m c b = StableHlo.after ops (fun b => m (c, b)) b := by
  unfold V; rw [flat]

set_option maxHeartbeats 4000000 in
theorem V_77 (m : (ℓ : Loc nD τ sig) → Buf (Elt F) ℓ) (c : Dev nD) : V m c main_v77 = val_main_v77 (F := F) (m ((c.tc : Thread nD τ).loc main_arg0)) := by
  rw [V_ops]
  simp only [ops, TRef.binary, TRef.ternary, TRef.unary, TRef.toBuf, TRef.ofBuf, cast_eq]; after_results_simp <;> (try dsimp only [Matrix.cons_val]) <;> (try after_results_simp) <;> rfl

set_option maxHeartbeats 4000000 in
theorem V_27 (m : (ℓ : Loc nD τ sig) → Buf (Elt F) ℓ) (c : Dev nD) : V m c main_v27 = val_main_v27 (F := F) (m ((c.tc : Thread nD τ).loc main_arg3)) := by
  rw [V_ops]
  simp only [ops, TRef.binary, TRef.ternary, TRef.unary, TRef.toBuf, TRef.ofBuf, cast_eq]; after_results_simp <;> (try dsimp only [Matrix.cons_val]) <;> (try after_results_simp) <;> rfl

set_option maxHeartbeats 4000000 in
theorem V_86 (m : (ℓ : Loc nD τ sig) → Buf (Elt F) ℓ) (c : Dev nD) : V m c main_v86 = val_main_v86 (F := F) (m ((c.tc : Thread nD τ).loc main_arg4)) := by
  rw [V_ops]
  simp only [ops, TRef.binary, TRef.ternary, TRef.unary, TRef.toBuf, TRef.ofBuf, cast_eq]; after_results_simp <;> (try dsimp only [Matrix.cons_val]) <;> (try after_results_simp) <;> rfl

set_option maxHeartbeats 4000000 in
theorem V_71 (m : (ℓ : Loc nD τ sig) → Buf (Elt F) ℓ) (c : Dev nD) : V m c main_v71 = val_main_v71 (F := F) (m ((c.tc : Thread nD τ).loc main_arg0)) (m ((c.tc : Thread nD τ).loc main_arg1)) (m ((c.tc : Thread nD τ).loc main_arg3)) := by
  rw [V_ops]
  simp only [ops, TRef.binary, TRef.ternary, TRef.unary, TRef.toBuf, TRef.ofBuf, cast_eq]; after_results_simp <;> (try dsimp only [Matrix.cons_val]) <;> (try after_results_simp) <;> rfl

set_option maxHeartbeats 4000000 in
theorem V_74 (m : (ℓ : Loc nD τ sig) → Buf (Elt F) ℓ) (c : Dev nD) : V m c main_v74 = val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [V_ops]
  simp only [ops, TRef.binary, TRef.ternary, TRef.unary, TRef.toBuf, TRef.ofBuf, cast_eq]; after_results_simp <;> (try dsimp only [Matrix.cons_val]) <;> (try after_results_simp) <;> rfl

set_option maxHeartbeats 4000000 in
theorem V_80 (m : (ℓ : Loc nD τ sig) → Buf (Elt F) ℓ) (c : Dev nD) : V m c main_v80 = val_main_v80 (F := F) (m ((c.tc : Thread nD τ).loc main_arg1)) := by
  rw [V_ops]
  simp only [ops, TRef.binary, TRef.ternary, TRef.unary, TRef.toBuf, TRef.ofBuf, cast_eq]; after_results_simp <;> (try dsimp only [Matrix.cons_val]) <;> (try after_results_simp) <;> rfl

set_option maxHeartbeats 4000000 in
theorem V_44 (m : (ℓ : Loc nD τ sig) → Buf (Elt F) ℓ) (c : Dev nD) : V m c main_v44 = val_main_v44 (F := F) (m ((c.tc : Thread nD τ).loc main_arg3)) := by
  rw [V_ops]
  simp only [ops, TRef.binary, TRef.ternary, TRef.unary, TRef.toBuf, TRef.ofBuf, cast_eq]; after_results_simp <;> (try dsimp only [Matrix.cons_val]) <;> (try after_results_simp) <;> rfl

set_option maxHeartbeats 4000000 in
theorem V_83 (m : (ℓ : Loc nD τ sig) → Buf (Elt F) ℓ) (c : Dev nD) : V m c main_v83 = val_main_v83 (F := F) (m ((c.tc : Thread nD τ).loc main_arg2)) := by
  rw [V_ops]
  simp only [ops, TRef.binary, TRef.ternary, TRef.unary, TRef.toBuf, TRef.ofBuf, cast_eq]; after_results_simp <;> (try dsimp only [Matrix.cons_val]) <;> (try after_results_simp) <;> rfl

end Cert.KernelIdeal.Entry

end
-- ==== Proof.Value.Inputs.lean ====
/- A grid point's inputs are its pair of heads' and its key block's part of the data. -/
module

public import proofs.«01_k».proof.Proof.Value.Blocks
public import proofs.«01_k».proof.Proof.Host.Entry

@[expose] public section

set_option maxRecDepth 16384

noncomputable section

namespace Cert.KernelIdeal.Arrays

open Idealize.ShloMosaic hiding ix1 ix2 ix3 eq_ix2 eq_ix3
open Idealize.ShloMosaic.TcCoe Idealize.ShloMosaic.ValueIdx Cert.KernelIdeal Cert.KernelIdeal.Gen Cert.KernelIdeal.Tile
open Idealize.ShloMosaic.Pipeline (Dat)
open Cert.Attn (Data Holds lanes qlane klane)
open scoped BigOperators

variable (m : (ℓ : Loc nD τ sig) → Buf (Elt Ideal) ℓ) (c : Dev nD)

/-! ## A grid point's inputs -/

theorem hl_ln (hp : Fin 4) (y : Fin 128) (h : (ln hp y).val / 64 < 8) : (⟨(ln hp y).val / 64, h⟩ : Fin 8) = hl hp y :=
  Fin.ext (show (128 * hp.val + y.val) / 64 = 2 * hp.val + y.val / 64 by omega)
theorem dl_ln (hp : Fin 4) (y : Fin 128) (h : (ln hp y).val % 64 < 64) : (⟨(ln hp y).val % 64, h⟩ : Fin 64) = dl y :=
  Fin.ext (show (128 * hp.val + y.val) % 64 = y.val % 64 by omega)

/-- A point whose eight blocks hold their parts of the data. -/
theorem desc_of {D : Data} {hp : Fin 4} {j : ℕ} {x0 x1 x2 : Vec Ideal S4096x128 .bf16} {x3 x4 : Vec Ideal S1x2x4096 .f32} {x5 x6 x7 : Vec Ideal S1024x128 .bf16}
    (h0 : ∀ t y, x0 (ix2 t y) = ((D.qs (hl hp y) t (dl y) : ℝ) : EReal)) (h1 : ∀ t y, x1 (ix2 t y) = ((lanes (qlane D) t (ln hp y) : ℝ) : EReal))
    (h2 : ∀ t y, x2 (ix2 t y) = ((D.w (hl hp y) t (dl y) : ℝ) : EReal))
    (h3 : ∀ h t, x3 (ix3 (0 : Fin 1) h t) = ((Real.log (D.L (hd hp h) t) : ℝ) : EReal)) (h4 : ∀ h t, x4 (ix3 (0 : Fin 1) h t) = ((D.Dl (hd hp h) t : ℝ) : EReal))
    (h5 : ∀ s y, x5 (ix2 s y) = ((D.k (hl hp y) (pos j s) (dl y) : ℝ) : EReal)) (h6 : ∀ s y, x6 (ix2 s y) = ((lanes (klane D) (pos j s) (ln hp y) : ℝ) : EReal))
    (h7 : ∀ s y, x7 (ix2 s y) = ((D.v (hl hp y) (pos j s) (dl y) : ℝ) : EReal)) : Desc (ins x0 x1 x2 x3 x4 x5 x6 x7) D hp j where
  q := h0
  qa := h1
  ct := h2
  lse := h3
  dlt := h4
  k a y := (congrFun (show k0_pay59 x5 = x5 from same128 (φ := .bf16) _) (ix2 a y)).trans (h5 a y)
  kl a y := (kcat_left x5 x6 a y).trans (h5 a y)
  kr a y := (kcat_right x5 x6 a y).trans (h6 a y)
  v a y := (congrFun (show k0_pay61 x7 = x7 from same128 (φ := .bf16) _) (ix2 a y)).trans (h7 a y)

variable {m c} {D : Data}
variable (H : Holds D (m ((c : Thread nD τ).loc main_arg0)) (m ((c : Thread nD τ).loc main_arg1)) (m ((c : Thread nD τ).loc main_arg2))
  (m ((c : Thread nD τ).loc main_arg3)) (m ((c : Thread nD τ).loc main_arg4)))
include H

theorem in_q (t : Fin cfg0.N) (a : Fin 4096) (y : Fin 128) : iblk m c 0 t (ix2 a y) = ((D.qs (hl (hpOf t) y) a (dl y) : ℝ) : EReal) :=
  (blk0 m c t a y).trans ((congrFun (Entry.V_77 m c) _).trans ((Attn.Host.queries H a (ln (hpOf t) y)).trans (by rw [hl_ln, dl_ln])))

theorem in_qa (t : Fin cfg0.N) (a : Fin 4096) (y : Fin 128) : iblk m c 1 t (ix2 a y) = ((lanes (qlane D) a (ln (hpOf t) y) : ℝ) : EReal) :=
  (blk1 m c t a y).trans ((congrFun (Entry.V_27 m c) _).trans (Attn.Host.qdecay H a (ln (hpOf t) y)))

theorem in_ct (t : Fin cfg0.N) (a : Fin 4096) (y : Fin 128) : iblk m c 2 t (ix2 a y) = ((D.w (hl (hpOf t) y) a (dl y) : ℝ) : EReal) :=
  (blk2 m c t a y).trans ((congrFun (Entry.V_86 m c) _).trans ((Attn.Host.cotangents H a (ln (hpOf t) y)).trans (by rw [hl_ln, dl_ln])))

theorem in_lse (t : Fin cfg0.N) (h : Fin 2) (a : Fin 4096) : iblk m c 3 t (ix3 (0 : Fin 1) h a) = ((Real.log (D.L (hd (hpOf t) h) a) : ℝ) : EReal) :=
  (blk3 m c t h a).trans ((congrFun (Entry.V_71 m c) _).trans (Attn.Host.lse H (hpOf t) h a))

theorem in_dlt (t : Fin cfg0.N) (h : Fin 2) (a : Fin 4096) : iblk m c 4 t (ix3 (0 : Fin 1) h a) = ((D.Dl (hd (hpOf t) h) a : ℝ) : EReal) :=
  (blk4 m c t h a).trans ((congrFun (Entry.V_74 m c) _).trans (Attn.Host.dlt H (hpOf t) h a))

theorem in_k (t : Fin cfg0.N) (a : Fin 1024) (y : Fin 128) : iblk m c 5 t (ix2 a y) = ((D.k (hl (hpOf t) y) (pos (kj t) a) (dl y) : ℝ) : EReal) :=
  (blk5 m c t a y).trans ((congrFun (Entry.V_80 m c) _).trans ((Attn.Host.keys H _ (ln (hpOf t) y)).trans (by rw [hl_ln, dl_ln])))

theorem in_ka (t : Fin cfg0.N) (a : Fin 1024) (y : Fin 128) : iblk m c 6 t (ix2 a y) = ((lanes (klane D) (pos (kj t) a) (ln (hpOf t) y) : ℝ) : EReal) :=
  (blk6 m c t a y).trans ((congrFun (Entry.V_44 m c) _).trans (Attn.Host.kdecay H _ (ln (hpOf t) y)))

theorem in_v (t : Fin cfg0.N) (a : Fin 1024) (y : Fin 128) : iblk m c 7 t (ix2 a y) = ((D.v (hl (hpOf t) y) (pos (kj t) a) (dl y) : ℝ) : EReal) :=
  (blk7 m c t a y).trans ((congrFun (Entry.V_83 m c) _).trans ((Attn.Host.values H _ (ln (hpOf t) y)).trans (by rw [hl_ln, dl_ln])))

theorem desc (t : Fin cfg0.N) : Desc (insAt m c t) D (hpOf t) (kj t) :=
  desc_of (in_q H t) (in_qa H t) (in_ct H t) (in_lse H t) (in_dlt H t) (in_k H t) (in_ka H t) (in_v H t)

end Cert.KernelIdeal.Arrays

end
-- ==== Proof.Value.Partial.lean ====
/- What the two sums held over a pair's key blocks are after each. -/
module

public import proofs.«01_k».proof.Proof.Value.Inputs

@[expose] public section

set_option maxRecDepth 16384

noncomputable section

namespace Cert.KernelIdeal.Arrays

open Idealize.ShloMosaic hiding ix1 ix2 ix3 eq_ix2 eq_ix3
open Idealize.ShloMosaic.TcCoe Idealize.ShloMosaic.ValueIdx Cert.KernelIdeal Cert.KernelIdeal.Gen Cert.KernelIdeal.Tile
open Idealize.ShloMosaic.Pipeline (Dat)
open Cert.Attn (Data Holds lanes qlane klane)
open scoped BigOperators

variable (m : (ℓ : Loc nD τ sig) → Buf (Elt Ideal) ℓ) (c : Dev nD)

variable {m c} {D : Data}
variable (H : Holds D (m ((c : Thread nD τ).loc main_arg0)) (m ((c : Thread nD τ).loc main_arg1)) (m ((c : Thread nD τ).loc main_arg2))
  (m ((c : Thread nD τ).loc main_arg3)) (m ((c : Thread nD τ).loc main_arg4)))
include H

/-! ## The sums held over a pair's key blocks -/

theorem dq_partial : ∀ (r : ℕ) (t : Fin cfg0.N), t.val % 4 = r → ∀ a y,
    dqAt m c t.val (ix2 a y) = ((∑ j ∈ Finset.range (r + 1), gQ D (hpOf t) j a y : ℝ) : EReal)
  | 0, t, ht, a, y => by
    have hj : kj t = 0 := (kj_eq t).trans ht
    rw [dqAt_first m c t ht]
    refine ((desc H t).dq (by omega) (fun _ _ => 0) _ (fun a y => (pay54_apply (ix2 a y)).trans EReal.coe_zero.symm) a y).trans ?_
    rw [hj, zero_add, Finset.sum_range_one]
  | r + 1, t, ht, a, y => by
    have hj : kj t = r + 1 := (kj_eq t).trans ht
    have h16 := lt16 t
    have hN : cfg0.N = 16 := N_0
    rw [dqAt_next m c t (by omega)]
    have ih := dq_partial r ⟨t.val - 1, by omega⟩ (show (t.val - 1) % 4 = r by omega)
    have hp : hpOf ⟨t.val - 1, by omega⟩ = hpOf t := Fin.ext (show (t.val - 1) / 4 = t.val / 4 by omega)
    rw [hp] at ih
    refine ((desc H t).dq (by omega) _ _ ih a y).trans ?_
    rw [hj, Finset.sum_range_succ (fun j => gQ D (hpOf t) j a y) (r + 1)]

theorem rows_partial : ∀ (r : ℕ) (t : Fin cfg0.N), t.val % 4 = r → ∀ h a,
    rowsAt m c t.val (ix3 (0 : Fin 1) h a) = ((∑ j ∈ Finset.range (r + 1), gR D (hpOf t) j h a : ℝ) : EReal)
  | 0, t, ht, h, a => by
    have hj : kj t = 0 := (kj_eq t).trans ht
    rw [rowsAt_first m c t ht]
    refine ((desc H t).rows (by omega) (fun _ _ => 0) _ (fun h a => (pay55_apply (ix3 (0 : Fin 1) h a)).trans EReal.coe_zero.symm) h a).trans ?_
    rw [hj, zero_add, Finset.sum_range_one]
  | r + 1, t, ht, h, a => by
    have hj : kj t = r + 1 := (kj_eq t).trans ht
    have h16 := lt16 t
    have hN : cfg0.N = 16 := N_0
    rw [rowsAt_next m c t (by omega)]
    have ih := rows_partial r ⟨t.val - 1, by omega⟩ (show (t.val - 1) % 4 = r by omega)
    have hp : hpOf ⟨t.val - 1, by omega⟩ = hpOf t := Fin.ext (show (t.val - 1) / 4 = t.val / 4 by omega)
    rw [hp] at ih
    refine ((desc H t).rows (by omega) _ _ ih h a).trans ?_
    rw [hj, Finset.sum_range_succ (fun j => gR D (hpOf t) j h a) (r + 1)]

end Cert.KernelIdeal.Arrays

end
-- ==== Proof.Value.Results.lean ====
/- The five results end holding the gradients. -/
module

public import proofs.«01_k».proof.Proof.Value.Partial

@[expose] public section

set_option maxRecDepth 16384

noncomputable section

namespace Cert.KernelIdeal.Arrays

open Idealize.ShloMosaic hiding ix1 ix2 ix3 eq_ix2 eq_ix3
open Idealize.ShloMosaic.TcCoe Idealize.ShloMosaic.ValueIdx Cert.KernelIdeal Cert.KernelIdeal.Gen Cert.KernelIdeal.Tile
open Idealize.ShloMosaic.Pipeline (Dat)
open Cert.Attn (Data Holds lanes qlane klane)
open scoped BigOperators

variable (m : (ℓ : Loc nD τ sig) → Buf (Elt Ideal) ℓ) (c : Dev nD)

variable {m c} {D : Data}
variable (H : Holds D (m ((c : Thread nD τ).loc main_arg0)) (m ((c : Thread nD τ).loc main_arg1)) (m ((c : Thread nD τ).loc main_arg2))
  (m ((c : Thread nD τ).loc main_arg3)) (m ((c : Thread nD τ).loc main_arg4)))
include H

/-! ## The results -/

theorem final0 (G : (S4096x512 : Shape).Idx → EReal)
    (hG : ∀ (t : Fin 4096) (x : Fin 512), G (ix2 t x) = ((D.dQ ⟨x.val / 64, by omega⟩ t ⟨x.val % 64, by omega⟩ : ℝ) : EReal)) :
    (dats m 0 c).arrAt 8 cfg0.N = G := by
  refine (dats m 0 c).arrAt_eq_of_covers 8 _ (by decide +kernel) fun t hf y => ?_
  have ht : t.val % 4 = 3 := (flush0_8 t).mp hf
  obtain ⟨a, z, rfl⟩ : ∃ (a : Fin 4096) (z : Fin 128), y = ix2 a z := ⟨y 0, y 1, eq_ix2 y⟩
  have e : ((cfg0.win 8).blk t).view.emb (ix2 a z) = ix2 a (ln (hpOf t) z) := by
    funext b; apply Fin.ext
    blk_simp [idx8]
    match b with
    | ⟨0, _⟩ => show 0 * 4096 + a.val = a.val; omega
    | ⟨1, _⟩ => show t.val / 4 * 128 + z.val = 128 * (t.val / 4) + z.val; omega
  rw [e]
  blk_simp
  rw [after0_8]
  refine (dq_partial H 3 t ht a z).trans ?_
  refine Eq.trans ?_ (hG a (ln (hpOf t) z)).symm
  rw [hl_ln, dl_ln]
  unfold gQ Data.dQ
  exact congrArg _ (sum_blocks fun s => D.DS (hl (hpOf t) z) a s * D.k (hl (hpOf t) z) s (dl z))

theorem final3 (G : (S4x2x4096 : Shape).Idx → EReal)
    (hG : ∀ (a : Fin 4) (b : Fin 2) (t : Fin 4096), G (ix3 a b t) = ((D.row ⟨2 * a.val + b.val, by omega⟩ t : ℝ) : EReal)) :
    (dats m 0 c).arrAt 11 cfg0.N = G := by
  refine (dats m 0 c).arrAt_eq_of_covers 11 _ (by decide +kernel) fun t hf y => ?_
  have ht : t.val % 4 = 3 := (flush0_11 t).mp hf
  obtain ⟨a, z, rfl⟩ : ∃ (a : Fin 2) (z : Fin 4096), y = ix3 (0 : Fin 1) a z :=
    ⟨y 1, y 2, (eq_ix3 y).trans (congrArg (fun o : Fin 1 => ix3 o (y 1) (y 2)) (Fin.ext (Nat.lt_one_iff.mp (y 0).isLt)))⟩
  have e : ((cfg0.win 11).blk t).view.emb (ix3 (0 : Fin 1) a z) = ix3 (hpOf t) a z := by
    funext b; apply Fin.ext
    blk_simp [idx11]
    match b with
    | ⟨0, _⟩ => show t.val / 4 * 1 + 0 = t.val / 4; omega
    | ⟨1, _⟩ => show 0 * 2 + a.val = a.val; omega
    | ⟨2, _⟩ => show 0 * 4096 + z.val = z.val; omega
  rw [e]
  blk_simp
  rw [after0_11]
  refine (rows_partial H 3 t ht a z).trans ?_
  refine Eq.trans ?_ (hG (hpOf t) a z).symm
  unfold gR Data.row
  exact congrArg _ (sum_blocks fun s => D.DS (hd (hpOf t) a) z s)

theorem final1 (G : (S4096x512 : Shape).Idx → EReal)
    (hG : ∀ (s : Fin 4096) (x : Fin 512), G (ix2 s x) = ((D.dK ⟨x.val / 64, by omega⟩ s ⟨x.val % 64, by omega⟩ : ℝ) : EReal)) :
    (dats m 0 c).arrAt 9 cfg0.N = G := by
  refine (dats m 0 c).arrAt_eq_of_covers 9 _ (by decide +kernel) fun t hf y => ?_
  have hk := kj_eq t
  obtain ⟨a, z, rfl⟩ : ∃ (a : Fin 1024) (z : Fin 128), y = ix2 a z := ⟨y 0, y 1, eq_ix2 y⟩
  have e : ((cfg0.win 9).blk t).view.emb (ix2 a z) = ix2 (pos (kj t) a) (ln (hpOf t) z) := by
    funext b; apply Fin.ext
    blk_simp [idx9]
    match b with
    | ⟨0, _⟩ => show t.val % 4 * 1024 + a.val = (pos (kj t) a).val; rw [hk, pos_val (by omega)]; omega
    | ⟨1, _⟩ => show t.val / 4 * 128 + z.val = 128 * (t.val / 4) + z.val; omega
  rw [e]
  blk_simp
  rw [after0_9]
  refine ((desc H t).dk (by omega) a z).trans ?_
  refine Eq.trans ?_ (hG (pos (kj t) a) (ln (hpOf t) z)).symm
  rw [hl_ln, dl_ln]

theorem final2 (G : (S4096x512 : Shape).Idx → EReal)
    (hG : ∀ (s : Fin 4096) (x : Fin 512), G (ix2 s x) = ((D.dV ⟨x.val / 64, by omega⟩ s ⟨x.val % 64, by omega⟩ : ℝ) : EReal)) :
    (dats m 0 c).arrAt 10 cfg0.N = G := by
  refine (dats m 0 c).arrAt_eq_of_covers 10 _ (by decide +kernel) fun t hf y => ?_
  have hk := kj_eq t
  obtain ⟨a, z, rfl⟩ : ∃ (a : Fin 1024) (z : Fin 128), y = ix2 a z := ⟨y 0, y 1, eq_ix2 y⟩
  have e : ((cfg0.win 10).blk t).view.emb (ix2 a z) = ix2 (pos (kj t) a) (ln (hpOf t) z) := by
    funext b; apply Fin.ext
    blk_simp [idx10]
    match b with
    | ⟨0, _⟩ => show t.val % 4 * 1024 + a.val = (pos (kj t) a).val; rw [hk, pos_val (by omega)]; omega
    | ⟨1, _⟩ => show t.val / 4 * 128 + z.val = 128 * (t.val / 4) + z.val; omega
  rw [e]
  blk_simp
  rw [after0_10]
  refine ((desc H t).dv (by omega) a z).trans ?_
  refine Eq.trans ?_ (hG (pos (kj t) a) (ln (hpOf t) z)).symm
  rw [hl_ln, dl_ln]

theorem final4 (G : (S4096x512 : Shape).Idx → EReal)
    (hG : ∀ (s : Fin 4096) (x : Fin 512), G (ix2 s x) = ((D.col ⟨x.val / 64, by omega⟩ s  : ℝ) : EReal)) :
    (dats m 0 c).arrAt 12 cfg0.N = G := by
  refine (dats m 0 c).arrAt_eq_of_covers 12 _ (by decide +kernel) fun t hf y => ?_
  have hk := kj_eq t
  obtain ⟨a, z, rfl⟩ : ∃ (a : Fin 1024) (z : Fin 128), y = ix2 a z := ⟨y 0, y 1, eq_ix2 y⟩
  have e : ((cfg0.win 12).blk t).view.emb (ix2 a z) = ix2 (pos (kj t) a) (ln (hpOf t) z) := by
    funext b; apply Fin.ext
    blk_simp [idx12]
    match b with
    | ⟨0, _⟩ => show t.val % 4 * 1024 + a.val = (pos (kj t) a).val; rw [hk, pos_val (by omega)]; omega
    | ⟨1, _⟩ => show t.val / 4 * 128 + z.val = 128 * (t.val / 4) + z.val; omega
  rw [e]
  blk_simp
  rw [after0_12]
  refine ((desc H t).cols (by omega) a z).trans ?_
  refine Eq.trans ?_ (hG (pos (kj t) a) (ln (hpOf t) z)).symm
  rw [hl_ln]

end Cert.KernelIdeal.Arrays

end
-- ==== Proof.Value.Equal.lean ====
/- Kernel and reference end with equal results. -/
module

public import proofs.«01_k».proof.Defs
public import proofs.«01_k».proof.Proof.Value.Finite
public import proofs.«01_k».proof.Proof.Value.Results
public import proofs.«01_k».proof.Proof.Gen.ReferenceIdeal.Run

@[expose] public section

noncomputable section

namespace Cert.Proof

open Idealize.ShloMosaic Idealize.SL.Sem
open Cert.Attn (Holds)

/-- From finite arguments, equal for both, the kernel's five arrays end at the reference's values. -/
theorem equal : Cert.algebraic_KernelIdeal_ReferenceIdeal_pre_finite (hKernelIdeal := Cert.KernelIdeal.Gen.facts)
    (hReferenceIdeal := Cert.ReferenceIdeal.Gen.facts) (hPre_finite := Cert.Attn.finiteFacts) := by
  intro m g m' g' hpre hargs
  refine ⟨fun c => Cert.ReferenceIdeal.Value.res_main_v71 (F := Ideal) m' c, fun c => Cert.ReferenceIdeal.Value.res_main_v73 (F := Ideal) m' c,
    fun c => Cert.ReferenceIdeal.Value.res_main_v75 (F := Ideal) m' c, fun c => Cert.ReferenceIdeal.Value.res_main_v76 (F := Ideal) m' c,
    fun c => Cert.ReferenceIdeal.Value.res_main_v80 (F := Ideal) m' c, ?_, Cert.ReferenceIdeal.Value.run (F := Ideal) m' g'⟩
  refine (θ_run Cert.KernelIdeal.defs _ _).mono (fun r h c => ?_) (Cert.KernelIdeal.Gen.results m g)
  obtain ⟨D, H⟩ := Cert.Attn.holds_of_finite _ _ _ _ _ (hpre c)
  have H' : Holds D (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) := by
    rw [(hargs c).1, (hargs c).2.1, (hargs c).2.2.1, (hargs c).2.2.2.1, (hargs c).2.2.2.2]
    exact H
  obtain ⟨h0, h1, h2, h3, h4, ha⟩ := h c
  refine ⟨h0.trans ?_, h1.trans ?_, h2.trans ?_, h3.trans ?_, h4.trans ?_, ha⟩
  · refine Cert.KernelIdeal.Arrays.final0 H _ fun t x => ?_
    exact (congrFun (Cert.ReferenceIdeal.Read.val_main_v71_eq m' c) _).trans (Cert.Attn.Ref.out0 H' t x)
  · refine Cert.KernelIdeal.Arrays.final1 H _ fun t x => ?_
    exact (congrFun (Cert.ReferenceIdeal.Read.val_main_v73_eq m' c) _).trans (Cert.Attn.Ref.out1 H' t x)
  · refine Cert.KernelIdeal.Arrays.final2 H _ fun t x => ?_
    exact (congrFun (Cert.ReferenceIdeal.Read.val_main_v75_eq m' c) _).trans (Cert.Attn.Ref.out2 H' t x)
  · refine Cert.KernelIdeal.Arrays.final3 H _ fun a b t => ?_
    exact (congrFun (Cert.ReferenceIdeal.Read.val_main_v76_eq m' c) _).trans (Cert.Attn.Ref.out3 H' a b t)
  · refine Cert.KernelIdeal.Arrays.final4 H _ fun t x => ?_
    exact (congrFun (Cert.ReferenceIdeal.Read.val_main_v80_eq m' c) _).trans (Cert.Attn.Ref.out4 H' t x)

end Cert.Proof

end
-- ==== Proof.Mlp.Model.lean ====
/- The MLP's gradient over the extended reals: the mathematics that the reference and the kernel share. -/
module

public import proofs.«01_k».proof.Proof.Value.Model

@[expose] public section

noncomputable section

namespace Cert.Mlp

open Idealize.ShloMosaic
open scoped BigOperators

/-- The normalisation's small constant: the 32-bit word nearest to 10⁻⁶. -/
def eps : ℝ := 8796093 / 8796093022208

theorem eps_pos : 0 < eps := by unfold eps; norm_num

/-- The width, and the factor two. -/
abbrev width : EReal := ((1024 : ℝ) : EReal)
abbrev two : EReal := ((2 : ℝ) : EReal)

theorem rsqrt_coe (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- Division by a real that is not zero is multiplication by its reciprocal. -/
theorem div_real (x : EReal) (y : ℝ) (hy : y ≠ 0) : Ideal.div x (y : EReal) = x * ((y⁻¹ : ℝ) : EReal) := by
  unfold Ideal.div
  rw [if_neg (fun h => hy (EReal.coe_eq_zero.mp h)), EReal.coe_inv]

/-- A real factor that is not negative goes into a sum; -/
theorem mul_sum_real {ι : Type} (s : Finset ι) (q : ℝ) (hq : 0 ≤ q) (h : ι → EReal) : (q : EReal) * ∑ k ∈ s, h k = ∑ k ∈ s, (q : EReal) * h k := by
  classical
  induction s using Finset.induction_on with
  | empty => simp
  | insert a s ha ih =>
    rw [Finset.sum_insert ha, Finset.sum_insert ha, EReal.left_distrib_of_nonneg_of_ne_top (EReal.coe_nonneg.mpr hq) (EReal.coe_ne_top q), ih]

/-- and twice a product by a real is the product by twice the real. -/
theorem twice (S : EReal) (y : ℝ) : S * (y : EReal) + S * (y : EReal) = S * ((2 * y : ℝ) : EReal) := by
  rcases lt_trichotomy y 0 with h | h | h
  · have h2 : 2 * y < 0 := by linarith
    induction S with
    | bot => rw [EReal.bot_mul_coe_of_neg h, EReal.bot_mul_coe_of_neg h2]; rfl
    | coe s => norm_cast; ring
    | top => rw [EReal.top_mul_coe_of_neg h, EReal.top_mul_coe_of_neg h2]; rfl
  · subst h; simp
  · have h2 : 0 < 2 * y := by linarith
    induction S with
    | bot => rw [EReal.bot_mul_coe_of_pos h, EReal.bot_mul_coe_of_pos h2]; rfl
    | coe s => norm_cast; ring
    | top => rw [EReal.top_mul_coe_of_pos h, EReal.top_mul_coe_of_pos h2]; rfl

theorem sq_nonneg' (x : EReal) : 0 ≤ x * x := by
  induction x with
  | bot => simp
  | coe a => rw [← EReal.coe_mul]; exact EReal.coe_nonneg.mpr (mul_self_nonneg a)
  | top => simp

/-- The input, the normalisation's scale, the two weights and the cotangent of the output. -/
structure Data where
  x : Fin 4096 → Fin 1024 → EReal
  g : Fin 1024 → EReal
  w1 : Fin 1024 → Fin 4096 → EReal
  w2 : Fin 4096 → Fin 1024 → EReal
  dy : Fin 4096 → Fin 1024 → EReal

namespace Data

variable (D : Data)

/-- The mean square of a row, with the small constant added; -/
def ms (t : Fin 4096) : EReal := Ideal.div (∑ d, D.x t d * D.x t d) width + (eps : EReal)
/-- the reciprocal of its root; -/
def r (t : Fin 4096) : EReal := Ideal.rsqrt (D.ms t)
/-- the normalised row. -/
def n (t : Fin 4096) (d : Fin 1024) : EReal := D.x t d * D.r t
/-- The pre-activations. -/
def z (t f : Fin 4096) : EReal := ∑ d, D.n t d * D.g d * D.w1 d f
/-- The gradient by the activations, -/
def da (t f : Fin 4096) : EReal := ∑ d, D.dy t d * D.w2 f d
/-- by the pre-activations: an activation is the square of the pre-activation's positive part, -/
def dz (t f : Fin 4096) : EReal := D.da t f * (two * max (D.z t f) 0)
/-- by the scaled normalised row, -/
def du (t : Fin 4096) (d : Fin 1024) : EReal := ∑ f, D.dz t f * D.w1 d f
/-- by the normalised row, -/
def tt (t : Fin 4096) (d : Fin 1024) : EReal := D.du t d * D.g d
/-- by the scale, -/
def dg (d : Fin 1024) : EReal := ∑ t, D.du t d * D.n t d
/-- and by the input, that of the skip connection included. -/
def dx (t : Fin 4096) (d : Fin 1024) : EReal :=
  D.dy t d + D.r t * (D.tt t d - D.n t d * Ideal.div (∑ k, D.tt t k * D.n t k) width)

/-- What the chain rule gives at each entry of a row, by the row's mean square. -/
def cc (t : Fin 4096) : EReal :=
  Ideal.div ((∑ k, D.x t k * D.tt t k) * (((-(1 / 2) : ℝ) : EReal) * Ideal.div (D.r t) (D.ms t))) width

theorem sum_nonneg' (t : Fin 4096) : 0 ≤ ∑ d, D.x t d * D.x t d := Finset.sum_nonneg fun d _ => sq_nonneg' _

/-- A row's mean square is infinite, or it is real and so is the row. -/
theorem ms_cases (t : Fin 4096) : D.ms t = ⊤ ∨ ∃ q : ℝ, 0 < q ∧ D.ms t = (q : EReal) ∧ ∀ d, ∃ y : ℝ, D.x t d = (y : EReal) := by
  have h0 := D.sum_nonneg' t
  by_cases hs : ∑ d, D.x t d * D.x t d = ⊤
  · left
    unfold ms
    rw [hs, div_real _ _ (by norm_num), EReal.top_mul_coe_of_pos (by norm_num)]; rfl
  · right
    obtain ⟨s, hs'⟩ : ∃ s : ℝ, ∑ d, D.x t d * D.x t d = (s : EReal) :=
      ⟨_, (EReal.coe_toReal hs (fun h => absurd (h ▸ h0) (by simp))).symm⟩
    have hs0 : 0 ≤ s := EReal.coe_nonneg.mp (hs' ▸ h0)
    refine ⟨s * (1024 : ℝ)⁻¹ + eps, add_pos_of_nonneg_of_pos (by positivity) eps_pos, ?_, fun d => ?_⟩
    · unfold ms
      rw [hs', div_real _ _ (by norm_num), ← EReal.coe_mul, ← EReal.coe_add]
    · have hle : D.x t d * D.x t d ≤ ∑ d, D.x t d * D.x t d :=
        Finset.single_le_sum (f := fun d => D.x t d * D.x t d) (fun k _ => sq_nonneg' _) (Finset.mem_univ d)
      have hne : D.x t d * D.x t d ≠ ⊤ := fun h => hs (top_le_iff.mp (h ▸ hle))
      induction hx : D.x t d with
      | bot => exact absurd (by rw [hx]; rfl) hne
      | coe a => exact ⟨a, rfl⟩
      | top => exact absurd (by rw [hx]; rfl) hne

/-- The gradient by the input, the normalisation differentiated term by term. A row with an infinite entry has a reciprocal
    root zero, and every term but the skip connection's vanishes; otherwise the row and its reciprocal root are real. -/
theorem dx_eq (t : Fin 4096) (d : Fin 1024) : D.dy t d + D.tt t d * D.r t + D.x t d * D.cc t + D.cc t * D.x t d = D.dx t d := by
  rcases D.ms_cases t with h | ⟨q, hq, h, hx⟩
  · have hr : D.r t = 0 := by unfold r; rw [h]; rfl
    have hc : D.cc t = 0 := by
      unfold cc
      rw [hr, h]
      have e : Ideal.div 0 ⊤ = 0 := by unfold Ideal.div; rw [if_neg (by simp), zero_mul]
      rw [e, mul_zero, mul_zero, div_real _ _ (by norm_num), zero_mul]
    unfold dx
    rw [hr, hc, mul_zero, mul_zero, zero_mul, zero_mul, add_zero, add_zero]
  · obtain ⟨y, hy⟩ := hx d
    have hr : D.r t = (((Real.sqrt q)⁻¹ : ℝ) : EReal) := by unfold r; rw [h, rsqrt_coe q hq]
    have hp : 0 ≤ (Real.sqrt q)⁻¹ := by positivity
    have hsq : (Real.sqrt q)⁻¹ * (Real.sqrt q)⁻¹ = q⁻¹ := by rw [← mul_inv, Real.mul_self_sqrt hq.le]
    generalize (Real.sqrt q)⁻¹ = p at hr hp hsq
    have e : ∑ k, D.tt t k * D.n t k = (p : EReal) * ∑ k, D.x t k * D.tt t k := by
      rw [mul_sum_real _ _ hp]
      refine Finset.sum_congr rfl fun k _ => ?_
      unfold n
      rw [hr, mul_comm, mul_comm (D.x t k) (p : EReal), mul_assoc]
    have hc : D.cc t = (∑ k, D.x t k * D.tt t k) * ((-(1 / 2) * (p * q⁻¹) * 1024⁻¹ : ℝ) : EReal) := by
      unfold cc
      rw [hr, h, div_real _ _ hq.ne', div_real _ _ (by norm_num), ← EReal.coe_mul, ← EReal.coe_mul, mul_assoc, ← EReal.coe_mul]
    unfold dx
    rw [e, hc]
    unfold n
    rw [hr, hy]
    generalize ∑ k, D.x t k * D.tt t k = S
    generalize D.tt t d = T
    have e1 : S * ((-(1 / 2) * (p * q⁻¹) * 1024⁻¹ : ℝ) : EReal) * (y : EReal) = S * ((-(1 / 2) * (p * q⁻¹) * 1024⁻¹ * y : ℝ) : EReal) := by
      rw [mul_assoc, ← EReal.coe_mul]
    have e2 : (p : EReal) * -((y : EReal) * (p : EReal) * Ideal.div ((p : EReal) * S) width) = S * ((-(p * (y * p * (p * 1024⁻¹))) : ℝ) : EReal) := by
      rw [div_real _ _ (by norm_num), mul_comm (p : EReal) S, mul_assoc S, ← EReal.coe_mul, ← EReal.coe_mul, mul_left_comm _ S, ← mul_neg, mul_left_comm _ S,
        ← EReal.coe_mul, ← EReal.coe_neg, ← EReal.coe_mul, mul_neg]
    rw [sub_eq_add_neg, EReal.left_distrib_of_nonneg_of_ne_top (EReal.coe_nonneg.mpr hp) (EReal.coe_ne_top p), e2, mul_comm (y : EReal), e1, add_assoc, twice,
      mul_comm T, add_assoc]
    refine congrArg (fun w : ℝ => D.dy t d + ((p : EReal) * T + S * (w : EReal))) ?_
    rw [← hsq]; ring

end Data

end Cert.Mlp

end
-- ==== Proof.Mlp.Ref.lean ====
/- What the MLP's reference computes, element by element: its host lines read as the gradient. -/
module

public import proofs.«01_k».proof.Proof.Mlp.Model
public import proofs.«01_k».proof.Proof.Value.Ref
public import proofs.«01_k».proof.Proof.Gen.Reference2Ideal.Read
public import Idealize.ShloMosaic.Lib.KernelVsHost
public import Idealize.ShloMosaic.PureOps.Ideal.Laws

@[expose] public section

noncomputable section

namespace Cert.Mlp

open Idealize.ShloMosaic Idealize.ShloMosaic.ValueIdx
open Cert.Attn (select_ite)
open scoped BigOperators

/-- The five arguments hold the numbers of `D`. -/
structure Holds (D : Data) (x0 : (⟨2, ![4096, 1024]⟩ : Shape).Idx → EReal) (x1 : (⟨1, ![1024]⟩ : Shape).Idx → EReal)
    (x2 : (⟨2, ![1024, 4096]⟩ : Shape).Idx → EReal) (x3 x4 : (⟨2, ![4096, 1024]⟩ : Shape).Idx → EReal) : Prop where
  x : ∀ i, x0 i = D.x (i 0) (i 1)
  g : ∀ i, x1 i = D.g (i 0)
  w1 : ∀ i, x2 i = D.w1 (i 0) (i 1)
  w2 : ∀ i, x3 i = D.w2 (i 0) (i 1)
  dy : ∀ i, x4 i = D.dy (i 0) (i 1)

/-- Any five arrays hold some numbers. -/
theorem holds (x0 : (⟨2, ![4096, 1024]⟩ : Shape).Idx → EReal) (x1 : (⟨1, ![1024]⟩ : Shape).Idx → EReal)
    (x2 : (⟨2, ![1024, 4096]⟩ : Shape).Idx → EReal) (x3 x4 : (⟨2, ![4096, 1024]⟩ : Shape).Idx → EReal) : ∃ D, Holds D x0 x1 x2 x3 x4 := by
  refine ⟨⟨fun a b => x0 (ix2 a b), fun a => x1 (ix1 a), fun a b => x2 (ix2 a b), fun a b => x3 (ix2 a b), fun a b => x4 (ix2 a b)⟩, ?_, ?_, ?_, ?_, ?_⟩
  · intro i; exact congrArg x0 (eq_ix2 i)
  · intro i; exact congrArg x1 (eq_ix1 i)
  · intro i; exact congrArg x2 (eq_ix2 i)
  · intro i; exact congrArg x3 (eq_ix2 i)
  · intro i; exact congrArg x4 (eq_ix2 i)

theorem ofBits_two : Ideal.ofBits .f32 0x40000000#32 = two := by
  simp [Ideal.ofBits, Ideal.ieee]; rw [← EReal.coe_mul]; norm_num
theorem ofBits_width : Ideal.ofBits .f32 0x44800000#32 = width := by
  simp [Ideal.ofBits, Ideal.ieee]; rw [← EReal.coe_mul]; norm_num
theorem ofBits_eps : Ideal.ofBits .f32 0x358637BD#32 = (eps : EReal) := by
  unfold eps
  simp [Ideal.ofBits, Ideal.ieee]; rw [← EReal.coe_mul]; norm_num
theorem ofBits_mhalf : Ideal.ofBits .f32 0xBF000000#32 = ((-(1 / 2) : ℝ) : EReal) := by
  simp [Ideal.ofBits, Ideal.ieee]; rw [← EReal.coe_mul]; norm_num

theorem cmp_pos (x : EReal) : (FloatOps.cmpf (F := Ideal) (φ := .f32) .ogt x (0 : EReal)) = if 0 < x then 1#1 else 0#1 := by
  show BitVec.ofBool (decide ((0 : EReal) < x)) = _
  by_cases h : 0 < x
  · rw [if_pos h, decide_eq_true h]; rfl
  · rw [if_neg h, decide_eq_false h]; rfl

namespace Ref

open Cert.Reference2Ideal Cert.Reference2Ideal.Read

variable {D : Data} {x0 : (⟨S4096x1024, .f32⟩ : BufTy).Contents (Elt Ideal)} {x1 : (⟨S1024, .f32⟩ : BufTy).Contents (Elt Ideal)}
  {x2 : (⟨S1024x4096, .f32⟩ : BufTy).Contents (Elt Ideal)} {x3 x4 : (⟨S4096x1024, .f32⟩ : BufTy).Contents (Elt Ideal)} (H : Holds D x0 x1 x2 x3 x4)

include H

/-! ## The normalisation -/

theorem r7 (i : S4096x1.Idx) : val_main_v7 (F := Ideal) x0 i = D.ms (i 0) := by
  rw [val_main_v7_apply, val_main_v5_apply, val_main_v3_apply, val_main_v2_apply, val_main_cst_0_apply, val_main_v4_apply, val_main_cst_1_apply,
    val_main_v6_apply, val_main_cst_2_apply]
  simp only [val_main_v1_apply, H.x, Ideal.mulf_def, Ideal.addf_def, Ideal.hostDivf_def, Ideal.ofBits_def, ofBits_width, ofBits_eps, Ideal.ofBits_zero_f32]
  rw [zero_add]; rfl

theorem r8 (i : S4096x1.Idx) : val_main_v8 (F := Ideal) x0 i = D.r (i 0) := by
  rw [val_main_v8_apply, r7 H, Ideal.hostUnary_rsqrt_def]; rfl

theorem r11 (i : S4096x1.Idx) : val_main_v11 (F := Ideal) x0 i = (((-(1 / 2) : ℝ) : EReal) * Ideal.div (D.r (i 0)) (D.ms (i 0))) := by
  rw [val_main_v11_apply, val_main_v10_apply, val_main_cst_3_apply, val_main_v9_apply, r7 H, r8 H, Ideal.mulf_def, Ideal.hostDivf_def, Ideal.ofBits_def,
    ofBits_mhalf]

theorem r13 (i : S4096x1024.Idx) : val_main_v13 (F := Ideal) x0 i = D.n (i 0) (i 1) := by
  rw [val_main_v13_apply, val_main_v12_apply, r8 H, H.x, Ideal.mulf_def]; rfl

theorem r16 (i : S4096x1024.Idx) : val_main_v16 (F := Ideal) x0 x1 i = (D.n (i 0) (i 1) * D.g (i 1)) := by
  rw [val_main_v16_apply, val_main_v15_apply, val_main_v14_apply, r13 H, H.g, Ideal.mulf_def]; rfl

/-! ## The products -/

theorem r17 (i : S4096x4096.Idx) : val_main_v17 (F := Ideal) x0 x1 x2 i = D.z (i 0) (i 1) := by
  rw [val_main_v17_apply]
  simp only [r16 H, H.w1]
  rfl

theorem r18 (i : S4096x4096.Idx) : val_main_v18 (F := Ideal) x0 x1 x2 i = D.z (i 0) (i 1) := by
  rw [val_main_v18_apply, r17 H, val_main_v0_apply, val_main_cst_apply, Ideal.addf_def, Ideal.ofBits_def, Ideal.ofBits_zero_f32, add_zero]

theorem r25 (i : S4096x4096.Idx) : val_main_v25 (F := Ideal) x0 x1 x2 i = (two * max (D.z (i 0) (i 1)) 0) := by
  rw [val_main_v25_apply, val_main_v24_apply, val_main_cst_6_apply, val_main_v19_apply, r18 H, val_main_call0_v0_apply, val_main_call0_cst_apply,
    Ideal.mulf_def, Ideal.maximumf_def, Ideal.ofBits_def, ofBits_two, Ideal.ofBits_def, Ideal.ofBits_zero_f32]

theorem r29 (i : S4096x4096.Idx) : val_main_v29 (F := Ideal) x3 x4 i = D.da (i 0) (i 1) := by
  rw [val_main_v29_apply]
  have e : ∀ k : Fin 1024, val_main_v28 (F := Ideal) x4 (lidx_main_v29 i k) = (D.dy (i 0) k) := fun k => by
    have h0 : (i 0).val < 4096 := (i 0).isLt
    have h1 := k.isLt
    rw [val_main_v28_apply, H.dy]
    refine congrArg₂ D.dy (Fin.ext ?_) (Fin.ext ?_)
    · exact (show ((i 0).val * 1024 + k.val) / 1024 = (i 0).val by omega)
    · exact (show ((i 0).val * 1024 + k.val) % 1024 = k.val by omega)
  simp only [e, H.w2]
  rfl

theorem r32 (i : S4096x4096.Idx) : val_main_v32 (F := Ideal) x0 x1 x2 x3 x4 i = D.dz (i 0) (i 1) := by
  rw [val_main_v32_apply, val_main_v21_apply, r18 H, val_main_v20_apply, val_main_cst_4_apply, val_main_v30_apply, r29 H, r25 H, val_main_v31_apply,
    val_main_cst_7_apply, Ideal.ofBits_def, Ideal.ofBits_zero_f32, cmp_pos, select_ite, Ideal.mulf_def]
  unfold Data.dz
  by_cases h : 0 < D.z (i 0) (i 1)
  · rw [if_pos h]
  · rw [if_neg h, max_eq_right (not_lt.mp h), mul_zero, mul_zero]

theorem r33 (i : S4096x1024.Idx) : val_main_v33 (F := Ideal) x0 x1 x2 x3 x4 i = D.du (i 0) (i 1) := by
  rw [val_main_v33_apply]
  simp only [r32 H, H.w1]
  rfl

theorem r38 (i : S4096x1024.Idx) : val_main_v38 (F := Ideal) x0 x1 x2 x3 x4 i = D.tt (i 0) (i 1) := by
  rw [val_main_v38_apply, val_main_v37_apply, val_main_v14_apply, r33 H, H.g, Ideal.mulf_def]; rfl

theorem r41 (i : S4096.Idx) : val_main_v41 (F := Ideal) x0 x1 x2 x3 x4 i = (∑ k, D.x (i 0) k * D.tt (i 0) k) := by
  rw [val_main_v41_apply, val_main_cst_10_apply]
  simp only [val_main_v40_apply, r38 H, H.x, Ideal.mulf_def, Ideal.ofBits_def, Ideal.ofBits_zero_f32]
  rw [zero_add]; rfl

theorem r42 (i : S4096x1.Idx) : val_main_v42 (F := Ideal) x0 x1 x2 x3 x4 i = (∑ k, D.x (i 0) k * D.tt (i 0) k) := by
  rw [val_main_v42_apply, r41 H]
  have e : (idx_main_v42 i) 0 = (i 0 : Fin 4096) := Fin.ext (by
    have h1 : (i 1).val < 1 := (i 1).isLt
    exact (show (i 0).val * 1 + (i 1).val = (i 0).val by omega))
  exact congrArg (fun q : Fin 4096 => (∑ k, D.x q k * D.tt q k)) e

theorem r48 (i : S4096x1.Idx) :
    val_main_v48 (F := Ideal) x0 x1 x2 x3 x4 i
      = D.cc (i 0) := by
  rw [val_main_v48_apply, val_main_v46_apply, r42 H, r11 H, val_main_v47_apply, val_main_cst_11_apply, Ideal.mulf_def, Ideal.hostDivf_def, Ideal.ofBits_def,
    ofBits_width]; rfl

theorem r50 (i : S4096x1024.Idx) :
    val_main_v50 (F := Ideal) x0 x1 x2 x3 x4 i
      = D.cc (i 0) := by
  rw [val_main_v50_apply, val_main_v49_apply, val_main_cst_12_apply, Fin.sum_univ_one, r48 H, Ideal.ofBits_def, Ideal.ofBits_zero_f32, zero_add]; rfl

theorem r35 (i : S1024.Idx) : val_main_v35 (F := Ideal) x0 x1 x2 x3 x4 i = D.dg (i 0) := by
  rw [val_main_v35_apply, val_main_cst_8_apply]
  simp only [val_main_v34_apply, r33 H, r13 H, Ideal.mulf_def, Ideal.ofBits_def, Ideal.ofBits_zero_f32]
  rw [zero_add]
  exact Finset.sum_congr rfl fun t _ => mul_comm _ _

theorem r36 (i : S1x1024.Idx) : val_main_v36 (F := Ideal) x0 x1 x2 x3 x4 i = D.dg (i 1) := by
  rw [val_main_v36_apply, r35 H]
  have e : (idx_main_v36 i) 0 = (i 1 : Fin 1024) := Fin.ext (by
    have h1 : (i 0).val < 1 := (i 0).isLt
    exact (show (i 0).val * 1024 + (i 1).val = (i 1).val by omega))
  exact congrArg (fun q : Fin 1024 => (D.dg q)) e

/-! ## The results -/

theorem out_dz (i : S4096x4096.Idx) : val_main_v55 (F := Ideal) x0 x1 x2 x3 x4 i = D.dz (i 0) (i 1) := by
  rw [val_main_v55_apply, r32 H, Ideal.truncf_def]

theorem out_dx (i : S4096x1024.Idx) : val_main_v54 (F := Ideal) x0 x1 x2 x3 x4 i = D.dx (i 0) (i 1) := by
  rw [val_main_v54_apply, val_main_v52_apply, val_main_v45_apply, val_main_v44_apply, val_main_v43_apply, val_main_v51_apply, val_main_v53_apply,
    r38 H, r8 H, r50 H, H.x, H.dy]
  simp only [Ideal.mulf_def, Ideal.addf_def]
  exact D.dx_eq (i 0) (i 1)

theorem r56 (i : S1x1024.Idx) : val_main_v56 (F := Ideal) x0 x1 x2 x3 x4 i = D.dg (i 1) := by
  rw [val_main_v56_apply, val_main_v39_apply, val_main_cst_9_apply, Fin.sum_univ_one, r36 H, Ideal.ofBits_def, Ideal.ofBits_zero_f32, zero_add]; rfl

theorem out_dg (a : Fin 8) (d : Fin 1024) :
    val_main_v57 (F := Ideal) x0 x1 x2 x3 x4 (ix2 a d) = (if a.val = 0 then D.dg d else 0) := by
  unfold val_main_v57
  have h0 := a.isLt
  by_cases h : a.val = 0
  · rw [if_pos h, pad_apply_of_inside (s := S1x1024) _ _ _ _ _ _ _ _ (ix2 (0 : Fin 1) d) (fun b => by
      match b with
      | ⟨0, _⟩ => exact (show a.val = 0 + 0 * (0 + 1) by omega)
      | ⟨1, _⟩ => exact (show d.val = 0 + d.val * (0 + 1) by omega)), r56 H]
  · rw [if_neg h, pad_apply_of_not_inside (s := S1x1024) _ _ _ _ _ _ _ _ 0 (fun hc => h (by
      have h2 : (a.val - 0) / (0 + 1) < 1 := hc.2.2
      omega))]
    exact sitofp_zero (φ := .f32)

end Ref

end Cert.Mlp

end
-- ==== Proof.Mlp.Entry.lean ====
/- What the MLP kernel's call finds in the arrays that the host prepares for it. -/
module

public import proofs.«01_k».proof.Proof.Mlp.Ref
public import proofs.«01_k».proof.Proof.Gen.Kernel2Ideal.Frame
public import Idealize.ShloMosaic.Lib.StableHlo.Run
public import Idealize.ShloMosaic.Lib.Pipeline.Value

@[expose] public section

set_option maxRecDepth 16384

noncomputable section

namespace Cert.Mlp

open Cert.Kernel2Ideal Cert.Kernel2Ideal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

theorem V_ops (b : Ref sig .tc) : V m c b = StableHlo.after hostOps0 (fun b => m (c, b)) b := by
  unfold V; rfl

/-- The first weight, its columns cut into four blocks; -/
def w1b (w : (⟨S1024x4096, .f32⟩ : BufTy).Contents (Elt Ideal)) : (⟨S4x1024x1024, .bf16⟩ : BufTy).Contents (Elt Ideal) :=
  truncf (F := Ideal) (φ := .f32) .bf16 (transpose S4x1024x1024 [1, 0, 2] (shapeCast S1024x4x1024 w shapeCasts_S1024x4096_S1024x4x1024) transposes_S1024x4x1024_S4x1024x1024_1_0_2) bitsLt_bf16_f32
/-- the second weight, its rows cut into four blocks; -/
def w2b (w : (⟨S4096x1024, .f32⟩ : BufTy).Contents (Elt Ideal)) : (⟨S4x1024x1024, .bf16⟩ : BufTy).Contents (Elt Ideal) :=
  truncf (F := Ideal) (φ := .f32) .bf16 (shapeCast S4x1024x1024 w shapeCasts_S4096x1024_S4x1024x1024) bitsLt_bf16_f32
/-- the scale as a row. -/
def grow (g : (⟨S1024, .f32⟩ : BufTy).Contents (Elt Ideal)) : (⟨S1x1024, .f32⟩ : BufTy).Contents (Elt Ideal) :=
  shapeCast S1x1024 g shapeCasts_S1024_S1x1024

set_option maxHeartbeats 4000000 in
theorem V_2 : V m c main_v2 = w1b (m ((c.tc : Thread nD τ).loc main_arg2)) := by
  rw [V_ops]; simp only [hostOps0]; after_results_simp <;> rfl

set_option maxHeartbeats 4000000 in
theorem V_4 : V m c main_v4 = w2b (m ((c.tc : Thread nD τ).loc main_arg3)) := by
  rw [V_ops]; simp only [hostOps0]; after_results_simp <;> rfl

set_option maxHeartbeats 4000000 in
theorem V_21 : V m c main_v21 = grow (m ((c.tc : Thread nD τ).loc main_arg1)) := by
  rw [V_ops]; simp only [hostOps0]; after_results_simp <;> rfl

set_option maxHeartbeats 4000000 in
/-- The pre-activations that the host saves are the ones that the reference computes: over the reals a cast changes nothing. -/
theorem V_20 : V m c main_v20
    = Cert.Reference2Ideal.Read.val_main_v17 (F := Ideal) (m ((c.tc : Thread nD τ).loc main_arg0)) (m ((c.tc : Thread nD τ).loc main_arg1)) (m ((c.tc : Thread nD τ).loc main_arg2)) := by
  rw [V_ops]; simp only [hostOps0]; after_results_simp <;> rfl

set_option maxHeartbeats 4000000 in
theorem V_a0 : V m c main_arg0 = m ((c.tc : Thread nD τ).loc main_arg0) := by
  rw [V_ops]; simp only [hostOps0]; after_results_simp <;> rfl

set_option maxHeartbeats 4000000 in
theorem V_a4 : V m c main_arg4 = m ((c.tc : Thread nD τ).loc main_arg4) := by
  rw [V_ops]; simp only [hostOps0]; after_results_simp <;> rfl

theorem w1b_apply (w : (⟨S1024x4096, .f32⟩ : BufTy).Contents (Elt Ideal)) (b : Fin 4) (d k : Fin 1024) :
    w1b w (ix3 b d k) = w (ix2 d (⟨b.val * 1024 + k.val, by omega⟩ : Fin 4096)) := by
  unfold w1b
  show (transpose S4x1024x1024 [1, 0, 2] (shapeCast S1024x4x1024 w shapeCasts_S1024x4096_S1024x4x1024) transposes_S1024x4x1024_S4x1024x1024_1_0_2) (ix3 b d k) = _
  refine (transpose_apply (t := S4x1024x1024) [1, 0, 2] _ transposes_S1024x4x1024_S4x1024x1024_1_0_2 (ix3 b d k) (ix3 d b k) (fun a => match a with
    | ⟨0, _⟩ => rfl
    | ⟨1, _⟩ => rfl
    | ⟨2, _⟩ => rfl)).trans ?_
  refine shapeCast_apply _ _ _ _ ?_
  rw [Shape.rowMajor_val_three, Shape.rowMajor_val_two]
  show d.val * 4096 + (b.val * 1024 + k.val) = (d.val * 4 + b.val) * 1024 + k.val
  omega

theorem w2b_apply (w : (⟨S4096x1024, .f32⟩ : BufTy).Contents (Elt Ideal)) (b : Fin 4) (k d : Fin 1024) :
    w2b w (ix3 b k d) = w (ix2 (⟨b.val * 1024 + k.val, by omega⟩ : Fin 4096) d) := by
  unfold w2b
  show (shapeCast S4x1024x1024 w shapeCasts_S4096x1024_S4x1024x1024) (ix3 b k d) = _
  refine shapeCast_apply _ _ _ _ ?_
  rw [Shape.rowMajor_val_three, Shape.rowMajor_val_two]
  rfl

theorem grow_apply (g : (⟨S1024, .f32⟩ : BufTy).Contents (Elt Ideal)) (a : Fin 1) (d : Fin 1024) : grow g (ix2 a d) = g (ix1 d) := by
  refine shapeCast_apply _ _ _ _ ?_
  rw [Shape.rowMajor_val_two, Shape.rowMajor_val_one]
  show d.val = a.val * 1024 + d.val
  have := a.isLt
  omega

end Cert.Mlp

end
-- ==== Proof.Mlp.Blocks.lean ====
/- The blocks that a grid point of the MLP kernel reads, and the numbers that they hold. -/
module

public import proofs.«01_k».proof.Proof.Mlp.Entry
public import Idealize.ShloMosaic.Lib.Pipeline.ValueKit

@[expose] public section

set_option maxRecDepth 16384

noncomputable section

namespace Cert.Mlp

open Idealize.ShloMosaic hiding ix1 ix2 ix3 eq_ix2 eq_ix3
open Idealize.ShloMosaic.TcCoe Idealize.ShloMosaic.ValueIdx Cert.Kernel2Ideal Cert.Kernel2Ideal.Gen
open Idealize.ShloMosaic.Pipeline (Dat)
open scoped BigOperators

variable (m : (ℓ : Loc nD τ sig) → Buf (Elt Ideal) ℓ) (c : Dev nD)

/-- Place `a` of the `i`-th block of 1024. -/
def at4 (i : ℕ) (a : Fin 1024) : Fin 4096 := ⟨(i * 1024 + a.val) % 4096, Nat.mod_lt _ (by decide)⟩

theorem at4_val {i : ℕ} (h : i < 4) (a : Fin 1024) : (at4 i a).val = i * 1024 + a.val := Nat.mod_eq_of_lt (by omega)

theorem lt16 (t : Fin cfg0.N) : t.val < 16 := lt_of_lt_of_eq t.isLt (show cfg0.N = 16 from N_0)

theorem idx0 : ∀ t : Fin grid0.N, win0_0.index t = ![t.val / 4, t.val % 4] := by decide +kernel
theorem idx1 : ∀ t : Fin grid0.N, win0_1.index t = ![t.val / 4, 0] := by decide +kernel
theorem idx2 : ∀ t : Fin grid0.N, win0_2.index t = ![t.val / 4, 0] := by decide +kernel
theorem idx3 : ∀ t : Fin grid0.N, win0_3.index t = ![0, 0] := by decide +kernel
theorem idx4 : ∀ t : Fin grid0.N, win0_4.index t = ![t.val % 4, 0, 0] := by decide +kernel
theorem idx5 : ∀ t : Fin grid0.N, win0_5.index t = ![t.val % 4, 0, 0] := by decide +kernel

/-- The feature block of point `t`. -/
def fOf (t : Fin cfg0.N) : Fin 4 := ⟨t.val % 4, by omega⟩

theorem read0 (X : Buf (Elt Ideal) ((c : Thread nD τ).loc main_v20)) (t : Fin cfg0.N) (a k : Fin 1024) :
    ((cfg0.win 0).blk t).view.read (Elt Ideal) X (ix2 a k) = X (ix2 (at4 (t.val / 4) a) (at4 (t.val % 4) k)) := by
  have ht := lt16 t
  refine congrArg X (show ((cfg0.win 0).blk t).view.emb (ix2 a k) = ix2 (at4 (t.val / 4) a) (at4 (t.val % 4) k) from ?_)
  funext b; apply Fin.ext
  blk_simp [idx0]
  match b with
  | ⟨0, _⟩ => show t.val / 4 * 1024 + a.val = (at4 (t.val / 4) a).val; rw [at4_val (by omega)]
  | ⟨1, _⟩ => show t.val % 4 * 1024 + k.val = (at4 (t.val % 4) k).val; rw [at4_val (by omega)]

theorem read1 (X : Buf (Elt Ideal) ((c : Thread nD τ).loc main_arg4)) (t : Fin cfg0.N) (a d : Fin 1024) :
    ((cfg0.win 1).blk t).view.read (Elt Ideal) X (ix2 a d) = X (ix2 (at4 (t.val / 4) a) d) := by
  have ht := lt16 t
  refine congrArg X (show ((cfg0.win 1).blk t).view.emb (ix2 a d) = ix2 (at4 (t.val / 4) a) d from ?_)
  funext b; apply Fin.ext
  blk_simp [idx1]
  match b with
  | ⟨0, _⟩ => show t.val / 4 * 1024 + a.val = (at4 (t.val / 4) a).val; rw [at4_val (by omega)]
  | ⟨1, _⟩ => show 0 * 1024 + d.val = d.val; omega

theorem read2 (X : Buf (Elt Ideal) ((c : Thread nD τ).loc main_arg0)) (t : Fin cfg0.N) (a d : Fin 1024) :
    ((cfg0.win 2).blk t).view.read (Elt Ideal) X (ix2 a d) = X (ix2 (at4 (t.val / 4) a) d) := by
  have ht := lt16 t
  refine congrArg X (show ((cfg0.win 2).blk t).view.emb (ix2 a d) = ix2 (at4 (t.val / 4) a) d from ?_)
  funext b; apply Fin.ext
  blk_simp [idx2]
  match b with
  | ⟨0, _⟩ => show t.val / 4 * 1024 + a.val = (at4 (t.val / 4) a).val; rw [at4_val (by omega)]
  | ⟨1, _⟩ => show 0 * 1024 + d.val = d.val; omega

theorem read3 (X : Buf (Elt Ideal) ((c : Thread nD τ).loc main_v21)) (t : Fin cfg0.N) (a : Fin 1) (d : Fin 1024) :
    ((cfg0.win 3).blk t).view.read (Elt Ideal) X (ix2 a d) = X (ix2 a d) := by
  refine congrArg X (show ((cfg0.win 3).blk t).view.emb (ix2 a d) = ix2 a d from ?_)
  funext b; apply Fin.ext
  blk_simp [idx3]
  match b with
  | ⟨0, _⟩ => show 0 * 1 + a.val = a.val; omega
  | ⟨1, _⟩ => show 0 * 1024 + d.val = d.val; omega

theorem read4 (X : Buf (Elt Ideal) ((c : Thread nD τ).loc main_v2)) (t : Fin cfg0.N) (a : Fin 1) (d k : Fin 1024) :
    ((cfg0.win 4).blk t).view.read (Elt Ideal) X (ix3 a d k) = X (ix3 (fOf t) d k) := by
  refine congrArg X (show ((cfg0.win 4).blk t).view.emb (ix3 a d k) = ix3 (fOf t) d k from ?_)
  have h := a.isLt
  funext b; apply Fin.ext
  blk_simp [idx4]
  match b with
  | ⟨0, _⟩ => show t.val % 4 * 1 + a.val = t.val % 4; omega
  | ⟨1, _⟩ => show 0 * 1024 + d.val = d.val; omega
  | ⟨2, _⟩ => show 0 * 1024 + k.val = k.val; omega

theorem read5 (X : Buf (Elt Ideal) ((c : Thread nD τ).loc main_v4)) (t : Fin cfg0.N) (a : Fin 1) (k d : Fin 1024) :
    ((cfg0.win 5).blk t).view.read (Elt Ideal) X (ix3 a k d) = X (ix3 (fOf t) k d) := by
  refine congrArg X (show ((cfg0.win 5).blk t).view.emb (ix3 a k d) = ix3 (fOf t) k d from ?_)
  have h := a.isLt
  funext b; apply Fin.ext
  blk_simp [idx5]
  match b with
  | ⟨0, _⟩ => show t.val % 4 * 1 + a.val = t.val % 4; omega
  | ⟨1, _⟩ => show 0 * 1024 + k.val = k.val; omega
  | ⟨2, _⟩ => show 0 * 1024 + d.val = d.val; omega

/-- The launch's memory holds the numbers of `D`. -/
abbrev HoldsAt (D : Data) : Prop :=
  Holds D (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

variable {m c} {D : Data} (H : HoldsAt m c D)
include H

theorem blk0 (t : Fin cfg0.N) (a k : Fin 1024) : iblk m c 0 t (ix2 a k) = (D.z (at4 (t.val / 4) a) (at4 (t.val % 4) k)) :=
  (read0 c (V m c main_v20) t a k).trans ((congrFun (V_20 m c) _).trans (Ref.r17 H _))

theorem blk1 (t : Fin cfg0.N) (a d : Fin 1024) : iblk m c 1 t (ix2 a d) = (D.dy (at4 (t.val / 4) a) d) :=
  (read1 c (V m c main_arg4) t a d).trans ((congrFun (V_a4 m c) _).trans (H.dy _))

theorem blk2 (t : Fin cfg0.N) (a d : Fin 1024) : iblk m c 2 t (ix2 a d) = (D.x (at4 (t.val / 4) a) d) :=
  (read2 c (V m c main_arg0) t a d).trans ((congrFun (V_a0 m c) _).trans (H.x _))

theorem blk3 (t : Fin cfg0.N) (d : Fin 1024) : iblk m c 3 t (ix2 (0 : Fin 1) d) = (D.g d) :=
  (read3 c (V m c main_v21) t 0 d).trans ((congrFun (V_21 m c) _).trans ((grow_apply _ 0 d).trans (H.g _)))

theorem blk4 (t : Fin cfg0.N) (d k : Fin 1024) : iblk m c 4 t (ix3 (0 : Fin 1) d k) = (D.w1 d (at4 (t.val % 4) k)) := by
  refine (read4 c (V m c main_v2) t 0 d k).trans ((congrFun (V_2 m c) _).trans ((w1b_apply _ (fOf t) d k).trans ((H.w1 _).trans ?_)))
  refine congrArg (fun q : Fin 4096 => (D.w1 d q)) (Fin.ext ?_)
  rw [at4_val (by omega)]; rfl

theorem blk5 (t : Fin cfg0.N) (k d : Fin 1024) : iblk m c 5 t (ix3 (0 : Fin 1) k d) = (D.w2 (at4 (t.val % 4) k) d) := by
  refine (read5 c (V m c main_v4) t 0 k d).trans ((congrFun (V_4 m c) _).trans ((w2b_apply _ (fOf t) k d).trans ((H.w2 _).trans ?_)))
  refine congrArg (fun q : Fin 4096 => (D.w2 q d)) (Fin.ext ?_)
  rw [at4_val (by omega)]; rfl

end Cert.Mlp

end
-- ==== Proof.Mlp.Ops.lean ====
/- What the MLP kernel's arithmetic stores, element by element. -/
module

public import proofs.«01_k».proof.Proof.Mlp.Ref
public import proofs.«01_k».proof.Proof.Gen.Kernel2Ideal.Frame
public import Idealize.ShloMosaic.Lib.MatmulPlain
public import Idealize.ShloMosaic.Lib.Pipeline.Value
public import Idealize.ShloMosaic.Lib.WordCmp
public import Idealize.ShloMosaic.Lib.IdealHost
public import Idealize.ShloMosaic.PureOps.Ideal.Laws

@[expose] public section

noncomputable section

namespace Cert.Mlp.Ops

open Idealize.ShloMosaic Idealize.ShloMosaic.ValueIdx Cert.Kernel2Ideal Cert.Kernel2Ideal.Gen
open scoped BigOperators

/-! ## The operations -/

theorem zero_apply {s : Shape} (i : s.Idx) : (constant (F := Ideal) s .f32 0x00000000#32 : FVec Ideal s .f32) i = 0 := Ideal.ofBits_zero_f32

/-- A product that contracts both operands' second axes. -/
theorem mm_nt (x y : FVec Ideal S1024x1024 .bf16) (a b : Fin 1024) :
    matmul dot_S1024x1024_S1024x1024_S1024x1024_1_1_0_0_n_n none x y (constant S1024x1024 .f32 0x00000000#32) (ix2 a b)
      = ∑ k : Fin 1024, x (ix2 a k) * y (ix2 b k) := by
  refine (Ideal.matmul_transposedRhs_apply (M := 1024) (K := 1024) (N := 1024) none x y _ a b).trans ?_
  rw [zero_apply, zero_add]

/-- A block of a weight, without its first axis. -/
theorem lead (x : Vec Ideal S1x1024x1024 .bf16) (a b : Fin 1024) :
    shapeCast S1024x1024 x shapeCasts_S1x1024x1024_S1024x1024 (ix2 a b) = x (ix3 (0 : Fin 1) a b) :=
  shapeCast_apply _ _ _ _ (by rw [Shape.rowMajor_val_two, Shape.rowMajor_val_three]; show (0 * 1024 + a.val) * 1024 + b.val = a.val * 1024 + b.val; omega)

theorem same {φ : EltTy} (x : Vec Ideal S1024x1024 φ) : shapeCast S1024x1024 x shapeCasts_S1024x1024_S1024x1024 = x := by
  funext i; exact shapeCast_apply _ _ _ _ rfl

theorem same_row (x : Vec Ideal S1x1024 .f32) : shapeCast S1x1024 x shapeCasts_S1x1024_S1x1024 = x := by
  funext i; exact shapeCast_apply _ _ _ _ rfl

theorem rowsum (w : FVec Ideal S1024x1024 .f32) (a : Fin 1024) :
    shapeCast S1024x1 (multiReduction .add [1] S1024 w 0x00000000#32 reduces_S1024x1024_S1024 (.inl rfl) rfl) shapeCasts_S1024_S1024x1 (ix2 a (0 : Fin 1))
      = ∑ k : Fin 1024, w (ix2 a k) := by
  rw [shapeCast_apply _ _ _ (ix1 a) (by rw [Shape.rowMajor_val_two, Shape.rowMajor_val_one]; show a.val = a.val * 1 + 0; omega)]
  refine (Ideal.multiReduction_add_single _ _ _ _ _ _).trans ?_
  refine Finset.sum_congr rfl fun k _ => congrArg w ?_
  funext z; apply Fin.ext
  match z with
  | ⟨0, _⟩ => rfl
  | ⟨1, _⟩ => rfl

theorem colsum (w : FVec Ideal S1024x1024 .f32) (b : Fin 1024) :
    shapeCast S1x1024 (multiReduction .add [0] S1024 w 0x00000000#32 reduces_S1024x1024_S1024_2 (.inl rfl) rfl) shapeCasts_S1024_S1x1024 (ix2 (0 : Fin 1) b)
      = ∑ k : Fin 1024, w (ix2 k b) := by
  rw [shapeCast_apply _ _ _ (ix1 b) (by rw [Shape.rowMajor_val_two, Shape.rowMajor_val_one]; show b.val = 0 * 1024 + b.val; omega)]
  refine (Ideal.multiReduction_add_single _ _ _ _ _ _).trans ?_
  refine Finset.sum_congr rfl fun k _ => congrArg w ?_
  funext z; apply Fin.ext
  match z with
  | ⟨0, _⟩ => rfl
  | ⟨1, _⟩ => rfl

theorem bcast_col (y : FVec Ideal S1024x1 .f32) (a b : Fin 1024) : broadcastTo S1024x1024 y broadcasts_S1024x1_S1024x1024 (ix2 a b) = y (ix2 a (0 : Fin 1)) :=
  broadcastTo_apply _ _ _ (ix2 a (0 : Fin 1)) (fun z => by
    match z with
    | ⟨0, _⟩ => rfl
    | ⟨1, _⟩ => rfl)

theorem bcast_row (y : FVec Ideal S1x1024 .f32) (a b : Fin 1024) : broadcastTo S1024x1024 y broadcasts_S1x1024_S1024x1024 (ix2 a b) = y (ix2 (0 : Fin 1) b) :=
  broadcastTo_apply _ _ _ (ix2 (0 : Fin 1) b) (fun z => by
    match z with
    | ⟨0, _⟩ => rfl
    | ⟨1, _⟩ => rfl)

/-! ## What is stored -/

section
variable {v8 v13 v22 : Vec Ideal S1024x1024 .f32} {v10 v23 : Vec Ideal S1x1024x1024 .bf16} {dy z s w w' p : Fin 1024 → Fin 1024 → EReal}

/-- The gradient by the pre-activations. -/
theorem pay7 (hd : ∀ a d, v8 (ix2 a d) = dy a d) (hw : ∀ k d, v10 (ix3 (0 : Fin 1) k d) = w k d)
    (hz : ∀ a k, v13 (ix2 a k) = z a k) (a k : Fin 1024) :
    k0_pay7 v8 v10 v13 (ix2 a k) = ((∑ d, dy a d * w k d) * (two * max (z a k) 0)) := by
  have e1 : matmul (F := Ideal) (φ₁ := .bf16) (φ₂ := .bf16) dot_S1024x1024_S1024x1024_S1024x1024_1_1_0_0_n_n none (truncf (F := Ideal) .bf16 v8 bitsLt_bf16_f32)
      (shapeCast S1024x1024 v10 shapeCasts_S1x1024x1024_S1024x1024) (constant S1024x1024 .f32 0x00000000#32) (ix2 a k)
        = (∑ d, dy a d * w k d) := by
    rw [mm_nt]
    refine Finset.sum_congr rfl fun d _ => ?_
    rw [lead, hw, ← hd]; rfl
  have e2 : k0_pay7 v8 v10 v13 (ix2 a k)
      = matmul (F := Ideal) (φ₁ := .bf16) (φ₂ := .bf16) dot_S1024x1024_S1024x1024_S1024x1024_1_1_0_0_n_n none (truncf (F := Ideal) .bf16 v8 bitsLt_bf16_f32)
          (shapeCast S1024x1024 v10 shapeCasts_S1x1024x1024_S1024x1024) (constant S1024x1024 .f32 0x00000000#32) (ix2 a k)
        * (Ideal.ofBits .f32 0x40000000#32 * max (shapeCast S1024x1024 v13 shapeCasts_S1024x1024_S1024x1024 (ix2 a k)) (Ideal.ofBits .f32 0x00000000#32)) := rfl
  rw [e2, e1, same, hz, ofBits_two, Ideal.ofBits_zero_f32]

/-- The sum so far, with this block's product added. -/
theorem pay8 (hp : ∀ a k, k0_pay7 v8 v10 v13 (ix2 a k) = p a k) (hs : ∀ a d, v22 (ix2 a d) = s a d)
    (hw : ∀ d k, v23 (ix3 (0 : Fin 1) d k) = (w' d k)) (a d : Fin 1024) :
    k0_pay8 v8 v10 v13 v22 v23 (ix2 a d) = (s a d + ∑ k, p a k * w' d k) := by
  have e1 : matmul (F := Ideal) (φ₁ := .bf16) (φ₂ := .bf16) dot_S1024x1024_S1024x1024_S1024x1024_1_1_0_0_n_n none (k0_pay7 v8 v10 v13)
      (shapeCast S1024x1024 v23 shapeCasts_S1x1024x1024_S1024x1024) (constant S1024x1024 .f32 0x00000000#32) (ix2 a d)
        = (∑ k, p a k * w' d k) := by
    rw [mm_nt]
    refine Finset.sum_congr rfl fun k _ => ?_
    rw [lead, hw, ← hp]
  unfold k0_pay8
  refine (congrFun (same (φ := .f32) _) (ix2 a d)).trans ?_
  rw [← e1, ← hs]; rfl

theorem pay6 (a d : Fin 1024) : k0_pay6 (F := Ideal) (ix2 a d) = 0 := by
  unfold k0_pay6
  exact (congrFun (same (φ := .f32) _) (ix2 a d)).trans Ideal.ofBits_zero_f32

theorem pay5 (a : Fin 8) (d : Fin 1024) : k0_pay5 (F := Ideal) (ix2 a d) = 0 := Ideal.ofBits_zero_f32
end

section
variable {x du dyv : Vec Ideal S1024x1024 .f32} {gr rr : Vec Ideal S1x1024 .f32} {X U Y : Fin 1024 → Fin 1024 → EReal} {G R : Fin 1024 → EReal}

/-- The reciprocal root of a row's mean square. -/
def rec (X : Fin 1024 → Fin 1024 → EReal) (a : Fin 1024) : EReal := Ideal.rsqrt (Ideal.div (∑ d, X a d * X a d) width + (eps : EReal))

theorem pay1 (hx : ∀ a d, x (ix2 a d) = X a d) (a : Fin 1024) : k0_pay1 x (ix2 a (0 : Fin 1)) = (rec X a) := by
  have e1 : shapeCast S1024x1 (multiReduction .add [1] S1024 (mulf (F := Ideal) x x) 0x00000000#32 reduces_S1024x1024_S1024 (.inl rfl) rfl) shapeCasts_S1024_S1024x1 (ix2 a (0 : Fin 1))
      = (∑ d, X a d * X a d) := by
    rw [rowsum]
    refine Finset.sum_congr rfl fun d _ => ?_
    rw [← hx]; rfl
  have e2 : k0_pay1 x (ix2 a (0 : Fin 1))
      = Ideal.rsqrt (Ideal.div (shapeCast S1024x1 (multiReduction .add [1] S1024 (mulf (F := Ideal) x x) 0x00000000#32 reduces_S1024x1024_S1024 (.inl rfl) rfl) shapeCasts_S1024_S1024x1 (ix2 a (0 : Fin 1)))
          (Ideal.ofBits .f32 0x44800000#32) + Ideal.ofBits .f32 0x358637BD#32) := rfl
  rw [e2, e1, ofBits_width, ofBits_eps]; rfl

theorem pay2 (hx : ∀ a d, x (ix2 a d) = X a d) (a d : Fin 1024) : k0_pay2 x (ix2 a d) = (X a d * rec X a) := by
  have e : k0_pay2 x (ix2 a d) = x (ix2 a d) * broadcastTo S1024x1024 (k0_pay1 x) broadcasts_S1024x1_S1024x1024 (ix2 a d) := rfl
  rw [e, bcast_col, pay1 hx, hx]

/-- The gradient by the input. -/
theorem pay3 (hx : ∀ a d, x (ix2 a d) = X a d) (hu : ∀ a d, du (ix2 a d) = U a d)
    (hg : ∀ d, gr (ix2 (0 : Fin 1) d) = G d) (hy : ∀ a d, dyv (ix2 a d) = Y a d) (a d : Fin 1024) :
    k0_pay3 x du gr dyv (ix2 a d)
      = (Y a d + rec X a * (U a d * G d - X a d * rec X a * Ideal.div (∑ k, U a k * G k * (X a k * rec X a)) width)) := by
  have et : ∀ k, mulf (F := Ideal) (φ := .f32) du (broadcastTo S1024x1024 (shapeCast S1x1024 gr shapeCasts_S1x1024_S1x1024) broadcasts_S1x1024_S1024x1024) (ix2 a k)
      = (U a k * G k) := fun k => by
    have e : mulf (F := Ideal) (φ := .f32) du (broadcastTo S1024x1024 (shapeCast S1x1024 gr shapeCasts_S1x1024_S1x1024) broadcasts_S1x1024_S1024x1024) (ix2 a k)
        = du (ix2 a k) * broadcastTo S1024x1024 (shapeCast S1x1024 gr shapeCasts_S1x1024_S1x1024) broadcasts_S1x1024_S1024x1024 (ix2 a k) := rfl
    rw [e, bcast_row, same_row, hu, hg]
  have es : shapeCast S1024x1 (multiReduction .add [1] S1024 (mulf (F := Ideal) (mulf (F := Ideal) (φ := .f32) du (broadcastTo S1024x1024 (shapeCast S1x1024 gr shapeCasts_S1x1024_S1x1024) broadcasts_S1x1024_S1024x1024)) (k0_pay2 x)) 0x00000000#32 reduces_S1024x1024_S1024 (.inl rfl) rfl) shapeCasts_S1024_S1024x1 (ix2 a (0 : Fin 1))
      = (∑ k, U a k * G k * (X a k * rec X a)) := by
    rw [rowsum]
    refine Finset.sum_congr rfl fun k _ => ?_
    rw [← et, ← pay2 hx]; rfl
  have e : k0_pay3 x du gr dyv (ix2 a d)
      = dyv (ix2 a d) + broadcastTo S1024x1024 (k0_pay1 x) broadcasts_S1024x1_S1024x1024 (ix2 a d)
          * (mulf (F := Ideal) (φ := .f32) du (broadcastTo S1024x1024 (shapeCast S1x1024 gr shapeCasts_S1x1024_S1x1024) broadcasts_S1x1024_S1024x1024) (ix2 a d)
            - k0_pay2 x (ix2 a d) * broadcastTo S1024x1024 (divf (F := Ideal) (shapeCast S1024x1 (multiReduction .add [1] S1024 (mulf (F := Ideal) (mulf (F := Ideal) (φ := .f32) du (broadcastTo S1024x1024 (shapeCast S1x1024 gr shapeCasts_S1x1024_S1x1024) broadcasts_S1x1024_S1024x1024)) (k0_pay2 x)) 0x00000000#32 reduces_S1024x1024_S1024 (.inl rfl) rfl) shapeCasts_S1024_S1024x1) (broadcast S1024x1 (Scalar.ofBits (F := Ideal) .f32 0x44800000#32)))
                broadcasts_S1024x1_S1024x1024 (ix2 a d)) := rfl
  have ed : ∀ q : FVec Ideal S1024x1 .f32, divf (F := Ideal) q (broadcast S1024x1 (Scalar.ofBits (F := Ideal) .f32 0x44800000#32)) (ix2 a (0 : Fin 1))
      = Ideal.div (q (ix2 a (0 : Fin 1))) (Ideal.ofBits .f32 0x44800000#32) := fun q => rfl
  rw [e, bcast_col, bcast_col, et, pay2 hx, pay1 hx, hy, ed, es, ofBits_width]

/-- The scale's gradient with this row block's part added. -/
theorem pay4 (hx : ∀ a d, x (ix2 a d) = X a d) (hu : ∀ a d, du (ix2 a d) = U a d)
    (hr : ∀ d, rr (ix2 (0 : Fin 1) d) = R d) (d : Fin 1024) :
    k0_pay4 x du rr (ix2 (0 : Fin 1) d) = (R d + ∑ a, U a d * (X a d * rec X a)) := by
  have es : shapeCast S1x1024 (multiReduction .add [0] S1024 (mulf (F := Ideal) (φ := .f32) du (k0_pay2 x)) 0x00000000#32 reduces_S1024x1024_S1024_2 (.inl rfl) rfl) shapeCasts_S1024_S1x1024 (ix2 (0 : Fin 1) d)
      = (∑ a, U a d * (X a d * rec X a)) := by
    rw [colsum]
    refine Finset.sum_congr rfl fun a _ => ?_
    rw [← hu, ← pay2 hx]; rfl
  have e : k0_pay4 x du rr (ix2 (0 : Fin 1) d)
      = shapeCast S1x1024 rr shapeCasts_S1x1024_S1x1024 (ix2 (0 : Fin 1) d)
        + shapeCast S1x1024 (multiReduction .add [0] S1024 (mulf (F := Ideal) (φ := .f32) du (k0_pay2 x)) 0x00000000#32 reduces_S1024x1024_S1024_2 (.inl rfl) rfl) shapeCasts_S1024_S1x1024 (ix2 (0 : Fin 1) d) := rfl
  rw [e, same_row, hr, es]
end

end Cert.Mlp.Ops

end
-- ==== Proof.Mlp.Open.lean ====
module

public import proofs.«01_k».proof.Defs
public import proofs.«01_k».proof.Proof.Gen.Kernel2Ideal.Frame
public import Idealize.ShloMosaic.Lib.Pipeline.Value
public import Idealize.ShloMosaic.Lib.Tactic
public import Idealize.ShloMosaic.Lib.ValueIdx
public import Idealize.ShloMosaic.Lib.WritesUnit

/-!
# What one grid point of the MLP kernel leaves in its buffers

The generated frame names, per case of the grid point, what each output's staging buffer and the carried scratch hold
after the body.  Here each of these terms is read as the value that the body's own arithmetic stores: every store and
every load but those of the scale's gradient covers its whole buffer.  The cases: `A` the first point, `D` a row
block's first point, `C` a row block's last point, `B` the others.
-/

@[expose] public section

noncomputable section

open Idealize.ShloMosaic Idealize.ShloMosaic.TcCoe Idealize.ShloMosaic.ValueIdx Idealize.SL.Sem
open Idealize.ShloMosaic.Pipeline (Dat)

namespace Cert.Mlp

open Cert.Kernel2Ideal Cert.Kernel2Ideal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a2 : Memref sig .tc .vmem S1024x1024 .f32) (h2 : a2.IsWhole)
  (a3 : Memref sig .tc .vmem S1024x1024 .f32) (h3 : a3.IsWhole)
  (a4 : Memref sig .tc .vmem S1024x1024 .f32) (h4 : a4.IsWhole)
  (a5 : Memref sig .tc .vmem S1x1024 .f32) (h5 : a5.IsWhole)
  (a6 : Memref sig .tc .vmem S1x1024x1024 .bf16) (h6 : a6.IsWhole)
  (a7 : Memref sig .tc .vmem S1x1024x1024 .bf16) (h7 : a7.IsWhole)
  (a8 : Memref sig .tc .vmem S1024x1024 .bf16) (h8 : a8.IsWhole)
  (a9 : Memref sig .tc .vmem S1024x1024 .f32) (h9 : a9.IsWhole)
  (a10 : Memref sig .tc .vmem S8x1024 .f32) (h10 : a10.IsWhole)
  (a11 : Memref sig .tc .vmem S1024x1024 .f32) (h11 : a11.IsWhole)
  (x0 x1 x2 : Vec F S1024x1024 .f32) (x3 : Vec F S1x1024 .f32) (x4 x5 : Vec F S1x1024x1024 .bf16)
  (xo8 : Vec F S8x1024 .f32) (xs0 : Vec F S1024x1024 .f32)

/-- Case A leaves the gradient by the pre-activations of this block. -/
theorem out_A_6 (hc0 : cond0_0 i) (hc1 : cond0_1 i) (hc2 : ¬cond0_2 i) :
    out0_A_6 c i a2 h2 a3 h3 a4 h4 a5 h5 a6 h6 a7 h7 a8 h8 a9 h9 a10 h10 a11 h11 hc0 hc1 hc2 x0 x1 x2 x3 x4 x5 = k0_pay7 x1 x5 x0 := by
  unfold out0_A_6
  rw [View.read_writes_eq_canon _ _ _ (cover0_A_6 c i a2 h2 a3 h3 a4 h4 a5 h5 a6 h6 a7 h7 a8 h8 a9 h9 a10 h10 a11 h11 hc0 hc1 hc2 x0 x1 x2 x3 x4 x5)]
  unfold kernelRun0_A
  dsimp only
  sl_unfold_words
  rw [View.canon_unit_zero hz2]
  simp only [View.readAt_eq_ld, h2.read_unread, h3.read_unread, h4.read_unread, h5.read_unread, h6.read_unread, h7.read_unread, h10.read_unread, h11.read_unread,
    View.ld_unit_zero (S := S1024x1024) hz2, View.ld_unit_zero (S := S1x1024) hz2, View.ld_unit_zero (S := S1x1024x1024) hz3]

/-- Case A leaves in the scratch zero with this block's product added. -/
theorem sout_A (hc0 : cond0_0 i) (hc1 : cond0_1 i) (hc2 : ¬cond0_2 i) :
    sout0_A_0 c i a2 h2 a3 h3 a4 h4 a5 h5 a6 h6 a7 h7 a8 h8 a9 h9 a10 h10 a11 h11 hc0 hc1 hc2 x0 x1 x2 x3 x4 x5 = k0_pay8 x1 x5 x0 k0_pay6 x4 := by
  unfold sout0_A_0
  rw [View.read_writes_eq_canon _ _ _ (scover0_A_0 c i a2 h2 a3 h3 a4 h4 a5 h5 a6 h6 a7 h7 a8 h8 a9 h9 a10 h10 a11 h11 hc0 hc1 hc2 x0 x1 x2 x3 x4 x5)]
  unfold kernelRun0_A
  dsimp only
  sl_unfold_words
  rw [View.canon_cons_unit_zero (S := S1024x1024) hz2, View.readCov_unit_zero (S := S1024x1024) _ hz2]
  simp only [View.readAt_eq_ld, h2.read_unread, h3.read_unread, h4.read_unread, h5.read_unread, h6.read_unread, h7.read_unread, h10.read_unread, h11.read_unread,
    View.ld_unit_zero (S := S1024x1024) hz2, View.ld_unit_zero (S := S1x1024) hz2, View.ld_unit_zero (S := S1x1024x1024) hz3]

/-- Case B leaves the gradient by the pre-activations of this block. -/
theorem out_B_6 (hc0 : ¬cond0_0 i) (hc1 : ¬cond0_1 i) (hc2 : ¬cond0_2 i) :
    out0_B_6 c i a2 h2 a3 h3 a4 h4 a5 h5 a6 h6 a7 h7 a8 h8 a9 h9 a10 h10 a11 h11 hc0 hc1 hc2 x0 x1 x2 x3 x4 x5 xs0 = k0_pay7 x1 x5 x0 := by
  unfold out0_B_6
  rw [View.read_writes_eq_canon _ _ _ (cover0_B_6 c i a2 h2 a3 h3 a4 h4 a5 h5 a6 h6 a7 h7 a8 h8 a9 h9 a10 h10 a11 h11 hc0 hc1 hc2 x0 x1 x2 x3 x4 x5 xs0)]
  unfold kernelRun0_B
  dsimp only
  sl_unfold_words
  rw [View.canon_unit_zero hz2]
  simp only [View.readAt_eq_ld, h2.read_unread, h3.read_unread, h4.read_unread, h5.read_unread, h6.read_unread, h7.read_unread, h10.read_unread, h11.read_unread,
    View.ld_unit_zero (S := S1024x1024) hz2, View.ld_unit_zero (S := S1x1024) hz2, View.ld_unit_zero (S := S1x1024x1024) hz3]

/-- Case B leaves in the scratch the sum so far with this block's product added. -/
theorem sout_B (hc0 : ¬cond0_0 i) (hc1 : ¬cond0_1 i) (hc2 : ¬cond0_2 i) :
    sout0_B_0 c i a2 h2 a3 h3 a4 h4 a5 h5 a6 h6 a7 h7 a8 h8 a9 h9 a10 h10 a11 h11 hc0 hc1 hc2 x0 x1 x2 x3 x4 x5 xs0 = k0_pay8 x1 x5 x0 xs0 x4 := by
  unfold sout0_B_0
  rw [View.read_writes_eq_canon _ _ _ (scover0_B_0 c i a2 h2 a3 h3 a4 h4 a5 h5 a6 h6 a7 h7 a8 h8 a9 h9 a10 h10 a11 h11 hc0 hc1 hc2 x0 x1 x2 x3 x4 x5 xs0)]
  unfold kernelRun0_B
  dsimp only
  sl_unfold_words
  rw [View.canon_cons_unit_zero (S := S1024x1024) hz2]
  simp only [View.readAt_eq_ld, h2.read_unread, h3.read_unread, h4.read_unread, h5.read_unread, h6.read_unread, h7.read_unread, h10.read_unread, h11.read_unread,
    View.ld_unit_zero (S := S1024x1024) hz2, View.ld_unit_zero (S := S1x1024) hz2, View.ld_unit_zero (S := S1x1024x1024) hz3]

/-- Case C leaves the gradient by the pre-activations of this block. -/
theorem out_C_6 (hc0 : ¬cond0_0 i) (hc1 : ¬cond0_1 i) (hc2 : cond0_2 i) :
    out0_C_6 c i a2 h2 a3 h3 a4 h4 a5 h5 a6 h6 a7 h7 a8 h8 a9 h9 a10 h10 a11 h11 hc0 hc1 hc2 x0 x1 x2 x3 x4 x5 xo8 xs0 = k0_pay7 x1 x5 x0 := by
  unfold out0_C_6
  rw [View.read_writes_eq_canon _ _ _ (cover0_C_6 c i a2 h2 a3 h3 a4 h4 a5 h5 a6 h6 a7 h7 a8 h8 a9 h9 a10 h10 a11 h11 hc0 hc1 hc2 x0 x1 x2 x3 x4 x5 xo8 xs0)]
  unfold kernelRun0_C
  dsimp only
  sl_unfold_words
  rw [View.canon_unit_zero hz2]
  simp only [View.readAt_eq_ld, h2.read_unread, h3.read_unread, h4.read_unread, h5.read_unread, h6.read_unread, h7.read_unread, h10.read_unread, h11.read_unread,
    View.ld_unit_zero (S := S1024x1024) hz2, View.ld_unit_zero (S := S1x1024) hz2, View.ld_unit_zero (S := S1x1024x1024) hz3]

/-- Case C leaves in the scratch the sum so far with this block's product added. -/
theorem sout_C (hc0 : ¬cond0_0 i) (hc1 : ¬cond0_1 i) (hc2 : cond0_2 i) :
    sout0_C_0 c i a2 h2 a3 h3 a4 h4 a5 h5 a6 h6 a7 h7 a8 h8 a9 h9 a10 h10 a11 h11 hc0 hc1 hc2 x0 x1 x2 x3 x4 x5 xo8 xs0 = k0_pay8 x1 x5 x0 xs0 x4 := by
  unfold sout0_C_0
  rw [View.read_writes_eq_canon _ _ _ (scover0_C_0 c i a2 h2 a3 h3 a4 h4 a5 h5 a6 h6 a7 h7 a8 h8 a9 h9 a10 h10 a11 h11 hc0 hc1 hc2 x0 x1 x2 x3 x4 x5 xo8 xs0)]
  unfold kernelRun0_C
  dsimp only
  sl_unfold_words
  rw [View.canon_cons_unit_zero (S := S1024x1024) hz2]
  simp only [View.readAt_eq_ld, h2.read_unread, h3.read_unread, h4.read_unread, h5.read_unread, h6.read_unread, h7.read_unread, h10.read_unread, h11.read_unread,
    View.ld_unit_zero (S := S1024x1024) hz2, View.ld_unit_zero (S := S1x1024) hz2, View.ld_unit_zero (S := S1x1024x1024) hz3]

/-- Case D leaves the gradient by the pre-activations of this block. -/
theorem out_D_6 (hc0 : ¬cond0_0 i) (hc1 : cond0_1 i) (hc2 : ¬cond0_2 i) :
    out0_D_6 c i a2 h2 a3 h3 a4 h4 a5 h5 a6 h6 a7 h7 a8 h8 a9 h9 a10 h10 a11 h11 hc0 hc1 hc2 x0 x1 x2 x3 x4 x5 = k0_pay7 x1 x5 x0 := by
  unfold out0_D_6
  rw [View.read_writes_eq_canon _ _ _ (cover0_D_6 c i a2 h2 a3 h3 a4 h4 a5 h5 a6 h6 a7 h7 a8 h8 a9 h9 a10 h10 a11 h11 hc0 hc1 hc2 x0 x1 x2 x3 x4 x5)]
  unfold kernelRun0_D
  dsimp only
  sl_unfold_words
  rw [View.canon_unit_zero hz2]
  simp only [View.readAt_eq_ld, h2.read_unread, h3.read_unread, h4.read_unread, h5.read_unread, h6.read_unread, h7.read_unread, h10.read_unread, h11.read_unread,
    View.ld_unit_zero (S := S1024x1024) hz2, View.ld_unit_zero (S := S1x1024) hz2, View.ld_unit_zero (S := S1x1024x1024) hz3]

/-- Case D leaves in the scratch zero with this block's product added. -/
theorem sout_D (hc0 : ¬cond0_0 i) (hc1 : cond0_1 i) (hc2 : ¬cond0_2 i) :
    sout0_D_0 c i a2 h2 a3 h3 a4 h4 a5 h5 a6 h6 a7 h7 a8 h8 a9 h9 a10 h10 a11 h11 hc0 hc1 hc2 x0 x1 x2 x3 x4 x5 = k0_pay8 x1 x5 x0 k0_pay6 x4 := by
  unfold sout0_D_0
  rw [View.read_writes_eq_canon _ _ _ (scover0_D_0 c i a2 h2 a3 h3 a4 h4 a5 h5 a6 h6 a7 h7 a8 h8 a9 h9 a10 h10 a11 h11 hc0 hc1 hc2 x0 x1 x2 x3 x4 x5)]
  unfold kernelRun0_D
  dsimp only
  sl_unfold_words
  rw [View.canon_cons_unit_zero (S := S1024x1024) hz2, View.readCov_unit_zero (S := S1024x1024) _ hz2]
  simp only [View.readAt_eq_ld, h2.read_unread, h3.read_unread, h4.read_unread, h5.read_unread, h6.read_unread, h7.read_unread, h10.read_unread, h11.read_unread,
    View.ld_unit_zero (S := S1024x1024) hz2, View.ld_unit_zero (S := S1x1024) hz2, View.ld_unit_zero (S := S1x1024x1024) hz3]

/-- The first point leaves zero in the scale's gradient. -/
theorem out_A_8 (hc0 : cond0_0 i) (hc1 : cond0_1 i) (hc2 : ¬cond0_2 i) :
    out0_A_8 c i a2 h2 a3 h3 a4 h4 a5 h5 a6 h6 a7 h7 a8 h8 a9 h9 a10 h10 a11 h11 hc0 hc1 hc2 x0 x1 x2 x3 x4 x5 = k0_pay5 := by
  unfold out0_A_8
  rw [View.read_writes_eq_canon _ _ _ (cover0_A_8 c i a2 h2 a3 h3 a4 h4 a5 h5 a6 h6 a7 h7 a8 h8 a9 h9 a10 h10 a11 h11 hc0 hc1 hc2 x0 x1 x2 x3 x4 x5)]
  unfold kernelRun0_A
  dsimp only
  sl_unfold_words
  rw [View.canon_unit_zero (S := S8x1024) hz2]

/-- A row block's last point leaves the gradient by the input, from the sum it has just completed. -/
theorem out_C_7 (hc0 : ¬cond0_0 i) (hc1 : ¬cond0_1 i) (hc2 : cond0_2 i) :
    out0_C_7 c i a2 h2 a3 h3 a4 h4 a5 h5 a6 h6 a7 h7 a8 h8 a9 h9 a10 h10 a11 h11 hc0 hc1 hc2 x0 x1 x2 x3 x4 x5 xo8 xs0
      = k0_pay3 x2 (k0_pay8 x1 x5 x0 xs0 x4) x3 x1 := by
  unfold out0_C_7
  rw [View.read_writes_eq_canon _ _ _ (cover0_C_7 c i a2 h2 a3 h3 a4 h4 a5 h5 a6 h6 a7 h7 a8 h8 a9 h9 a10 h10 a11 h11 hc0 hc1 hc2 x0 x1 x2 x3 x4 x5 xo8 xs0)]
  unfold kernelRun0_C
  dsimp only
  sl_unfold_words
  rw [View.canon_unit_zero (S := S1024x1024) hz2, View.readCov_unit_zero (S := S1024x1024) _ hz2]
  simp only [View.readAt_eq_ld, h2.read_unread, h3.read_unread, h4.read_unread, h5.read_unread, h6.read_unread, h7.read_unread, h10.read_unread, h11.read_unread,
    View.ld_unit_zero (S := S1024x1024) hz2, View.ld_unit_zero (S := S1x1024) hz2, View.ld_unit_zero (S := S1x1024x1024) hz3]

/-- A row block's last point adds the block's sum to row 0 of the scale's gradient and leaves the other rows. -/
theorem out_C_8 (hc0 : ¬cond0_0 i) (hc1 : ¬cond0_1 i) (hc2 : cond0_2 i) (y : S8x1024.Idx) :
    out0_C_8 c i a2 h2 a3 h3 a4 h4 a5 h5 a6 h6 a7 h7 a8 h8 a9 h9 a10 h10 a11 h11 hc0 hc1 hc2 x0 x1 x2 x3 x4 x5 xo8 xs0 y
      = if (y 0).val = 0 then
          k0_pay4 x2 (k0_pay8 x1 x5 x0 xs0 x4)
            (View.ld xo8 (Rect.unit (s := S8x1024) ![0, 0] S1x1024.size inb_S8x1024_S1x1024_0_0)) (ix2 0 (y 1))
        else xo8 y := by
  unfold out0_C_8 kernelRun0_C
  dsimp only
  sl_unfold_words
  rw [View.readCov_unit_zero (S := S1024x1024) _ hz2]
  simp only [View.readAt_eq_ld, h2.read_unread, h3.read_unread, h4.read_unread, h5.read_unread, h6.read_unread, h7.read_unread, h10.read_unread, h11.read_unread,
    View.ld_unit_zero (S := S1024x1024) hz2, View.ld_unit_zero (S := S1x1024) hz2, View.ld_unit_zero (S := S1x1024x1024) hz3]
  by_cases h : (y 0).val = 0
  · rw [if_pos h]
    exact View.read_writes_cons_rows_of_mem a10.view _ _ _ _ y (ix2 0 (y 1)) rfl (by rw [h]; rfl) rfl
  · rw [if_neg h, View.read_writes_cons_rows_of_not_mem a10.view _ _ _ _ y (o := 0) (W := 1) rfl rfl (Or.inr (by omega)), View.writes_nil,
      h10.read_unread]

end Cert.Mlp
-- ==== Proof.Mlp.Fold.lean ====
/- What the MLP kernel's buffers hold after each grid point: by induction over the points, the gradient by the
   pre-activations of the point's block, the sum over the feature blocks passed so far, and the scale's gradient over
   the row blocks that are finished. -/
module

public import proofs.«01_k».proof.Proof.Mlp.Blocks
public import proofs.«01_k».proof.Proof.Mlp.Ops
public import proofs.«01_k».proof.Proof.Mlp.Open

@[expose] public section

noncomputable section

namespace Cert.Mlp

open Idealize.ShloMosaic hiding ix1 ix2 ix3 eq_ix2 eq_ix3
open Idealize.ShloMosaic.TcCoe Idealize.ShloMosaic.ValueIdx Cert.Kernel2Ideal Cert.Kernel2Ideal.Gen
open scoped BigOperators

/-! ## Sums by blocks -/

theorem regroup (h : Fin 4096 → EReal) : ∑ i ∈ Finset.range 4, ∑ k : Fin 1024, h (at4 i k) = ∑ q, h q := by
  rw [Finset.sum_range, ← Fintype.sum_prod_type', ← (finProdFinEquiv (m := 4) (n := 1024)).sum_comp h]
  refine Finset.sum_congr rfl fun q _ => congrArg h (Fin.ext ?_)
  rw [at4_val q.1.isLt]
  show q.1.val * 1024 + q.2.val = q.2.val + 1024 * q.1.val
  omega

/-- The part of the gradient by the scaled normalised row that the first `f` feature blocks make. -/
def part (D : Data) (i f : ℕ) (a d : Fin 1024) : EReal := ∑ j ∈ Finset.range f, ∑ k : Fin 1024, D.dz (at4 i a) (at4 j k) * D.w1 d (at4 j k)

theorem part_succ (D : Data) (i f : ℕ) (a d : Fin 1024) :
    part D i (f + 1) a d = part D i f a d + ∑ k : Fin 1024, D.dz (at4 i a) (at4 f k) * D.w1 d (at4 f k) := Finset.sum_range_succ _ _

theorem part_four (D : Data) (i : ℕ) (a d : Fin 1024) : part D i 4 a d = D.du (at4 i a) d := regroup fun q => D.dz (at4 i a) q * D.w1 d q

/-- The scale's gradient over the first `n` row blocks. -/
def dgs (D : Data) (n : ℕ) (d : Fin 1024) : EReal := ∑ i ∈ Finset.range n, ∑ a : Fin 1024, D.du (at4 i a) d * D.n (at4 i a) d

theorem dgs_succ (D : Data) (n : ℕ) (d : Fin 1024) : dgs D (n + 1) d = dgs D n d + ∑ a : Fin 1024, D.du (at4 n a) d * D.n (at4 n a) d :=
  Finset.sum_range_succ _ _

theorem dgs_four (D : Data) (d : Fin 1024) : dgs D 4 d = D.dg d := regroup fun q => D.du q d * D.n q d

/-! ## The points -/

variable {m : (ℓ : Loc nD τ sig) → Buf (Elt Ideal) ℓ} {c : Dev nD} {D : Data}

/-- The scale's gradient's row 0 as a buffer's load reads it. -/
theorem ld_row (X : Vec Ideal S8x1024 .f32) (d : Fin 1024) :
    View.ld X (Rect.unit (s := S8x1024) ![0, 0] S1x1024.size inb_S8x1024_S1x1024_0_0) (ix2 (0 : Fin 1) d) = X (ix2 (0 : Fin 8) d) := by
  refine congrArg X (funext fun b => Fin.ext ?_)
  match b with
  | ⟨0, _⟩ => rfl
  | ⟨1, _⟩ => show 0 + 1 * d.val = d.val; omega

/-- What the buffers hold after point `t`. -/
structure Inv (m : (ℓ : Loc nD τ sig) → Buf (Elt Ideal) ℓ) (c : Dev nD) (D : Data) (t : Fin cfg0.N) : Prop where
  dz : ∀ a k, (outsAt0 m c t.val t.isLt).1 (ix2 a k) = (D.dz (at4 (t.val / 4) a) (at4 (t.val % 4) k))
  sc : ∀ a d, (outsAt0 m c t.val t.isLt).2.2.2 (ix2 a d) = (part D (t.val / 4) (t.val % 4 + 1) a d)
  dg : ∀ (a : Fin 8) (d : Fin 1024), (outsAt0 m c t.val t.isLt).2.2.1 (ix2 a d) = (if a.val = 0 then dgs D ((t.val + 1) / 4) d else 0)
  dx : t.val % 4 = 3 → ∀ a d, (outsAt0 m c t.val t.isLt).2.1 (ix2 a d) = (D.dx (at4 (t.val / 4) a) d)

theorem dz_pt (H : HoldsAt m c D) (t : Fin cfg0.N) (a k : Fin 1024) :
    k0_pay7 (iblk m c 1 t) (iblk m c 5 t) (iblk m c 0 t) (ix2 a k) = (D.dz (at4 (t.val / 4) a) (at4 (t.val % 4) k)) :=
  Ops.pay7 (blk1 H t) (blk5 H t) (blk0 H t) a k

theorem sc_pt (H : HoldsAt m c D) (t : Fin cfg0.N) (s : Vec Ideal S1024x1024 .f32)
    (hs : ∀ a d, s (ix2 a d) = (part D (t.val / 4) (t.val % 4) a d)) (a d : Fin 1024) :
    k0_pay8 (iblk m c 1 t) (iblk m c 5 t) (iblk m c 0 t) s (iblk m c 4 t) (ix2 a d) = (part D (t.val / 4) (t.val % 4 + 1) a d) := by
  rw [part_succ]
  exact Ops.pay8 (dz_pt H t) hs (blk4 H t) a d

theorem zero_part (t : Fin cfg0.N) (h : t.val % 4 = 0) (a d : Fin 1024) :
    k0_pay6 (F := Ideal) (ix2 a d) = (part D (t.val / 4) (t.val % 4) a d) := by
  rw [Ops.pay6, h]; rfl

theorem inv_A (H : HoldsAt m c D) (t : Fin cfg0.N) (h0 : t.val % 16 = 0) (h1 : t.val % 4 = 0) (h2 : ¬t.val % 4 = 3) : Inv m c D t := by
  have ht := lt16 t
  refine ⟨fun a k => ?_, fun a d => ?_, fun a d => ?_, fun h => absurd h h2⟩
  · rw [outsAt0_A m c t h0 h1 h2]; dsimp only; rw [out_A_6]; exact dz_pt H t a k
  · rw [outsAt0_A m c t h0 h1 h2]; dsimp only; rw [sout_A]; exact sc_pt H t _ (zero_part t h1) a d
  · rw [outsAt0_A m c t h0 h1 h2]; dsimp only; rw [out_A_8, Ops.pay5]
    rw [show (t.val + 1) / 4 = 0 by omega]
    split <;> rfl

theorem inv_D (H : HoldsAt m c D) (t : Fin cfg0.N) (h0 : ¬t.val % 16 = 0) (h1 : t.val % 4 = 0) (h2 : ¬t.val % 4 = 3)
    (hg : ∀ (a : Fin 8) (d : Fin 1024), (outsAt0 m c (t.val - 1) (Nat.lt_of_le_of_lt (Nat.sub_le _ _) t.isLt)).2.2.1 (ix2 a d)
      = (if a.val = 0 then dgs D (t.val / 4) d else 0)) : Inv m c D t := by
  refine ⟨fun a k => ?_, fun a d => ?_, fun a d => ?_, fun h => absurd h h2⟩
  · rw [outsAt0_D m c t h0 h1 h2]; dsimp only; rw [out_D_6]; exact dz_pt H t a k
  · rw [outsAt0_D m c t h0 h1 h2]; dsimp only; rw [sout_D]; exact sc_pt H t _ (zero_part t h1) a d
  · rw [outsAt0_D m c t h0 h1 h2, show (t.val + 1) / 4 = t.val / 4 by omega]; exact hg a d

theorem inv_B (H : HoldsAt m c D) (t : Fin cfg0.N) (h0 : ¬t.val % 16 = 0) (h1 : ¬t.val % 4 = 0) (h2 : ¬t.val % 4 = 3)
    (hs : ∀ a d, (outsAt0 m c (t.val - 1) (Nat.lt_of_le_of_lt (Nat.sub_le _ _) t.isLt)).2.2.2 (ix2 a d) = (part D (t.val / 4) (t.val % 4) a d))
    (hg : ∀ (a : Fin 8) (d : Fin 1024), (outsAt0 m c (t.val - 1) (Nat.lt_of_le_of_lt (Nat.sub_le _ _) t.isLt)).2.2.1 (ix2 a d)
      = (if a.val = 0 then dgs D (t.val / 4) d else 0)) : Inv m c D t := by
  refine ⟨fun a k => ?_, fun a d => ?_, fun a d => ?_, fun h => absurd h h2⟩
  · rw [outsAt0_B m c t h0 h1 h2]; dsimp only; rw [out_B_6]; exact dz_pt H t a k
  · rw [outsAt0_B m c t h0 h1 h2]; dsimp only; rw [sout_B]; exact sc_pt H t _ hs a d
  · rw [outsAt0_B m c t h0 h1 h2, show (t.val + 1) / 4 = t.val / 4 by omega]; exact hg a d

theorem inv_C (H : HoldsAt m c D) (t : Fin cfg0.N) (h0 : ¬t.val % 16 = 0) (h1 : ¬t.val % 4 = 0) (h2 : t.val % 4 = 3)
    (hs : ∀ a d, (outsAt0 m c (t.val - 1) (Nat.lt_of_le_of_lt (Nat.sub_le _ _) t.isLt)).2.2.2 (ix2 a d) = (part D (t.val / 4) (t.val % 4) a d))
    (hg : ∀ (a : Fin 8) (d : Fin 1024), (outsAt0 m c (t.val - 1) (Nat.lt_of_le_of_lt (Nat.sub_le _ _) t.isLt)).2.2.1 (ix2 a d)
      = (if a.val = 0 then dgs D (t.val / 4) d else 0)) : Inv m c D t := by
  have hu : ∀ a d, k0_pay8 (iblk m c 1 t) (iblk m c 5 t) (iblk m c 0 t)
      (outsAt0 m c (t.val - 1) (Nat.lt_of_le_of_lt (Nat.sub_le _ _) t.isLt)).2.2.2 (iblk m c 4 t) (ix2 a d) = (D.du (at4 (t.val / 4) a) d) := fun a d => by
    rw [sc_pt H t _ hs a d, h2]; exact part_four D _ a d
  refine ⟨fun a k => ?_, fun a d => ?_, fun a d => ?_, fun _ a d => ?_⟩
  · rw [outsAt0_C m c t h0 h1 h2]; dsimp only; rw [out_C_6]; exact dz_pt H t a k
  · rw [outsAt0_C m c t h0 h1 h2]; dsimp only; rw [sout_C]; exact sc_pt H t _ hs a d
  · rw [outsAt0_C m c t h0 h1 h2]; dsimp only; rw [out_C_8]
    by_cases ha : a.val = 0
    · refine (if_pos ha).trans ?_
      rw [if_pos ha, show (t.val + 1) / 4 = t.val / 4 + 1 by omega, dgs_succ]
      refine Ops.pay4 (blk2 H t) hu (fun d => (ld_row _ d).trans ((hg 0 d).trans ?_)) d
      exact if_pos rfl
    · refine (if_neg ha).trans ?_
      rw [if_neg ha, hg, if_neg ha]
  · rw [outsAt0_C m c t h0 h1 h2]; dsimp only; rw [out_C_7]
    exact Ops.pay3 (blk2 H t) hu (blk3 H t) (blk1 H t) a d

/-- After every point the buffers hold what `Inv` says. -/
theorem inv (H : HoldsAt m c D) : ∀ (n : ℕ) (hn : n < cfg0.N), Inv m c D ⟨n, hn⟩
  | 0, hn => inv_A H ⟨0, hn⟩ (Nat.zero_mod _) (Nat.zero_mod _) (fun h => absurd (show 0 % 4 = 3 from h) (by decide))
  | n + 1, hn => by
    have hN : n + 1 < 16 := lt16 ⟨n + 1, hn⟩
    have ih := inv H n (Nat.lt_of_succ_lt hn)
    have h0 : ¬(n + 1) % 16 = 0 := by omega
    by_cases h1 : (n + 1) % 4 = 0
    · exact inv_D H ⟨n + 1, hn⟩ h0 h1 (by show ¬(n + 1) % 4 = 3; omega) ih.dg
    · have hs : ∀ a d, (outsAt0 m c n (Nat.lt_of_succ_lt hn)).2.2.2 (ix2 a d) = (part D ((n + 1) / 4) ((n + 1) % 4) a d) := fun a d => by
        rw [show (n + 1) / 4 = n / 4 by omega, show (n + 1) % 4 = n % 4 + 1 by omega]; exact ih.sc a d
      by_cases h2 : (n + 1) % 4 = 3
      · exact inv_C H ⟨n + 1, hn⟩ h0 h1 h2 hs ih.dg
      · exact inv_B H ⟨n + 1, hn⟩ h0 h1 h2 hs ih.dg

end Cert.Mlp

end
-- ==== Proof.Mlp.Results.lean ====
/- The MLP kernel's three result arrays, element by element. -/
module

public import proofs.«01_k».proof.Proof.Mlp.Fold
public import proofs.«01_k».proof.Proof.Gen.Kernel2Ideal.Value

@[expose] public section

noncomputable section

namespace Cert.Mlp

open Idealize.ShloMosaic hiding ix1 ix2 ix3 eq_ix2 eq_ix3
open Idealize.ShloMosaic.TcCoe Idealize.ShloMosaic.ValueIdx Cert.Kernel2Ideal Cert.Kernel2Ideal.Gen Cert.Kernel2Ideal.Value

variable {m : (ℓ : Loc nD τ sig) → Buf (Elt Ideal) ℓ} {c : Dev nD} {D : Data}

/-- A place in its block. -/
def inBlk (t : Fin 4096) : Fin 1024 := ⟨t.val % 1024, Nat.mod_lt _ (by decide)⟩

theorem at4_inBlk (t : Fin 4096) (i : ℕ) (h : i = t.val / 1024) : at4 i (inBlk t) = t := by
  have := t.isLt
  apply Fin.ext
  rw [at4_val (by omega)]
  show i * 1024 + t.val % 1024 = t.val
  omega

/-- The gradient by the pre-activations. -/
theorem res_dz (H : HoldsAt m c D) (t f : Fin 4096) : G6 m c (ix2 t f) = (D.dz t f) := by
  have ht := t.isLt
  have hf := f.isLt
  have hp : pt6Of (ix2 t f) = 4 * (t.val / 1024) + f.val / 1024 := by
    show 4 * (t.val / 1024 - 0) + 1 * (f.val / 1024 - 0) = _
    omega
  have hlt : pt6Of (ix2 t f) < cfg0.N := by rw [hp]; exact lt_of_lt_of_eq (by omega) N_0.symm
  have hl : loc6Of (ix2 t f) = ix2 (inBlk t) (inBlk f) := by
    funext a
    match a with
    | ⟨0, _⟩ => rfl
    | ⟨1, _⟩ => rfl
  unfold G6
  rw [dif_pos hlt, ← outsAt0_sweep m c _ hlt, hl]
  refine ((inv H _ hlt).dz (inBlk t) (inBlk f)).trans ?_
  rw [at4_inBlk t _ (by show pt6Of (ix2 t f) / 4 = _; omega), at4_inBlk f _ (by show pt6Of (ix2 t f) % 4 = _; omega)]

/-- The gradient by the input. -/
theorem res_dx (H : HoldsAt m c D) (t : Fin 4096) (d : Fin 1024) : G7 m c (ix2 t d) = (D.dx t d) := by
  have ht := t.isLt
  have hd := d.isLt
  have hp : pt7Of (ix2 t d) = 4 * (t.val / 1024) + 3 := by
    show 4 * (1 * (t.val / 1024 - 0) + 1 * (d.val / 1024 - 0)) + 3 = _
    omega
  have hlt : pt7Of (ix2 t d) < cfg0.N := by rw [hp]; exact lt_of_lt_of_eq (by omega) N_0.symm
  have hl : loc7Of (ix2 t d) = ix2 (inBlk t) d := by
    funext a; apply Fin.ext
    match a with
    | ⟨0, _⟩ => rfl
    | ⟨1, _⟩ => exact Nat.mod_eq_of_lt hd
  unfold G7
  rw [dif_pos hlt, ← outsAt0_sweep m c _ hlt, hl]
  refine ((inv H _ hlt).dx (by show pt7Of (ix2 t d) % 4 = 3; omega) (inBlk t) d).trans ?_
  rw [at4_inBlk t _ (by show pt7Of (ix2 t d) / 4 = _; omega)]

/-- The scale's gradient: in row 0, the other rows zero. -/
theorem res_dg (H : HoldsAt m c D) (a : Fin 8) (d : Fin 1024) : G8 m c (ix2 a d) = (if a.val = 0 then D.dg d else 0) := by
  have hlt : 15 < cfg0.N := lt_of_lt_of_eq (by decide) N_0.symm
  rw [G8_last, ← outsAt0_sweep m c 15 hlt]
  refine ((inv H 15 hlt).dg a d).trans ?_
  have e : dgs D ((15 + 1) / 4) d = D.dg d := dgs_four D d
  exact congrArg (fun x : EReal => (if a.val = 0 then x else 0)) e

end Cert.Mlp

end
-- ==== Proof.Mlp.Equal.lean ====
/- MLP kernel and reference end with equal results. -/
module

public import proofs.«01_k».proof.Defs
public import proofs.«01_k».proof.Proof.Gen.Reference2Ideal.Run
public import proofs.«01_k».proof.Proof.Mlp.Results

@[expose] public section

noncomputable section

namespace Cert.Proof

open Idealize.ShloMosaic hiding ix1 ix2 ix3 eq_ix2 eq_ix3
open Idealize.ShloMosaic.ValueIdx Idealize.SL.Sem
open Cert.Mlp (Holds)

/-- From equal arguments the kernel's three arrays end at the reference's values. -/
theorem equal2 : Cert.algebraic_Kernel2Ideal_Reference2Ideal (hKernel2Ideal := Cert.Kernel2Ideal.Gen.facts)
    (hReference2Ideal := Cert.Reference2Ideal.Gen.facts) := by
  intro m g m' g' hpre hargs
  refine ⟨_, _, _, ?_, Cert.Reference2Ideal.Value.run (F := Ideal) m' g'⟩
  refine (θ_run Cert.Kernel2Ideal.defs _ _).mono (fun r h c => ?_) (Cert.Kernel2Ideal.Value.run m g)
  obtain ⟨D, H⟩ := Cert.Mlp.holds (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))
  have H' : Holds D (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4)) := by
    rw [(hargs c).1, (hargs c).2.1, (hargs c).2.2.1, (hargs c).2.2.2.1, (hargs c).2.2.2.2]
    exact H
  obtain ⟨h0, h1, h2, ha⟩ := h c
  refine ⟨h0.trans ?_, h1.trans ?_, h2.trans ?_, ha⟩
  · funext i
    obtain ⟨t, f, rfl⟩ : ∃ t f, i = ix2 t f := ⟨i 0, i 1, eq_ix2 i⟩
    exact (Cert.Mlp.res_dz H t f).trans ((congrFun (Cert.Reference2Ideal.Read.val_main_v55_eq _ _ _ _ _) _).trans (Cert.Mlp.Ref.out_dz H' (ix2 t f))).symm
  · funext i
    obtain ⟨t, d, rfl⟩ : ∃ t d, i = ix2 t d := ⟨i 0, i 1, eq_ix2 i⟩
    exact (Cert.Mlp.res_dx H t d).trans ((congrFun (Cert.Reference2Ideal.Read.val_main_v54_eq m' c) _).trans (Cert.Mlp.Ref.out_dx H' (ix2 t d))).symm
  · funext i
    obtain ⟨a, d, rfl⟩ : ∃ a d, i = ix2 a d := ⟨i 0, i 1, eq_ix2 i⟩
    exact (Cert.Mlp.res_dg H a d).trans ((congrFun (Cert.Reference2Ideal.Read.val_main_v57_eq _ _ _ _ _) _).trans (Cert.Mlp.Ref.out_dg H' a d)).symm

end Cert.Proof

end
-- ==== Proof.Weight4.Point.lean ====
/- The kernel for the second MLP weight's gradient at one grid point: what the point reads, and what it leaves in the
   scratch and in the output's block. -/
module

public import proofs.«01_k».proof.Defs
public import proofs.«01_k».proof.Proof.Gen.Kernel4Ideal.Value
public import Idealize.ShloMosaic.Lib.Pipeline.Value
public import Idealize.ShloMosaic.Lib.Pipeline.ValueKit
public import Idealize.ShloMosaic.Lib.Tactic
public import Idealize.ShloMosaic.Lib.ValueIdx
public import Idealize.ShloMosaic.Lib.WritesUnit
public import Idealize.ShloMosaic.PureOps.Ideal.Laws

@[expose] public section

set_option maxRecDepth 16384

noncomputable section

namespace Cert.Weight4

open Idealize.ShloMosaic hiding ix1 ix2 ix3 eq_ix2 eq_ix3
open Idealize.ShloMosaic.TcCoe Idealize.ShloMosaic.ValueIdx Idealize.SL.Sem Cert.Kernel4Ideal Cert.Kernel4Ideal.Gen Cert.Kernel4Ideal.Value
open scoped BigOperators

/-! ## The body's arithmetic -/

/-- The product of two operands over the first axis of both. -/
theorem mm_tn (x y : FVec Ideal S2048x1024 .bf16) (a b : Fin 1024) :
    matmul dot_S2048x1024_S2048x1024_S1024x1024_0_0_1_1_n_n none x y (constant S1024x1024 .f32 0x00000000#32) (ix2 a b)
      = ∑ k : Fin 2048, x (ix2 k a) * y (ix2 k b) := by
  have e : ∀ acc : FVec Ideal S1024x1024 .f32, FloatOps.matmul dot_S2048x1024_S2048x1024_S1024x1024_0_0_1_1_n_n none x y acc (ix2 a b)
      = acc (ix2 a b) + ∑ k : Fin 2048, x (ix2 k a) * y (ix2 k b) := fun acc => by
    have hr : dot_S2048x1024_S2048x1024_S1024x1024_0_0_1_1_n_n.contr.rank = 1 := rfl
    have hs : dot_S2048x1024_S2048x1024_S1024x1024_0_0_1_1_n_n.contr.size ⟨0, by rw [hr]; exact Nat.one_pos⟩ = 2048 := rfl
    rw [Ideal.matmul_apply, ← Equiv.sum_comp (contrEquiv1 _ 2048 hr hs).symm]
    refine congrArg (acc (ix2 a b) + ·) (Finset.sum_congr rfl fun k _ => ?_)
    have hk := contrEquiv1_symm_val _ 2048 hr hs k
    have el : dot_S2048x1024_S2048x1024_S1024x1024_0_0_1_1_n_n.lhsIdx (ix2 a b) ((contrEquiv1 _ 2048 hr hs).symm k) = ix2 k a := by
      funext z; apply Fin.ext
      match z with
      | ⟨0, _⟩ => exact hk
      | ⟨1, _⟩ => rfl
    have er : dot_S2048x1024_S2048x1024_S1024x1024_0_0_1_1_n_n.rhsIdx (ix2 a b) ((contrEquiv1 _ 2048 hr hs).symm k) = ix2 k b := by
      funext z; apply Fin.ext
      match z with
      | ⟨0, _⟩ => exact hk
      | ⟨1, _⟩ => rfl
    rw [el, er]
  refine (e _).trans ?_
  rw [show (constant (F := Ideal) S1024x1024 .f32 0x00000000#32 : FVec Ideal S1024x1024 .f32) (ix2 a b) = 0 from Ideal.ofBits_zero_f32, zero_add]

theorem same {s : Shape} {φ : FTy} (x : FVec Ideal s φ) (h : s.ShapeCasts s) : shapeCast s x h = x :=
  funext fun i => shapeCast_apply _ _ _ _ rfl

theorem pay1 (a d : Fin 1024) : k0_pay1 (F := Ideal) (ix2 a d) = 0 := by
  unfold k0_pay1
  exact (congrFun (same _ _) (ix2 a d)).trans Ideal.ofBits_zero_f32

theorem pay2 (s : Vec Ideal S1024x1024 .f32) (x : Vec Ideal S2048x1024 .bf16) (y : Vec Ideal S2048x1024 .f32) (a d : Fin 1024) :
    k0_pay2 s x y (ix2 a d) = s (ix2 a d) + ∑ k : Fin 2048, x (ix2 k a) * y (ix2 k d) := by
  unfold k0_pay2
  refine (congrFun (same (φ := .f32) _ _) (ix2 a d)).trans ?_
  refine congrArg (s (ix2 a d) + ·) ((mm_tn _ _ a d).trans ?_)
  rw [same (φ := .bf16) x]; rfl

theorem pay3 (s : Vec Ideal S1024x1024 .f32) (a d : Fin 1024) : k0_pay3 s (ix3 (0 : Fin 1) a d) = s (ix2 a d) := by
  unfold k0_pay3
  refine (shapeCast_apply _ _ _ (ix2 a d) ?_).trans rfl
  rw [Shape.rowMajor_val_two, Shape.rowMajor_val_three]
  show a.val * 1024 + d.val = (0 * 1024 + a.val) * 1024 + d.val
  omega

/-! ## What a point leaves -/

theorem hz2 : (![0, 0] : Fin 2 → Nat) = fun _ => 0 := funext fun a => by fin_cases a <;> rfl
theorem hz3 : (![0, 0, 0] : Fin 3 → Nat) = fun _ => 0 := funext fun a => by fin_cases a <;> rfl

section Open
variable {F : FTy → Type} [FloatOps F] (c : Dev nD) (i : grid0.Coords)
  (a3 : Memref sig .tc .vmem S2048x1024 .bf16) (h3 : a3.IsWhole)
  (a4 : Memref sig .tc .vmem S2048x1024 .f32) (h4 : a4.IsWhole)
  (a5 : Memref sig .tc .vmem S1x1024x1024 .bf16) (h5 : a5.IsWhole)
  (a6 : Memref sig .tc .vmem S1024x1024 .f32) (h6 : a6.IsWhole)
  (x0 : Vec F S2048x1024 .bf16) (x1 : Vec F S2048x1024 .f32) (xs0 : Vec F S1024x1024 .f32)

/-- A first point leaves in the scratch zero with its product added. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, h6.read_unread, View.ld_unit_zero (S := S1024x1024) hz2, View.ld_unit_zero (S := S2048x1024) hz2]

/-- A last point leaves in the output's block the scratch with its product added. -/
theorem out_B (hc0 : ¬cond0_0 i) (hc1 : cond0_1 i) :
    out0_B_2 c i a3 h3 a4 h4 a5 h5 a6 h6 hc0 hc1 x0 x1 xs0 = k0_pay3 (k0_pay2 xs0 x0 x1) := by
  unfold out0_B_2
  rw [View.read_writes_eq_canon _ _ _ (cover0_B_2 c i a3 h3 a4 h4 a5 h5 a6 h6 hc0 hc1 x0 x1 xs0)]
  unfold kernelRun0_B
  dsimp only
  sl_unfold_words
  rw [View.canon_unit_zero hz3, View.readCov_unit_zero (S := S1024x1024) _ hz2]
  simp only [View.readAt_eq_ld, h3.read_unread, h4.read_unread, h6.read_unread, View.ld_unit_zero (S := S1024x1024) hz2, View.ld_unit_zero (S := S2048x1024) hz2]
end Open

/-! ## What a point reads -/

variable (m : (ℓ : Loc nD τ sig) → Buf (Elt Ideal) ℓ) (c : Dev nD)

theorem lt8 (t : Fin cfg0.N) : t.val < 8 := lt_of_lt_of_eq t.isLt (show cfg0.N = 8 from N_0)

/-- Row `p` of the `k`-th half of the rows, and place `d` of the `j`-th block of 1024. -/
def atR (k : ℕ) (p : Fin 2048) : Fin 4096 := ⟨(k * 2048 + p.val) % 4096, Nat.mod_lt _ (by decide)⟩
def atC (j : ℕ) (d : Fin 1024) : Fin 4096 := ⟨(j * 1024 + d.val) % 4096, Nat.mod_lt _ (by decide)⟩

theorem atR_val {k : ℕ} (h : k < 2) (p : Fin 2048) : (atR k p).val = k * 2048 + p.val := Nat.mod_eq_of_lt (by omega)
theorem atC_val {j : ℕ} (h : j < 4) (d : Fin 1024) : (atC j d).val = j * 1024 + d.val := Nat.mod_eq_of_lt (by omega)

theorem idx0 : ∀ t : Fin grid0.N, win0_0.index t = ![t.val % 2, t.val / 2] := by decide +kernel
theorem idx1 : ∀ t : Fin grid0.N, win0_1.index t = ![t.val % 2, 0] := by decide +kernel

/-- The two operands' numbers. -/
def lhs (q : Fin 4096) (f : Fin 4096) : EReal := V m c main_v2 (ix2 q f)
def rhs (q : Fin 4096) (d : Fin 1024) : EReal := V m c main_arg1 (ix2 q d)

theorem blk0 (t : Fin cfg0.N) (p : Fin 2048) (a : Fin 1024) :
    iblk m c 0 t (ix2 p a) = lhs m c (atR (t.val % 2) p) (atC (t.val / 2) a) := by
  have ht := lt8 t
  refine congrArg (V m c main_v2) (show ((cfg0.win 0).blk t).view.emb (ix2 p a) = ix2 (atR (t.val % 2) p) (atC (t.val / 2) a) from ?_)
  funext b; apply Fin.ext
  blk_simp [idx0]
  match b with
  | ⟨0, _⟩ => show t.val % 2 * 2048 + p.val = (atR (t.val % 2) p).val; rw [atR_val (by omega)]
  | ⟨1, _⟩ => show t.val / 2 * 1024 + a.val = (atC (t.val / 2) a).val; rw [atC_val (by omega)]

theorem blk1 (t : Fin cfg0.N) (p : Fin 2048) (d : Fin 1024) :
    iblk m c 1 t (ix2 p d) = rhs m c (atR (t.val % 2) p) d := by
  refine congrArg (V m c main_arg1) (show ((cfg0.win 1).blk t).view.emb (ix2 p d) = ix2 (atR (t.val % 2) p) d from ?_)
  funext b; apply Fin.ext
  blk_simp [idx1]
  match b with
  | ⟨0, _⟩ => show t.val % 2 * 2048 + p.val = (atR (t.val % 2) p).val; rw [atR_val (by omega)]
  | ⟨1, _⟩ => show 0 * 1024 + d.val = d.val; omega

/-! ## The two points of a block -/

/-- A sum over all rows is the sum over the two halves. -/
theorem halves (h : Fin 4096 → EReal) : (0 + ∑ p, h (atR 0 p)) + ∑ p, h (atR 1 p) = ∑ q, h q := by
  rw [zero_add, ← (finProdFinEquiv (m := 2) (n := 2048)).sum_comp h, Fintype.sum_prod_type, Fin.sum_univ_two]
  refine congrArg₂ (· + ·) (Finset.sum_congr rfl fun p _ => congrArg h (Fin.ext ?_)) (Finset.sum_congr rfl fun p _ => congrArg h (Fin.ext ?_))
  · rw [atR_val (by decide)]; show 0 * 2048 + p.val = p.val + 2048 * 0; omega
  · rw [atR_val (by decide)]; show 1 * 2048 + p.val = p.val + 2048 * 1; omega

/-- After a block's second point the output's block holds the sum over all rows. -/
theorem block (t : Fin cfg0.N) (h : t.val % 2 = 1) (a d : Fin 1024) :
    ((outsAt0 m c t.val t.isLt).1 (ix3 (0 : Fin 1) a d) : EReal)
      = ∑ q : Fin 4096, lhs m c q (atC (t.val / 2) a) * rhs m c q d := by
  have ht := lt8 t
  have hp : t.val - 1 < cfg0.N := Nat.lt_of_le_of_lt (Nat.sub_le _ _) t.isLt
  have hprev : (outsAt0 m c (t.val - 1) hp).2 = k0_pay2 k0_pay1 (iblk m c 0 ⟨t.val - 1, hp⟩) (iblk m c 1 ⟨t.val - 1, hp⟩) := by
    have := outsAt0_A m c ⟨t.val - 1, hp⟩ (by show (t.val - 1) % 2 = 0; omega) (by show ¬(t.val - 1) % 2 = 1; omega)
    rw [show outsAt0 m c (t.val - 1) hp = _ from this]
    dsimp only
    rw [sout_A]
  rw [outsAt0_B m c t (by omega) h]
  dsimp only
  rw [out_B, pay3, pay2, hprev, pay2, pay1, ← halves (fun q => lhs m c q (atC (t.val / 2) a) * rhs m c q d)]
  refine congrArg₂ (· + ·) (congrArg (0 + ·) (Finset.sum_congr rfl fun p _ => ?_)) (Finset.sum_congr rfl fun p _ => ?_)
  · rw [blk0, blk1, show (⟨t.val - 1, hp⟩ : Fin cfg0.N).val % 2 = 0 by show (t.val - 1) % 2 = 0; omega, show (⟨t.val - 1, hp⟩ : Fin cfg0.N).val / 2 = t.val / 2 by show (t.val - 1) / 2 = t.val / 2; omega]
  · rw [blk0, blk1, h]

/-- A place in its block. -/
def inBlk (f : Fin 4096) : Fin 1024 := ⟨f.val % 1024, Nat.mod_lt _ (by decide)⟩

/-- The kernel's result array, element by element. -/
theorem result (o : Fin 1) (f : Fin 4096) (d : Fin 1024) :
    (G2 m c (ix3 o f d) : EReal) = ∑ q : Fin 4096, lhs m c q f * rhs m c q d := by
  have ho := o.isLt
  have hf := f.isLt
  have hp : pt2Of (ix3 o f d) = 2 * (f.val / 1024) + 1 := by
    show 2 * (4 * (o.val / 1 - 0) + 1 * (f.val / 1024 - 0) + 1 * (d.val / 1024 - 0)) + 1 = _
    omega
  have hlt : pt2Of (ix3 o f d) < cfg0.N := by rw [hp]; exact lt_of_lt_of_eq (by omega) N_0.symm
  have hl : loc2Of (ix3 o f d) = ix3 (0 : Fin 1) (inBlk f) d := by
    funext b; apply Fin.ext
    match b with
    | ⟨0, _⟩ => exact Nat.mod_one _
    | ⟨1, _⟩ => rfl
    | ⟨2, _⟩ => exact Nat.mod_eq_of_lt d.isLt
  unfold G2
  rw [dif_pos hlt, ← outsAt0_sweep m c _ hlt, hl]
  refine (block m c ⟨_, hlt⟩ (by show pt2Of (ix3 o f d) % 2 = 1; omega) (inBlk f) d).trans ?_
  rw [show (⟨pt2Of (ix3 o f d), hlt⟩ : Fin cfg0.N).val / 2 = f.val / 1024 by show pt2Of (ix3 o f d) / 2 = f.val / 1024; omega]
  rw [show atC (f.val / 1024) (inBlk f) = f from Fin.ext (by
    rw [atC_val (by omega)]; show f.val / 1024 * 1024 + f.val % 1024 = f.val; omega)]

end Cert.Weight4

end
-- ==== Proof.Weight4.Equal.lean ====
/- The kernel for the second MLP weight's gradient and its reference end with equal results. -/
module

public import proofs.«01_k».proof.Proof.Gen.Reference4Ideal.Run
public import proofs.«01_k».proof.Proof.Gen.Reference4Ideal.Read
public import proofs.«01_k».proof.Proof.Weight4.Point
public import Idealize.ShloMosaic.Lib.StableHlo.Run

@[expose] public section

set_option maxRecDepth 16384

noncomputable section

namespace Cert.Weight4

open Idealize.ShloMosaic hiding ix1 ix2 ix3 eq_ix2 eq_ix3
open Idealize.ShloMosaic.TcCoe Idealize.ShloMosaic.ValueIdx Idealize.SL.Sem Idealize.ShloMosaic.StableHlo
open Cert.Kernel4Ideal Cert.Kernel4Ideal.Gen
open Cert.Reference4Ideal.Read

variable (m : (ℓ : Loc nD τ sig) → Buf (Elt Ideal) ℓ) (c : Dev nD)

theorem V_ops (b : Ref sig .tc) : V m c b = StableHlo.after (List.flatten [hostOps0, hostOps0_1]) (fun b => m (c, b)) b := by
  unfold V; rfl

set_option maxHeartbeats 4000000 in
/-- The activations that the host saves are the ones that the reference computes: over the reals a cast changes nothing. -/
theorem V_2 : V m c main_v2 = val_main_v2 (F := Ideal) (m ((c.tc : Thread nD τ).loc main_arg0)) := by
  rw [V_ops]
  simp only [hostOps0, hostOps0_1, List.flatten_cons, List.flatten_nil, List.cons_append, List.nil_append, TRef.binary, TRef.nullary, TRef.unary, TRef.toBuf, TRef.ofBuf, cast_eq]
  after_results_simp <;> rfl

set_option maxHeartbeats 4000000 in
theorem V_a1 : V m c main_arg1 = m ((c.tc : Thread nD τ).loc main_arg1) := by
  rw [V_ops]
  simp only [hostOps0, hostOps0_1, List.flatten_cons, List.flatten_nil, List.cons_append, List.nil_append, TRef.binary, TRef.nullary, TRef.unary, TRef.toBuf, TRef.ofBuf, cast_eq]
  after_results_simp <;> rfl

/-- The reference's result, element by element: a product over the tokens. -/
theorem ref_result (z : (⟨S4096x4096, .f32⟩ : BufTy).Contents (Elt Ideal)) (dy : (⟨S4096x1024, .f32⟩ : BufTy).Contents (Elt Ideal))
    (o : Fin 1) (f : Fin 4096) (d : Fin 1024) :
    (val_main_v7 (F := Ideal) z dy (ix3 o f d) : EReal)
      = ∑ q : Fin 4096, dy (ix2 q d) * val_main_v2 (F := Ideal) z (ix2 q f) := by
  rw [val_main_v7_apply, val_main_v6_apply]
  show val_main_v5 (F := Ideal) z dy _ = _
  rw [val_main_v5_apply, val_main_v4_apply]
  refine Finset.sum_congr rfl fun q _ => congrArg₂ (· * ·) ?_ ?_
  · refine congrArg dy (funext fun b => Fin.ext ?_)
    match b with
    | ⟨0, _⟩ => rfl
    | ⟨1, _⟩ => rfl
  · refine congrArg (val_main_v2 (F := Ideal) z) (funext fun b => Fin.ext ?_)
    match b with
    | ⟨0, _⟩ => rfl
    | ⟨1, _⟩ => rfl

end Cert.Weight4

namespace Cert.Proof

open Idealize.ShloMosaic hiding ix1 ix2 ix3 eq_ix2 eq_ix3
open Idealize.ShloMosaic.ValueIdx Idealize.SL.Sem

/-- From equal arguments the kernel's array ends at the reference's values. -/
theorem equal4 : Cert.algebraic_Kernel4Ideal_Reference4Ideal (hKernel4Ideal := Cert.Kernel4Ideal.Gen.facts)
    (hReference4Ideal := Cert.Reference4Ideal.Gen.facts) := by
  intro m g m' g' hpre hargs
  refine ⟨_, ?_, Cert.Reference4Ideal.Value.run (F := Ideal) m' g'⟩
  refine (θ_run Cert.Kernel4Ideal.defs _ _).mono (fun r h c => ?_) (Cert.Kernel4Ideal.Value.run m g)
  obtain ⟨h0, ha⟩ := h c
  refine ⟨h0.trans ?_, ha⟩
  funext i
  obtain ⟨o, f, d, rfl⟩ : ∃ o f d, i = ix3 o f d := ⟨i 0, i 1, i 2, eq_ix3 i⟩
  refine (Cert.Weight4.result m c o f d).trans ((congrFun (Cert.Reference4Ideal.Read.val_main_v7_eq _ _) _).trans
    ((Cert.Weight4.ref_result _ _ o f d).trans ?_)).symm
  refine Finset.sum_congr rfl fun q _ => ?_
  unfold Cert.Weight4.lhs Cert.Weight4.rhs
  rw [Cert.Weight4.V_2, Cert.Weight4.V_a1, (hargs c).1, (hargs c).2]
  exact EReal.mul_comm _ _

end Cert.Proof

end
-- ==== Proof.Weight5.Point.lean ====
/- The kernel for the input projection's weight's gradient at one grid point: what the point reads, and what it leaves in the
   scratch and in the output's block. -/
module

public import proofs.«01_k».proof.Defs
public import proofs.«01_k».proof.Proof.Gen.Kernel5Ideal.Value
public import Idealize.ShloMosaic.Lib.Pipeline.Value
public import Idealize.ShloMosaic.Lib.Pipeline.ValueKit
public import Idealize.ShloMosaic.Lib.Tactic
public import Idealize.ShloMosaic.Lib.ValueIdx
public import Idealize.ShloMosaic.Lib.WritesUnit
public import Idealize.ShloMosaic.PureOps.Ideal.Laws

@[expose] public section

set_option maxRecDepth 16384

noncomputable section

namespace Cert.Weight5

open Idealize.ShloMosaic hiding ix1 ix2 ix3 eq_ix2 eq_ix3
open Idealize.ShloMosaic.TcCoe Idealize.ShloMosaic.ValueIdx Idealize.SL.Sem Cert.Kernel5Ideal Cert.Kernel5Ideal.Gen Cert.Kernel5Ideal.Value
open scoped BigOperators

/-! ## The body's arithmetic -/

/-- The product of two operands over the first axis of both. -/
theorem mm_tn (x : FVec Ideal S2048x1024 .bf16) (y : FVec Ideal S2048x896 .bf16) (a : Fin 1024) (b : Fin 896) :
    matmul dot_S2048x1024_S2048x896_S1024x896_0_0_1_1_n_n none x y (constant S1024x896 .f32 0x00000000#32) (ix2 a b)
      = ∑ k : Fin 2048, x (ix2 k a) * y (ix2 k b) := by
  have e : ∀ acc : FVec Ideal S1024x896 .f32, FloatOps.matmul dot_S2048x1024_S2048x896_S1024x896_0_0_1_1_n_n none x y acc (ix2 a b)
      = acc (ix2 a b) + ∑ k : Fin 2048, x (ix2 k a) * y (ix2 k b) := fun acc => by
    have hr : dot_S2048x1024_S2048x896_S1024x896_0_0_1_1_n_n.contr.rank = 1 := rfl
    have hs : dot_S2048x1024_S2048x896_S1024x896_0_0_1_1_n_n.contr.size ⟨0, by rw [hr]; exact Nat.one_pos⟩ = 2048 := rfl
    rw [Ideal.matmul_apply, ← Equiv.sum_comp (contrEquiv1 _ 2048 hr hs).symm]
    refine congrArg (acc (ix2 a b) + ·) (Finset.sum_congr rfl fun k _ => ?_)
    have hk := contrEquiv1_symm_val _ 2048 hr hs k
    have el : dot_S2048x1024_S2048x896_S1024x896_0_0_1_1_n_n.lhsIdx (ix2 a b) ((contrEquiv1 _ 2048 hr hs).symm k) = ix2 k a := by
      funext z; apply Fin.ext
      match z with
      | ⟨0, _⟩ => exact hk
      | ⟨1, _⟩ => rfl
    have er : dot_S2048x1024_S2048x896_S1024x896_0_0_1_1_n_n.rhsIdx (ix2 a b) ((contrEquiv1 _ 2048 hr hs).symm k) = ix2 k b := by
      funext z; apply Fin.ext
      match z with
      | ⟨0, _⟩ => exact hk
      | ⟨1, _⟩ => rfl
    rw [el, er]
  refine (e _).trans ?_
  rw [show (constant (F := Ideal) S1024x896 .f32 0x00000000#32 : FVec Ideal S1024x896 .f32) (ix2 a b) = 0 from Ideal.ofBits_zero_f32, zero_add]

theorem same {s : Shape} {φ : FTy} (x : FVec Ideal s φ) (h : s.ShapeCasts s) : shapeCast s x h = x :=
  funext fun i => shapeCast_apply _ _ _ _ rfl

theorem pay1 (a : Fin 1024) (d : Fin 896) : k0_pay1 (F := Ideal) (ix2 a d) = 0 := by
  unfold k0_pay1
  exact (congrFun (same _ _) (ix2 a d)).trans Ideal.ofBits_zero_f32

theorem pay2 (s : Vec Ideal S1024x896 .f32) (x : Vec Ideal S2048x1024 .bf16) (y : Vec Ideal S2048x896 .bf16) (a : Fin 1024) (d : Fin 896) :
    k0_pay2 s x y (ix2 a d) = s (ix2 a d) + ∑ k : Fin 2048, x (ix2 k a) * y (ix2 k d) := by
  unfold k0_pay2
  refine (congrFun (same (φ := .f32) _ _) (ix2 a d)).trans ?_
  refine congrArg (s (ix2 a d) + ·) ((mm_tn _ _ a d).trans ?_)
  rw [same (φ := .bf16) x]

theorem pay3 (s : Vec Ideal S1024x896 .f32) (a : Fin 1024) (d : Fin 896) : k0_pay3 s (ix3 (0 : Fin 1) a d) = s (ix2 a d) := by
  unfold k0_pay3
  refine (shapeCast_apply _ _ _ (ix2 a d) ?_).trans rfl
  rw [Shape.rowMajor_val_two, Shape.rowMajor_val_three]
  show a.val * 896 + d.val = (0 * 1024 + a.val) * 896 + d.val
  omega

/-! ## What a point leaves -/

theorem hz2 : (![0, 0] : Fin 2 → Nat) = fun _ => 0 := funext fun a => by fin_cases a <;> rfl
theorem hz3 : (![0, 0, 0] : Fin 3 → Nat) = fun _ => 0 := funext fun a => by fin_cases a <;> rfl

section Open
variable {F : FTy → Type} [FloatOps F] (c : Dev nD) (i : grid0.Coords)
  (a3 : Memref sig .tc .vmem S2048x1024 .bf16) (h3 : a3.IsWhole)
  (a4 : Memref sig .tc .vmem S2048x896 .bf16) (h4 : a4.IsWhole)
  (a5 : Memref sig .tc .vmem S1x1024x896 .bf16) (h5 : a5.IsWhole)
  (a6 : Memref sig .tc .vmem S1024x896 .f32) (h6 : a6.IsWhole)
  (x0 : Vec F S2048x1024 .bf16) (x1 : Vec F S2048x896 .bf16) (xs0 : Vec F S1024x896 .f32)

/-- A first point leaves in the scratch zero with its product added. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x896) hz2, View.readCov_unit_zero (S := S1024x896) _ hz2]
  simp only [View.readAt_eq_ld, h3.read_unread, h4.read_unread, h6.read_unread, View.ld_unit_zero (S := S1024x896) hz2, View.ld_unit_zero (S := S2048x1024) hz2, View.ld_unit_zero (S := S2048x896) hz2]

/-- A last point leaves in the output's block the scratch with its product added. -/
theorem out_B (hc0 : ¬cond0_0 i) (hc1 : cond0_1 i) :
    out0_B_2 c i a3 h3 a4 h4 a5 h5 a6 h6 hc0 hc1 x0 x1 xs0 = k0_pay3 (k0_pay2 xs0 x0 x1) := by
  unfold out0_B_2
  rw [View.read_writes_eq_canon _ _ _ (cover0_B_2 c i a3 h3 a4 h4 a5 h5 a6 h6 hc0 hc1 x0 x1 xs0)]
  unfold kernelRun0_B
  dsimp only
  sl_unfold_words
  rw [View.canon_unit_zero hz3, View.readCov_unit_zero (S := S1024x896) _ hz2]
  simp only [View.readAt_eq_ld, h3.read_unread, h4.read_unread, h6.read_unread, View.ld_unit_zero (S := S1024x896) hz2, View.ld_unit_zero (S := S2048x1024) hz2, View.ld_unit_zero (S := S2048x896) hz2]
end Open

/-! ## What a point reads -/

variable (m : (ℓ : Loc nD τ sig) → Buf (Elt Ideal) ℓ) (c : Dev nD)

theorem lt6 (t : Fin cfg0.N) : t.val < 6 := lt_of_lt_of_eq t.isLt (show cfg0.N = 6 from N_0)

/-- Row `p` of the `k`-th half of the rows, and column `d` of the `j`-th block of 896. -/
def atR (k : ℕ) (p : Fin 2048) : Fin 4096 := ⟨(k * 2048 + p.val) % 4096, Nat.mod_lt _ (by decide)⟩
def atC (j : ℕ) (d : Fin 896) : Fin 2688 := ⟨(j * 896 + d.val) % 2688, Nat.mod_lt _ (by decide)⟩

theorem atR_val {k : ℕ} (h : k < 2) (p : Fin 2048) : (atR k p).val = k * 2048 + p.val := Nat.mod_eq_of_lt (by omega)
theorem atC_val {j : ℕ} (h : j < 3) (d : Fin 896) : (atC j d).val = j * 896 + d.val := Nat.mod_eq_of_lt (by omega)

theorem idx0 : ∀ t : Fin grid0.N, win0_0.index t = ![t.val % 2, 0] := by decide +kernel
theorem idx1 : ∀ t : Fin grid0.N, win0_1.index t = ![t.val % 2, t.val / 2] := by decide +kernel

/-- The two operands' numbers. -/
def lhs (q : Fin 4096) (a : Fin 1024) : EReal := V m c main_v13 (ix2 q a)
def rhs (q : Fin 4096) (f : Fin 2688) : EReal := V m c main_arg2 (ix2 q f)

theorem blk0 (t : Fin cfg0.N) (p : Fin 2048) (a : Fin 1024) :
    iblk m c 0 t (ix2 p a) = lhs m c (atR (t.val % 2) p) a := by
  refine congrArg (V m c main_v13) (show ((cfg0.win 0).blk t).view.emb (ix2 p a) = ix2 (atR (t.val % 2) p) a from ?_)
  funext b; apply Fin.ext
  blk_simp [idx0]
  match b with
  | ⟨0, _⟩ => show t.val % 2 * 2048 + p.val = (atR (t.val % 2) p).val; rw [atR_val (by omega)]
  | ⟨1, _⟩ => show 0 * 1024 + a.val = a.val; omega

theorem blk1 (t : Fin cfg0.N) (p : Fin 2048) (d : Fin 896) :
    iblk m c 1 t (ix2 p d) = rhs m c (atR (t.val % 2) p) (atC (t.val / 2) d) := by
  have ht := lt6 t
  refine congrArg (V m c main_arg2) (show ((cfg0.win 1).blk t).view.emb (ix2 p d) = ix2 (atR (t.val % 2) p) (atC (t.val / 2) d) from ?_)
  funext b; apply Fin.ext
  blk_simp [idx1]
  match b with
  | ⟨0, _⟩ => show t.val % 2 * 2048 + p.val = (atR (t.val % 2) p).val; rw [atR_val (by omega)]
  | ⟨1, _⟩ => show t.val / 2 * 896 + d.val = (atC (t.val / 2) d).val; rw [atC_val (by omega)]

/-! ## The two points of a block -/

/-- A sum over all rows is the sum over the two halves. -/
theorem halves (h : Fin 4096 → EReal) : (0 + ∑ p, h (atR 0 p)) + ∑ p, h (atR 1 p) = ∑ q, h q := by
  rw [zero_add, ← (finProdFinEquiv (m := 2) (n := 2048)).sum_comp h, Fintype.sum_prod_type, Fin.sum_univ_two]
  refine congrArg₂ (· + ·) (Finset.sum_congr rfl fun p _ => congrArg h (Fin.ext ?_)) (Finset.sum_congr rfl fun p _ => congrArg h (Fin.ext ?_))
  · rw [atR_val (by decide)]; show 0 * 2048 + p.val = p.val + 2048 * 0; omega
  · rw [atR_val (by decide)]; show 1 * 2048 + p.val = p.val + 2048 * 1; omega

/-- After a block's second point the output's block holds the sum over all rows. -/
theorem block (t : Fin cfg0.N) (h : t.val % 2 = 1) (a : Fin 1024) (d : Fin 896) :
    ((outsAt0 m c t.val t.isLt).1 (ix3 (0 : Fin 1) a d) : EReal)
      = ∑ q : Fin 4096, lhs m c q a * rhs m c q (atC (t.val / 2) d) := by
  have ht := lt6 t
  have hp : t.val - 1 < cfg0.N := Nat.lt_of_le_of_lt (Nat.sub_le _ _) t.isLt
  have hprev : (outsAt0 m c (t.val - 1) hp).2 = k0_pay2 k0_pay1 (iblk m c 0 ⟨t.val - 1, hp⟩) (iblk m c 1 ⟨t.val - 1, hp⟩) := by
    have := outsAt0_A m c ⟨t.val - 1, hp⟩ (by show (t.val - 1) % 2 = 0; omega) (by show ¬(t.val - 1) % 2 = 1; omega)
    rw [show outsAt0 m c (t.val - 1) hp = _ from this]
    dsimp only
    rw [sout_A]
  rw [outsAt0_B m c t (by omega) h]
  dsimp only
  rw [out_B, pay3, pay2, hprev, pay2, pay1, ← halves (fun q => lhs m c q a * rhs m c q (atC (t.val / 2) d))]
  refine congrArg₂ (· + ·) (congrArg (0 + ·) (Finset.sum_congr rfl fun p _ => ?_)) (Finset.sum_congr rfl fun p _ => ?_)
  · rw [blk0, blk1, show (⟨t.val - 1, hp⟩ : Fin cfg0.N).val % 2 = 0 by show (t.val - 1) % 2 = 0; omega, show (⟨t.val - 1, hp⟩ : Fin cfg0.N).val / 2 = t.val / 2 by show (t.val - 1) / 2 = t.val / 2; omega]
  · rw [blk0, blk1, h]

/-- A column in its block. -/
def inBlk (f : Fin 2688) : Fin 896 := ⟨f.val % 896, Nat.mod_lt _ (by decide)⟩

/-- The kernel's result array, element by element. -/
theorem result (o : Fin 1) (a : Fin 1024) (f : Fin 2688) :
    (G2 m c (ix3 o a f) : EReal) = ∑ q : Fin 4096, lhs m c q a * rhs m c q f := by
  have ho := o.isLt
  have hf := f.isLt
  have hp : pt2Of (ix3 o a f) = 2 * (f.val / 896) + 1 := by
    show 2 * (3 * (o.val / 1 - 0) + 3 * (a.val / 1024 - 0) + 1 * (f.val / 896 - 0)) + 1 = _
    omega
  have hlt : pt2Of (ix3 o a f) < cfg0.N := by rw [hp]; exact lt_of_lt_of_eq (by omega) N_0.symm
  have hl : loc2Of (ix3 o a f) = ix3 (0 : Fin 1) a (inBlk f) := by
    funext b; apply Fin.ext
    match b with
    | ⟨0, _⟩ => exact Nat.mod_one _
    | ⟨1, _⟩ => exact Nat.mod_eq_of_lt a.isLt
    | ⟨2, _⟩ => rfl
  unfold G2
  rw [dif_pos hlt, ← outsAt0_sweep m c _ hlt, hl]
  refine (block m c ⟨_, hlt⟩ (by show pt2Of (ix3 o a f) % 2 = 1; omega) a (inBlk f)).trans ?_
  rw [show (⟨pt2Of (ix3 o a f), hlt⟩ : Fin cfg0.N).val / 2 = f.val / 896 by show pt2Of (ix3 o a f) / 2 = f.val / 896; omega]
  rw [show atC (f.val / 896) (inBlk f) = f from Fin.ext (by
    rw [atC_val (by omega)]; show f.val / 896 * 896 + f.val % 896 = f.val; omega)]

end Cert.Weight5

end
-- ==== Proof.Weight5.Equal.lean ====
/- The kernel for the input projection's weight's gradient and its reference end with equal results. -/
module

public import proofs.«01_k».proof.Proof.Gen.Reference5Ideal.Run
public import proofs.«01_k».proof.Proof.Gen.Reference5Ideal.Read
public import proofs.«01_k».proof.Proof.Weight5.Point
public import Idealize.ShloMosaic.Lib.StableHlo.Run

@[expose] public section

set_option maxRecDepth 16384

noncomputable section

namespace Cert.Weight5

open Idealize.ShloMosaic hiding ix1 ix2 ix3 eq_ix2 eq_ix3
open Idealize.ShloMosaic.TcCoe Idealize.ShloMosaic.ValueIdx Idealize.SL.Sem Idealize.ShloMosaic.StableHlo
open Cert.Kernel5Ideal Cert.Kernel5Ideal.Gen
open Cert.Reference5Ideal.Read

variable (m : (ℓ : Loc nD τ sig) → Buf (Elt Ideal) ℓ) (c : Dev nD)

theorem V_ops (b : Ref sig .tc) : V m c b = StableHlo.after hostOps0 (fun b => m (c, b)) b := by
  unfold V; rfl

set_option maxHeartbeats 4000000 in
/-- The scaled normalised rows that the host saves are the ones that the reference computes: over the reals a cast changes nothing. -/
theorem V_13 : V m c main_v13
    = val_main_v13 (F := Ideal) (m ((c.tc : Thread nD τ).loc main_arg0)) (m ((c.tc : Thread nD τ).loc main_arg1)) := by
  rw [V_ops]; simp only [hostOps0]; after_results_simp <;> rfl

set_option maxHeartbeats 4000000 in
theorem V_a2 : V m c main_arg2 = m ((c.tc : Thread nD τ).loc main_arg2) := by
  rw [V_ops]; simp only [hostOps0]; after_results_simp <;> rfl

/-- The reference's result, element by element: a product over the tokens. -/
theorem ref_result (x : (⟨S4096x1024, .f32⟩ : BufTy).Contents (Elt Ideal)) (g : (⟨S1024, .f32⟩ : BufTy).Contents (Elt Ideal))
    (z : (⟨S4096x2688, .bf16⟩ : BufTy).Contents (Elt Ideal)) (o : Fin 1) (a : Fin 1024) (f : Fin 2688) :
    (val_main_v19 (F := Ideal) x g z (ix3 o a f) : EReal)
      = ∑ q : Fin 4096, z (ix2 q f) * val_main_v13 (F := Ideal) x g (ix2 q a) := by
  rw [val_main_v19_apply, val_main_v18_apply]
  show val_main_v17 (F := Ideal) x g z _ = _
  rw [val_main_v17_apply, val_main_v16_apply]
  refine Finset.sum_congr rfl fun q _ => congrArg₂ (· * ·) ?_ ?_
  · refine congrArg z (funext fun b => Fin.ext ?_)
    match b with
    | ⟨0, _⟩ => rfl
    | ⟨1, _⟩ => rfl
  · refine congrArg (val_main_v13 (F := Ideal) x g) (funext fun b => Fin.ext ?_)
    match b with
    | ⟨0, _⟩ => rfl
    | ⟨1, _⟩ => rfl

end Cert.Weight5

namespace Cert.Proof

open Idealize.ShloMosaic hiding ix1 ix2 ix3 eq_ix2 eq_ix3
open Idealize.ShloMosaic.ValueIdx Idealize.SL.Sem

/-- From equal arguments the kernel's array ends at the reference's values. -/
theorem equal5 : Cert.algebraic_Kernel5Ideal_Reference5Ideal (hKernel5Ideal := Cert.Kernel5Ideal.Gen.facts)
    (hReference5Ideal := Cert.Reference5Ideal.Gen.facts) := by
  intro m g m' g' hpre hargs
  refine ⟨_, ?_, Cert.Reference5Ideal.Value.run (F := Ideal) m' g'⟩
  refine (θ_run Cert.Kernel5Ideal.defs _ _).mono (fun r h c => ?_) (Cert.Kernel5Ideal.Value.run m g)
  obtain ⟨h0, ha⟩ := h c
  refine ⟨h0.trans ?_, ha⟩
  funext i
  obtain ⟨o, a, f, rfl⟩ : ∃ o a f, i = ix3 o a f := ⟨i 0, i 1, i 2, eq_ix3 i⟩
  refine (Cert.Weight5.result m c o a f).trans ((congrFun (Cert.Reference5Ideal.Read.val_main_v19_eq _ _ _) _).trans
    ((Cert.Weight5.ref_result _ _ _ o a f).trans ?_)).symm
  refine Finset.sum_congr rfl fun q _ => ?_
  unfold Cert.Weight5.lhs Cert.Weight5.rhs
  rw [Cert.Weight5.V_13, Cert.Weight5.V_a2, (hargs c).1, (hargs c).2.1, (hargs c).2.2]
  exact EReal.mul_comm _ _

end Cert.Proof

end
-- ==== Proof.Weight3.Point.lean ====
/- The kernel for the first MLP weight's gradient at one grid point: what the point reads, and what it leaves in the
   scratch and in the output's block. -/
module

public import proofs.«01_k».proof.Defs
public import proofs.«01_k».proof.Proof.Gen.Kernel3Ideal.Value
public import Idealize.ShloMosaic.Lib.Pipeline.Value
public import Idealize.ShloMosaic.Lib.Pipeline.ValueKit
public import Idealize.ShloMosaic.Lib.Tactic
public import Idealize.ShloMosaic.Lib.ValueIdx
public import Idealize.ShloMosaic.Lib.WritesUnit
public import Idealize.ShloMosaic.PureOps.Ideal.Laws

@[expose] public section

set_option maxRecDepth 16384

noncomputable section

namespace Cert.Weight3

open Idealize.ShloMosaic hiding ix1 ix2 ix3 eq_ix2 eq_ix3
open Idealize.ShloMosaic.TcCoe Idealize.ShloMosaic.ValueIdx Idealize.SL.Sem Cert.Kernel3Ideal Cert.Kernel3Ideal.Gen Cert.Kernel3Ideal.Value
open scoped BigOperators

/-! ## The body's arithmetic -/

/-- The product of two operands over the first axis of both. -/
theorem mm_tn (x y : FVec Ideal S2048x1024 .bf16) (a b : Fin 1024) :
    matmul dot_S2048x1024_S2048x1024_S1024x1024_0_0_1_1_n_n none x y (constant S1024x1024 .f32 0x00000000#32) (ix2 a b)
      = ∑ k : Fin 2048, x (ix2 k a) * y (ix2 k b) := by
  have e : ∀ acc : FVec Ideal S1024x1024 .f32, FloatOps.matmul dot_S2048x1024_S2048x1024_S1024x1024_0_0_1_1_n_n none x y acc (ix2 a b)
      = acc (ix2 a b) + ∑ k : Fin 2048, x (ix2 k a) * y (ix2 k b) := fun acc => by
    have hr : dot_S2048x1024_S2048x1024_S1024x1024_0_0_1_1_n_n.contr.rank = 1 := rfl
    have hs : dot_S2048x1024_S2048x1024_S1024x1024_0_0_1_1_n_n.contr.size ⟨0, by rw [hr]; exact Nat.one_pos⟩ = 2048 := rfl
    rw [Ideal.matmul_apply, ← Equiv.sum_comp (contrEquiv1 _ 2048 hr hs).symm]
    refine congrArg (acc (ix2 a b) + ·) (Finset.sum_congr rfl fun k _ => ?_)
    have hk := contrEquiv1_symm_val _ 2048 hr hs k
    have el : dot_S2048x1024_S2048x1024_S1024x1024_0_0_1_1_n_n.lhsIdx (ix2 a b) ((contrEquiv1 _ 2048 hr hs).symm k) = ix2 k a := by
      funext z; apply Fin.ext
      match z with
      | ⟨0, _⟩ => exact hk
      | ⟨1, _⟩ => rfl
    have er : dot_S2048x1024_S2048x1024_S1024x1024_0_0_1_1_n_n.rhsIdx (ix2 a b) ((contrEquiv1 _ 2048 hr hs).symm k) = ix2 k b := by
      funext z; apply Fin.ext
      match z with
      | ⟨0, _⟩ => exact hk
      | ⟨1, _⟩ => rfl
    rw [el, er]
  refine (e _).trans ?_
  rw [show (constant (F := Ideal) S1024x1024 .f32 0x00000000#32 : FVec Ideal S1024x1024 .f32) (ix2 a b) = 0 from Ideal.ofBits_zero_f32, zero_add]

theorem same {s : Shape} {φ : FTy} (x : FVec Ideal s φ) (h : s.ShapeCasts s) : shapeCast s x h = x :=
  funext fun i => shapeCast_apply _ _ _ _ rfl

theorem pay1 (a d : Fin 1024) : k0_pay1 (F := Ideal) (ix2 a d) = 0 := by
  unfold k0_pay1
  exact (congrFun (same _ _) (ix2 a d)).trans Ideal.ofBits_zero_f32

theorem pay2 (s : Vec Ideal S1024x1024 .f32) (x : Vec Ideal S2048x1024 .bf16) (y : Vec Ideal S2048x1024 .bf16) (a d : Fin 1024) :
    k0_pay2 s x y (ix2 a d) = s (ix2 a d) + ∑ k : Fin 2048, x (ix2 k a) * y (ix2 k d) := by
  unfold k0_pay2
  refine (congrFun (same (φ := .f32) _ _) (ix2 a d)).trans ?_
  refine congrArg (s (ix2 a d) + ·) ((mm_tn _ _ a d).trans ?_)
  rw [same (φ := .bf16) x]

theorem pay3 (s : Vec Ideal S1024x1024 .f32) (a d : Fin 1024) : k0_pay3 s (ix3 (0 : Fin 1) a d) = s (ix2 a d) := by
  unfold k0_pay3
  refine (shapeCast_apply _ _ _ (ix2 a d) ?_).trans rfl
  rw [Shape.rowMajor_val_two, Shape.rowMajor_val_three]
  show a.val * 1024 + d.val = (0 * 1024 + a.val) * 1024 + d.val
  omega

/-! ## What a point leaves -/

theorem hz2 : (![0, 0] : Fin 2 → Nat) = fun _ => 0 := funext fun a => by fin_cases a <;> rfl
theorem hz3 : (![0, 0, 0] : Fin 3 → Nat) = fun _ => 0 := funext fun a => by fin_cases a <;> rfl

section Open
variable {F : FTy → Type} [FloatOps F] (c : Dev nD) (i : grid0.Coords)
  (a3 : Memref sig .tc .vmem S2048x1024 .bf16) (h3 : a3.IsWhole)
  (a4 : Memref sig .tc .vmem S2048x1024 .bf16) (h4 : a4.IsWhole)
  (a5 : Memref sig .tc .vmem S1x1024x1024 .bf16) (h5 : a5.IsWhole)
  (a6 : Memref sig .tc .vmem S1024x1024 .f32) (h6 : a6.IsWhole)
  (x0 : Vec F S2048x1024 .bf16) (x1 : Vec F S2048x1024 .bf16) (xs0 : Vec F S1024x1024 .f32)

/-- A first point leaves in the scratch zero with its product added. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, h6.read_unread, View.ld_unit_zero (S := S1024x1024) hz2, View.ld_unit_zero (S := S2048x1024) hz2]

/-- A last point leaves in the output's block the scratch with its product added. -/
theorem out_B (hc0 : ¬cond0_0 i) (hc1 : cond0_1 i) :
    out0_B_2 c i a3 h3 a4 h4 a5 h5 a6 h6 hc0 hc1 x0 x1 xs0 = k0_pay3 (k0_pay2 xs0 x0 x1) := by
  unfold out0_B_2
  rw [View.read_writes_eq_canon _ _ _ (cover0_B_2 c i a3 h3 a4 h4 a5 h5 a6 h6 hc0 hc1 x0 x1 xs0)]
  unfold kernelRun0_B
  dsimp only
  sl_unfold_words
  rw [View.canon_unit_zero hz3, View.readCov_unit_zero (S := S1024x1024) _ hz2]
  simp only [View.readAt_eq_ld, h3.read_unread, h4.read_unread, h6.read_unread, View.ld_unit_zero (S := S1024x1024) hz2, View.ld_unit_zero (S := S2048x1024) hz2]
end Open

/-! ## What a point reads -/

variable (m : (ℓ : Loc nD τ sig) → Buf (Elt Ideal) ℓ) (c : Dev nD)

theorem lt8 (t : Fin cfg0.N) : t.val < 8 := lt_of_lt_of_eq t.isLt (show cfg0.N = 8 from N_0)

/-- Row `p` of the `k`-th half of the rows, and place `d` of the `j`-th block of 1024. -/
def atR (k : ℕ) (p : Fin 2048) : Fin 4096 := ⟨(k * 2048 + p.val) % 4096, Nat.mod_lt _ (by decide)⟩
def atC (j : ℕ) (d : Fin 1024) : Fin 4096 := ⟨(j * 1024 + d.val) % 4096, Nat.mod_lt _ (by decide)⟩

theorem atR_val {k : ℕ} (h : k < 2) (p : Fin 2048) : (atR k p).val = k * 2048 + p.val := Nat.mod_eq_of_lt (by omega)
theorem atC_val {j : ℕ} (h : j < 4) (d : Fin 1024) : (atC j d).val = j * 1024 + d.val := Nat.mod_eq_of_lt (by omega)

theorem idx0 : ∀ t : Fin grid0.N, win0_0.index t = ![t.val % 2, 0] := by decide +kernel
theorem idx1 : ∀ t : Fin grid0.N, win0_1.index t = ![t.val % 2, t.val / 2] := by decide +kernel

/-- The two operands' numbers. -/
def lhs (q : Fin 4096) (a : Fin 1024) : EReal := V m c main_v13 (ix2 q a)
def rhs (q : Fin 4096) (f : Fin 4096) : EReal := V m c main_arg2 (ix2 q f)

theorem blk0 (t : Fin cfg0.N) (p : Fin 2048) (a : Fin 1024) :
    iblk m c 0 t (ix2 p a) = lhs m c (atR (t.val % 2) p) a := by
  refine congrArg (V m c main_v13) (show ((cfg0.win 0).blk t).view.emb (ix2 p a) = ix2 (atR (t.val % 2) p) a from ?_)
  funext b; apply Fin.ext
  blk_simp [idx0]
  match b with
  | ⟨0, _⟩ => show t.val % 2 * 2048 + p.val = (atR (t.val % 2) p).val; rw [atR_val (by omega)]
  | ⟨1, _⟩ => show 0 * 1024 + a.val = a.val; omega

theorem blk1 (t : Fin cfg0.N) (p : Fin 2048) (d : Fin 1024) :
    iblk m c 1 t (ix2 p d) = rhs m c (atR (t.val % 2) p) (atC (t.val / 2) d) := by
  have ht := lt8 t
  refine congrArg (V m c main_arg2) (show ((cfg0.win 1).blk t).view.emb (ix2 p d) = ix2 (atR (t.val % 2) p) (atC (t.val / 2) d) from ?_)
  funext b; apply Fin.ext
  blk_simp [idx1]
  match b with
  | ⟨0, _⟩ => show t.val % 2 * 2048 + p.val = (atR (t.val % 2) p).val; rw [atR_val (by omega)]
  | ⟨1, _⟩ => show t.val / 2 * 1024 + d.val = (atC (t.val / 2) d).val; rw [atC_val (by omega)]

/-! ## The two points of a block -/

/-- A sum over all rows is the sum over the two halves. -/
theorem halves (h : Fin 4096 → EReal) : (0 + ∑ p, h (atR 0 p)) + ∑ p, h (atR 1 p) = ∑ q, h q := by
  rw [zero_add, ← (finProdFinEquiv (m := 2) (n := 2048)).sum_comp h, Fintype.sum_prod_type, Fin.sum_univ_two]
  refine congrArg₂ (· + ·) (Finset.sum_congr rfl fun p _ => congrArg h (Fin.ext ?_)) (Finset.sum_congr rfl fun p _ => congrArg h (Fin.ext ?_))
  · rw [atR_val (by decide)]; show 0 * 2048 + p.val = p.val + 2048 * 0; omega
  · rw [atR_val (by decide)]; show 1 * 2048 + p.val = p.val + 2048 * 1; omega

/-- After a block's second point the output's block holds the sum over all rows. -/
theorem block (t : Fin cfg0.N) (h : t.val % 2 = 1) (a d : Fin 1024) :
    ((outsAt0 m c t.val t.isLt).1 (ix3 (0 : Fin 1) a d) : EReal)
      = ∑ q : Fin 4096, lhs m c q a * rhs m c q (atC (t.val / 2) d) := by
  have ht := lt8 t
  have hp : t.val - 1 < cfg0.N := Nat.lt_of_le_of_lt (Nat.sub_le _ _) t.isLt
  have hprev : (outsAt0 m c (t.val - 1) hp).2 = k0_pay2 k0_pay1 (iblk m c 0 ⟨t.val - 1, hp⟩) (iblk m c 1 ⟨t.val - 1, hp⟩) := by
    have := outsAt0_A m c ⟨t.val - 1, hp⟩ (by show (t.val - 1) % 2 = 0; omega) (by show ¬(t.val - 1) % 2 = 1; omega)
    rw [show outsAt0 m c (t.val - 1) hp = _ from this]
    dsimp only
    rw [sout_A]
  rw [outsAt0_B m c t (by omega) h]
  dsimp only
  rw [out_B, pay3, pay2, hprev, pay2, pay1, ← halves (fun q => lhs m c q a * rhs m c q (atC (t.val / 2) d))]
  refine congrArg₂ (· + ·) (congrArg (0 + ·) (Finset.sum_congr rfl fun p _ => ?_)) (Finset.sum_congr rfl fun p _ => ?_)
  · rw [blk0, blk1, show (⟨t.val - 1, hp⟩ : Fin cfg0.N).val % 2 = 0 by show (t.val - 1) % 2 = 0; omega, show (⟨t.val - 1, hp⟩ : Fin cfg0.N).val / 2 = t.val / 2 by show (t.val - 1) / 2 = t.val / 2; omega]
  · rw [blk0, blk1, h]

/-- The kernel's result array, element by element. -/
theorem result (j : Fin 4) (a d : Fin 1024) :
    (G2 m c (ix3 j a d) : EReal) = ∑ q : Fin 4096, lhs m c q a * rhs m c q (atC j.val d) := by
  have hj := j.isLt
  have hp : pt2Of (ix3 j a d) = 2 * j.val + 1 := by
    show 2 * (1 * (j.val / 1 - 0) + 1 * (a.val / 1024 - 0) + 1 * (d.val / 1024 - 0)) + 1 = _
    omega
  have hlt : pt2Of (ix3 j a d) < cfg0.N := by rw [hp]; exact lt_of_lt_of_eq (by omega) N_0.symm
  have hl : loc2Of (ix3 j a d) = ix3 (0 : Fin 1) a d := by
    funext b; apply Fin.ext
    match b with
    | ⟨0, _⟩ => exact Nat.mod_one _
    | ⟨1, _⟩ => exact Nat.mod_eq_of_lt a.isLt
    | ⟨2, _⟩ => exact Nat.mod_eq_of_lt d.isLt
  unfold G2
  rw [dif_pos hlt, ← outsAt0_sweep m c _ hlt, hl]
  refine (block m c ⟨_, hlt⟩ (by show pt2Of (ix3 j a d) % 2 = 1; omega) a d).trans ?_
  rw [show (⟨pt2Of (ix3 j a d), hlt⟩ : Fin cfg0.N).val / 2 = j.val by show pt2Of (ix3 j a d) / 2 = j.val; omega]

end Cert.Weight3

end
-- ==== Proof.Weight3.Equal.lean ====
/- The kernel for the first MLP weight's gradient and its reference end with equal results. -/
module

public import proofs.«01_k».proof.Proof.Gen.Reference3Ideal.Run
public import proofs.«01_k».proof.Proof.Gen.Reference3Ideal.Read
public import proofs.«01_k».proof.Proof.Weight3.Point
public import Idealize.ShloMosaic.Lib.StableHlo.Run

@[expose] public section

set_option maxRecDepth 16384

noncomputable section

namespace Cert.Weight3

open Idealize.ShloMosaic hiding ix1 ix2 ix3 eq_ix2 eq_ix3
open Idealize.ShloMosaic.TcCoe Idealize.ShloMosaic.ValueIdx Idealize.SL.Sem Idealize.ShloMosaic.StableHlo
open Cert.Kernel3Ideal Cert.Kernel3Ideal.Gen
open Cert.Reference3Ideal.Read

variable (m : (ℓ : Loc nD τ sig) → Buf (Elt Ideal) ℓ) (c : Dev nD)

theorem V_ops (b : Ref sig .tc) : V m c b = StableHlo.after hostOps0 (fun b => m (c, b)) b := by
  unfold V; rfl

set_option maxHeartbeats 4000000 in
/-- The scaled normalised rows that the host saves are the ones that the reference computes: over the reals a cast changes nothing. -/
theorem V_13 : V m c main_v13
    = val_main_v13 (F := Ideal) (m ((c.tc : Thread nD τ).loc main_arg0)) (m ((c.tc : Thread nD τ).loc main_arg1)) := by
  rw [V_ops]; simp only [hostOps0]; after_results_simp <;> rfl

set_option maxHeartbeats 4000000 in
theorem V_a2 : V m c main_arg2 = m ((c.tc : Thread nD τ).loc main_arg2) := by
  rw [V_ops]; simp only [hostOps0]; after_results_simp <;> rfl

/-- The reference's result, element by element: a product over the tokens, its columns cut in four. -/
theorem ref_result (x : (⟨S4096x1024, .f32⟩ : BufTy).Contents (Elt Ideal)) (g : (⟨S1024, .f32⟩ : BufTy).Contents (Elt Ideal))
    (z : (⟨S4096x4096, .bf16⟩ : BufTy).Contents (Elt Ideal)) (j : Fin 4) (a d : Fin 1024) :
    (val_main_v20 (F := Ideal) x g z (ix3 j a d) : EReal)
      = ∑ q : Fin 4096, z (ix2 q (atC j.val d)) * val_main_v13 (F := Ideal) x g (ix2 q a) := by
  have hj := j.isLt
  rw [val_main_v20_apply]
  show val_main_v19 (F := Ideal) x g z (ix3 j a d) = _
  rw [val_main_v19_apply, val_main_v18_apply, val_main_v17_apply,
    val_main_v16_apply]
  refine Finset.sum_congr rfl fun q _ => congrArg₂ (· * ·) ?_ ?_
  · refine congrArg z (funext fun b => Fin.ext ?_)
    match b with
    | ⟨0, _⟩ => rfl
    | ⟨1, _⟩ =>
      show ((a.val * 4 + j.val) * 1024 + d.val) % 4096 = (atC j.val d).val
      rw [atC_val hj]; omega
  · refine congrArg (val_main_v13 (F := Ideal) x g) (funext fun b => Fin.ext ?_)
    match b with
    | ⟨0, _⟩ => rfl
    | ⟨1, _⟩ =>
      show ((a.val * 4 + j.val) * 1024 + d.val) / 4096 = a.val
      omega

end Cert.Weight3

namespace Cert.Proof

open Idealize.ShloMosaic hiding ix1 ix2 ix3 eq_ix2 eq_ix3
open Idealize.ShloMosaic.ValueIdx Idealize.SL.Sem

/-- From equal arguments the kernel's array ends at the reference's values. -/
theorem equal3 : Cert.algebraic_Kernel3Ideal_Reference3Ideal (hKernel3Ideal := Cert.Kernel3Ideal.Gen.facts)
    (hReference3Ideal := Cert.Reference3Ideal.Gen.facts) := by
  intro m g m' g' hpre hargs
  refine ⟨_, ?_, Cert.Reference3Ideal.Value.run (F := Ideal) m' g'⟩
  refine (θ_run Cert.Kernel3Ideal.defs _ _).mono (fun r h c => ?_) (Cert.Kernel3Ideal.Value.run m g)
  obtain ⟨h0, ha⟩ := h c
  refine ⟨h0.trans ?_, ha⟩
  funext i
  obtain ⟨j, a, d, rfl⟩ : ∃ j a d, i = ix3 j a d := ⟨i 0, i 1, i 2, eq_ix3 i⟩
  refine (Cert.Weight3.result m c j a d).trans ((congrFun (Cert.Reference3Ideal.Read.val_main_v20_eq _ _ _) _).trans
    ((Cert.Weight3.ref_result _ _ _ j a d).trans ?_)).symm
  refine Finset.sum_congr rfl fun q _ => ?_
  unfold Cert.Weight3.lhs Cert.Weight3.rhs
  rw [Cert.Weight3.V_13, Cert.Weight3.V_a2, (hargs c).1, (hargs c).2.1, (hargs c).2.2]
  exact EReal.mul_comm _ _

end Cert.Proof

end
-- ==== Proof.lean ====
/- The claims about the gradients of the attention, of the MLP, of the MLP's weights and of the input
   projection's weight: the kernels' frames, the references' runs, the ledgers of
   the idealizations, and the equality of the kernels' results with the references'. -/
module

public import proofs.«01_k».proof.Defs
public import proofs.«01_k».proof.Proof.Gen.Kernel
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.Gen.Kernel5
public import proofs.«01_k».proof.Proof.Gen.Kernel5.Frame
public import proofs.«01_k».proof.Proof.Plain.Run
public import proofs.«01_k».proof.Proof.Value.Equal
public import proofs.«01_k».proof.Proof.Mlp.Equal
public import proofs.«01_k».proof.Proof.Weight4.Equal
public import proofs.«01_k».proof.Proof.Weight5.Equal
public import proofs.«01_k».proof.Proof.Weight3.Equal
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Attn.finiteFacts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2.2.2.2.2, sem_eq_zero_of_no_sems (by decide) r.2⟩)
    (Cert.ReferenceIdeal.Value.run (F := Ideal) m ρ),
  fun m ρ _ => (θ_run Cert.ReferenceIdeal.defs _ _).mono
    (fun r h => ⟨fun c => (h c).2.2.2.2.2, sem_eq_zero_of_no_sems (by decide) r.2⟩)
    (Cert.ReferenceIdeal.Value.run (F := Ideal) m ρ),
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2.2.2, sem_eq_zero_of_no_sems (by decide) r.2⟩)
    (Cert.Reference2Ideal.Value.run (F := Ideal) m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2, sem_eq_zero_of_no_sems (by decide) r.2⟩)
    (Cert.Reference3Ideal.Value.run (F := Ideal) m ρ),
  fun m ρ _ => Cert.Kernel4.Gen.frame m ρ,
  fun m ρ _ => Cert.Kernel4Ideal.Gen.frame m ρ,
  fun m ρ _ => (θ_run Cert.Reference4Ideal.defs _ _).mono
    (fun r h => ⟨fun c => (h c).2, sem_eq_zero_of_no_sems (by decide) r.2⟩)
    (Cert.Reference4Ideal.Value.run (F := Ideal) m ρ),
  fun m ρ _ => Cert.Kernel5.Gen.frame m ρ,
  fun m ρ _ => Cert.Kernel5Ideal.Gen.frame m ρ,
  fun m ρ _ => (θ_run Cert.Reference5Ideal.defs _ _).mono
    (fun r h => ⟨fun c => (h c).2, sem_eq_zero_of_no_sems (by decide) r.2⟩)
    (Cert.Reference5Ideal.Value.run (F := Ideal) m ρ),
  IdealRules.named_const.statement Cert.KernelIdeal.κ "mask" .f32 0xF149F2CA#32 ⊥ rfl,
  equal, trivial, equal2, trivial, equal3, trivial, equal4, trivial, equal5⟩

end Cert.Proof

end
